-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v64_0)) (v1 : (c : Dev Cert.Kernel3Ideal.nD) → Buf (Elt Ideal) ((c.tc : Thread Cert.Kernel3Ideal.nD Cert.Kernel3Ideal.τ).loc Cert.Kernel3Ideal.main_v64_1)) (v2 : (c : Dev Cert.Kernel3Ideal.nD) → Buf (Elt Ideal) ((c.tc : Thread Cert.Kernel3Ideal.nD Cert.Kernel3Ideal.τ).loc Cert.Kernel3Ideal.main_v64_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v64_0) = v0 c
          ∧ r.2.mem ((c.tc : Thread Cert.Kernel3Ideal.nD Cert.Kernel3Ideal.τ).loc Cert.Kernel3Ideal.main_v64_1) = v1 c
          ∧ r.2.mem ((c.tc : Thread Cert.Kernel3Ideal.nD Cert.Kernel3Ideal.τ).loc Cert.Kernel3Ideal.main_v64_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_v20) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_inputs.lean ====
abbrev S65536x2048 : Shape := ⟨2, ![65536, 2048]⟩
abbrev S2x512 : Shape := ⟨2, ![2, 512]⟩
abbrev S2x128 : Shape := ⟨2, ![2, 128]⟩
abbrev S65536x512 : Shape := ⟨2, ![65536, 512]⟩
abbrev S_ : Shape := ⟨0, ![]⟩

class Facts : Prop where
  slices_S65536x2048_S65536x512_0_0 : S65536x2048.Slices ![0, 0] S65536x512
  bcast_S_S65536x512 : S_.BroadcastsInDim S65536x512 (![] : Fin 0 → Fin S65536x512.rank)
  slices_S65536x2048_S65536x512_0_1024 : S65536x2048.Slices ![0, 1024] S65536x512
  bcast_S_S2x512 : S_.BroadcastsInDim S2x512 (![] : Fin 0 → Fin S2x512.rank)

variable [Facts]

def fn {F : FTy → Type} [FloatOps F] (main_arg0 : FVec F S65536x2048 .f32) (main_arg1 : FVec F S2x512 .f32) (main_arg2 : FVec F S2x128 .f32) : IVec S65536x512 1 × IVec S65536x512 1 × IVec S2x512 1 :=
  let main_v0 : FVec F S65536x512 .f32 := (extractStridedSlice S65536x512 ![0, 0] · slices_S65536x2048_S65536x512_0_0) main_arg0
  let main_v1 : FVec F S65536x512 .f32 := Host.absf main_v0
  let main_cst : FVec F S_ .f32 := constant S_ .f32 0x7F800000#32
  let main_v2 : FVec F S65536x512 .f32 := broadcastInDim S65536x512 ![] bcast_S_S65536x512 main_cst
  let main_v3 : IVec S65536x512 1 := cmpf .olt main_v1 main_v2
  let main_v4 : FVec F S65536x512 .f32 := (extractStridedSlice S65536x512 ![0, 1024] · slices_S65536x2048_S65536x512_0_1024) main_arg0
  let main_v5 : FVec F S65536x512 .f32 := Host.absf main_v4
  let main_cst_0 : FVec F S_ .f32 := constant S_ .f32 0x7F800000#32
  let main_v6 : FVec F S65536x512 .f32 := broadcastInDim S65536x512 ![] bcast_S_S65536x512 main_cst_0
  let main_v7 : IVec S65536x512 1 := cmpf .olt main_v5 main_v6
  let main_v8 : FVec F S2x512 .f32 := Host.absf main_arg1
  let main_cst_1 : FVec F S_ .f32 := constant S_ .f32 0x7F800000#32
  let main_v9 : FVec F S2x512 .f32 := broadcastInDim S2x512 ![] bcast_S_S2x512 main_cst_1
  let main_v10 : IVec S2x512 1 := cmpf .olt main_v8 main_v9
  (main_v3, main_v7, main_v10)
-- ==== Kernel.lean ====
abbrev S65536x2048 : Shape := ⟨2, ![65536, 2048]⟩
abbrev S2x512 : Shape := ⟨2, ![2, 512]⟩
abbrev S2x128 : Shape := ⟨2, ![2, 128]⟩
abbrev S1x128 : Shape := ⟨2, ![1, 128]⟩
abbrev S128 : Shape := ⟨1, ![128]⟩
abbrev S256x256 : Shape := ⟨2, ![256, 256]⟩
abbrev S_ : Shape := ⟨0, ![]⟩
abbrev S65536x512 : Shape := ⟨2, ![65536, 512]⟩
abbrev S256x512 : Shape := ⟨2, ![256, 512]⟩
abbrev S4x128x128 : Shape := ⟨3, ![4, 128, 128]⟩
abbrev S1x512 : Shape := ⟨2, ![1, 512]⟩
abbrev S1x256x512 : Shape := ⟨3, ![1, 256, 512]⟩
abbrev S1 : Shape := ⟨1, ![1]⟩
abbrev S1x1x1 : Shape := ⟨3, ![1, 1, 1]⟩
abbrev S32x512 : Shape := ⟨2, ![32, 512]⟩
abbrev S256x128 : Shape := ⟨2, ![256, 128]⟩
abbrev S1x128x128 : Shape := ⟨3, ![1, 128, 128]⟩
abbrev S128x128 : Shape := ⟨2, ![128, 128]⟩
abbrev S64x128 : Shape := ⟨2, ![64, 128]⟩
abbrev S128x64 : Shape := ⟨2, ![128, 64]⟩
abbrev S64 : Shape := ⟨1, ![64]⟩
abbrev S64x1 : Shape := ⟨2, ![64, 1]⟩
abbrev S32x32 : Shape := ⟨2, ![32, 32]⟩
abbrev S32x128 : Shape := ⟨2, ![32, 128]⟩
abbrev S32 : Shape := ⟨1, ![32]⟩
abbrev S32x1 : Shape := ⟨2, ![32, 1]⟩
abbrev S128x32 : Shape := ⟨2, ![128, 32]⟩

abbrev nBuf : Space → Nat
  | .hbm => 54
  | .vmem => 16
  | .smem => 0
  | _ => 0

abbrev bufTy : (tb : Table) → Fin (tcTables nBuf tb) → BufTy
  | .hbm, ⟨0, _⟩ => ⟨S65536x2048, .f32⟩
  | .hbm, ⟨1, _⟩ => ⟨S2x512, .f32⟩
  | .hbm, ⟨2, _⟩ => ⟨S2x128, .f32⟩
  | .hbm, ⟨3, _⟩ => ⟨S1x128, .f32⟩
  | .hbm, ⟨4, _⟩ => ⟨S128, .f32⟩
  | .hbm, ⟨5, _⟩ => ⟨S1x128, .f32⟩
  | .hbm, ⟨6, _⟩ => ⟨S256x256, .i32⟩
  | .hbm, ⟨7, _⟩ => ⟨S256x256, .i32⟩
  | .hbm, ⟨8, _⟩ => ⟨S256x256, .i1⟩
  | .hbm, ⟨9, _⟩ => ⟨S_, .i32⟩
  | .hbm, ⟨10, _⟩ => ⟨S_, .i32⟩
  | .hbm, ⟨11, _⟩ => ⟨S256x256, .i32⟩
  | .hbm, ⟨12, _⟩ => ⟨S256x256, .i32⟩
  | .hbm, ⟨13, _⟩ => ⟨S256x256, .i32⟩
  | .hbm, ⟨14, _⟩ => ⟨S_, .i32⟩
  | .hbm, ⟨15, _⟩ => ⟨S256x256, .i32⟩
  | .hbm, ⟨16, _⟩ => ⟨S256x256, .i1⟩
  | .hbm, ⟨17, _⟩ => ⟨S256x256, .i32⟩
  | .hbm, ⟨18, _⟩ => ⟨S256x256, .i32⟩
  | .hbm, ⟨19, _⟩ => ⟨S_, .i32⟩
  | .hbm, ⟨20, _⟩ => ⟨S256x256, .i32⟩
  | .hbm, ⟨21, _⟩ => ⟨S256x256, .i1⟩
  | .hbm, ⟨22, _⟩ => ⟨S256x256, .i1⟩
  | .hbm, ⟨23, _⟩ => ⟨S_, .i32⟩
  | .hbm, ⟨24, _⟩ => ⟨S256x256, .i32⟩
  | .hbm, ⟨25, _⟩ => ⟨S256x256, .i32⟩
  | .hbm, ⟨26, _⟩ => ⟨S256x256, .i32⟩
  | .hbm, ⟨27, _⟩ => ⟨S_, .i32⟩
  | .hbm, ⟨28, _⟩ => ⟨S_, .i32⟩
  | .hbm, ⟨29, _⟩ => ⟨S256x256, .i32⟩
  | .hbm, ⟨30, _⟩ => ⟨S256x256, .i32⟩
  | .hbm, ⟨31, _⟩ => ⟨S256x256, .i32⟩
  | .hbm, ⟨32, _⟩ => ⟨S_, .i32⟩
  | .hbm, ⟨33, _⟩ => ⟨S256x256, .i32⟩
  | .hbm, ⟨34, _⟩ => ⟨S256x256, .i1⟩
  | .hbm, ⟨35, _⟩ => ⟨S256x256, .i32⟩
  | .hbm, ⟨36, _⟩ => ⟨S256x256, .i32⟩
  | .hbm, ⟨37, _⟩ => ⟨S_, .i32⟩
  | .hbm, ⟨38, _⟩ => ⟨S256x256, .i32⟩
  | .hbm, ⟨39, _⟩ => ⟨S256x256, .i1⟩
  | .hbm, ⟨40, _⟩ => ⟨S256x256, .i1⟩
  | .hbm, ⟨41, _⟩ => ⟨S_, .i32⟩
  | .hbm, ⟨42, _⟩ => ⟨S256x256, .i32⟩
  | .hbm, ⟨43, _⟩ => ⟨S256x256, .i32⟩
  | .hbm, ⟨44, _⟩ => ⟨S256x256, .i32⟩
  | .hbm, ⟨45, _⟩ => ⟨S256x256, .i1⟩
  | .hbm, ⟨46, _⟩ => ⟨S256x256, .i1⟩
  | .hbm, ⟨47, _⟩ => ⟨S_, .f32⟩
  | .hbm, ⟨48, _⟩ => ⟨S_, .f32⟩
  | .hbm, ⟨49, _⟩ => ⟨S256x256, .f32⟩
  | .hbm, ⟨50, _⟩ => ⟨S256x256, .f32⟩
  | .hbm, ⟨51, _⟩ => ⟨S256x256, .f32⟩
  | .hbm, ⟨52, _⟩ => ⟨S256x256, .bf16⟩
  | .hbm, ⟨53, _⟩ => ⟨S65536x512, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S2x512, .f32⟩
  | .local _ .vmem, ⟨9, _⟩ => ⟨S1x128, .f32⟩
  | .local _ .vmem, ⟨10, _⟩ => ⟨S256x256, .bf16⟩
  | .local _ .vmem, ⟨11, _⟩ => ⟨S256x512, .bf16⟩
  | .local _ .vmem, ⟨12, _⟩ => ⟨S256x512, .bf16⟩
  | .local _ .vmem, ⟨13, _⟩ => ⟨S4x128x128, .f32⟩
  | .local _ .vmem, ⟨14, _⟩ => ⟨S256x512, .f32⟩
  | .local _ .vmem, ⟨15, _⟩ => ⟨S256x512, .f32⟩
  | _, _ => ⟨S65536x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v6 : Ref sig .tc := ⟨.hbm, 26, rfl⟩
abbrev main_c_0 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_c : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_0 : Ref sig .tc := ⟨.hbm, 41, rfl⟩
abbrev main_call1_v12 : Ref sig .tc := ⟨.hbm, 42, rfl⟩
abbrev main_call1_v13 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_cst : Ref sig .tc := ⟨.hbm, 47, rfl⟩
abbrev main_cst_1 : Ref sig .tc := ⟨.hbm, 48, rfl⟩
abbrev main_call2_v0 : Ref sig .tc := ⟨.hbm, 49, rfl⟩
abbrev main_call2_v1 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![32, 8], ![false, false]⟩

@[reducible] def k0_t1_loop : Scf.Loop 32 :=
  let c0_i32_23 : BitVec 32 := 0#32
  let c8_i32 : BitVec 32 := 8#32
  let v67 : BitVec 32 := Scalar.addi c0_i32_23 c8_i32
  let c1_i32 : BitVec 32 := 1#32
  ⟨c0_i32_23, v67, c1_i32⟩
def k0_mult1 (k0_t1 : Fin k0_t1_loop.trips) : BitVec 32 :=
  let c0_i32_23 : BitVec 32 := 0#32
  let c1_i32 : BitVec 32 := 1#32
  let arg13 : BitVec 32 := Scf.iv c0_i32_23 c1_i32 k0_t1
  let c32_i32 : BitVec 32 := 32#32
  let v68 : BitVec 32 := Scalar.muli arg13 c32_i32
  v68
def k0_off1 (k0_t1 : Fin k0_t1_loop.trips) : Fin 2 → Nat :=
  let c0_i32_23 : BitVec 32 := 0#32
  let c1_i32 : BitVec 32 := 1#32
  let arg13 : BitVec 32 := Scf.iv c0_i32_23 c1_i32 k0_t1
  let c32_i32 : BitVec 32 := 32#32
  let v68 : BitVec 32 := Scalar.muli arg13 c32_i32
  let v69 : BitVec 32 := v68
  let v70 : Index := Scalar.indexCast v69
  let c0_25 : Index := 0#32
  ![v70.toNat, 0]
def k0_off2 (k0_t1 : Fin k0_t1_loop.trips) : Fin 2 → Nat :=
  let c0_i32_23 : BitVec 32 := 0#32
  let c1_i32 : BitVec 32 := 1#32
  let arg13 : BitVec 32 := Scf.iv c0_i32_23 c1_i32 k0_t1
  let c32_i32 : BitVec 32 := 32#32
  let v68 : BitVec 32 := Scalar.muli arg13 c32_i32
  let v69 : BitVec 32 := v68
  let v748 : Index := Scalar.indexCast v69
  let c128 : Index := 128#32
  ![v748.toNat, 128]
def k0_off3 (k0_t1 : Fin k0_t1_loop.trips) : Fin 2 → Nat :=
  let c0_i32_23 : BitVec 32 := 0#32
  let c1_i32 : BitVec 32 := 1#32
  let arg13 : BitVec 32 := Scf.iv c0_i32_23 c1_i32 k0_t1
  let c32_i32 : BitVec 32 := 32#32
  let v68 : BitVec 32 := Scalar.muli arg13 c32_i32
  let v69 : BitVec 32 := v68
  let v1426 : Index := Scalar.indexCast v69
  let c256 : Index := 256#32
  ![v1426.toNat, 256]
def k0_off4 (k0_t1 : Fin k0_t1_loop.trips) : Fin 2 → Nat :=
  let c0_i32_23 : BitVec 32 := 0#32
  let c1_i32 : BitVec 32 := 1#32
  let arg13 : BitVec 32 := Scf.iv c0_i32_23 c1_i32 k0_t1
  let c32_i32 : BitVec 32 := 32#32
  let v68 : BitVec 32 := Scalar.muli arg13 c32_i32
  let v69 : BitVec 32 := v68
  let v2104 : Index := Scalar.indexCast v69
  let c384 : Index := 384#32
  ![v2104.toNat, 384]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S65536x2048 : Shape := ⟨2, ![65536, 2048]⟩
abbrev S2x512 : Shape := ⟨2, ![2, 512]⟩
abbrev S2x128 : Shape := ⟨2, ![2, 128]⟩
abbrev S32x2048x2048 : Shape := ⟨3, ![32, 2048, 2048]⟩
abbrev S32x2048x512 : Shape := ⟨3, ![32, 2048, 512]⟩
abbrev S_ : Shape := ⟨0, ![]⟩
abbrev S512 : Shape := ⟨1, ![512]⟩
abbrev S1x512 : Shape := ⟨2, ![1, 512]⟩
abbrev S1x1x512 : Shape := ⟨3, ![1, 1, 512]⟩
abbrev S64x64 : Shape := ⟨2, ![64, 64]⟩
abbrev S64x64x1 : Shape := ⟨3, ![64, 64, 1]⟩
abbrev S32x4x128x128 : Shape := ⟨4, ![32, 4, 128, 128]⟩
abbrev S32x32x64x4x128 : Shape := ⟨5, ![32, 32, 64, 4, 128]⟩
abbrev S32x32x4x64x128 : Shape := ⟨5, ![32, 32, 4, 64, 128]⟩
abbrev S1x32x4x64x128 : Shape := ⟨5, ![1, 32, 4, 64, 128]⟩
abbrev S32x4x64x128 : Shape := ⟨4, ![32, 4, 64, 128]⟩
abbrev S32x4x64x1x128 : Shape := ⟨5, ![32, 4, 64, 1, 128]⟩
abbrev S32x4x1x64x128 : Shape := ⟨5, ![32, 4, 1, 64, 128]⟩
abbrev S32x4x64x64x128 : Shape := ⟨5, ![32, 4, 64, 64, 128]⟩
abbrev S32x4x64x64 : Shape := ⟨4, ![32, 4, 64, 64]⟩
abbrev S32x4x1x128 : Shape := ⟨4, ![32, 4, 1, 128]⟩
abbrev S32x4x128 : Shape := ⟨3, ![32, 4, 128]⟩
abbrev S32x4x128x1 : Shape := ⟨4, ![32, 4, 128, 1]⟩
abbrev S32x2048x4x128 : Shape := ⟨4, ![32, 2048, 4, 128]⟩
abbrev S32x2048x4 : Shape := ⟨3, ![32, 2048, 4]⟩
abbrev S32x2048x4x1 : Shape := ⟨4, ![32, 2048, 4, 1]⟩
abbrev S1x128 : Shape := ⟨2, ![1, 128]⟩
abbrev S128 : Shape := ⟨1, ![128]⟩
abbrev S1x1x1x128 : Shape := ⟨4, ![1, 1, 1, 128]⟩
abbrev S65536x512 : Shape := ⟨2, ![65536, 512]⟩

abbrev nBuf : Space → Nat
  | .hbm => 199
  | .vmem => 0
  | .smem => 0
  | _ => 0

abbrev hbmTy0_0 (i : Nat) : BufTy := match i % 128 with
  | 0 => ⟨S65536x2048, .f32⟩
  | 1 => ⟨S2x512, .f32⟩
  | 2 => ⟨S2x128, .f32⟩
  | 3 => ⟨S32x2048x2048, .f32⟩
  | 4 => ⟨S32x2048x512, .f32⟩
  | 5 => ⟨S32x2048x512, .f32⟩
  | 6 => ⟨S32x2048x512, .f32⟩
  | 7 => ⟨S32x2048x512, .f32⟩
  | 8 => ⟨S_, .f32⟩
  | 9 => ⟨S512, .f32⟩
  | 10 => ⟨S_, .f32⟩
  | 11 => ⟨S512, .f32⟩
  | 12 => ⟨S512, .f32⟩
  | 13 => ⟨S1x512, .f32⟩
  | 14 => ⟨S2x512, .f32⟩
  | 15 => ⟨S2x512, .f32⟩
  | 16 => ⟨S2x512, .f32⟩
  | 17 => ⟨S_, .f32⟩
  | 18 => ⟨S512, .f32⟩
  | 19 => ⟨S1x512, .f32⟩
  | 20 => ⟨S2x512, .f32⟩
  | 21 => ⟨S2x512, .f32⟩
  | 22 => ⟨S_, .f32⟩
  | 23 => ⟨S_, .f32⟩
  | 24 => ⟨S2x512, .f32⟩
  | 25 => ⟨S1x512, .f32⟩
  | 26 => ⟨S2x512, .f32⟩
  | 27 => ⟨S2x512, .f32⟩
  | 28 => ⟨S1x512, .f32⟩
  | 29 => ⟨S512, .f32⟩
  | 30 => ⟨S_, .f32⟩
  | 31 => ⟨S512, .f32⟩
  | 32 => ⟨S512, .f32⟩
  | 33 => ⟨S32x2048x512, .f32⟩
  | 34 => ⟨S32x2048x512, .f32⟩
  | 35 => ⟨S_, .f32⟩
  | 36 => ⟨S32x2048x512, .f32⟩
  | 37 => ⟨S32x2048x512, .f32⟩
  | 38 => ⟨S_, .f32⟩
  | 39 => ⟨S32x2048x512, .f32⟩
  | 40 => ⟨S32x2048x512, .f32⟩
  | 41 => ⟨S1x1x512, .f32⟩
  | 42 => ⟨S32x2048x512, .f32⟩
  | 43 => ⟨S32x2048x512, .f32⟩
  | 44 => ⟨S1x1x512, .f32⟩
  | 45 => ⟨S32x2048x512, .f32⟩
  | 46 => ⟨S32x2048x512, .f32⟩
  | 47 => ⟨S32x2048x512, .f32⟩
  | 48 => ⟨S_, .f32⟩
  | 49 => ⟨S32x2048x512, .f32⟩
  | 50 => ⟨S32x2048x512, .f32⟩
  | 51 => ⟨S32x2048x512, .f32⟩
  | 52 => ⟨S32x2048x512, .f32⟩
  | 53 => ⟨S_, .f32⟩
  | 54 => ⟨S32x2048x512, .f32⟩
  | 55 => ⟨S32x2048x512, .f32⟩
  | 56 => ⟨S_, .f32⟩
  | 57 => ⟨S32x2048x512, .f32⟩
  | 58 => ⟨S32x2048x512, .f32⟩
  | 59 => ⟨S32x2048x512, .f32⟩
  | 60 => ⟨S_, .i1⟩
  | 61 => ⟨S64x64, .i1⟩
  | 62 => ⟨S64x64, .i32⟩
  | 63 => ⟨S_, .i32⟩
  | 64 => ⟨S64x64, .i32⟩
  | 65 => ⟨S64x64, .i32⟩
  | 66 => ⟨S64x64, .i32⟩
  | 67 => ⟨S64x64, .i1⟩
  | 68 => ⟨S_, .i1⟩
  | 69 => ⟨S64x64, .i1⟩
  | 70 => ⟨S64x64, .i1⟩
  | 71 => ⟨S64x64x1, .i1⟩
  | 72 => ⟨S_, .f32⟩
  | 73 => ⟨S32x4x128x128, .f32⟩
  | 74 => ⟨S32x32x64x4x128, .f32⟩
  | 75 => ⟨S32x32x4x64x128, .f32⟩
  | 76 => ⟨S32x32x64x4x128, .f32⟩
  | 77 => ⟨S32x32x4x64x128, .f32⟩
  | 78 => ⟨S32x32x64x4x128, .f32⟩
  | 79 => ⟨S32x32x4x64x128, .f32⟩
  | 80 => ⟨S32x32x64x4x128, .f32⟩
  | 81 => ⟨S32x32x4x64x128, .f32⟩
  | 82 => ⟨S_, .f32⟩
  | 83 => ⟨S32x32x4x64x128, .f32⟩
  | 84 => ⟨S_, .i32⟩
  | 85 => ⟨S32x32x4x64x128, .f32⟩
  | 86 => ⟨S32x32x4x64x128, .f32⟩
  | 87 => ⟨S32x32x4x64x128, .f32⟩
  | 88 => ⟨S32x32x4x64x128, .f32⟩
  | 89 => ⟨S64x64x1, .i1⟩
  | 90 => ⟨S_, .i32⟩
  | 91 => ⟨S32x4x128x128, .f32⟩
  | 92 => ⟨S32x32x4x64x128, .f32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S1x32x4x64x128, .f32⟩
  | 100 => ⟨S32x4x64x128, .f32⟩
  | 101 => ⟨S_, .i32⟩
  | 102 => ⟨S_, .i32⟩
  | 103 => ⟨S_, .i32⟩
  | 104 => ⟨S_, .i32⟩
  | 105 => ⟨S1x32x4x64x128, .f32⟩
  | 106 => ⟨S32x4x64x128, .f32⟩
  | 107 => ⟨S_, .i32⟩
  | 108 => ⟨S_, .i32⟩
  | 109 => ⟨S_, .i32⟩
  | 110 => ⟨S_, .i32⟩
  | 111 => ⟨S1x32x4x64x128, .f32⟩
  | 112 => ⟨S32x4x64x128, .f32⟩
  | 113 => ⟨S_, .i32⟩
  | 114 => ⟨S_, .i32⟩
  | 115 => ⟨S_, .i32⟩
  | 116 => ⟨S_, .i32⟩
  | 117 => ⟨S1x32x4x64x128, .f32⟩
  | 118 => ⟨S32x4x64x128, .f32⟩
  | 119 => ⟨S_, .f32⟩
  | 120 => ⟨S_, .f32⟩
  | 121 => ⟨S32x4x64x128, .f32⟩
  | 122 => ⟨S32x4x64x1x128, .f32⟩
  | 123 => ⟨S32x4x1x64x128, .f32⟩
  | 124 => ⟨S32x4x64x64x128, .f32⟩
  | 125 => ⟨S32x4x64x64x128, .f32⟩
  | 126 => ⟨S32x4x64x64x128, .f32⟩
  | 127 => ⟨S_, .f32⟩
  | _ => ⟨S65536x2048, .f32⟩

abbrev hbmTy0_1 (i : Nat) : BufTy := match i % 128 with
  | 0 => ⟨S_, .f32⟩
  | 1 => ⟨S32x4x64x64x128, .i1⟩
  | 2 => ⟨S32x4x64x64x128, .f32⟩
  | 3 => ⟨S32x4x64x64x128, .f32⟩
  | 4 => ⟨S32x4x64x64x128, .f32⟩
  | 5 => ⟨S32x4x64x1x128, .f32⟩
  | 6 => ⟨S32x4x1x64x128, .f32⟩
  | 7 => ⟨S32x4x64x64x128, .f32⟩
  | 8 => ⟨S32x4x64x64x128, .f32⟩
  | 9 => ⟨S32x4x64x64x128, .f32⟩
  | 10 => ⟨S32x4x64x64x128, .f32⟩
  | 11 => ⟨S_, .f32⟩
  | 12 => ⟨S32x4x64x64, .f32⟩
  | 13 => ⟨S32x4x64x128, .f32⟩
  | 14 => ⟨S32x4x64x128, .f32⟩
  | 15 => ⟨S32x4x64x128, .f32⟩
  | 16 => ⟨S32x4x64x128, .f32⟩
  | 17 => ⟨S32x4x64x128, .f32⟩
  | 18 => ⟨S32x4x1x128, .f32⟩
  | 19 => ⟨S32x4x128, .f32⟩
  | 20 => ⟨S32x4x128, .f32⟩
  | 21 => ⟨S32x4x128x1, .f32⟩
  | 22 => ⟨S32x4x128x128, .f32⟩
  | 23 => ⟨S32x4x128x128, .f32⟩
  | 24 => ⟨S32x4x64x128, .f32⟩
  | 25 => ⟨S32x4x64x128, .f32⟩
  | 26 => ⟨S32x4x64x128, .f32⟩
  | 27 => ⟨S32x4x64x128, .f32⟩
  | 28 => ⟨S32x4x128x128, .f32⟩
  | 29 => ⟨S32x4x128x128, .f32⟩
  | 30 => ⟨S1x32x4x64x128, .f32⟩
  | 31 => ⟨S_, .i32⟩
  | 32 => ⟨S_, .i32⟩
  | 33 => ⟨S_, .i32⟩
  | 34 => ⟨S_, .i32⟩
  | 35 => ⟨S32x32x4x64x128, .f32⟩
  | 36 => ⟨S_, .i32⟩
  | 37 => ⟨S_, .i32⟩
  | 38 => ⟨S32x32x64x4x128, .f32⟩
  | 39 => ⟨S32x2048x4x128, .f32⟩
  | 40 => ⟨S32x2048x4x128, .f32⟩
  | 41 => ⟨S_, .f32⟩
  | 42 => ⟨S32x2048x4, .f32⟩
  | 43 => ⟨S32x2048x4x1, .f32⟩
  | 44 => ⟨S_, .f32⟩
  | 45 => ⟨S32x2048x4x1, .f32⟩
  | 46 => ⟨S32x2048x4x1, .f32⟩
  | 47 => ⟨S_, .f32⟩
  | 48 => ⟨S32x2048x4x1, .f32⟩
  | 49 => ⟨S32x2048x4x1, .f32⟩
  | 50 => ⟨S32x2048x4x1, .f32⟩
  | 51 => ⟨S32x2048x4x128, .f32⟩
  | 52 => ⟨S32x2048x4x128, .f32⟩
  | 53 => ⟨S1x128, .f32⟩
  | 54 => ⟨S128, .f32⟩
  | 55 => ⟨S1x1x1x128, .f32⟩
  | 56 => ⟨S32x2048x4x128, .f32⟩
  | 57 => ⟨S32x2048x4x128, .f32⟩
  | 58 => ⟨S32x2048x4x128, .f32⟩
  | 59 => ⟨S32x2048x4x128, .f32⟩
  | 60 => ⟨S32x2048x4x128, .f32⟩
  | 61 => ⟨S_, .f32⟩
  | 62 => ⟨S32x2048x4x128, .f32⟩
  | 63 => ⟨S32x2048x4x128, .f32⟩
  | 64 => ⟨S_, .f32⟩
  | 65 => ⟨S32x2048x4x128, .f32⟩
  | 66 => ⟨S32x2048x4x128, .f32⟩
  | 67 => ⟨S32x2048x4x128, .f32⟩
  | 68 => ⟨S32x2048x4x128, .f32⟩
  | 69 => ⟨S65536x512, .f32⟩
  | 70 => ⟨S65536x512, .bf16⟩
  | _ => ⟨S65536x2048, .f32⟩

abbrev hbmTy (i : Nat) : BufTy := match i / 128 with
  | 0 => hbmTy0_0 i
  | 1 => hbmTy0_1 i
  | _ => ⟨S65536x2048, .f32⟩

abbrev bufTy : (tb : Table) → Fin (tcTables nBuf tb) → BufTy
  | .hbm, ⟨i, _⟩ => hbmTy i
  | _, _ => ⟨S65536x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_call0_cst : Ref sig .tc := ⟨.hbm, 22, rfl⟩
abbrev main_call0_call0_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v39 : Ref sig .tc := ⟨.hbm, 59, rfl⟩
abbrev main_c : Ref sig .tc := ⟨.hbm, 60, rfl⟩
abbrev main_v40 : Ref sig .tc := ⟨.hbm, 61, rfl⟩
abbrev main_call2_v0 : Ref sig .tc := ⟨.hbm, 62, rfl⟩
abbrev main_call2_c : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_c_0 : Ref sig .tc := ⟨.hbm, 68, rfl⟩
abbrev main_call2_v5 : Ref sig .tc := ⟨.hbm, 69, rfl⟩
abbrev main_v41 : Ref sig .tc := ⟨.hbm, 70, rfl⟩
abbrev main_v42 : Ref sig .tc := ⟨.hbm, 71, rfl⟩
abbrev main_cst_6 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_7 : Ref sig .tc := ⟨.hbm, 82, rfl⟩
abbrev main_v52 : Ref sig .tc := ⟨.hbm, 83, rfl⟩
abbrev main_c_8 : Ref sig .tc := ⟨.hbm, 84, rfl⟩
abbrev main_v53_0 : Ref sig .tc := ⟨.hbm, 85, rfl⟩
abbrev main_v53_1 : Ref sig .tc := ⟨.hbm, 86, rfl⟩
abbrev main_v53_2 : Ref sig .tc := ⟨.hbm, 87, rfl⟩
abbrev main_v53_3 : Ref sig .tc := ⟨.hbm, 88, rfl⟩
abbrev main_v53_4 : Ref sig .tc := ⟨.hbm, 89, rfl⟩
abbrev main_v53_5 : Ref sig .tc := ⟨.hbm, 90, rfl⟩
abbrev main_v53_6 : Ref sig .tc := ⟨.hbm, 91, rfl⟩
abbrev main_v53_7 : Ref sig .tc := ⟨.hbm, 92, rfl⟩
abbrev main_while0c_c_19 : Ref sig .tc := ⟨.hbm, 93, rfl⟩
abbrev main_while0c_v76 : Ref sig .tc := ⟨.hbm, 94, rfl⟩
abbrev main_while0b_call3_c : Ref sig .tc := ⟨.hbm, 95, rfl⟩
abbrev main_while0b_call3_c_0 : Ref sig .tc := ⟨.hbm, 96, rfl⟩
abbrev main_while0b_call3_c_1 : Ref sig .tc := ⟨.hbm, 97, rfl⟩
abbrev main_while0b_call3_c_2 : Ref sig .tc := ⟨.hbm, 98, rfl⟩
abbrev main_while0b_call3_v0 : Ref sig .tc := ⟨.hbm, 99, rfl⟩
abbrev main_while0b_v76 : Ref sig .tc := ⟨.hbm, 100, rfl⟩
abbrev main_while0b_call4_c : Ref sig .tc := ⟨.hbm, 101, rfl⟩
abbrev main_while0b_call4_c_0 : Ref sig .tc := ⟨.hbm, 102, rfl⟩
abbrev main_while0b_call4_c_1 : Ref sig .tc := ⟨.hbm, 103, rfl⟩
abbrev main_while0b_call4_c_2 : Ref sig .tc := ⟨.hbm, 104, rfl⟩
abbrev main_while0b_call4_v0 : Ref sig .tc := ⟨.hbm, 105, rfl⟩
abbrev main_while0b_v77 : Ref sig .tc := ⟨.hbm, 106, rfl⟩
abbrev main_while0b_call5_c : Ref sig .tc := ⟨.hbm, 107, rfl⟩
abbrev main_while0b_call5_c_0 : Ref sig .tc := ⟨.hbm, 108, rfl⟩
abbrev main_while0b_call5_c_1 : Ref sig .tc := ⟨.hbm, 109, rfl⟩
abbrev main_while0b_call5_c_2 : Ref sig .tc := ⟨.hbm, 110, rfl⟩
abbrev main_while0b_call5_v0 : Ref sig .tc := ⟨.hbm, 111, rfl⟩
abbrev main_while0b_v78 : Ref sig .tc := ⟨.hbm, 112, rfl⟩
abbrev main_while0b_call6_c : Ref sig .tc := ⟨.hbm, 113, rfl⟩
abbrev main_while0b_call6_c_0 : Ref sig .tc := ⟨.hbm, 114, rfl⟩
abbrev main_while0b_call6_c_1 : Ref sig .tc := ⟨.hbm, 115, rfl⟩
abbrev main_while0b_call6_c_2 : Ref sig .tc := ⟨.hbm, 116, rfl⟩
abbrev main_while0b_call6_v0 : Ref sig .tc := ⟨.hbm, 117, rfl⟩
abbrev main_while0b_v79 : Ref sig .tc := ⟨.hbm, 118, rfl⟩
abbrev main_while0b_call7_call0_cst : Ref sig .tc := ⟨.hbm, 119, rfl⟩
abbrev main_while0b_call7_call0_v0 : Ref sig .tc := ⟨.hbm, 120, rfl⟩
abbrev main_while0b_v80 : Ref sig .tc := ⟨.hbm, 121, rfl⟩
abbrev main_while0b_v81 : Ref sig .tc := ⟨.hbm, 122, rfl⟩
abbrev main_while0b_v82 : Ref sig .tc := ⟨.hbm, 123, rfl⟩
abbrev main_while0b_v83 : Ref sig .tc := ⟨.hbm, 124, rfl⟩
abbrev main_while0b_v84 : Ref sig .tc := ⟨.hbm, 125, rfl⟩
abbrev main_while0b_v85 : Ref sig .tc := ⟨.hbm, 126, rfl⟩
abbrev main_while0b_cst_19 : Ref sig .tc := ⟨.hbm, 127, rfl⟩
abbrev main_while0b_call8_v0 : Ref sig .tc := ⟨.hbm, 128, rfl⟩
abbrev main_while0b_call8_v1 : Ref sig .tc := ⟨.hbm, 129, rfl⟩
abbrev main_while0b_call8_v2 : Ref sig .tc := ⟨.hbm, 130, rfl⟩
abbrev main_while0b_v86 : Ref sig .tc := ⟨.hbm, 131, rfl⟩
abbrev main_while0b_v87 : Ref sig .tc := ⟨.hbm, 132, rfl⟩
abbrev main_while0b_v88 : Ref sig .tc := ⟨.hbm, 133, rfl⟩
abbrev main_while0b_v89 : Ref sig .tc := ⟨.hbm, 134, rfl⟩
abbrev main_while0b_v90 : Ref sig .tc := ⟨.hbm, 135, rfl⟩
abbrev main_while0b_v91 : Ref sig .tc := ⟨.hbm, 136, rfl⟩
abbrev main_while0b_v92 : Ref sig .tc := ⟨.hbm, 137, rfl⟩
abbrev main_while0b_v93 : Ref sig .tc := ⟨.hbm, 138, rfl⟩
abbrev main_while0b_cst_20 : Ref sig .tc := ⟨.hbm, 139, rfl⟩
abbrev main_while0b_v94 : Ref sig .tc := ⟨.hbm, 140, rfl⟩
abbrev main_while0b_v95 : Ref sig .tc := ⟨.hbm, 141, rfl⟩
abbrev main_while0b_v96 : Ref sig .tc := ⟨.hbm, 142, rfl⟩
abbrev main_while0b_v97 : Ref sig .tc := ⟨.hbm, 143, rfl⟩
abbrev main_while0b_v98 : Ref sig .tc := ⟨.hbm, 144, rfl⟩
abbrev main_while0b_v99 : Ref sig .tc := ⟨.hbm, 145, rfl⟩
abbrev main_while0b_v100 : Ref sig .tc := ⟨.hbm, 146, rfl⟩
abbrev main_while0b_v101 : Ref sig .tc := ⟨.hbm, 147, rfl⟩
abbrev main_while0b_v102 : Ref sig .tc := ⟨.hbm, 148, rfl⟩
abbrev main_while0b_v103 : Ref sig .tc := ⟨.hbm, 149, rfl⟩
abbrev main_while0b_v104 : Ref sig .tc := ⟨.hbm, 150, rfl⟩
abbrev main_while0b_v105 : Ref sig .tc := ⟨.hbm, 151, rfl⟩
abbrev main_while0b_v106 : Ref sig .tc := ⟨.hbm, 152, rfl⟩
abbrev main_while0b_v107 : Ref sig .tc := ⟨.hbm, 153, rfl⟩
abbrev main_while0b_v108 : Ref sig .tc := ⟨.hbm, 154, rfl⟩
abbrev main_while0b_v109 : Ref sig .tc := ⟨.hbm, 155, rfl⟩
abbrev main_while0b_v110 : Ref sig .tc := ⟨.hbm, 156, rfl⟩
abbrev main_while0b_v111 : Ref sig .tc := ⟨.hbm, 157, rfl⟩
abbrev main_while0b_call9_v0 : Ref sig .tc := ⟨.hbm, 158, rfl⟩
abbrev main_while0b_call9_c : Ref sig .tc := ⟨.hbm, 159, rfl⟩
abbrev main_while0b_call9_c_0 : Ref sig .tc := ⟨.hbm, 160, rfl⟩
abbrev main_while0b_call9_c_1 : Ref sig .tc := ⟨.hbm, 161, rfl⟩
abbrev main_while0b_call9_c_2 : Ref sig .tc := ⟨.hbm, 162, rfl⟩
abbrev main_while0b_v112 : Ref sig .tc := ⟨.hbm, 163, rfl⟩
abbrev main_while0b_c_21 : Ref sig .tc := ⟨.hbm, 164, rfl⟩
abbrev main_while0b_v113 : Ref sig .tc := ⟨.hbm, 165, rfl⟩
abbrev main_v54 : Ref sig .tc := ⟨.hbm, 166, rfl⟩
abbrev main_v55 : Ref sig .tc := ⟨.hbm, 167, rfl⟩
abbrev main_v56 : Ref sig .tc := ⟨.hbm, 168, rfl⟩
abbrev main_cst_9 : Ref sig .tc := ⟨.hbm, 169, rfl⟩
abbrev main_v57 : Ref sig .tc := ⟨.hbm, 170, rfl⟩
abbrev main_v58 : Ref sig .tc := ⟨.hbm, 171, rfl⟩
abbrev main_cst_10 : Ref sig .tc := ⟨.hbm, 172, rfl⟩
abbrev main_v59 : Ref sig .tc := ⟨.hbm, 173, rfl⟩
abbrev main_v60 : Ref sig .tc := ⟨.hbm, 174, rfl⟩
abbrev main_cst_11 : Ref sig .tc := ⟨.hbm, 175, rfl⟩
abbrev main_v61 : Ref sig .tc := ⟨.hbm, 176, rfl⟩
abbrev main_v62 : Ref sig .tc := ⟨.hbm, 177, rfl⟩
abbrev main_v63 : Ref sig .tc := ⟨.hbm, 178, rfl⟩
abbrev main_v64 : Ref sig .tc := ⟨.hbm, 179, rfl⟩
abbrev main_v65 : Ref sig .tc := ⟨.hbm, 180, rfl⟩
abbrev main_v66 : Ref sig .tc := ⟨.hbm, 181, rfl⟩
abbrev main_v67 : Ref sig .tc := ⟨.hbm, 182, rfl⟩
abbrev main_v68 : Ref sig .tc := ⟨.hbm, 183, rfl⟩
abbrev main_v69 : Ref sig .tc := ⟨.hbm, 184, rfl⟩
abbrev main_v70 : Ref sig .tc := ⟨.hbm, 185, rfl⟩
abbrev main_v71 : Ref sig .tc := ⟨.hbm, 186, rfl⟩
abbrev main_call10_v0 : Ref sig .tc := ⟨.hbm, 187, rfl⟩
abbrev main_call10_v1 : Ref sig .tc := ⟨.hbm, 188, rfl⟩
abbrev main_call10_cst : Ref sig .tc := ⟨.hbm, 189, rfl⟩
abbrev main_call10_v2 : Ref sig .tc := ⟨.hbm, 190, rfl⟩
abbrev main_call10_v3 : Ref sig .tc := ⟨.hbm, 191, rfl⟩
abbrev main_call10_cst_0 : Ref sig .tc := ⟨.hbm, 192, rfl⟩
abbrev main_call10_v4 : Ref sig .tc := ⟨.hbm, 193, rfl⟩
abbrev main_call10_v5 : Ref sig .tc := ⟨.hbm, 194, rfl⟩
abbrev main_v72 : Ref sig .tc := ⟨.hbm, 195, rfl⟩
abbrev main_v73 : Ref sig .tc := ⟨.hbm, 196, rfl⟩
abbrev main_v74 : Ref sig .tc := ⟨.hbm, 197, rfl⟩
abbrev main_v75 : Ref sig .tc := ⟨.hbm, 198, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S65536x1024 : Shape := ⟨2, ![65536, 1024]⟩
abbrev S65536x512 : Shape := ⟨2, ![65536, 512]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S512x1024 : Shape := ⟨2, ![512, 1024]⟩
abbrev S512x512 : Shape := ⟨2, ![512, 512]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 20
  | .vmem => 18
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S2x1024x1024, .f32⟩
  | .hbm, ⟨4, _⟩ => ⟨S2x1024, .f32⟩
  | .hbm, ⟨5, _⟩ => ⟨S2x1024x5632, .f32⟩
  | .hbm, ⟨6, _⟩ => ⟨S2x2816x1024, .f32⟩
  | .hbm, ⟨7, _⟩ => ⟨S1x1024x1024, .f32⟩
  | .hbm, ⟨8, _⟩ => ⟨S1024x1024, .f32⟩
  | .hbm, ⟨9, _⟩ => ⟨S1024x1024, .bf16⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1x1024x5632, .f32⟩
  | .hbm, ⟨14, _⟩ => ⟨S1024x5632, .f32⟩
  | .hbm, ⟨15, _⟩ => ⟨S1024x5632, .bf16⟩
  | .hbm, ⟨16, _⟩ => ⟨S1x2816x1024, .f32⟩
  | .hbm, ⟨17, _⟩ => ⟨S2816x1024, .f32⟩
  | .hbm, ⟨18, _⟩ => ⟨S2816x1024, .bf16⟩
  | .hbm, ⟨19, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1408x1024, .bf16⟩
  | .local _ .vmem, ⟨13, _⟩ => ⟨S1408x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![128, 2], ![false, false]⟩

def k0_cond2 (i : grid0.Coords) : BitVec 1 :=
  let arg1 : BitVec 32 := BitVec.ofNat 32 (i 1).val
  let c1_i32 : BitVec 32 := 1#32
  let v28 : BitVec 1 := Scalar.cmpi .eq arg1 c1_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S65536x1024 : Shape := ⟨2, ![65536, 1024]⟩
abbrev S65536x512 : Shape := ⟨2, ![65536, 512]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1x1024x1024 : Shape := ⟨3, ![1, 1024, 1024]⟩
abbrev S1024x1024 : Shape := ⟨2, ![1024, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S1024 : Shape := ⟨1, ![1024]⟩
abbrev S1x1024x5632 : Shape := ⟨3, ![1, 1024, 5632]⟩
abbrev S1024x5632 : Shape := ⟨2, ![1024, 5632]⟩
abbrev S65536x5632 : Shape := ⟨2, ![65536, 5632]⟩
abbrev S65536x2816 : Shape := ⟨2, ![65536, 2816]⟩
abbrev S1x2816x1024 : Shape := ⟨3, ![1, 2816, 1024]⟩
abbrev S2816x1024 : Shape := ⟨2, ![2816, 1024]⟩

abbrev nBuf : Space → Nat
  | .hbm => 50
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S2x1024x1024, .f32⟩
  | .hbm, ⟨4, _⟩ => ⟨S2x1024, .f32⟩
  | .hbm, ⟨5, _⟩ => ⟨S2x1024x5632, .f32⟩
  | .hbm, ⟨6, _⟩ => ⟨S2x2816x1024, .f32⟩
  | .hbm, ⟨7, _⟩ => ⟨S65536x1024, .bf16⟩
  | .hbm, ⟨8, _⟩ => ⟨S65536x1024, .f32⟩
  | .hbm, ⟨9, _⟩ => ⟨S1x1024x1024, .f32⟩
  | .hbm, ⟨10, _⟩ => ⟨S1024x1024, .f32⟩
  | .hbm, ⟨11, _⟩ => ⟨S65536x1024, .f32⟩
  | .hbm, ⟨12, _⟩ => ⟨S65536x1024, .f32⟩
  | .hbm, ⟨13, _⟩ => ⟨S65536x1024, .f32⟩
  | .hbm, ⟨14, _⟩ => ⟨S_, .f32⟩
  | .hbm, ⟨15, _⟩ => ⟨S65536, .f32⟩
  | .hbm, ⟨16, _⟩ => ⟨S65536x1, .f32⟩
  | .hbm, ⟨17, _⟩ => ⟨S_, .f32⟩
  | .hbm, ⟨18, _⟩ => ⟨S65536x1, .f32⟩
  | .hbm, ⟨19, _⟩ => ⟨S65536x1, .f32⟩
  | .hbm, ⟨20, _⟩ => ⟨S_, .f32⟩
  | .hbm, ⟨21, _⟩ => ⟨S65536x1, .f32⟩
  | .hbm, ⟨22, _⟩ => ⟨S65536x1, .f32⟩
  | .hbm, ⟨23, _⟩ => ⟨S65536x1, .f32⟩
  | .hbm, ⟨24, _⟩ => ⟨S65536x1024, .f32⟩
  | .hbm, ⟨25, _⟩ => ⟨S65536x1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S65536x1024, .f32⟩
  | .hbm, ⟨30, _⟩ => ⟨S65536x1024, .f32⟩
  | .hbm, ⟨31, _⟩ => ⟨S1x1024x5632, .f32⟩
  | .hbm, ⟨32, _⟩ => ⟨S1024x5632, .f32⟩
  | .hbm, ⟨33, _⟩ => ⟨S65536x5632, .f32⟩
  | .hbm, ⟨34, _⟩ => ⟨S65536x2816, .f32⟩
  | .hbm, ⟨35, _⟩ => ⟨S65536x2816, .f32⟩
  | .hbm, ⟨36, _⟩ => ⟨S65536x2816, .f32⟩
  | .hbm, ⟨37, _⟩ => ⟨S65536x2816, .f32⟩
  | .hbm, ⟨38, _⟩ => ⟨S_, .f32⟩
  | .hbm, ⟨39, _⟩ => ⟨S65536x2816, .f32⟩
  | .hbm, ⟨40, _⟩ => ⟨S65536x2816, .f32⟩
  | .hbm, ⟨41, _⟩ => ⟨S_, .f32⟩
  | .hbm, ⟨42, _⟩ => ⟨S65536x2816, .f32⟩
  | .hbm, ⟨43, _⟩ => ⟨S65536x2816, .f32⟩
  | .hbm, ⟨44, _⟩ => ⟨S65536x2816, .f32⟩
  | .hbm, ⟨45, _⟩ => ⟨S65536x2816, .f32⟩
  | .hbm, ⟨46, _⟩ => ⟨S1x2816x1024, .f32⟩
  | .hbm, ⟨47, _⟩ => ⟨S2816x1024, .f32⟩
  | .hbm, ⟨48, _⟩ => ⟨S65536x1024, .f32⟩
  | .hbm, ⟨49, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== Kernel3.lean ====
abbrev S65536x1024 : Shape := ⟨2, ![65536, 1024]⟩
abbrev S2x1024x3352 : Shape := ⟨3, ![2, 1024, 3352]⟩
abbrev S2x1024 : Shape := ⟨2, ![2, 1024]⟩
abbrev S2x64 : Shape := ⟨2, ![2, 64]⟩
abbrev S2x3x64 : Shape := ⟨3, ![2, 3, 64]⟩
abbrev S1x1024 : Shape := ⟨2, ![1, 1024]⟩
abbrev S1024 : Shape := ⟨1, ![1024]⟩
abbrev S1x1024x3352 : Shape := ⟨3, ![1, 1024, 3352]⟩
abbrev S1024x3352 : Shape := ⟨2, ![1024, 3352]⟩
abbrev S1024x3328 : Shape := ⟨2, ![1024, 3328]⟩
abbrev S1024x12 : Shape := ⟨2, ![1024, 12]⟩
abbrev S_ : Shape := ⟨0, ![]⟩
abbrev S1024x128 : Shape := ⟨2, ![1024, 128]⟩
abbrev S1024x3584 : Shape := ⟨2, ![1024, 3584]⟩
abbrev S1x64 : Shape := ⟨2, ![1, 64]⟩
abbrev S64 : Shape := ⟨1, ![64]⟩
abbrev S1x3x64 : Shape := ⟨3, ![1, 3, 64]⟩
abbrev S3x64 : Shape := ⟨2, ![3, 64]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x8x64 : Shape := ⟨4, ![1, 2048, 8, 64]⟩
abbrev S2048x512 : Shape := ⟨2, ![2048, 512]⟩
abbrev S512x512 : Shape := ⟨2, ![512, 512]⟩
abbrev S8x64 : Shape := ⟨2, ![8, 64]⟩
abbrev S512 : Shape := ⟨1, ![512]⟩
abbrev S1x512 : Shape := ⟨2, ![1, 512]⟩
abbrev S128 : Shape := ⟨1, ![128]⟩
abbrev S1x128 : Shape := ⟨2, ![1, 128]⟩
abbrev S2x128 : Shape := ⟨2, ![2, 128]⟩
abbrev S65536x2048 : Shape := ⟨2, ![65536, 2048]⟩
abbrev S65536x128 : Shape := ⟨2, ![65536, 128]⟩
abbrev S65536x256 : Shape := ⟨2, ![65536, 256]⟩
abbrev S32x8x64x2048 : Shape := ⟨4, ![32, 8, 64, 2048]⟩
abbrev S32x2x2048x128 : Shape := ⟨4, ![32, 2, 2048, 128]⟩
abbrev S32x2x80x2048 : Shape := ⟨4, ![32, 2, 80, 2048]⟩
abbrev S512x1024 : Shape := ⟨2, ![512, 1024]⟩
abbrev S512x2048 : Shape := ⟨2, ![512, 2048]⟩
abbrev S512x128 : Shape := ⟨2, ![512, 128]⟩
abbrev S512x256 : Shape := ⟨2, ![512, 256]⟩
abbrev S1x8x64x512 : Shape := ⟨4, ![1, 8, 64, 512]⟩
abbrev S1x2x512x128 : Shape := ⟨4, ![1, 2, 512, 128]⟩
abbrev S1x2x80x512 : Shape := ⟨4, ![1, 2, 80, 512]⟩
abbrev S512x1 : Shape := ⟨2, ![512, 1]⟩
abbrev S1024x512 : Shape := ⟨2, ![1024, 512]⟩
abbrev S8x64x512 : Shape := ⟨3, ![8, 64, 512]⟩
abbrev S128x128 : Shape := ⟨2, ![128, 128]⟩
abbrev S2x16x512 : Shape := ⟨3, ![2, 16, 512]⟩
abbrev S128x512 : Shape := ⟨2, ![128, 512]⟩
abbrev S2x64x512 : Shape := ⟨3, ![2, 64, 512]⟩
abbrev S2x80x512 : Shape := ⟨3, ![2, 80, 512]⟩
abbrev S512x64 : Shape := ⟨2, ![512, 64]⟩
abbrev S1x1x512x128 : Shape := ⟨4, ![1, 1, 512, 128]⟩
abbrev S1024x256 : Shape := ⟨2, ![1024, 256]⟩
abbrev S1024x2048 : Shape := ⟨2, ![1024, 2048]⟩

abbrev nBuf : Space → Nat
  | .hbm => 122
  | .vmem => 29
  | .smem => 0
  | _ => 0

abbrev bufTy : (tb : Table) → Fin (tcTables nBuf tb) → BufTy
  | .hbm, ⟨0, _⟩ => ⟨S65536x1024, .f32⟩
  | .hbm, ⟨1, _⟩ => ⟨S2x1024x3352, .f32⟩
  | .hbm, ⟨2, _⟩ => ⟨S2x1024, .f32⟩
  | .hbm, ⟨3, _⟩ => ⟨S2x64, .f32⟩
  | .hbm, ⟨4, _⟩ => ⟨S2x3x64, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1x1024x3352, .f32⟩
  | .hbm, ⟨9, _⟩ => ⟨S1024x3352, .f32⟩
  | .hbm, ⟨10, _⟩ => ⟨S1024x3328, .f32⟩
  | .hbm, ⟨11, _⟩ => ⟨S1024x12, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x12, .f32⟩
  | .hbm, ⟨16, _⟩ => ⟨S_, .i32⟩
  | .hbm, ⟨17, _⟩ => ⟨S_, .f32⟩
  | .hbm, ⟨18, _⟩ => ⟨S1024x128, .f32⟩
  | .hbm, ⟨19, _⟩ => ⟨S1024x3584, .f32⟩
  | .hbm, ⟨20, _⟩ => ⟨S1024x3584, .bf16⟩
  | .hbm, ⟨21, _⟩ => ⟨S1x64, .f32⟩
  | .hbm, ⟨22, _⟩ => ⟨S64, .f32⟩
  | .hbm, ⟨23, _⟩ => ⟨S1x3x64, .f32⟩
  | .hbm, ⟨24, _⟩ => ⟨S3x64, .f32⟩
  | .hbm, ⟨25, _⟩ => ⟨S2048, .i32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S2048, .f32⟩
  | .hbm, ⟨35, _⟩ => ⟨S2048x1, .f32⟩
  | .hbm, ⟨36, _⟩ => ⟨S1x32, .f32⟩
  | .hbm, ⟨37, _⟩ => ⟨S2048x32, .f32⟩
  | .hbm, ⟨38, _⟩ => ⟨S2048x32, .f32⟩
  | .hbm, ⟨39, _⟩ => ⟨S2048x32, .f32⟩
  | .hbm, ⟨40, _⟩ => ⟨S2048x32, .f32⟩
  | .hbm, ⟨41, _⟩ => ⟨S2048x32, .f32⟩
  | .hbm, ⟨42, _⟩ => ⟨S2048x64, .f32⟩
  | .hbm, ⟨43, _⟩ => ⟨S1x2048x1x64, .f32⟩
  | .hbm, ⟨44, _⟩ => ⟨S1x2048x8x64, .f32⟩
  | .hbm, ⟨45, _⟩ => ⟨S2048x512, .f32⟩
  | .hbm, ⟨46, _⟩ => ⟨S2048x32, .f32⟩
  | .hbm, ⟨47, _⟩ => ⟨S2048x64, .f32⟩
  | .hbm, ⟨48, _⟩ => ⟨S1x2048x1x64, .f32⟩
  | .hbm, ⟨49, _⟩ => ⟨S1x2048x8x64, .f32⟩
  | .hbm, ⟨50, _⟩ => ⟨S2048x512, .f32⟩
  | .hbm, ⟨51, _⟩ => ⟨S512x512, .i32⟩
  | .hbm, ⟨52, _⟩ => ⟨S512x512, .i32⟩
  | .hbm, ⟨53, _⟩ => ⟨S_, .i32⟩
  | .hbm, ⟨54, _⟩ => ⟨S_, .i32⟩
  | .hbm, ⟨55, _⟩ => ⟨S512x512, .i32⟩
  | .hbm, ⟨56, _⟩ => ⟨S512x512, .i32⟩
  | .hbm, ⟨57, _⟩ => ⟨S512x512, .i32⟩
  | .hbm, ⟨58, _⟩ => ⟨S_, .i32⟩
  | .hbm, ⟨59, _⟩ => ⟨S512x512, .i32⟩
  | .hbm, ⟨60, _⟩ => ⟨S512x512, .i1⟩
  | .hbm, ⟨61, _⟩ => ⟨S512x512, .i32⟩
  | .hbm, ⟨62, _⟩ => ⟨S512x512, .i32⟩
  | .hbm, ⟨63, _⟩ => ⟨S_, .i32⟩
  | .hbm, ⟨64, _⟩ => ⟨S512x512, .i32⟩
  | .hbm, ⟨65, _⟩ => ⟨S512x512, .i1⟩
  | .hbm, ⟨66, _⟩ => ⟨S512x512, .i1⟩
  | .hbm, ⟨67, _⟩ => ⟨S_, .i32⟩
  | .hbm, ⟨68, _⟩ => ⟨S512x512, .i32⟩
  | .hbm, ⟨69, _⟩ => ⟨S512x512, .i32⟩
  | .hbm, ⟨70, _⟩ => ⟨S512x512, .i32⟩
  | .hbm, ⟨71, _⟩ => ⟨S_, .i32⟩
  | .hbm, ⟨72, _⟩ => ⟨S_, .i32⟩
  | .hbm, ⟨73, _⟩ => ⟨S512x512, .i32⟩
  | .hbm, ⟨74, _⟩ => ⟨S512x512, .i32⟩
  | .hbm, ⟨75, _⟩ => ⟨S512x512, .i32⟩
  | .hbm, ⟨76, _⟩ => ⟨S_, .i32⟩
  | .hbm, ⟨77, _⟩ => ⟨S512x512, .i32⟩
  | .hbm, ⟨78, _⟩ => ⟨S512x512, .i1⟩
  | .hbm, ⟨79, _⟩ => ⟨S512x512, .i32⟩
  | .hbm, ⟨80, _⟩ => ⟨S512x512, .i32⟩
  | .hbm, ⟨81, _⟩ => ⟨S_, .i32⟩
  | .hbm, ⟨82, _⟩ => ⟨S512x512, .i32⟩
  | .hbm, ⟨83, _⟩ => ⟨S512x512, .i1⟩
  | .hbm, ⟨84, _⟩ => ⟨S512x512, .i1⟩
  | .hbm, ⟨85, _⟩ => ⟨S_, .i32⟩
  | .hbm, ⟨86, _⟩ => ⟨S512x512, .i32⟩
  | .hbm, ⟨87, _⟩ => ⟨S512x512, .i32⟩
  | .hbm, ⟨88, _⟩ => ⟨S512x512, .i32⟩
  | .hbm, ⟨89, _⟩ => ⟨S512x512, .i1⟩
  | .hbm, ⟨90, _⟩ => ⟨S_, .f32⟩
  | .hbm, ⟨91, _⟩ => ⟨S_, .f32⟩
  | .hbm, ⟨92, _⟩ => ⟨S512x512, .f32⟩
  | .hbm, ⟨93, _⟩ => ⟨S512x512, .f32⟩
  | .hbm, ⟨94, _⟩ => ⟨S512x512, .f32⟩
  | .hbm, ⟨95, _⟩ => ⟨S512x512, .bf16⟩
  | .hbm, ⟨96, _⟩ => ⟨S1x64, .f32⟩
  | .hbm, ⟨97, _⟩ => ⟨S8x64, .f32⟩
  | .hbm, ⟨98, _⟩ => ⟨S512, .f32⟩
  | .hbm, ⟨99, _⟩ => ⟨S1x512, .f32⟩
  | .hbm, ⟨100, _⟩ => ⟨S1x64, .f32⟩
  | .hbm, ⟨101, _⟩ => ⟨S64, .f32⟩
  | .hbm, ⟨102, _⟩ => ⟨S1x64, .f32⟩
  | .hbm, ⟨103, _⟩ => ⟨S2x64, .f32⟩
  | .hbm, ⟨104, _⟩ => ⟨S128, .f32⟩
  | .hbm, ⟨105, _⟩ => ⟨S1x64, .f32⟩
  | .hbm, ⟨106, _⟩ => ⟨S64, .f32⟩
  | .hbm, ⟨107, _⟩ => ⟨S1x64, .f32⟩
  | .hbm, ⟨108, _⟩ => ⟨S2x64, .f32⟩
  | .hbm, ⟨109, _⟩ => ⟨S128, .f32⟩
  | .hbm, ⟨110, _⟩ => ⟨S1x128, .f32⟩
  | .hbm, ⟨111, _⟩ => ⟨S1x128, .f32⟩
  | .hbm, ⟨112, _⟩ => ⟨S2x128, .f32⟩
  | .hbm, ⟨113, _⟩ => ⟨S65536x2048, .f32⟩
  | .hbm, ⟨114, _⟩ => ⟨S65536x128, .f32⟩
  | .hbm, ⟨115, _⟩ => ⟨S65536x128, .f32⟩
  | .hbm, ⟨116, _⟩ => ⟨S65536x256, .f32⟩
  | .hbm, ⟨117, _⟩ => ⟨S32x8x64x2048, .bf16⟩
  | .hbm, ⟨118, _⟩ => ⟨S32x2x2048x128, .bf16⟩
  | .hbm, ⟨119, _⟩ => ⟨S32x2x80x2048, .bf16⟩
  | .hbm, ⟨120, _⟩ => ⟨S32x2x2048x128, .bf16⟩
  | .hbm, ⟨121, _⟩ => ⟨S32x2x80x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3584, .bf16⟩
  | .local _ .vmem, ⟨4, _⟩ => ⟨S1x512, .f32⟩
  | .local _ .vmem, ⟨5, _⟩ => ⟨S2x128, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x2048, .f32⟩
  | .local _ .vmem, ⟨12, _⟩ => ⟨S512x2048, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x256, .f32⟩
  | .local _ .vmem, ⟨18, _⟩ => ⟨S512x256, .f32⟩
  | .local _ .vmem, ⟨19, _⟩ => ⟨S1x8x64x512, .bf16⟩
  | .local _ .vmem, ⟨20, _⟩ => ⟨S1x8x64x512, .bf16⟩
  | .local _ .vmem, ⟨21, _⟩ => ⟨S1x2x512x128, .bf16⟩
  | .local _ .vmem, ⟨22, _⟩ => ⟨S1x2x512x128, .bf16⟩
  | .local _ .vmem, ⟨23, _⟩ => ⟨S1x2x80x512, .bf16⟩
  | .local _ .vmem, ⟨24, _⟩ => ⟨S1x2x80x512, .bf16⟩
  | .local _ .vmem, ⟨25, _⟩ => ⟨S1x2x512x128, .bf16⟩
  | .local _ .vmem, ⟨26, _⟩ => ⟨S1x2x512x128, .bf16⟩
  | .local _ .vmem, ⟨27, _⟩ => ⟨S1x2x80x512, .bf16⟩
  | .local _ .vmem, ⟨28, _⟩ => ⟨S1x2x80x512, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_2 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_c : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_0 : Ref sig .tc := ⟨.hbm, 67, rfl⟩
abbrev main_call2_v12 : Ref sig .tc := ⟨.hbm, 68, rfl⟩
abbrev main_call2_v13 : Ref sig .tc := ⟨.hbm, 69, rfl⟩
abbrev main_v42 : Ref sig .tc := ⟨.hbm, 70, rfl⟩
abbrev main_c_3 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_call3_v5 : Ref sig .tc := ⟨.hbm, 77, rfl⟩
abbrev main_call3_v6 : Ref sig .tc := ⟨.hbm, 78, rfl⟩
abbrev main_call3_v7 : Ref sig .tc := ⟨.hbm, 79, rfl⟩
abbrev main_call3_v8 : Ref sig .tc := ⟨.hbm, 80, rfl⟩
abbrev main_call3_c : Ref sig .tc := ⟨.hbm, 81, rfl⟩
abbrev main_call3_v9 : Ref sig .tc := ⟨.hbm, 82, rfl⟩
abbrev main_call3_v10 : Ref sig .tc := ⟨.hbm, 83, rfl⟩
abbrev main_call3_v11 : Ref sig .tc := ⟨.hbm, 84, rfl⟩
abbrev main_call3_c_0 : Ref sig .tc := ⟨.hbm, 85, rfl⟩
abbrev main_call3_v12 : Ref sig .tc := ⟨.hbm, 86, rfl⟩
abbrev main_call3_v13 : Ref sig .tc := ⟨.hbm, 87, rfl⟩
abbrev main_v43 : Ref sig .tc := ⟨.hbm, 88, rfl⟩
abbrev main_v44 : Ref sig .tc := ⟨.hbm, 89, rfl⟩
abbrev main_cst_4 : Ref sig .tc := ⟨.hbm, 90, rfl⟩
abbrev main_cst_5 : Ref sig .tc := ⟨.hbm, 91, rfl⟩
abbrev main_call4_v0 : Ref sig .tc := ⟨.hbm, 92, rfl⟩
abbrev main_call4_v1 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64_0 : Ref sig .tc := ⟨.hbm, 113, rfl⟩
abbrev main_v64_1 : Ref sig .tc := ⟨.hbm, 114, rfl⟩
abbrev main_v64_2 : Ref sig .tc := ⟨.hbm, 115, rfl⟩
abbrev main_v64_3 : Ref sig .tc := ⟨.hbm, 116, rfl⟩
abbrev main_v64_4 : Ref sig .tc := ⟨.hbm, 117, rfl⟩
abbrev main_v64_5 : Ref sig .tc := ⟨.hbm, 118, rfl⟩
abbrev main_v64_6 : Ref sig .tc := ⟨.hbm, 119, rfl⟩
abbrev main_v64_7 : Ref sig .tc := ⟨.hbm, 120, rfl⟩
abbrev main_v64_8 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x64x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2x80x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x2x512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x2x80x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference3Ideal.lean ====
abbrev S65536x1024 : Shape := ⟨2, ![65536, 1024]⟩
abbrev S2x1024x3352 : Shape := ⟨3, ![2, 1024, 3352]⟩
abbrev S2x1024 : Shape := ⟨2, ![2, 1024]⟩
abbrev S2x64 : Shape := ⟨2, ![2, 64]⟩
abbrev S2x3x64 : Shape := ⟨3, ![2, 3, 64]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S1024 : Shape := ⟨1, ![1024]⟩
abbrev S1x1024x3352 : Shape := ⟨3, ![1, 1024, 3352]⟩
abbrev S1024x3352 : Shape := ⟨2, ![1024, 3352]⟩
abbrev S65536x3352 : Shape := ⟨2, ![65536, 3352]⟩
abbrev S65536x2048 : Shape := ⟨2, ![65536, 2048]⟩
abbrev S65536x128 : Shape := ⟨2, ![65536, 128]⟩

abbrev nBuf : Space → Nat
  | .hbm => 29
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S2x1024x3352, .f32⟩
  | .hbm, ⟨2, _⟩ => ⟨S2x1024, .f32⟩
  | .hbm, ⟨3, _⟩ => ⟨S2x64, .f32⟩
  | .hbm, ⟨4, _⟩ => ⟨S2x3x64, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S65536x1024, .f32⟩
  | .hbm, ⟨22, _⟩ => ⟨S65536x1024, .f32⟩
  | .hbm, ⟨23, _⟩ => ⟨S1x1024x3352, .f32⟩
  | .hbm, ⟨24, _⟩ => ⟨S1024x3352, .f32⟩
  | .hbm, ⟨25, _⟩ => ⟨S65536x3352, .f32⟩
  | .hbm, ⟨26, _⟩ => ⟨S65536x2048, .f32⟩
  | .hbm, ⟨27, _⟩ => ⟨S65536x128, .f32⟩
  | .hbm, ⟨28, _⟩ => ⟨S65536x128, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Proof.FfnCases.lean ====
module

public import proofs.«01_k».proof.Proof.Gen.Kernel2Ideal.Value
public import Idealize.ShloMosaic.Lib.Tactic
public import Idealize.ShloMosaic.Lib.Pointwise

@[expose] public section

set_option maxRecDepth 16384

/-! What one point of the feed-forward kernel leaves in its scratch and in its output block, as values of the blocks it reads. -/

noncomputable section

open Idealize.ShloMosaic Idealize.ShloMosaic.TcCoe Idealize.SL.Sem

namespace Cert.Kernel2Ideal.Ffn

open Cert.Kernel2Ideal Cert.Kernel2Ideal.Gen

variable {F : FTy → Type} [FloatOps F]

/-- The start of a whole window. -/
theorem hz : (![0, 0] : Fin 2 → Nat) = fun _ => 0 := funext fun a => by fin_cases a <;> rfl

/-- The upper half of the output projection's rows. -/
abbrev woA (x3 : Vec F S1024x1024 .bf16) : Vec F S512x1024 .bf16 := fun j => x3 (ix2 (⟨(j 0).val, by have := (j 0).isLt; change _ < 512 at this; omega⟩ : Fin 1024) (⟨(j 1).val, (j 1).isLt⟩ : Fin 1024))
/-- The lower half of the output projection's rows. -/
abbrev woB (x3 : Vec F S1024x1024 .bf16) : Vec F S512x1024 .bf16 := fun j => x3 (ix2 (⟨(j 0).val + 512, by have := (j 0).isLt; change _ < 512 at this; omega⟩ : Fin 1024) (⟨(j 1).val, (j 1).isLt⟩ : Fin 1024))

/-- A load of the weights' upper rows. -/
theorem ldA (x3 : Vec F S1024x1024 .bf16) (h) : View.ld x3 (Rect.unit (s := S1024x1024) ![0, 0] ![512, 1024] h) = woA x3 := by
  funext j
  show x3 _ = x3 _
  congr 1
  funext a
  apply Fin.ext
  match a with
  | ⟨0, _⟩ => show 0 + 1 * (j 0).val = (j 0).val; omega
  | ⟨1, _⟩ => show 0 + 1 * (j 1).val = (j 1).val; omega
/-- A load of the weights' lower rows. -/
theorem ldB (x3 : Vec F S1024x1024 .bf16) (h) : View.ld x3 (Rect.unit (s := S1024x1024) ![512, 0] ![512, 1024] h) = woB x3 := by
  funext j
  show x3 _ = x3 _
  congr 1
  funext a
  apply Fin.ext
  match a with
  | ⟨0, _⟩ => show 512 + 1 * (j 0).val = (j 0).val + 512; omega
  | ⟨1, _⟩ => show 0 + 1 * (j 1).val = (j 1).val; omega

/-- The first step of a block leaves the normalised rows in the first scratch. -/
theorem s0A (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1408 .bf16) (harg7 : arg7.IsWhole) (arg8 : Memref sig .tc .vmem S1024x1408 .bf16) (harg8 : arg8.IsWhole) (arg9 : Memref sig .tc .vmem S1408x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .f32) (harg12 : arg12.IsWhole) (hc0 : cond0_0 i) (hc1 : ¬cond0_1 i)
    (x0 : Vec F S512x1024 .f32) (x1 : Vec F S512x512 .bf16) (x2 : Vec F S512x512 .bf16) (x3 : Vec F S1024x1024 .bf16) (x4 : Vec F S1x1024 .f32) (x5 : Vec F S1024x1408 .bf16) (x6 : Vec F S1024x1408 .bf16) (x7 : Vec F S1408x1024 .bf16) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 = k0_pay3 x0 x1 (woA x3) x2 (woB x3) x4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  sl_unfold_words
  rw [View.canon_cons_unit_zero (S := S512x1024) hz]
  simp only [View.readAt_eq_ld, harg2.read_unread, harg3.read_unread, harg4.read_unread, harg5.read_unread, harg6.read_unread, harg7.read_unread, harg8.read_unread, harg9.read_unread, harg11.read_unread, harg12.read_unread, View.ld_unit_zero (S := S512x1024) hz, View.ld_unit_zero (S := S512x512) hz, View.ld_unit_zero (S := S1x1024) hz, View.ld_unit_zero (S := S1024x1408) hz, View.ld_unit_zero (S := S1408x1024) hz, ldA, ldB, shapeCast_self]

/-- and the residual rows plus the first half of the products in the second. -/
theorem s1A (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1408 .bf16) (harg7 : arg7.IsWhole) (arg8 : Memref sig .tc .vmem S1024x1408 .bf16) (harg8 : arg8.IsWhole) (arg9 : Memref sig .tc .vmem S1408x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .f32) (harg12 : arg12.IsWhole) (hc0 : cond0_0 i) (hc1 : ¬cond0_1 i)
    (x0 : Vec F S512x1024 .f32) (x1 : Vec F S512x512 .bf16) (x2 : Vec F S512x512 .bf16) (x3 : Vec F S1024x1024 .bf16) (x4 : Vec F S1x1024 .f32) (x5 : Vec F S1024x1408 .bf16) (x6 : Vec F S1024x1408 .bf16) (x7 : Vec F S1408x1024 .bf16) :
    sout0_A_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 = k0_pay4 (k0_pay3 x0 x1 (woA x3) x2 (woB x3) x4) x5 x6 (k0_pay2 x0 x1 (woA x3) x2 (woB x3)) x7 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  sl_unfold_words
  rw [View.canon_cons_unit_zero (S := S512x1024) hz]
  rw [View.readCov_unit_zero (S := S512x1024) _ hz, View.readCov_unit_zero (S := S512x1024) _ hz]
  simp only [View.readAt_eq_ld, harg2.read_unread, harg3.read_unread, harg4.read_unread, harg5.read_unread, harg6.read_unread, harg7.read_unread, harg8.read_unread, harg9.read_unread, harg11.read_unread, harg12.read_unread, View.ld_unit_zero (S := S512x1024) hz, View.ld_unit_zero (S := S512x512) hz, View.ld_unit_zero (S := S1x1024) hz, View.ld_unit_zero (S := S1024x1408) hz, View.ld_unit_zero (S := S1408x1024) hz, ldA, ldB, shapeCast_self]

/-- The second step adds the other half and hands the rows over. -/
theorem o8B (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1408 .bf16) (harg7 : arg7.IsWhole) (arg8 : Memref sig .tc .vmem S1024x1408 .bf16) (harg8 : arg8.IsWhole) (arg9 : Memref sig .tc .vmem S1408x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .f32) (harg12 : arg12.IsWhole) (hc0 : ¬cond0_0 i) (hc1 : cond0_1 i)
    (x0 : Vec F S512x1024 .f32) (x1 : Vec F S512x512 .bf16) (x2 : Vec F S512x512 .bf16) (x3 : Vec F S1024x1024 .bf16) (x4 : Vec F S1x1024 .f32) (x5 : Vec F S1024x1408 .bf16) (x6 : Vec F S1024x1408 .bf16) (x7 : Vec F S1408x1024 .bf16) (xs0 : Vec F S512x1024 .bf16) (xs1 : Vec F S512x1024 .f32) :
    out0_B_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k0_pay4 xs0 x5 x6 xs1 x7 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_B
  dsimp only
  sl_unfold_words
  rw [View.canon_cons_unit_zero (S := S512x1024) hz]
  rw [View.readCov_unit_zero (S := S512x1024) _ hz]
  simp only [View.readAt_eq_ld, harg2.read_unread, harg3.read_unread, harg4.read_unread, harg5.read_unread, harg6.read_unread, harg7.read_unread, harg8.read_unread, harg9.read_unread, harg11.read_unread, harg12.read_unread, View.ld_unit_zero (S := S512x1024) hz, View.ld_unit_zero (S := S512x512) hz, View.ld_unit_zero (S := S1x1024) hz, View.ld_unit_zero (S := S1024x1408) hz, View.ld_unit_zero (S := S1408x1024) hz, ldA, ldB, shapeCast_self]

end Cert.Kernel2Ideal.Ffn

end
-- ==== Proof.FfnRead.lean ====
module

public import proofs.«01_k».proof.Proof.FfnCases

@[expose] public section

set_option maxRecDepth 16384

/-! The blocks the feed-forward kernel reads, as entries of its arguments, and the result array in terms of them. -/

noncomputable section

open Idealize.ShloMosaic Idealize.ShloMosaic.TcCoe Idealize.SL.Sem

namespace Cert.Kernel2Ideal.Ffn

open Cert.Kernel2Ideal Cert.Kernel2Ideal.Gen

variable {F : FTy → Type} [FloatOps F]
variable (m : (ℓ : Loc nD τ sig) → Buf (Elt F) ℓ)

/-- Which block each window reads at a point. -/
theorem idxs : ∀ t : Fin cfg0.N,
    (win0_0.index t 0 = t.val / 2 ∧ win0_0.index t 1 = 0) ∧ (win0_1.index t 0 = t.val / 2 ∧ win0_1.index t 1 = 0)
    ∧ (win0_2.index t 0 = t.val / 2 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = t.val % 2)
    ∧ (win0_6.index t 0 = 0 ∧ win0_6.index t 1 = t.val % 2 + 2) ∧ (win0_7.index t 0 = t.val % 2 ∧ win0_7.index t 1 = 0) :=
  (by decide +kernel : ∀ t : Fin grid0.N, _)

/-- The output projection the launch finds: layer 1 of the argument, rounded. -/
theorem V_v2 (c : Dev nD) : V m c main_v2 = truncf .bf16 (shapeCast S1024x1024 (extractStridedSlice S1x1024x1024 ![1, 0, 0] (m ((c : Thread nD τ).loc main_arg3)) slices_S2x1024x1024_S1x1024x1024_1_0_0) shapeCasts_S1x1024x1024_S1024x1024 : Vec F S1024x1024 .f32) bitsLt_bf16_f32 := by
  unfold V hostOps0
  after_results_simp <;> rfl

/-- The norm's weights the launch finds: layer 1 of the argument. -/
theorem V_v5 (c : Dev nD) : V m c main_v5 = broadcastInDim S1x1024 ![1] bcast_S1024_S1x1024_1 (shapeCast S1024 (extractStridedSlice S1x1024 ![1, 0] (m ((c : Thread nD τ).loc main_arg4)) slices_S2x1024_S1x1024_1_0) shapeCasts_S1x1024_S1024 : Vec F S1024 .f32) := by
  unfold V hostOps0
  after_results_simp <;> rfl

/-- The two input projections the launch finds: layer 1 of the argument, rounded. -/
theorem V_v8 (c : Dev nD) : V m c main_v8 = truncf .bf16 (shapeCast S1024x5632 (extractStridedSlice S1x1024x5632 ![1, 0, 0] (m ((c : Thread nD τ).loc main_arg5)) slices_S2x1024x5632_S1x1024x5632_1_0_0) shapeCasts_S1x1024x5632_S1024x5632 : Vec F S1024x5632 .f32) bitsLt_bf16_f32 := by
  unfold V hostOps0
  after_results_simp <;> rfl

/-- The output weights the launch finds: layer 1 of the argument, rounded. -/
theorem V_v11 (c : Dev nD) : V m c main_v11 = truncf .bf16 (shapeCast S2816x1024 (extractStridedSlice S1x2816x1024 ![1, 0, 0] (m ((c : Thread nD τ).loc main_arg6)) slices_S2x2816x1024_S1x2816x1024_1_0_0) shapeCasts_S1x2816x1024_S2816x1024 : Vec F S2816x1024 .f32) bitsLt_bf16_f32 := by
  unfold V hostOps0
  after_results_simp <;> rfl

/-- Step `s` of row block `r`. -/
abbrev pt (r : Fin 128) (s : Fin 2) : Fin cfg0.N := ⟨2 * r.val + s.val, lt_of_lt_of_eq (by have := r.isLt; have := s.isLt; omega) N_0.symm⟩

/-- Row `p` of row block `r`. -/
abbrev row (r : Fin 128) (p : Fin 512) : Fin 65536 := ⟨512 * r.val + p.val, by have := r.isLt; have := p.isLt; omega⟩

/-- Window 0 reads the rows of the residual stream. -/
theorem blk0 (c : Dev nD) (r : Fin 128) (s : Fin 2) (p : Fin 512) (q : Fin 1024) :
    (iblk m c 0 (pt r s) : Vec F S512x1024 .f32) (ix2 p q) = (V m c main_arg0 : (Vec F _ .f32)) (ix2 (row r p) q) := by
  have hi := (idxs (pt r s)).1
  have hr := r.isLt
  have hs := s.isLt
  unfold iblk
  rw [View.read_apply]
  show V m c main_arg0 _ = V m c main_arg0 _
  congr 1
  funext a
  apply Fin.ext
  match a with
  | ⟨0, _⟩ => show win0_0.index (pt r s) 0 * 512 + 1 * p.val = _; rw [hi.1]; simp <;> omega
  | ⟨1, _⟩ => show win0_0.index (pt r s) 1 * 1024 + 1 * q.val = _; rw [hi.2]; simp <;> omega

/-- Window 1 reads the rows of the first mixer's output. -/
theorem blk1 (c : Dev nD) (r : Fin 128) (s : Fin 2) (p : Fin 512) (q : Fin 512) :
    (iblk m c 1 (pt r s) : Vec F S512x512 .bf16) (ix2 p q) = (V m c main_arg1 : (Vec F _ .bf16)) (ix2 (row r p) q) := by
  have hi := (idxs (pt r s)).2.1
  have hr := r.isLt
  have hs := s.isLt
  unfold iblk
  rw [View.read_apply]
  show V m c main_arg1 _ = V m c main_arg1 _
  congr 1
  funext a
  apply Fin.ext
  match a with
  | ⟨0, _⟩ => show win0_1.index (pt r s) 0 * 512 + 1 * p.val = _; rw [hi.1]; simp <;> omega
  | ⟨1, _⟩ => show win0_1.index (pt r s) 1 * 512 + 1 * q.val = _; rw [hi.2]; simp <;> omega

/-- Window 2 reads the rows of the second mixer's output. -/
theorem blk2 (c : Dev nD) (r : Fin 128) (s : Fin 2) (p : Fin 512) (q : Fin 512) :
    (iblk m c 2 (pt r s) : Vec F S512x512 .bf16) (ix2 p q) = (V m c main_arg2 : (Vec F _ .bf16)) (ix2 (row r p) q) := by
  have hi := (idxs (pt r s)).2.2.1
  have hr := r.isLt
  have hs := s.isLt
  unfold iblk
  rw [View.read_apply]
  show V m c main_arg2 _ = V m c main_arg2 _
  congr 1
  funext a
  apply Fin.ext
  match a with
  | ⟨0, _⟩ => show win0_2.index (pt r s) 0 * 512 + 1 * p.val = _; rw [hi.1]; simp <;> omega
  | ⟨1, _⟩ => show win0_2.index (pt r s) 1 * 512 + 1 * q.val = _; rw [hi.2]; simp <;> omega

/-- Window 3 reads the whole output projection. -/
theorem blk3 (c : Dev nD) (r : Fin 128) (s : Fin 2) (p : Fin 1024) (q : Fin 1024) :
    (iblk m c 3 (pt r s) : Vec F S1024x1024 .bf16) (ix2 p q) = (V m c main_v2 : (Vec F _ .bf16)) (ix2 p q) := by
  have hi := (idxs (pt r s)).2.2.2.1
  have hr := r.isLt
  have hs := s.isLt
  unfold iblk
  rw [View.read_apply]
  show V m c main_v2 _ = V m c main_v2 _
  congr 1
  funext a
  apply Fin.ext
  match a with
  | ⟨0, _⟩ => show win0_3.index (pt r s) 0 * 1024 + 1 * p.val = _; rw [hi.1]; simp <;> omega
  | ⟨1, _⟩ => show win0_3.index (pt r s) 1 * 1024 + 1 * q.val = _; rw [hi.2]; simp <;> omega

/-- Window 4 reads the norm's weights. -/
theorem blk4 (c : Dev nD) (r : Fin 128) (s : Fin 2) (p : Fin 1) (q : Fin 1024) :
    (iblk m c 4 (pt r s) : Vec F S1x1024 .f32) (ix2 p q) = (V m c main_v5 : (Vec F _ .f32)) (ix2 p q) := by
  have hi := (idxs (pt r s)).2.2.2.2.1
  have hr := r.isLt
  have hs := s.isLt
  unfold iblk
  rw [View.read_apply]
  show V m c main_v5 _ = V m c main_v5 _
  congr 1
  funext a
  apply Fin.ext
  match a with
  | ⟨0, _⟩ => show win0_4.index (pt r s) 0 * 1 + 1 * p.val = _; rw [hi.1]; simp <;> omega
  | ⟨1, _⟩ => show win0_4.index (pt r s) 1 * 1024 + 1 * q.val = _; rw [hi.2]; simp <;> omega

/-- Window 5 reads the columns of the gate projection. -/
theorem blk5 (c : Dev nD) (r : Fin 128) (s : Fin 2) (p : Fin 1024) (q : Fin 1408) :
    (iblk m c 5 (pt r s) : Vec F S1024x1408 .bf16) (ix2 p q) = (V m c main_v8 : (Vec F _ .bf16)) (ix2 p (⟨1408 * s.val + q.val, by have := s.isLt; have := q.isLt; omega⟩ : Fin 5632)) := by
  have hi := (idxs (pt r s)).2.2.2.2.2.1
  have hr := r.isLt
  have hs := s.isLt
  unfold iblk
  rw [View.read_apply]
  show V m c main_v8 _ = V m c main_v8 _
  congr 1
  funext a
  apply Fin.ext
  match a with
  | ⟨0, _⟩ => show win0_5.index (pt r s) 0 * 1024 + 1 * p.val = _; rw [hi.1]; simp <;> omega
  | ⟨1, _⟩ => show win0_5.index (pt r s) 1 * 1408 + 1 * q.val = _; rw [hi.2]; simp <;> omega

/-- Window 6 reads the columns of the up projection. -/
theorem blk6 (c : Dev nD) (r : Fin 128) (s : Fin 2) (p : Fin 1024) (q : Fin 1408) :
    (iblk m c 6 (pt r s) : Vec F S1024x1408 .bf16) (ix2 p q) = (V m c main_v8 : (Vec F _ .bf16)) (ix2 p (⟨2816 + (1408 * s.val + q.val), by have := s.isLt; have := q.isLt; omega⟩ : Fin 5632)) := by
  have hi := (idxs (pt r s)).2.2.2.2.2.2.1
  have hr := r.isLt
  have hs := s.isLt
  unfold iblk
  rw [View.read_apply]
  show V m c main_v8 _ = V m c main_v8 _
  congr 1
  funext a
  apply Fin.ext
  match a with
  | ⟨0, _⟩ => show win0_6.index (pt r s) 0 * 1024 + 1 * p.val = _; rw [hi.1]; simp <;> omega
  | ⟨1, _⟩ => show win0_6.index (pt r s) 1 * 1408 + 1 * q.val = _; rw [hi.2]; simp <;> omega

/-- Window 7 reads the rows of the output weights. -/
theorem blk7 (c : Dev nD) (r : Fin 128) (s : Fin 2) (p : Fin 1408) (q : Fin 1024) :
    (iblk m c 7 (pt r s) : Vec F S1408x1024 .bf16) (ix2 p q) = (V m c main_v11 : (Vec F _ .bf16)) (ix2 (⟨1408 * s.val + p.val, by have := s.isLt; have := p.isLt; omega⟩ : Fin 2816) q) := by
  have hi := (idxs (pt r s)).2.2.2.2.2.2.2
  have hr := r.isLt
  have hs := s.isLt
  unfold iblk
  rw [View.read_apply]
  show V m c main_v11 _ = V m c main_v11 _
  congr 1
  funext a
  apply Fin.ext
  match a with
  | ⟨0, _⟩ => show win0_7.index (pt r s) 0 * 1408 + 1 * p.val = _; rw [hi.1]; simp <;> omega
  | ⟨1, _⟩ => show win0_7.index (pt r s) 1 * 1024 + 1 * q.val = _; rw [hi.2]; simp <;> omega

/-- The result array's row block `r`: the second step's value over what the first step left. -/
theorem G8_blk (c : Dev nD) (r : Fin 128) (p : Fin 512) (q : Fin 1024) :
    (Value.G8 m c : Vec F S65536x1024 .f32) (ix2 (row r p) q) =
      k0_pay4 (k0_pay3 (iblk m c 0 (pt r 0)) (iblk m c 1 (pt r 0)) (woA (iblk m c 3 (pt r 0))) (iblk m c 2 (pt r 0)) (woB (iblk m c 3 (pt r 0))) (iblk m c 4 (pt r 0)))
        (iblk m c 5 (pt r 1)) (iblk m c 6 (pt r 1))
        (k0_pay4 (k0_pay3 (iblk m c 0 (pt r 0)) (iblk m c 1 (pt r 0)) (woA (iblk m c 3 (pt r 0))) (iblk m c 2 (pt r 0)) (woB (iblk m c 3 (pt r 0))) (iblk m c 4 (pt r 0)))
          (iblk m c 5 (pt r 0)) (iblk m c 6 (pt r 0))
          (k0_pay2 (iblk m c 0 (pt r 0)) (iblk m c 1 (pt r 0)) (woA (iblk m c 3 (pt r 0))) (iblk m c 2 (pt r 0)) (woB (iblk m c 3 (pt r 0))))
          (iblk m c 7 (pt r 0)))
        (iblk m c 7 (pt r 1)) (ix2 p q) := by
  have hr := r.isLt
  have hp := p.isLt
  have hq := q.isLt
  have hrun : Value.pt8Of (ix2 (row r p) q) = (pt r 1).val := by
    show 2 * (1 * ((512 * r.val + p.val) / 512 - 0) + 1 * (q.val / 1024 - 0)) + 1 = 2 * r.val + 1
    omega
  have hloc : Value.loc8Of (ix2 (row r p) q) = ix2 p q := by
    funext a
    apply Fin.ext
    match a with
    | ⟨0, _⟩ => show (512 * r.val + p.val) % 512 = p.val; omega
    | ⟨1, _⟩ => show q.val % 1024 = q.val; omega
  have h0 : (pt r 0).val % 2 = 0 := by show (2 * r.val + 0) % 2 = 0; omega
  have h1 : (pt r 1).val % 2 = 1 := by show (2 * r.val + 1) % 2 = 1; omega
  have e0 := outsAt0_A m c (pt r 0) h0 (by omega)
  have e1 := outsAt0_B m c (pt r 1) (by omega) h1
  unfold Value.G8
  rw [dif_pos (by rw [hrun]; exact (pt r 1).isLt), hloc]
  rw [Value.fold0_congr m c _ _ (pt r 1).val (by have := (pt r 1).isLt; omega) hrun]
  rw [← Value.outsAt0_sweep m c (pt r 1).val (pt r 1).isLt, e1]
  dsimp only
  rw [o8B]
  have e2 : ∀ (n : ℕ) (h : n < cfg0.N), n = (pt r 0).val → outsAt0 m c n h = outsAt0 m c (pt r 0).val (pt r 0).isLt := by
    rintro n h rfl; rfl
  rw [e2 _ _ (by show 2 * r.val + 1 - 1 = 2 * r.val + 0; omega), e0]
  dsimp only
  rw [s0A, s1A]

end Cert.Kernel2Ideal.Ffn

end
-- ==== Proof.FfnAlg.lean ====
module

public import proofs.«01_k».proof.Proof.FfnRead
public import proofs.«01_k».proof.Defs
public import proofs.«01_k».proof.Proof.Gen.Reference2Ideal.Run

@[expose] public section

set_option maxRecDepth 16384

/-! The feed-forward call over the extended reals: both programs end at the same sums. -/

noncomputable section

open Idealize.ShloMosaic Idealize.ShloMosaic.TcCoe Idealize.SL.Sem

namespace Cert.Ffn

/-- A row of the residual stream with both mixers' projections added. -/
def hid {R : ℕ} (x : Fin R → Fin 1024 → EReal) (a b : Fin R → Fin 512 → EReal) (wo : Fin 1024 → Fin 1024 → EReal) (p : Fin R) (q : Fin 1024) : EReal :=
  x p q + (∑ k : Fin 512, a p k * wo ⟨k.val, by omega⟩ q) + ∑ k : Fin 512, b p k * wo ⟨512 + k.val, by omega⟩ q

/-- The row divided by its root mean square and scaled by the norm's weights. -/
def nrm {R : ℕ} (h : Fin R → Fin 1024 → EReal) (g : Fin 1024 → EReal) (p : Fin R) (q : Fin 1024) : EReal :=
  h p q * Ideal.rsqrt (Ideal.div (∑ k : Fin 1024, h p k * h p k) (Ideal.ofBits FTy.f32 1149239296#32) + Ideal.ofBits FTy.f32 897988541#32) * g q

/-- One gated feature of the row. -/
def act {R : ℕ} (n : Fin R → Fin 1024 → EReal) (wi : Fin 1024 → Fin 5632 → EReal) (p : Fin R) (j : Fin 2816) : EReal :=
  (∑ k : Fin 1024, n p k * wi k ⟨j.val, by omega⟩) * Ideal.div 1 (1 + Ideal.exp (-∑ k : Fin 1024, n p k * wi k ⟨j.val, by omega⟩))
    * ∑ k : Fin 1024, n p k * wi k ⟨2816 + j.val, by omega⟩

/-- The two halves of the features, summed one after the other. -/
theorem halves (f : Fin 2816 → EReal) :
    (∑ j : Fin 1408, f ⟨1408 * (0 : Fin 2).val + j.val, by simp; omega⟩) + (∑ j : Fin 1408, f ⟨1408 * (1 : Fin 2).val + j.val, by simp; omega⟩) = ∑ j : Fin 2816, f j := by
  rw [Fin.sum_univ_two_halves 1408 1408 rfl f]
  congr 1

end Cert.Ffn

namespace Cert.Kernel2Ideal.Ffn

open Cert.Kernel2Ideal Cert.Kernel2Ideal.Gen

/-- The residual rows, entry by entry. -/
theorem pay1_at (x : Vec Ideal S512x1024 .f32) (a : Vec Ideal S512x512 .bf16) (u : Vec Ideal S512x1024 .bf16) (b : Vec Ideal S512x512 .bf16) (v : Vec Ideal S512x1024 .bf16) (p : Fin 512) (q : Fin 1024) :
    k0_pay1 x a u b v (ix2 p q) = x (ix2 p q) + (∑ k : Fin 512, a (ix2 p k) * u (ix2 k q)) + ∑ k : Fin 512, b (ix2 p k) * v (ix2 k q) := by
  pointwise [k0_pay1]

/-- The same rows as the second scratch receives them. -/
theorem pay2_at (x : Vec Ideal S512x1024 .f32) (a : Vec Ideal S512x512 .bf16) (u : Vec Ideal S512x1024 .bf16) (b : Vec Ideal S512x512 .bf16) (v : Vec Ideal S512x1024 .bf16) (p : Fin 512) (q : Fin 1024) :
    k0_pay2 x a u b v (ix2 p q) = k0_pay1 x a u b v (ix2 p q) := by
  unfold k0_pay2; rw [shapeCast_self]

/-- The normalised rows, entry by entry. -/
theorem pay3_at (x : Vec Ideal S512x1024 .f32) (a : Vec Ideal S512x512 .bf16) (u : Vec Ideal S512x1024 .bf16) (b : Vec Ideal S512x512 .bf16) (v : Vec Ideal S512x1024 .bf16) (g : Vec Ideal S1x1024 .f32) (p : Fin 512) (q : Fin 1024) :
    k0_pay3 x a u b v g (ix2 p q) = Cert.Ffn.nrm (fun p q => k0_pay1 x a u b v (ix2 p q)) (fun q => g (ix2 0 q)) p q := by
  unfold k0_pay3
  generalize k0_pay1 x a u b v = h
  pointwise [Cert.Ffn.nrm]

/-- One step's addition to the accumulated rows, entry by entry. -/
theorem pay4_at (n : Vec Ideal S512x1024 .bf16) (g : Vec Ideal S1024x1408 .bf16) (u : Vec Ideal S1024x1408 .bf16) (acc : Vec Ideal S512x1024 .f32) (w : Vec Ideal S1408x1024 .bf16) (p : Fin 512) (q : Fin 1024) :
    k0_pay4 n g u acc w (ix2 p q) = acc (ix2 p q) + ∑ j : Fin 1408, (∑ k : Fin 1024, n (ix2 p k) * g (ix2 k j)) * Ideal.div 1 (1 + Ideal.exp (-∑ k : Fin 1024, n (ix2 p k) * g (ix2 k j)))
      * (∑ k : Fin 1024, n (ix2 p k) * u (ix2 k j)) * w (ix2 j q) := by
  pointwise [k0_pay4, zero_sub]

variable (m : (ℓ : Loc nD τ sig) → Buf (Elt Ideal) ℓ)

/-- The output projection, entry by entry. -/
theorem v2_at (c : Dev nD) (p q : Fin 1024) : (V m c main_v2 : Vec Ideal S1024x1024 .bf16) (ix2 p q) = (m (c.tc.loc main_arg3) : Vec Ideal S2x1024x1024 .f32) (ix3 1 p q) := by
  rw [V_v2]; pointwise
/-- The norm's weights, entry by entry. -/
theorem v5_at (c : Dev nD) (q : Fin 1024) : (V m c main_v5 : Vec Ideal S1x1024 .f32) (ix2 0 q) = (m (c.tc.loc main_arg4) : Vec Ideal S2x1024 .f32) (ix2 1 q) := by
  rw [V_v5]; pointwise
/-- The two input projections, entry by entry. -/
theorem v8_at (c : Dev nD) (p : Fin 1024) (q : Fin 5632) : (V m c main_v8 : Vec Ideal S1024x5632 .bf16) (ix2 p q) = (m (c.tc.loc main_arg5) : Vec Ideal S2x1024x5632 .f32) (ix3 1 p q) := by
  rw [V_v8]; pointwise
/-- The output weights, entry by entry. -/
theorem v11_at (c : Dev nD) (p : Fin 2816) (q : Fin 1024) : (V m c main_v11 : Vec Ideal S2816x1024 .bf16) (ix2 p q) = (m (c.tc.loc main_arg6) : Vec Ideal S2x2816x1024 .f32) (ix3 1 p q) := by
  rw [V_v11]; pointwise

/-- The arguments, as arrays of extended reals. -/
abbrev aX (c : Dev nD) : Fin 65536 → Fin 1024 → EReal := fun p q => (m (c.tc.loc main_arg0) : Vec Ideal S65536x1024 .f32) (ix2 p q)
abbrev aA (c : Dev nD) : Fin 65536 → Fin 512 → EReal := fun p q => (m (c.tc.loc main_arg1) : Vec Ideal S65536x512 .bf16) (ix2 p q)
abbrev aB (c : Dev nD) : Fin 65536 → Fin 512 → EReal := fun p q => (m (c.tc.loc main_arg2) : Vec Ideal S65536x512 .bf16) (ix2 p q)
abbrev aW (c : Dev nD) : Fin 1024 → Fin 1024 → EReal := fun p q => (m (c.tc.loc main_arg3) : Vec Ideal S2x1024x1024 .f32) (ix3 1 p q)
abbrev aG (c : Dev nD) : Fin 1024 → EReal := fun q => (m (c.tc.loc main_arg4) : Vec Ideal S2x1024 .f32) (ix2 1 q)
abbrev aI (c : Dev nD) : Fin 1024 → Fin 5632 → EReal := fun p q => (m (c.tc.loc main_arg5) : Vec Ideal S2x1024x5632 .f32) (ix3 1 p q)
abbrev aO (c : Dev nD) : Fin 2816 → Fin 1024 → EReal := fun p q => (m (c.tc.loc main_arg6) : Vec Ideal S2x2816x1024 .f32) (ix3 1 p q)

/-- The residual rows of a block, from the arguments. -/
theorem hid_blk (c : Dev nD) (r : Fin 128) (p : Fin 512) (q : Fin 1024) :
    k0_pay1 (iblk m c 0 (pt r 0)) (iblk m c 1 (pt r 0)) (woA (iblk m c 3 (pt r 0))) (iblk m c 2 (pt r 0)) (woB (iblk m c 3 (pt r 0))) (ix2 p q)
      = Cert.Ffn.hid (aX m c) (aA m c) (aB m c) (aW m c) (row r p) q := by
  rw [pay1_at]
  unfold Cert.Ffn.hid
  congr 1
  · congr 1
    · exact (blk0 m c r 0 p q).trans (by rw [V_main_arg0])
    · refine Finset.sum_congr rfl fun k _ => ?_
      congr 1
      · exact (blk1 m c r 0 p k).trans (by rw [V_main_arg1])
      · exact (blk3 m c r 0 ⟨k.val, by omega⟩ q).trans (v2_at m c _ _)
  · refine Finset.sum_congr rfl fun k _ => ?_
    congr 1
    · exact (blk2 m c r 0 p k).trans (by rw [V_main_arg2])
    · exact (blk3 m c r 0 ⟨k.val + 512, by omega⟩ q).trans ((v2_at m c _ _).trans (by simp only [aW, Nat.add_comm]))

/-- The normalised rows of a block, from the arguments. -/
theorem nrm_blk (c : Dev nD) (r : Fin 128) (p : Fin 512) (q : Fin 1024) :
    k0_pay3 (iblk m c 0 (pt r 0)) (iblk m c 1 (pt r 0)) (woA (iblk m c 3 (pt r 0))) (iblk m c 2 (pt r 0)) (woB (iblk m c 3 (pt r 0))) (iblk m c 4 (pt r 0)) (ix2 p q)
      = Cert.Ffn.nrm (Cert.Ffn.hid (aX m c) (aA m c) (aB m c) (aW m c)) (aG m c) (row r p) q := by
  rw [pay3_at]
  unfold Cert.Ffn.nrm
  simp only [hid_blk]
  congr 1
  exact (blk4 m c r 0 0 q).trans (v5_at m c q)

/-- The features one step adds, when the blocks it reads are known. -/
theorem step_of (n : Vec Ideal S512x1024 .bf16) (g u : Vec Ideal S1024x1408 .bf16) (w : Vec Ideal S1408x1024 .bf16) (acc : Vec Ideal S512x1024 .f32)
    (N : Fin 65536 → Fin 1024 → EReal) (wi : Fin 1024 → Fin 5632 → EReal) (wo : Fin 2816 → Fin 1024 → EReal) (r : Fin 128) (s : Fin 2)
    (hn : ∀ p q, n (ix2 p q) = N (row r p) q)
    (hg : ∀ k j, g (ix2 k j) = wi k ⟨1408 * s.val + j.val, by omega⟩) (hu : ∀ k j, u (ix2 k j) = wi k ⟨2816 + (1408 * s.val + j.val), by omega⟩)
    (hw : ∀ j q, w (ix2 j q) = wo ⟨1408 * s.val + j.val, by omega⟩ q) (p : Fin 512) (q : Fin 1024) :
    k0_pay4 n g u acc w (ix2 p q)
      = acc (ix2 p q) + ∑ j : Fin 1408, Cert.Ffn.act N wi (row r p) ⟨1408 * s.val + j.val, by omega⟩ * wo ⟨1408 * s.val + j.val, by omega⟩ q := by
  rw [pay4_at]
  refine congrArg (acc (ix2 p q) + ·) (Finset.sum_congr rfl fun j _ => ?_)
  have e5 : (∑ k : Fin 1024, n (ix2 p k) * g (ix2 k j)) = ∑ k : Fin 1024, N (row r p) k * wi k ⟨1408 * s.val + j.val, by omega⟩ :=
    Finset.sum_congr rfl fun k _ => by rw [hn, hg]
  have e6 : (∑ k : Fin 1024, n (ix2 p k) * u (ix2 k j)) = ∑ k : Fin 1024, N (row r p) k * wi k ⟨2816 + (1408 * s.val + j.val), by omega⟩ :=
    Finset.sum_congr rfl fun k _ => by rw [hn, hu]
  rw [e5, e6, hw]
  rfl

/-- The features one step adds, from the arguments. -/
theorem step_blk (c : Dev nD) (r : Fin 128) (s : Fin 2) (n : Vec Ideal S512x1024 .bf16) (N : Fin 65536 → Fin 1024 → EReal) (acc : Vec Ideal S512x1024 .f32)
    (hn : ∀ p q, n (ix2 p q) = N (row r p) q) (p : Fin 512) (q : Fin 1024) :
    k0_pay4 n (iblk m c 5 (pt r s)) (iblk m c 6 (pt r s)) acc (iblk m c 7 (pt r s)) (ix2 p q)
      = acc (ix2 p q) + ∑ j : Fin 1408, Cert.Ffn.act N (aI m c) (row r p) ⟨1408 * s.val + j.val, by omega⟩ * aO m c ⟨1408 * s.val + j.val, by omega⟩ q :=
  step_of n _ _ _ acc N (aI m c) (aO m c) r s hn (fun k j => (blk5 m c r s k j).trans (v8_at m c _ _))
    (fun k j => (blk6 m c r s k j).trans (v8_at m c _ _)) (fun j q => (blk7 m c r s j q).trans (v11_at m c _ _)) p q

/-- The kernel's result, entry by entry. -/
theorem G8_at (c : Dev nD) (r : Fin 128) (p : Fin 512) (q : Fin 1024) :
    (Value.G8 m c : Vec Ideal S65536x1024 .f32) (ix2 (row r p) q) =
      (Cert.Ffn.hid (aX m c) (aA m c) (aB m c) (aW m c) (row r p) q + ∑ j : Fin 2816, Cert.Ffn.act (Cert.Ffn.nrm (Cert.Ffn.hid (aX m c) (aA m c) (aB m c) (aW m c)) (aG m c)) (aI m c) (row r p) j * aO m c j q : EReal) := by
  rw [G8_blk, step_blk m c r 1 _ _ _ (nrm_blk m c r), step_blk m c r 0 _ _ _ (nrm_blk m c r), pay2_at, hid_blk, add_assoc]
  exact congrArg (Cert.Ffn.hid (aX m c) (aA m c) (aB m c) (aW m c) (row r p) q + ·)
    (Cert.Ffn.halves fun j => Cert.Ffn.act (Cert.Ffn.nrm (Cert.Ffn.hid (aX m c) (aA m c) (aB m c) (aW m c)) (aG m c)) (aI m c) (row r p) j * aO m c j q)

end Cert.Kernel2Ideal.Ffn

namespace Cert.Reference2Ideal.Ffn

open Cert.Reference2Ideal

/-- The residual rows of the reference's arguments. -/
abbrev hidOf (m : (ℓ : Loc nD τ sig) → Buf (Elt Ideal) ℓ) (c : Dev nD) : Fin 65536 → Fin 1024 → EReal :=
  Cert.Ffn.hid (fun p q => (m (c.tc.loc main_arg0) : Vec Ideal S65536x1024 .f32) (ix2 p q)) (fun p q => (m (c.tc.loc main_arg1) : Vec Ideal S65536x512 .bf16) (ix2 p q))
    (fun p q => (m (c.tc.loc main_arg2) : Vec Ideal S65536x512 .bf16) (ix2 p q)) (fun p q => (m (c.tc.loc main_arg3) : Vec Ideal S2x1024x1024 .f32) (ix3 1 p q))

/-- The reference's result, entry by entry. -/
theorem res_at (m : (ℓ : Loc nD τ sig) → Buf (Elt Ideal) ℓ) (c : Dev nD) (p : Fin 65536) (q : Fin 1024) :
  (Value.res_main_v31 m c : Vec Ideal S65536x1024 .f32) (ix2 p q) =
 (hidOf m c p q + ∑ j : Fin 2816, Cert.Ffn.act (Cert.Ffn.nrm (hidOf m c) (fun q => (m (c.tc.loc main_arg4) : Vec Ideal S2x1024 .f32) (ix2 1 q)))
      (fun p q => (m (c.tc.loc main_arg5) : Vec Ideal S2x1024x5632 .f32) (ix3 1 p q)) p j * (m (c.tc.loc main_arg6) : Vec Ideal S2x2816x1024 .f32) (ix3 1 j q) : EReal) := by
  pointwise [Value.res_main_v31, Cert.Ffn.hid, Cert.Ffn.nrm, Cert.Ffn.act, add_assoc]

end Cert.Reference2Ideal.Ffn

namespace Cert.Ffn

/-- The feed-forward call and its reference end with equal results. -/
theorem algebraic : Cert.algebraic_Kernel2Ideal_Reference2Ideal := by
  intro m ρ m' ρ' _ hagree
  refine ⟨fun c => Cert.Kernel2Ideal.Value.G8 m c, Cert.Kernel2Ideal.Value.run (F := Ideal) m ρ, ?_⟩
  refine (θ_run Cert.Reference2Ideal.defs _ _).mono (fun _ h c => ?_) (Cert.Reference2Ideal.Value.run (F := Ideal) m' ρ')
  refine ⟨(h c).1.trans ?_, (h c).2⟩
  obtain ⟨h0, h1, h2, h3, h4, h5, h6⟩ := hagree c
  refine funext fun (i : Cert.Kernel2Ideal.S65536x1024.Idx) => ?_
  obtain ⟨r, p, q, rfl⟩ : ∃ (r : Fin 128) (p : Fin 512) (q : Fin 1024), i = ix2 (Cert.Kernel2Ideal.Ffn.row r p) q := by
    have hi : (i 0).val < 65536 := (i 0).isLt
    refine ⟨⟨(i 0).val / 512, by omega⟩, ⟨(i 0).val % 512, by omega⟩, i 1, ?_⟩
    funext a
    apply Fin.ext
    match a with
    | ⟨0, _⟩ => show (i 0).val = 512 * ((i 0).val / 512) + (i 0).val % 512; omega
    | ⟨1, _⟩ => rfl
  refine (Cert.Reference2Ideal.Ffn.res_at m' c (Cert.Kernel2Ideal.Ffn.row r p) q).trans (Eq.trans ?_ (Cert.Kernel2Ideal.Ffn.G8_at m c r p q).symm)
  unfold Cert.Reference2Ideal.Ffn.hidOf
  rw [h0, h1, h2, h3, h4, h5, h6]

end Cert.Ffn

end
-- ==== Proof.ProjRead.lean ====
module

public import proofs.«01_k».proof.Proof.Gen.Kernel3Ideal.Value
public import Idealize.ShloMosaic.Lib.Pipeline.ValueKit
public import Idealize.ShloMosaic.Lib.Tactic
public import Idealize.ShloMosaic.Lib.Pointwise

@[expose] public section

set_option maxRecDepth 16384

/-! The blocks the projection's kernel reads, as entries of its arguments. -/

noncomputable section

open Idealize.ShloMosaic Idealize.ShloMosaic.TcCoe Idealize.SL.Sem

namespace Cert.Kernel3Ideal.Proj

open Cert.Kernel3Ideal Cert.Kernel3Ideal.Gen

variable {F : FTy → Type} [FloatOps F]
variable (m : (ℓ : Loc nD τ sig) → Buf (Elt F) ℓ)

/-- Which block each window reads or writes at a point. -/
theorem idxs : ∀ t : Fin cfg0.N,
    (win0_0.index t 0 = t.val ∧ win0_0.index t 1 = 0) ∧ (win0_1.index t 0 = 0 ∧ win0_1.index t 1 = 0)
    ∧ (win0_2.index t 0 = 0 ∧ win0_2.index t 1 = 0) ∧ (win0_8.index t 0 = t.val ∧ win0_8.index t 1 = 0)
    ∧ (win0_9.index t 0 = t.val ∧ win0_9.index t 1 = 0) ∧ (win0_10.index t 0 = t.val ∧ win0_10.index t 1 = 0) :=
  (by decide +kernel : ∀ t : Fin grid0.N, _)

/-- The norm's weights the launch finds: layer 1 of the argument. -/
theorem V_v2 (c : Dev nD) : V m c main_v2 = broadcastInDim S1x1024 ![1] bcast_S1024_S1x1024_1 (shapeCast S1024 (extractStridedSlice S1x1024 ![1, 0] (m ((c : Thread nD τ).loc main_arg2)) slices_S2x1024_S1x1024_1_0) shapeCasts_S1x1024_S1024 : Vec F S1024 .f32) := by
  unfold V hostOps0 hostOps0_1 hostOps0_2 hostOps0_3 hostOps0_4 hostOps0_5 hostOps0_6 hostOps0_7 hostOps0_8 hostOps0_9 hostOps0_10
  simp only [List.flatten_cons, List.flatten_nil, List.append_nil, List.cons_append, List.nil_append]
  after_results_simp <;> rfl

/-- Layer 1 of the weights. -/
abbrev w4 (c : Dev nD) : Vec F S1024x3352 .f32 := shapeCast S1024x3352 (extractStridedSlice S1x1024x3352 ![1, 0, 0] (m ((c : Thread nD τ).loc main_arg1)) slices_S2x1024x3352_S1x1024x3352_1_0_0) shapeCasts_S1x1024x3352_S1024x3352

/-- The weights the launch finds: layer 1 of the argument, its last columns moved apart, rounded. -/
theorem V_v11 (c : Dev nD) : V m c main_v11 = truncf .bf16 (concatenate S1024x3584 1
    [⟨S1024x3328, (extractStridedSlice S1024x3328 ![0, 0] (w4 m c) slices_S1024x3352_S1024x3328_0_0 : Vec F S1024x3328 .f32)⟩,
      ⟨S1024x128, (pad S1024x128 ![0, 0] ![0, 116] ![0, 0] (extractStridedSlice S1024x12 ![0, 3328] (w4 m c) slices_S1024x3352_S1024x12_0_3328 : Vec F S1024x12 .f32) (sitofp .f32 (constantI S_ 32 0#32) : Vec F S_ .f32) pads_S1024x12_S1024x128_000_01160 h_S_ : Vec F S1024x128 .f32)⟩,
      ⟨S1024x128, (pad S1024x128 ![0, 0] ![0, 116] ![0, 0] (extractStridedSlice S1024x12 ![0, 3340] (w4 m c) slices_S1024x3352_S1024x12_0_3340 : Vec F S1024x12 .f32) (sitofp .f32 (constantI S_ 32 0#32) : Vec F S_ .f32) pads_S1024x12_S1024x128_000_01160 h_S_ : Vec F S1024x128 .f32)⟩] concatenates_S1024x3328_S1024x128_S1024x128_S1024x3584_d1) bitsLt_bf16_f32 := by
  unfold V hostOps0 hostOps0_1 hostOps0_2 hostOps0_3 hostOps0_4 hostOps0_5 hostOps0_6 hostOps0_7 hostOps0_8 hostOps0_9 hostOps0_10
  simp only [List.flatten_cons, List.flatten_nil, List.append_nil, List.cons_append, List.nil_append]
  after_results_simp <;> rfl

/-- Row `p` of row block `t`. -/
abbrev row (t : Fin cfg0.N) (p : Fin 512) : Fin 65536 := ⟨512 * t.val + p.val, by have : t.val < 128 := lt_of_lt_of_eq t.isLt N_0; have := p.isLt; omega⟩

/-- Window 0 reads the rows of the residual stream. -/
theorem blk0 (c : Dev nD) (t : Fin cfg0.N) (p : Fin 512) (q : Fin 1024) :
    (iblk m c 0 t : Vec F S512x1024 .f32) (ix2 p q) = (m (c.tc.loc main_arg0) : (Vec F S65536x1024 .f32)) (ix2 (row t p) q) := by
  rw [← V_main_arg0 m c]
  have hi := (idxs t).1
  unfold iblk
  rw [View.read_apply]
  show V m c main_arg0 _ = V m c main_arg0 _
  congr 1
  funext a
  apply Fin.ext
  match a with
  | ⟨0, _⟩ => show win0_0.index t 0 * 512 + 1 * p.val = 512 * t.val + p.val; rw [hi.1]; omega
  | ⟨1, _⟩ => show win0_0.index t 1 * 1024 + 1 * q.val = q.val; rw [hi.2]; omega

/-- Window 1 reads the norm's weights. -/
theorem blk1 (c : Dev nD) (t : Fin cfg0.N) (p : Fin 1) (q : Fin 1024) :
    (iblk m c 1 t : Vec F S1x1024 .f32) (ix2 p q) = (V m c main_v2 : (Vec F S1x1024 .f32)) (ix2 p q) := by
  have hi := (idxs t).2.1
  unfold iblk
  rw [View.read_apply]
  show V m c main_v2 _ = V m c main_v2 _
  congr 1
  funext a
  apply Fin.ext
  match a with
  | ⟨0, _⟩ => show win0_1.index t 0 * 1 + 1 * p.val = p.val; rw [hi.1]; omega
  | ⟨1, _⟩ => show win0_1.index t 1 * 1024 + 1 * q.val = q.val; rw [hi.2]; omega

/-- Window 2 reads the weights. -/
theorem blk2 (c : Dev nD) (t : Fin cfg0.N) (p : Fin 1024) (q : Fin 3584) :
    (iblk m c 2 t : Vec F S1024x3584 .bf16) (ix2 p q) = (V m c main_v11 : (Vec F S1024x3584 .bf16)) (ix2 p q) := by
  have hi := (idxs t).2.2.1
  unfold iblk
  rw [View.read_apply]
  show V m c main_v11 _ = V m c main_v11 _
  congr 1
  funext a
  apply Fin.ext
  match a with
  | ⟨0, _⟩ => show win0_2.index t 0 * 1024 + 1 * p.val = p.val; rw [hi.1]; omega
  | ⟨1, _⟩ => show win0_2.index t 1 * 3584 + 1 * q.val = q.val; rw [hi.2]; omega

/-- The start of a whole window. -/
theorem hz : (![0, 0] : Fin 2 → Nat) = fun _ => 0 := funext fun a => by fin_cases a <;> rfl

/-- Columns of the weights from `o` on. -/
abbrev cols {n : ℕ} (o : ℕ) (x2 : Vec F S1024x3584 .bf16) (ho : o + n ≤ 3584) : Vec F ⟨2, ![1024, n]⟩ .bf16 :=
  fun j => x2 (ix2 (⟨(j 0).val, (j 0).isLt⟩ : Fin 1024) (⟨o + (j 1).val, by have := (j 1).isLt; change _ < n at this; omega⟩ : Fin 3584))

/-- A load of the weights' columns from `o` on. -/
theorem ld_cols {n : ℕ} (o : ℕ) (x2 : Vec F S1024x3584 .bf16) (ho : o + n ≤ 3584) (h) :
    View.ld x2 (Rect.unit (s := S1024x3584) ![0, o] ![1024, n] h) = cols o x2 ho := by
  funext j
  show x2 _ = x2 _
  congr 1
  funext a
  apply Fin.ext
  match a with
  | ⟨0, _⟩ => show 0 + 1 * (j 0).val = (j 0).val; omega
  | ⟨1, _⟩ => show o + 1 * (j 1).val = o + (j 1).val; omega

/-- What a point leaves in the window of the recurrence's columns: the first 2048 columns of the product. -/
theorem out8_eq (i : grid0.Coords) (x0 : Vec F S512x1024 .f32) (x1 : Vec F S1x1024 .f32) (x2 : Vec F S1024x3584 .bf16) (x3 : Vec F S1x512 .f32) (x4 : Vec F S2x128 .f32) (x5 : Vec F S512x512 .f32) (x6 : Vec F S512x512 .f32) (x7 : Vec F S512x512 .bf16) :
    out0_8 i x0 x1 x2 x3 x4 x5 x6 x7 = k0_pay5 (k0_pay6 x0 x1) (cols 0 x2 (by decide)) := by
  unfold out0_8 k0_pay41
  rw [View.canon_cons_unit_zero (S := S512x2048) hz, View.ld_unit_zero (S := S512x1024) hz, View.ld_unit_zero (S := S1x1024) hz]
  exact congrArg (k0_pay5 _) (ld_cols 0 x2 _ _)

/-- The window of the keys of the compression: the columns from 2560 on. -/
theorem out9_eq (i : grid0.Coords) (x0 : Vec F S512x1024 .f32) (x1 : Vec F S1x1024 .f32) (x2 : Vec F S1024x3584 .bf16) (x3 : Vec F S1x512 .f32) (x4 : Vec F S2x128 .f32) (x5 : Vec F S512x512 .f32) (x6 : Vec F S512x512 .f32) (x7 : Vec F S512x512 .bf16) :
    out0_9 i x0 x1 x2 x3 x4 x5 x6 x7 = k0_pay2 (k0_pay6 x0 x1) (cols 2560 x2 (by decide)) := by
  unfold out0_9 k0_pay41
  rw [View.canon_cons_unit_zero (S := S512x128) hz, View.ld_unit_zero (S := S512x1024) hz, View.ld_unit_zero (S := S1x1024) hz]
  exact congrArg (k0_pay2 _) (ld_cols 2560 x2 _ _)

/-- The window of the values of the compression: the columns from 2688 on. -/
theorem out10_eq (i : grid0.Coords) (x0 : Vec F S512x1024 .f32) (x1 : Vec F S1x1024 .f32) (x2 : Vec F S1024x3584 .bf16) (x3 : Vec F S1x512 .f32) (x4 : Vec F S2x128 .f32) (x5 : Vec F S512x512 .f32) (x6 : Vec F S512x512 .f32) (x7 : Vec F S512x512 .bf16) :
    out0_10 i x0 x1 x2 x3 x4 x5 x6 x7 = k0_pay3 (k0_pay6 x0 x1) (cols 2688 x2 (by decide)) := by
  unfold out0_10 k0_pay41
  rw [View.canon_cons_unit_zero (S := S512x128) hz, View.ld_unit_zero (S := S512x1024) hz, View.ld_unit_zero (S := S1x1024) hz]
  exact congrArg (k0_pay3 _) (ld_cols 2688 x2 _ _)

end Cert.Kernel3Ideal.Proj

end
-- ==== Proof.ProjAlg.lean ====
module

public import proofs.«01_k».proof.Proof.ProjRead
public import proofs.«01_k».proof.Proof.FfnAlg
public import proofs.«01_k».proof.Defs
public import proofs.«01_k».proof.Proof.Gen.Reference3Ideal.Run

@[expose] public section

set_option maxRecDepth 16384

/-! The projection's call over the extended reals: both programs end at the same sums. -/

noncomputable section

open Idealize.ShloMosaic Idealize.ShloMosaic.TcCoe Idealize.SL.Sem

namespace Cert.Proj

/-- One column of the projection of a normalised row. -/
def prj {R : ℕ} (x : Fin R → Fin 1024 → EReal) (g : Fin 1024 → EReal) (w : Fin 1024 → Fin 3352 → EReal) (p : Fin R) (q : Fin 3352) : EReal :=
  ∑ k : Fin 1024, Cert.Ffn.nrm x g p k * w k q

end Cert.Proj

namespace Cert.Kernel3Ideal.Proj

open Cert.Kernel3Ideal Cert.Kernel3Ideal.Gen

/-- The normalised rows of a block, entry by entry. -/
theorem pay6_at (x : Vec Ideal S512x1024 .f32) (g : Vec Ideal S1x1024 .f32) (p : Fin 512) (q : Fin 1024) :
    k0_pay6 x g (ix2 p q) = Cert.Ffn.nrm (fun p q => x (ix2 p q)) (fun q => g (ix2 0 q)) p q := by
  pointwise [k0_pay6, Cert.Ffn.nrm]

/-- The products of a block's rows with 2048 columns of the weights, entry by entry. -/
theorem pay8_at (n : Vec Ideal S512x1024 .bf16) (w : Vec Ideal S1024x2048 .bf16) (p : Fin 512) (q : Fin 2048) :
    k0_pay5 n w (ix2 p q) = ∑ k : Fin 1024, n (ix2 p k) * w (ix2 k q) := by
  pointwise [k0_pay5]

/-- The products of a block's rows with 128 columns of the weights, entry by entry. -/
theorem pay9_at (n : Vec Ideal S512x1024 .bf16) (w : Vec Ideal S1024x128 .bf16) (p : Fin 512) (q : Fin 128) :
    k0_pay2 n w (ix2 p q) = ∑ k : Fin 1024, n (ix2 p k) * w (ix2 k q) := by
  pointwise [k0_pay2]

/-- The products of a block's rows with 128 columns of the weights, entry by entry. -/
theorem pay10_at (n : Vec Ideal S512x1024 .bf16) (w : Vec Ideal S1024x128 .bf16) (p : Fin 512) (q : Fin 128) :
    k0_pay3 n w (ix2 p q) = ∑ k : Fin 1024, n (ix2 p k) * w (ix2 k q) := by
  pointwise [k0_pay3]

variable (m : (ℓ : Loc nD τ sig) → Buf (Elt Ideal) ℓ)

/-- The norm's weights, entry by entry. -/
theorem v2_at (c : Dev nD) (q : Fin 1024) : (V m c main_v2 : Vec Ideal S1x1024 .f32) (ix2 0 q) = (m (c.tc.loc main_arg2) : Vec Ideal S2x1024 .f32) (ix2 1 q) := by
  rw [V_v2]; pointwise

/-- The weights, entry by entry, but for the columns moved apart. -/
theorem v11_at (c : Dev nD) (p : Fin 1024) (q : Fin 3584) (hq : q.val < 3328) :
    (V m c main_v11 : Vec Ideal S1024x3584 .bf16) (ix2 p q) = (m (c.tc.loc main_arg1) : Vec Ideal S2x1024x3352 .f32) (ix3 1 p ⟨q.val, by omega⟩) := by
  rw [V_v11]
  generalize (pad S1024x128 _ _ _ _ _ pads_S1024x12_S1024x128_000_01160 h_S_ : Vec Ideal S1024x128 .f32) = u
  pointwise [w4]
  rw [dif_pos hq]

/-- The arguments, as arrays of extended reals. -/
abbrev aX (c : Dev nD) : Fin 65536 → Fin 1024 → EReal := fun p q => (m (c.tc.loc main_arg0) : Vec Ideal S65536x1024 .f32) (ix2 p q)
abbrev aW (c : Dev nD) : Fin 1024 → Fin 3352 → EReal := fun p q => (m (c.tc.loc main_arg1) : Vec Ideal S2x1024x3352 .f32) (ix3 1 p q)
abbrev aG (c : Dev nD) : Fin 1024 → EReal := fun q => (m (c.tc.loc main_arg2) : Vec Ideal S2x1024 .f32) (ix2 1 q)

/-- The result's columns from `o` on, of the arguments. -/
abbrev at_ (c : Dev nD) (o n : ℕ) (ho : o + n ≤ 3328) (p : Fin 65536) (q : Fin n) : EReal := Cert.Proj.prj (aX m c) (aG m c) (aW m c) p ⟨o + q.val, by omega⟩

/-- The normalised rows of a block, from the arguments. -/
theorem nrm_blk (c : Dev nD) (t : Fin cfg0.N) (p : Fin 512) (q : Fin 1024) :
    k0_pay6 (iblk m c 0 t : Vec Ideal S512x1024 .f32) (iblk m c 1 t : Vec Ideal S1x1024 .f32) (ix2 p q) = Cert.Ffn.nrm (aX m c) (aG m c) (row t p) q := by
  rw [pay6_at]
  unfold Cert.Ffn.nrm
  simp only [blk0]
  congr 1
  exact (blk1 m c t 0 q).trans (v2_at m c q)

/-- What a point leaves in a window that takes `n` columns from `o` on. -/
theorem blk_of (c : Dev nD) (t : Fin cfg0.N) (o n : ℕ) (ho : o + n ≤ 3328) (ho' : o + n ≤ 3584) (f : Vec Ideal ⟨2, ![512, n]⟩ .f32)
    (hf : ∀ (p : Fin 512) (q : Fin n), f (ix2 p q) = ∑ k : Fin 1024, k0_pay6 (iblk m c 0 t : Vec Ideal S512x1024 .f32) (iblk m c 1 t : Vec Ideal S1x1024 .f32) (ix2 p k)
      * cols o (iblk m c 2 t : Vec Ideal S1024x3584 .bf16) ho' (ix2 k q)) (p : Fin 512) (q : Fin n) :
    f (ix2 p q) = at_ m c o n ho (row t p) q := by
  rw [hf]
  unfold at_ Cert.Proj.prj
  refine Finset.sum_congr rfl fun k _ => congrArg₂ (fun a b : EReal => a * b) (nrm_blk m c t p k) ?_
  exact (blk2 m c t k ⟨o + q.val, by omega⟩).trans (v11_at m c k _ (by show o + q.val < 3328; omega))

/-- Window 8's array after the run. -/
theorem final8 (c : Dev nD) : (dats m 0 c).arrAt 8 cfg0.N = (fun i : S65536x2048.Idx => at_ m c 0 2048 (by decide) (i 0) (i 1)) := by
  refine (dats m 0 c).arrAt_eq_of_covers 8 _ (by decide +kernel) fun t hf y => ?_
  have hi := idxs t
  obtain ⟨p, q, rfl⟩ : ∃ (p : Fin 512) (q : Fin 2048), y = ix2 p q := ⟨y 0, y 1, funext fun a => match a with | ⟨0, _⟩ => rfl | ⟨1, _⟩ => rfl⟩
  blk_simp
  rw [after0_8, out8_eq]
  refine (blk_of m c t 0 2048 (by decide) (by decide) _ (pay8_at _ _) p q).trans ?_
  refine congrArg₂ (at_ m c _ _ (by decide)) (Fin.ext ?_) (Fin.ext ?_)
  · show 512 * t.val + p.val = win0_8.index t 0 * 512 + 1 * p.val
    rw [hi.2.2.2.1.1]; omega
  · show q.val = win0_8.index t 1 * 2048 + 1 * q.val
    rw [hi.2.2.2.1.2]; omega

/-- Window 9's array after the run. -/
theorem final9 (c : Dev nD) : (dats m 0 c).arrAt 9 cfg0.N = (fun i : S65536x128.Idx => at_ m c 2560 128 (by decide) (i 0) (i 1)) := by
  refine (dats m 0 c).arrAt_eq_of_covers 9 _ (by decide +kernel) fun t hf y => ?_
  have hi := idxs t
  obtain ⟨p, q, rfl⟩ : ∃ (p : Fin 512) (q : Fin 128), y = ix2 p q := ⟨y 0, y 1, funext fun a => match a with | ⟨0, _⟩ => rfl | ⟨1, _⟩ => rfl⟩
  blk_simp
  rw [after0_9, out9_eq]
  refine (blk_of m c t 2560 128 (by decide) (by decide) _ (pay9_at _ _) p q).trans ?_
  refine congrArg₂ (at_ m c _ _ (by decide)) (Fin.ext ?_) (Fin.ext ?_)
  · show 512 * t.val + p.val = win0_9.index t 0 * 512 + 1 * p.val
    rw [hi.2.2.2.2.1.1]; omega
  · show q.val = win0_9.index t 1 * 128 + 1 * q.val
    rw [hi.2.2.2.2.1.2]; omega

/-- Window 10's array after the run. -/
theorem final10 (c : Dev nD) : (dats m 0 c).arrAt 10 cfg0.N = (fun i : S65536x128.Idx => at_ m c 2688 128 (by decide) (i 0) (i 1)) := by
  refine (dats m 0 c).arrAt_eq_of_covers 10 _ (by decide +kernel) fun t hf y => ?_
  have hi := idxs t
  obtain ⟨p, q, rfl⟩ : ∃ (p : Fin 512) (q : Fin 128), y = ix2 p q := ⟨y 0, y 1, funext fun a => match a with | ⟨0, _⟩ => rfl | ⟨1, _⟩ => rfl⟩
  blk_simp
  rw [after0_10, out10_eq]
  refine (blk_of m c t 2688 128 (by decide) (by decide) _ (pay10_at _ _) p q).trans ?_
  refine congrArg₂ (at_ m c _ _ (by decide)) (Fin.ext ?_) (Fin.ext ?_)
  · show 512 * t.val + p.val = win0_10.index t 0 * 512 + 1 * p.val
    rw [hi.2.2.2.2.2.1]; omega
  · show q.val = win0_10.index t 1 * 128 + 1 * q.val
    rw [hi.2.2.2.2.2.2]; omega

end Cert.Kernel3Ideal.Proj

namespace Cert.Reference3Ideal.Proj

open Cert.Reference3Ideal Cert.Reference3Ideal.Gen

/-- The whole projection, as the reference computes it. -/
def proj (x0 : FVec Ideal S65536x1024 .f32) (x1 : FVec Ideal S2x1024x3352 .f32) (x2 : FVec Ideal S2x1024 .f32) : FVec Ideal S65536x3352 .f32 :=
  Host.dotGeneral dot_S65536x1024_S1024x3352_S65536x3352_1_0_0_1_n_n none (mulf (mulf x0 (broadcastInDim S65536x1024 ![0, 1] bcast_S65536x1_S65536x1024_0_1 (Host.rsqrt (addf (Host.divf (broadcastInDim S65536x1 ![0] bcast_S65536_S65536x1_0 (Host.reduceAdd (mulf x0 x0) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (shapeCast _ (extractStridedSlice S1x1024 ![1, 0] x2 slices_S2x1024_S1x1024_1_0) shapeCasts_S1x1024_S1024)))) (shapeCast _ (extractStridedSlice S1x1024x3352 ![1, 0, 0] x1 slices_S2x1024x3352_S1x1024x3352_1_0_0) shapeCasts_S1x1024x3352_S1024x3352)

/-- The whole projection, entry by entry. -/
theorem proj_at (x0 : FVec Ideal S65536x1024 .f32) (x1 : FVec Ideal S2x1024x3352 .f32) (x2 : FVec Ideal S2x1024 .f32) (p : Fin 65536) (q : Fin 3352) :
    proj x0 x1 x2 (ix2 p q) = Cert.Proj.prj (fun p q => x0 (ix2 p q)) (fun q => x2 (ix2 1 q)) (fun p q => x1 (ix3 1 p q)) p q := by
  pointwise [proj, Cert.Proj.prj, Cert.Ffn.nrm]

/-- The reference leaves the slices of the projection and keeps its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18) = extractStridedSlice S65536x2048 ![0, 0] (proj (m (c.tc.loc main_arg0)) (m (c.tc.loc main_arg1)) (m (c.tc.loc main_arg2))) slices_S65536x3352_S65536x2048_0_0
      ∧ r.2.mem ((c.tc : Thread nD τ).loc main_v19) = extractStridedSlice S65536x128 ![0, 2560] (proj (m (c.tc.loc main_arg0)) (m (c.tc.loc main_arg1)) (m (c.tc.loc main_arg2))) slices_S65536x3352_S65536x128_0_2560
      ∧ r.2.mem ((c.tc : Thread nD τ).loc main_v20) = extractStridedSlice S65536x128 ![0, 2688] (proj (m (c.tc.loc main_arg0)) (m (c.tc.loc main_arg1)) (m (c.tc.loc main_arg2))) slices_S65536x3352_S65536x128_0_2688
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  unfold proj
  exact Cert.Reference3Ideal.Value.run (F := Ideal) m ρ

/-- Columns of the projection from `o` on, entry by entry. -/
theorem slice_at (x0 : FVec Ideal S65536x1024 .f32) (x1 : FVec Ideal S2x1024x3352 .f32) (x2 : FVec Ideal S2x1024 .f32) (o n : ℕ) (ho : o + n ≤ 3328)
    (h : S65536x3352.Slices ![0, o] ⟨2, ![65536, n]⟩) (i : (⟨2, ![65536, n]⟩ : Shape).Idx) :
    extractStridedSlice ⟨2, ![65536, n]⟩ ![0, o] (proj x0 x1 x2) h i
      = Cert.Proj.prj (fun p q => x0 (ix2 p q)) (fun q => x2 (ix2 1 q)) (fun p q => x1 (ix3 1 p q)) (i 0) ⟨o + (i 1).val, by have h1 : (i 1).val < n := (i 1).isLt; omega⟩ := by
  have h1 : (i 1).val < n := (i 1).isLt
  refine (extractStridedSlice_apply _ _ _ _ (ix2 (i 0 : Fin 65536) (⟨o + (i 1).val, by omega⟩ : Fin 3352)) fun a => ?_).trans (proj_at x0 x1 x2 _ _)
  match a with
  | ⟨0, _⟩ => show (i 0).val = 0 + (i 0).val; omega
  | ⟨1, _⟩ => rfl

end Cert.Reference3Ideal.Proj

namespace Cert.Proj

/-- The projection's call and its reference end with equal results. -/
theorem algebraic : Cert.algebraic_Kernel3Ideal_Reference3Ideal := by
  intro m ρ m' ρ' _ hagree
  refine ⟨fun c => (fun i : Cert.Kernel3Ideal.S65536x2048.Idx => Cert.Kernel3Ideal.Proj.at_ m c 0 2048 (by decide) (i 0) (i 1)),
    fun c => (fun i : Cert.Kernel3Ideal.S65536x128.Idx => Cert.Kernel3Ideal.Proj.at_ m c 2560 128 (by decide) (i 0) (i 1)),
    fun c => (fun i : Cert.Kernel3Ideal.S65536x128.Idx => Cert.Kernel3Ideal.Proj.at_ m c 2688 128 (by decide) (i 0) (i 1)), ?_, ?_⟩
  · refine (θ_run Cert.Kernel3Ideal.defs _ _).mono (fun r h c => ?_) (Cert.Kernel3Ideal.Value.run_blocks (F := Ideal) m ρ)
    obtain ⟨e0, e1, e2, -, -, -, -, -, -, k⟩ := h c
    exact ⟨e0.trans (Cert.Kernel3Ideal.Proj.final8 m c), e1.trans (Cert.Kernel3Ideal.Proj.final9 m c), e2.trans (Cert.Kernel3Ideal.Proj.final10 m c), k⟩
  · refine (θ_run Cert.Reference3Ideal.defs _ _).mono (fun r h c => ?_) (Cert.Reference3Ideal.Proj.run m' ρ')
    obtain ⟨e0, e1, e2, k⟩ := h c
    obtain ⟨h0, h1, h2, -, -⟩ := hagree c
    rw [h0, h1, h2] at e0 e1 e2
    exact ⟨e0.trans (funext fun i => Cert.Reference3Ideal.Proj.slice_at _ _ _ 0 2048 (by decide) _ i), e1.trans (funext fun i => Cert.Reference3Ideal.Proj.slice_at _ _ _ 2560 128 (by decide) _ i),
      e2.trans (funext fun i => Cert.Reference3Ideal.Proj.slice_at _ _ _ 2688 128 (by decide) _ i), k⟩

end Cert.Proj

end
-- ==== Proof.HgBase.lean ====
module

public import proofs.«01_k».proof.Proof.Gen.KernelIdeal.Frame
public import proofs.«01_k».proof.Proof.Gen.KernelIdeal.Loops
public import Idealize.ShloMosaic.Lib.Pipeline.Value

@[expose] public section

set_option maxRecDepth 16384

noncomputable section

namespace Cert.KernelIdeal.Hgrn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The start of a whole window. -/
theorem hz : ∀ a : Fin 2, (![0, 0] : Fin 2 → Nat) a = 0 := by intro a; fin_cases a <;> rfl

/-- A load of the whole of a buffer reads its contents. -/
theorem readAt_all {s : Shape} {e : EltTy} {g : Memref sig .tc .vmem s e} (hg : g.IsWhole) {x : Vec F s e} {o : Fin s.rank → Nat} (ho : ∀ a, o a = 0)
    {h : ∀ a, o a + s.size a ≤ s.size a} :
    View.readAt (Elt F) g.view (Rect.unit (s := s) o s.size h).toLoadRect (hg.unread x) = x := by
  rw [View.readAt_eq_ld, hg.read_unread]; exact View.ld_unit_zero (S := s) (funext ho) h x

/-- The first point of a sequence. -/
abbrev cond0_0 (i : grid0.Coords) : Prop := (Scalar.cmpi .ne (Scalar.extui (Scalar.cmpi .eq (BitVec.ofNat 32 (i 1).val) 0#32 : BitVec 1) : BitVec 32) 0#32) = 1#1

/-- The bit that asks for the term by term form. -/
def cmpw (v3 : Vec F S2x512 .f32) (v18 : Vec F S256x512 .f32) (v40 : Vec F S256x256 .bf16) : BitVec 1 :=
  Scalar.cmpf .olt (k0_pay2 (k0_pay309 v3 v18) (k0_pay310 v3 v18) (k0_pay311 v40) (k0_pay312 v3 v18 v40)) (Scalar.ofBits .f32 0xC2700000#32)

/-- The first branch's word. -/
def w56 (v3 : Vec F S2x512 .f32) (v18 : Vec F S256x512 .f32) (v40 : Vec F S256x256 .bf16) : BitVec 1 :=
  Scalar.cmpi .ne (Scalar.extui (Scalar.xori (cmpw v3 v18 v40) 1#1) : BitVec 32) 0#32

/-- The second branch's word. -/
def w58 (v3 : Vec F S2x512 .f32) (v18 : Vec F S256x512 .f32) (v40 : Vec F S256x256 .bf16) : BitVec 1 :=
  Scalar.cmpi .ne (Scalar.extui (cmpw v3 v18 v40) : BitVec 32) 0#32

end Cert.KernelIdeal.Hgrn

end
-- ==== Proof.HgRef.lean ====
module

public import proofs.«01_k».proof.Proof.Gen.ReferenceIdeal.Run

/-! The reference of the recurrence: which buffers its loop leaves alone, and the claim that it ends with its arguments
    as they were. -/

@[expose] public section

set_option maxRecDepth 100000

noncomputable section

namespace Cert.ReferenceIdeal.Hgrn

open Idealize.ShloMosaic Idealize.ShloMosaic.TcCoe Idealize.SL.Sem Idealize.ShloMosaic.StableHlo
open Cert.ReferenceIdeal Cert.ReferenceIdeal.Gen Cert.ReferenceIdeal.Value

variable {F : FTy → Type} [FloatOps F] (m : (ℓ : Loc nD τ sig) → Buf (Elt F) ℓ)

/-- Every buffer the loop's condition or body writes. -/
abbrev bodyW : List (Ref sig .tc) :=
  condOps_W ++ (while0Ops0_W ++ (while0Ops0_1_W ++ (while0Ops0_2_W ++ (while0Ops0_3_W ++ (while0Ops0_4_W ++
    (while0Ops0_5_W ++ (while0Ops0_6_W ++ (while0Ops0_7_W ++ (while0Ops0_8_W ++ while0Ops0_9_W)))))))))

/-- One run of the condition and the body leaves a buffer neither writes. -/
theorem body_keep (V : Valuation τ sig (Elt F)) (r : Ref sig .tc) (h : r ∉ bodyW) :
    afterL bodyI (after condOps V) (Proc.devRef .tc r) = V (Proc.devRef .tc r) := by
  simp only [bodyW, List.mem_append, not_or] at h
  obtain ⟨hc, h0, h1, h2, h3, h4, h5, h6, h7, h8, h9⟩ := h
  simp only [afterL_cons, afterL_nil]
  rw [after_of_writes_sub _ _ while0Ops0_9_writes h9, after_of_writes_sub _ _ while0Ops0_8_writes h8,
    after_of_writes_sub _ _ while0Ops0_7_writes h7, after_of_writes_sub _ _ while0Ops0_6_writes h6,
    after_of_writes_sub _ _ while0Ops0_5_writes h5, after_of_writes_sub _ _ while0Ops0_4_writes h4,
    after_of_writes_sub _ _ while0Ops0_3_writes h3, after_of_writes_sub _ _ while0Ops0_2_writes h2,
    after_of_writes_sub _ _ while0Ops0_1_writes h1, after_of_writes_sub _ _ while0Ops0_writes h0,
    after_of_writes_sub _ _ condOps_writes hc]

/-- The loop leaves a buffer it does not write as the operations before it left it. -/
theorem atK_keep (c : Dev nD) (r : Ref sig .tc) (h : r ∉ bodyW) :
    ∀ k, atK m k c (Proc.devRef .tc r) = entryContents preI m c (Proc.devRef .tc r)
  | 0 => rfl
  | k + 1 => (body_keep (atK m k c) r h).trans (atK_keep c r h k)

/-- An argument ends as it began. -/
theorem final_arg0 (c : Dev nD) :
    finalContents condOps preI bodyI postI 32 m c (Proc.devRef .tc main_arg0) = m ((c.tc : Thread nD τ).loc main_arg0) := by
  have h1 := atK_keep m c main_arg0 (by decide +kernel) 32
  have h2 : entryContents preI m c (Proc.devRef .tc main_arg0) = m ((c.tc : Thread nD τ).loc main_arg0) := by
    simp only [entryContents, afterL_cons, afterL_nil]
    after_reads_simp
    try rfl
  rw [← h2, ← h1, ← after_of_writes_sub _ (atK m 32 c) condOps_writes (show main_arg0 ∉ condOps_W by decide +kernel)]
  unfold finalContents
  simp only [afterL_cons, afterL_nil]
  after_reads_simp

/-- An argument ends as it began. -/
theorem final_arg1 (c : Dev nD) :
    finalContents condOps preI bodyI postI 32 m c (Proc.devRef .tc main_arg1) = m ((c.tc : Thread nD τ).loc main_arg1) := by
  have h1 := atK_keep m c main_arg1 (by decide +kernel) 32
  have h2 : entryContents preI m c (Proc.devRef .tc main_arg1) = m ((c.tc : Thread nD τ).loc main_arg1) := by
    simp only [entryContents, afterL_cons, afterL_nil]
    after_reads_simp
    try rfl
  rw [← h2, ← h1, ← after_of_writes_sub _ (atK m 32 c) condOps_writes (show main_arg1 ∉ condOps_W by decide +kernel)]
  unfold finalContents
  simp only [afterL_cons, afterL_nil]
  after_reads_simp

/-- An argument ends as it began. -/
theorem final_arg2 (c : Dev nD) :
    finalContents condOps preI bodyI postI 32 m c (Proc.devRef .tc main_arg2) = m ((c.tc : Thread nD τ).loc main_arg2) := by
  have h1 := atK_keep m c main_arg2 (by decide +kernel) 32
  have h2 : entryContents preI m c (Proc.devRef .tc main_arg2) = m ((c.tc : Thread nD τ).loc main_arg2) := by
    simp only [entryContents, afterL_cons, afterL_nil]
    after_reads_simp
    try rfl
  rw [← h2, ← h1, ← after_of_writes_sub _ (atK m 32 c) condOps_writes (show main_arg2 ∉ condOps_W by decide +kernel)]
  unfold finalContents
  simp only [afterL_cons, afterL_nil]
  after_reads_simp

/-- Every execution of the recurrence's reference ends with its arguments as they were. -/
theorem frame_args (ρ : Dev nD → PrngReg) : θ_run (defs (F := F)) (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0) :=
  (θ_run _ _ _).mono (fun r h => ⟨fun c => ⟨(h c main_arg0 rfl).trans (final_arg0 m c),
      (h c main_arg1 rfl).trans (final_arg1 m c), (h c main_arg2 rfl).trans (final_arg2 m c)⟩,
      sem_eq_zero_of_no_sems (by decide) r.2⟩) (run_fold m ρ)

end Cert.ReferenceIdeal.Hgrn
-- ==== Proof.HgReal.lean ====
module

public import Mathlib.Analysis.SpecialFunctions.Log.Basic
public import Mathlib.Algebra.BigOperators.Intervals
public import Mathlib.Algebra.BigOperators.Ring.Finset

/-! The recurrence over the reals, row by row, and the chunked form of it: what any chunk of rows does to the state and
    gives out, in terms of the decays' logarithms summed within the chunk. -/

@[expose] public section

noncomputable section

namespace Cert.Hgrn

open Finset

/-- The state after `n` rows: each row scales the state's row `d` by its decay `f` and adds `k` times `v`. -/
def S (f k v : ℕ → ℕ → ℝ) : ℕ → ℕ → ℕ → ℝ
  | 0, _, _ => 0
  | n + 1, d, e => f n d * S f k v n d e + k n d * v n e

/-- What row `n` gives out at column `e`: the query's product with the state after that row. -/
def O (f k v q : ℕ → ℕ → ℝ) (n e : ℕ) : ℝ := ∑ d ∈ range 128, q n d * S f k v (n + 1) d e

/-- The logarithms of the decays of the `t` rows from row `o` on, summed. -/
def L (f : ℕ → ℕ → ℝ) (o t d : ℕ) : ℝ := ∑ i ∈ range t, Real.log (f (o + i) d)

variable (f k v q : ℕ → ℕ → ℝ)

/-- The sum over two runs of rows, one after the other. -/
theorem L_add (o a b d : ℕ) : L f o (a + b) d = L f o a d + L f (o + a) b d := by
  unfold L; rw [sum_range_add]; simp only [add_assoc]

/-- The sum with one more row. -/
theorem L_succ (o t d : ℕ) : L f o (t + 1) d = L f o t d + Real.log (f (o + t) d) := by
  unfold L; rw [sum_range_succ]

/-- The state after `T` rows of a chunk that starts at row `o`. -/
theorem S_chunk (hf : ∀ n d, 0 < f n d) (o T d e : ℕ) :
    S f k v (o + T) d e = Real.exp (L f o T d) * S f k v o d e
      + ∑ s ∈ range T, k (o + s) d * Real.exp (L f o T d - L f o (s + 1) d) * v (o + s) e := by
  induction T with
  | zero => simp [L]
  | succ T ih =>
    rw [show o + (T + 1) = (o + T) + 1 from rfl]
    show f (o + T) d * S f k v (o + T) d e + k (o + T) d * v (o + T) e = _
    rw [ih, sum_range_succ, L_succ, sub_self, Real.exp_zero, mul_one, Real.exp_add, Real.exp_log (hf _ _), mul_add, mul_sum]
    have : ∀ s ∈ range T, f (o + T) d * (k (o + s) d * Real.exp (L f o T d - L f o (s + 1) d) * v (o + s) e)
        = k (o + s) d * Real.exp (L f o T d + Real.log (f (o + T) d) - L f o (s + 1) d) * v (o + s) e := by
      intro s _
      rw [show L f o T d + Real.log (f (o + T) d) - L f o (s + 1) d
        = (L f o T d - L f o (s + 1) d) + Real.log (f (o + T) d) by ring, Real.exp_add, Real.exp_log (hf _ _)]
      ring
    rw [sum_congr rfl this]
    ring

/-- What row `t` of a chunk gives out: the rows of the chunk up to it, and the state the chunk began with. -/
theorem O_chunk (hf : ∀ n d, 0 < f n d) (o C t e : ℕ) (ht : t < C) :
    O f k v q (o + t) e
      = (∑ s ∈ range C, (∑ d ∈ range 128, q (o + t) d * k (o + s) d
            * (if s ≤ t then Real.exp (L f o (t + 1) d - L f o (s + 1) d) else 0)) * v (o + s) e)
        + ∑ d ∈ range 128, (q (o + t) d * Real.exp (L f o (t + 1) d)) * S f k v o d e := by
  unfold O
  have h1 : ∀ d ∈ range 128, q (o + t) d * S f k v (o + t + 1) d e
      = (q (o + t) d * Real.exp (L f o (t + 1) d)) * S f k v o d e
        + ∑ s ∈ range C, (q (o + t) d * k (o + s) d
            * (if s ≤ t then Real.exp (L f o (t + 1) d - L f o (s + 1) d) else 0)) * v (o + s) e := by
    intro d _
    rw [show o + t + 1 = o + (t + 1) from rfl, S_chunk f k v hf, mul_add, ← mul_assoc, mul_sum]
    congr 1
    obtain ⟨r, rfl⟩ := Nat.exists_eq_add_of_le (show t + 1 ≤ C from ht)
    rw [sum_range_add _ (t + 1) r]
    have hz : ∑ x ∈ range r, (q (o + t) d * k (o + (t + 1 + x)) d
            * (if t + 1 + x ≤ t then Real.exp (L f o (t + 1) d - L f o (t + 1 + x + 1) d) else 0)) * v (o + (t + 1 + x)) e = 0 := by
      refine sum_eq_zero fun x _ => ?_
      rw [if_neg (by omega)]; ring
    rw [hz, add_zero]
    refine sum_congr rfl fun s hs => ?_
    rw [if_pos (by have := mem_range.mp hs; omega)]; ring
  rw [sum_congr rfl h1, sum_add_distrib, add_comm, sum_comm]
  congr 1
  refine sum_congr rfl fun s _ => ?_
  rw [sum_mul]

end Cert.Hgrn

end
-- ==== Proof.HgIsR.lean ====
module

public import Idealize.ShloMosaic.Lib.Pipeline.Value
public import Idealize.ShloMosaic.Lib.Pointwise
public import Idealize.ShloMosaic.Lib.MatmulPlain
public import Idealize.ShloMosaic.Lib.IdealHost
public import proofs.«01_k».proof.Proof.HgReal

/-! Arrays of two axes all of whose entries are real numbers, and what the operations of the kernel make of them. -/

@[expose] public section

set_option maxRecDepth 16384

noncomputable section

namespace Cert.Hgrn

open Idealize.ShloMosaic hiding ix2 ix3
open Idealize.ShloMosaic.ValueIdx
open Finset

/-- The array holds the real numbers `x r c`. -/
def IsR {n m : ℕ} (X : (⟨2, ![n, m]⟩ : Shape).Idx → EReal) (x : ℕ → ℕ → ℝ) : Prop :=
  ∀ (r : Fin n) (c : Fin m), X (ix2 r c) = ((x r.val c.val : ℝ) : EReal)

/-- The function read from row `o` and column `p` on. -/
def sh (o p : ℕ) (x : ℕ → ℕ → ℝ) : ℕ → ℕ → ℝ := fun r c => x (o + r) (p + c)

variable {n m K : ℕ} {φ ψ : FTy} {x y z : ℕ → ℕ → ℝ}

/-- Only the entries of the array count. -/
theorem IsR.congr {X : (⟨2, ![n, m]⟩ : Shape).Idx → EReal} (h : IsR X x) (e : ∀ r c, r < n → c < m → x r c = y r c) : IsR X y :=
  fun r c => by rw [h r c, e _ _ r.isLt c.isLt]

/-- Sums of real arrays. -/
theorem IsR.add {X Y : FVec Ideal ⟨2, ![n, m]⟩ φ} (hX : IsR X x) (hY : IsR Y y) : IsR (addf X Y) (fun r c => x r c + y r c) :=
  fun r c => by
    show X (ix2 r c) + Y (ix2 r c) = _
    rw [hX, hY, EReal.coe_add]

/-- Differences. -/
theorem IsR.sub {X Y : FVec Ideal ⟨2, ![n, m]⟩ φ} (hX : IsR X x) (hY : IsR Y y) : IsR (subf X Y) (fun r c => x r c - y r c) :=
  fun r c => by
    show X (ix2 r c) - Y (ix2 r c) = _
    rw [hX, hY, EReal.coe_sub]

/-- Products. -/
theorem IsR.mul {X Y : FVec Ideal ⟨2, ![n, m]⟩ φ} (hX : IsR X x) (hY : IsR Y y) : IsR (mulf X Y) (fun r c => x r c * y r c) :=
  fun r c => by
    show X (ix2 r c) * Y (ix2 r c) = _
    rw [hX, hY, EReal.coe_mul]

/-- The larger of two. -/
theorem IsR.max {X Y : FVec Ideal ⟨2, ![n, m]⟩ φ} (hX : IsR X x) (hY : IsR Y y) : IsR (maximumf X Y) (fun r c => x r c ⊔ y r c) :=
  fun r c => by
    show X (ix2 r c) ⊔ Y (ix2 r c) = _
    rw [hX, hY]
    exact (EReal.coe_strictMono.monotone.map_max).symm

/-- Quotients by what is not zero. -/
theorem IsR.div {X Y : FVec Ideal ⟨2, ![n, m]⟩ φ} (hX : IsR X x) (hY : IsR Y y) (h : ∀ r c, y r c ≠ 0) :
    IsR (divf X Y) (fun r c => x r c / y r c) :=
  fun r c => by
    show Ideal.div (X (ix2 r c)) (Y (ix2 r c)) = _
    rw [hX, hY, Ideal.div_coe (h _ _), ← EReal.coe_mul, mul_one_div]

/-- Exponentials. -/
theorem IsR.exp {X : FVec Ideal ⟨2, ![n, m]⟩ φ} (hX : IsR X x) : IsR (Idealize.ShloMosaic.exp X) (fun r c => Real.exp (x r c)) :=
  fun r c => by
    show Ideal.exp (X (ix2 r c)) = _
    rw [hX, Ideal.exp_coe]

/-- Logarithms of what is positive. -/
theorem IsR.log {X : FVec Ideal ⟨2, ![n, m]⟩ φ} (hX : IsR X x) (h : ∀ r c, 0 < x r c) :
    IsR (Idealize.ShloMosaic.log X) (fun r c => Real.log (x r c)) :=
  fun r c => by
    show Ideal.log (X (ix2 r c)) = _
    rw [hX, Ideal.log_coe, if_neg (not_le.mpr (h _ _))]

/-- The array of zeros. -/
theorem IsR.zero : IsR (broadcast ⟨2, ![n, m]⟩ (Scalar.ofBits (F := Ideal) .f32 0x00000000#32)) (fun _ _ => 0) := fun r c => by
  show Ideal.ofBits .f32 0x00000000#32 = _
  simp

/-- The array of ones. -/
theorem IsR.one : IsR (broadcast ⟨2, ![n, m]⟩ (Scalar.ofBits (F := Ideal) .f32 0x3F800000#32)) (fun _ _ => 1) := fun r c => by
  show Ideal.ofBits .f32 0x3F800000#32 = _
  rw [Ideal.ofBits_one_f32]; rfl

/-- Rounding changes no real number, -/
theorem IsR.trunc {X : FVec Ideal ⟨2, ![n, m]⟩ φ} (hX : IsR X x) (h : ψ.bits < φ.bits) : IsR (truncf ψ X h) x := hX

/-- nor does widening. -/
theorem IsR.ext {X : FVec Ideal ⟨2, ![n, m]⟩ φ} (hX : IsR X x) (h : φ.bits < ψ.bits) : IsR (extf ψ X h) x := hX

/-- A piece of an array. -/
theorem IsR.slice {n' m' : ℕ} {X : FVec Ideal ⟨2, ![n, m]⟩ φ} (hX : IsR X x) (o p : ℕ)
    (h : (⟨2, ![n, m]⟩ : Shape).Slices ![o, p] ⟨2, ![n', m']⟩) :
    IsR (extractStridedSlice ⟨2, ![n', m']⟩ ![o, p] X h) (sh o p x) := fun r c => by
  have h0 := h.2 (0 : Fin 2)
  have h1 := h.2 (1 : Fin 2)
  change o + n' ≤ n at h0
  change p + m' ≤ m at h1
  rw [extractStridedSlice_apply _ X h _ (ix2 ⟨o + r.val, by omega⟩ ⟨p + c.val, by omega⟩)]
  · exact hX _ _
  · intro a; match a with
    | ⟨0, _⟩ => rfl
    | ⟨1, _⟩ => rfl

/-- One row, for every row. -/
theorem IsR.bcast {X : FVec Ideal ⟨2, ![1, m]⟩ φ} (hX : IsR X x) (h : (⟨2, ![1, m]⟩ : Shape).Broadcasts ⟨2, ![n, m]⟩) :
    IsR (broadcastTo ⟨2, ![n, m]⟩ X h) (fun _ c => x 0 c) := fun r c => by
  rw [broadcastTo_apply X h _ (ix2 0 c)]
  · exact hX 0 c
  · intro a; match a with
    | ⟨0, _⟩ => rfl
    | ⟨1, _⟩ =>
      show c.val = if m = 1 then 0 else c.val
      split
      · have := c.isLt; omega
      · rfl

/-- Rows and columns exchanged. -/
theorem IsR.transpose {X : FVec Ideal ⟨2, ![n, m]⟩ φ} (hX : IsR X x) (h : (⟨2, ![n, m]⟩ : Shape).Transposes [1, 0] ⟨2, ![m, n]⟩) :
    IsR (Idealize.ShloMosaic.transpose ⟨2, ![m, n]⟩ [1, 0] X h) (fun r c => x c r) := fun r c => by
  rw [transpose_apply _ X h _ (ix2 c r)]
  · exact hX c r
  · intro a; match a with
    | ⟨0, _⟩ => rfl
    | ⟨1, _⟩ => rfl

/-- A finite sum of real numbers is real. -/
theorem coe_sum_range (N : ℕ) (g : ℕ → ℝ) : ∑ k : Fin N, ((g k.val : ℝ) : EReal) = ((∑ k ∈ range N, g k : ℝ) : EReal) := by
  rw [Fin.sum_univ_eq_sum_range (fun k => ((g k : ℝ) : EReal))]
  induction N with
  | zero => simp
  | succ N ih => rw [sum_range_succ, sum_range_succ, ih, EReal.coe_add]

/-- A product of matrices. -/
theorem IsR.nn {A : FVec Ideal ⟨2, ![n, K]⟩ φ} {B : FVec Ideal ⟨2, ![K, m]⟩ ψ} {a b : ℕ → ℕ → ℝ} (hA : IsR A a) (hB : IsR B b)
    (prec : Option ContractPrecision) :
    IsR (matmul (DotDims.plain n K m) prec A B (constant (F := Ideal) ⟨2, ![n, m]⟩ .f32 0x00000000#32))
      (fun r c => ∑ k ∈ range K, a r k * b k c) := fun r c => by
  refine (Ideal.matmul_plain_apply prec A B _ r c).trans ?_
  rw [show constant (F := Ideal) ⟨2, ![n, m]⟩ .f32 0x00000000#32 (ix2 r c) = 0 from by
    show Ideal.ofBits .f32 0x00000000#32 = _; simp, zero_add, ← coe_sum_range]
  exact sum_congr rfl fun k _ => by rw [hA, hB, EReal.coe_mul]

/-- A product with the second matrix transposed. -/
theorem IsR.nt {A : FVec Ideal ⟨2, ![n, K]⟩ φ} {B : FVec Ideal ⟨2, ![m, K]⟩ ψ} {a b : ℕ → ℕ → ℝ} (hA : IsR A a) (hB : IsR B b)
    (prec : Option ContractPrecision) :
    IsR (matmul (DotDims.transposedRhs n K m) prec A B (constant (F := Ideal) ⟨2, ![n, m]⟩ .f32 0x00000000#32))
      (fun r c => ∑ k ∈ range K, a r k * b c k) := fun r c => by
  refine (Ideal.matmul_transposedRhs_apply prec A B _ r c).trans ?_
  rw [show constant (F := Ideal) ⟨2, ![n, m]⟩ .f32 0x00000000#32 (ix2 r c) = 0 from by
    show Ideal.ofBits .f32 0x00000000#32 = _; simp, zero_add, ← coe_sum_range]
  exact sum_congr rfl fun k _ => by rw [hA, hB, EReal.coe_mul]

/-- Eight pieces of 32 rows one below the other. -/
theorem IsR.cat8 {X0 X1 X2 X3 X4 X5 X6 X7 : FVec Ideal ⟨2, ![32, 512]⟩ φ}
    (h0 : IsR X0 (sh 0 0 x)) (h1 : IsR X1 (sh 32 0 x)) (h2 : IsR X2 (sh 64 0 x)) (h3 : IsR X3 (sh 96 0 x))
    (h4 : IsR X4 (sh 128 0 x)) (h5 : IsR X5 (sh 160 0 x)) (h6 : IsR X6 (sh 192 0 x)) (h7 : IsR X7 (sh 224 0 x))
    (h : Shape.Concatenates [⟨2, ![32, 512]⟩, ⟨2, ![32, 512]⟩, ⟨2, ![32, 512]⟩, ⟨2, ![32, 512]⟩, ⟨2, ![32, 512]⟩, ⟨2, ![32, 512]⟩,
      ⟨2, ![32, 512]⟩, ⟨2, ![32, 512]⟩] ⟨2, ![256, 512]⟩ 0) :
    IsR (concatenate (⟨2, ![256, 512]⟩ : Shape) 0 [⟨⟨2, ![32, 512]⟩, X0⟩, ⟨⟨2, ![32, 512]⟩, X1⟩, ⟨⟨2, ![32, 512]⟩, X2⟩, ⟨⟨2, ![32, 512]⟩, X3⟩,
      ⟨⟨2, ![32, 512]⟩, X4⟩, ⟨⟨2, ![32, 512]⟩, X5⟩, ⟨⟨2, ![32, 512]⟩, X6⟩, ⟨⟨2, ![32, 512]⟩, X7⟩] h) x := by
  intro r c
  have key : ∀ (j : ℕ) (hj : j < 8) (X : FVec Ideal ⟨2, ![32, 512]⟩ φ)
      (hX : [(⟨⟨2, ![32, 512]⟩, X0⟩ : (s : Shape) × (s.Idx → EReal)), ⟨⟨2, ![32, 512]⟩, X1⟩, ⟨⟨2, ![32, 512]⟩, X2⟩, ⟨⟨2, ![32, 512]⟩, X3⟩,
      ⟨⟨2, ![32, 512]⟩, X4⟩, ⟨⟨2, ![32, 512]⟩, X5⟩, ⟨⟨2, ![32, 512]⟩, X6⟩, ⟨⟨2, ![32, 512]⟩, X7⟩][j]'hj = ⟨⟨2, ![32, 512]⟩, X⟩)
      (o : ℕ) (ho : o = 32 * j) (hR : IsR X (sh o 0 x)) (hr : r.val / 32 = j),
      concatenate (⟨2, ![256, 512]⟩ : Shape) 0 [⟨⟨2, ![32, 512]⟩, X0⟩, ⟨⟨2, ![32, 512]⟩, X1⟩, ⟨⟨2, ![32, 512]⟩, X2⟩, ⟨⟨2, ![32, 512]⟩, X3⟩,
      ⟨⟨2, ![32, 512]⟩, X4⟩, ⟨⟨2, ![32, 512]⟩, X5⟩, ⟨⟨2, ![32, 512]⟩, X6⟩, ⟨⟨2, ![32, 512]⟩, X7⟩] h (ix2 r c) = ((x r.val c.val : ℝ) : EReal) := by
    intro j hj X hX o ho hR hr
    refine (concatenate_apply_piece (t := ⟨2, ![256, 512]⟩) 0 [⟨⟨2, ![32, 512]⟩, X0⟩, ⟨⟨2, ![32, 512]⟩, X1⟩, ⟨⟨2, ![32, 512]⟩, X2⟩, ⟨⟨2, ![32, 512]⟩, X3⟩,
      ⟨⟨2, ![32, 512]⟩, X4⟩, ⟨⟨2, ![32, 512]⟩, X5⟩, ⟨⟨2, ![32, 512]⟩, X6⟩, ⟨⟨2, ![32, 512]⟩, X7⟩] h (ix2 r c) j hj ⟨2, ![32, 512]⟩ X hX rfl o ?_
      (ix2 ⟨r.val % 32, Nat.mod_lt _ (by decide)⟩ c) ?_ ?_).trans ?_
    · subst ho; interval_cases j <;> rfl
    · intro b hb; match b with
      | ⟨0, _⟩ => exact absurd rfl hb
      | ⟨1, _⟩ => rfl
    · show o + r.val % 32 = r.val
      omega
    · rw [hR]
      show ((x (o + r.val % 32) (0 + c.val) : ℝ) : EReal) = _
      rw [show o + r.val % 32 = r.val by omega, zero_add]
  have hr := r.isLt
  have hj : r.val / 32 < 8 := by omega
  generalize hjj : r.val / 32 = j at hj key
  interval_cases j
  · exact key 0 (by decide) X0 rfl 0 rfl h0 rfl
  · exact key 1 (by decide) X1 rfl 32 rfl h1 rfl
  · exact key 2 (by decide) X2 rfl 64 rfl h2 rfl
  · exact key 3 (by decide) X3 rfl 96 rfl h3 rfl
  · exact key 4 (by decide) X4 rfl 128 rfl h4 rfl
  · exact key 5 (by decide) X5 rfl 160 rfl h5 rfl
  · exact key 6 (by decide) X6 rfl 192 rfl h6 rfl
  · exact key 7 (by decide) X7 rfl 224 rfl h7 rfl

/-- The mask's bit is set just where `p` holds. -/
def IsM {n m : ℕ} (M : IVec ⟨2, ![n, m]⟩ 1) (p : ℕ → ℕ → Prop) : Prop :=
  ∀ (r : Fin n) (c : Fin m), M (ix2 r c) = 1#1 ↔ p r.val c.val

open Classical in
/-- A choice by a mask. -/
theorem IsR.select {M : IVec ⟨2, ![n, m]⟩ 1} {p : ℕ → ℕ → Prop} {X Y : FVec Ideal ⟨2, ![n, m]⟩ φ} (hM : IsM M p) (hX : IsR X x)
    (hY : IsR Y y) : IsR (Idealize.ShloMosaic.select M X Y) (fun r c => if p r c then x r c else y r c) := fun r c => by
  rw [select_apply]
  by_cases h : p r.val c.val
  · simp only [if_pos h]; rw [(hM r c).mpr h]; exact hX r c
  · simp only [if_neg h]; rw [eq_zero_of_ne_one (fun e => h ((hM r c).mp e))]; exact hY r c

/-- An array of one matrix. -/
def IsR3 {n m : ℕ} (X : (⟨3, ![1, n, m]⟩ : Shape).Idx → EReal) (x : ℕ → ℕ → ℝ) : Prop :=
  ∀ (r : Fin n) (c : Fin m), X (ix3 0 r c) = ((x r.val c.val : ℝ) : EReal)

/-- An array of one matrix as the matrix, -/
theorem IsR3.cast {X : FVec Ideal ⟨3, ![1, n, m]⟩ φ} (hX : IsR3 X x) (h : (⟨3, ![1, n, m]⟩ : Shape).ShapeCasts ⟨2, ![n, m]⟩) :
    IsR (shapeCast ⟨2, ![n, m]⟩ X h) x := fun r c => by
  rw [shapeCast_apply X h _ (ix3 0 r c)]
  · exact hX r c
  · rw [Shape.rowMajor_val_three, Shape.rowMajor_val_two]
    show (0 * n + r.val) * m + c.val = r.val * m + c.val
    rw [zero_mul, zero_add]

/-- and back. -/
theorem IsR.cast3 {X : FVec Ideal ⟨2, ![n, m]⟩ φ} (hX : IsR X x) (h : (⟨2, ![n, m]⟩ : Shape).ShapeCasts ⟨3, ![1, n, m]⟩) :
    IsR3 (shapeCast ⟨3, ![1, n, m]⟩ X h) x := fun r c => by
  rw [shapeCast_apply X h _ (ix2 r c)]
  · exact hX r c
  · rw [Shape.rowMajor_val_three, Shape.rowMajor_val_two]
    show r.val * m + c.val = (0 * n + r.val) * m + c.val
    rw [zero_mul, zero_add]

/-- A reshape to the same shape changes nothing. -/
theorem shapeCast_self {s : Shape} {α : Type} (X : s.Idx → α) (h : s.ShapeCasts s) : shapeCast s X h = X :=
  funext fun j => shapeCast_apply X h j j rfl

end Cert.Hgrn

end
-- ==== Proof.HgFast.lean ====
module

public import proofs.«01_k».proof.Proof.HgIsR
public import proofs.«01_k».proof.Proof.HgBase

/-! The operations of the kernel's body on real blocks: the gates, the scaled rows of each chunk, the products of a
    chunk, and one chunk's step of the recurrence. Rows are counted within a sequence: a block begins at row `256 * T`. -/

@[expose] public section

set_option maxRecDepth 16384

noncomputable section

namespace Cert.Hgrn

open Idealize.ShloMosaic hiding ix2 ix3
open Idealize.ShloMosaic.ValueIdx
open Cert.KernelIdeal Cert.KernelIdeal.Gen
open Finset

/-! ### The gates -/

/-- The lower bound of the forget gate, from the two rows of logits. -/
def lbR (l : ℕ → ℕ → ℝ) (c : ℕ) : ℝ :=
  (Real.exp (l 0 c - l 0 c ⊔ l 1 c) / (Real.exp (l 0 c - l 0 c ⊔ l 1 c) + Real.exp (l 1 c - l 0 c ⊔ l 1 c))
    + Real.exp (l 1 c - l 0 c ⊔ l 1 c) / (Real.exp (l 0 c - l 0 c ⊔ l 1 c) + Real.exp (l 1 c - l 0 c ⊔ l 1 c)))
    - Real.exp (l 0 c - l 0 c ⊔ l 1 c) / (Real.exp (l 0 c - l 0 c ⊔ l 1 c) + Real.exp (l 1 c - l 0 c ⊔ l 1 c))

/-- The forget gate, of the logistic's values `x`, which are at least zero. -/
def FR (l x : ℕ → ℕ → ℝ) (n c : ℕ) : ℝ := lbR l c + (1 - lbR l c) * (x n c ⊔ 0)

/-- What is written for the key: one minus the forget gate. -/
def KR (l x : ℕ → ℕ → ℝ) (n c : ℕ) : ℝ := 1 - FR l x n c

/-- The query after its gate. -/
def QR (x : ℕ → ℕ → ℝ) (n c : ℕ) : ℝ := x n c * (1 / (1 + Real.exp (0 - x n c)))

/-- The lower bound is positive, -/
theorem lbR_pos (l : ℕ → ℕ → ℝ) (c : ℕ) : 0 < lbR l c := by
  unfold lbR
  rw [add_sub_cancel_left]
  positivity

/-- and less than one, -/
theorem lbR_lt (l : ℕ → ℕ → ℝ) (c : ℕ) : lbR l c < 1 := by
  unfold lbR
  rw [add_sub_cancel_left, div_lt_one (by positivity)]
  have := Real.exp_pos (l 0 c - l 0 c ⊔ l 1 c)
  linarith

/-- so the forget gate is positive. -/
theorem FR_pos (l x : ℕ → ℕ → ℝ) (n c : ℕ) : 0 < FR l x n c := by
  unfold FR
  have h1 := lbR_pos l c
  have h2 := lbR_lt l c
  have : 0 ≤ x n c ⊔ 0 := le_max_right _ _
  exact add_pos_of_pos_of_nonneg h1 (mul_nonneg (sub_pos.mpr h2).le this)

/-! ### Sums of logarithms -/

/-- From the start of the chunk of 32 rows to the row. -/
def b32 (F : ℕ → ℕ → ℝ) (n c : ℕ) : ℝ := L F (32 * (n / 32)) (n % 32 + 1) c
/-- From the start of the chunk of 64 rows to the row. -/
def b64 (F : ℕ → ℕ → ℝ) (n c : ℕ) : ℝ := L F (64 * (n / 64)) (n % 64 + 1) c
/-- Over the row's whole chunk of 32 rows. -/
def t32 (F : ℕ → ℕ → ℝ) (n c : ℕ) : ℝ := L F (32 * (n / 32)) 32 c
/-- Over the row's whole chunk of 64 rows. -/
def t64 (F : ℕ → ℕ → ℝ) (n c : ℕ) : ℝ := L F (64 * (n / 64)) 64 c

/-- The sum at a row of the chunk of 32 rows that starts at `o`. -/
theorem b32_at (F : ℕ → ℕ → ℝ) (o r c : ℕ) (ho : o % 32 = 0) (hr : r < 32) : b32 F (o + r) c = L F o (r + 1) c := by
  unfold b32
  rw [show 32 * ((o + r) / 32) = o by omega, show (o + r) % 32 = r by omega]

/-- The sum over that chunk. -/
theorem t32_at (F : ℕ → ℕ → ℝ) (o r c : ℕ) (ho : o % 32 = 0) (hr : r < 32) : t32 F (o + r) c = L F o 32 c := by
  unfold t32
  rw [show 32 * ((o + r) / 32) = o by omega]

/-- The sum at a row of the chunk of 64 rows that starts at `o`. -/
theorem b64_at (F : ℕ → ℕ → ℝ) (o r c : ℕ) (ho : o % 64 = 0) (hr : r < 64) : b64 F (o + r) c = L F o (r + 1) c := by
  unfold b64
  rw [show 64 * ((o + r) / 64) = o by omega, show (o + r) % 64 = r by omega]

/-- The sum over that chunk. -/
theorem t64_at (F : ℕ → ℕ → ℝ) (o r c : ℕ) (ho : o % 64 = 0) (hr : r < 64) : t64 F (o + r) c = L F o 64 c := by
  unfold t64
  rw [show 64 * ((o + r) / 64) = o by omega]

/-- The rows of the triangle of ones add up the logarithms of a chunk of 32 rows up to the row. -/
theorem tri_sum (F : ℕ → ℕ → ℝ) (T r c : ℕ) (hr : r < 256) :
    ∑ k ∈ range 256, (if k ≤ r ∧ r / 32 = k / 32 then (1 : ℝ) else 0) * Real.log (F (256 * T + k) c) = b32 F (256 * T + r) c := by
  rw [b32, L, show 32 * ((256 * T + r) / 32) = 256 * T + 32 * (r / 32) by omega, show (256 * T + r) % 32 = r % 32 by omega]
  obtain ⟨w, hw⟩ := Nat.exists_eq_add_of_le (show 32 * (r / 32) + (r % 32 + 1) ≤ 256 by omega)
  rw [show range 256 = range (32 * (r / 32) + (r % 32 + 1) + w) from congrArg range hw, sum_range_add _ (32 * (r / 32) + (r % 32 + 1)) w, sum_range_add _ (32 * (r / 32)) (r % 32 + 1),
    sum_eq_zero (s := range (32 * (r / 32))), sum_eq_zero (s := range w), zero_add, add_zero]
  · refine sum_congr rfl fun k hk => ?_
    have := mem_range.mp hk
    rw [if_pos ⟨by omega, by omega⟩, one_mul, add_assoc]
  · intro k hk
    rw [if_neg (by omega), zero_mul]
  · intro k hk
    have := mem_range.mp hk
    rw [if_neg (by omega), zero_mul]

/-! ### The scaled rows of a chunk -/

section Rows
variable {n m : ℕ} {T o : ℕ} {F k q : ℕ → ℕ → ℝ}
variable {B Qv Kv : FVec Ideal S256x512 .f32}

/-- A row's query times the exponential of its sum. -/
theorem isR_pq (hQ : IsR Qv (sh (256 * T) 0 q)) (hB : IsR B (sh (256 * T) 0 (b32 F))) (o : ℕ) (h : S256x512.Slices ![o, 0] S32x512) :
    IsR (mulf (extractStridedSlice S32x512 ![o, 0] Qv h) (Idealize.ShloMosaic.exp (extractStridedSlice S32x512 ![o, 0] B h)))
      (sh o 0 (sh (256 * T) 0 fun n c => q n c * Real.exp (b32 F n c))) :=
  IsR.mul (IsR.slice hQ o 0 h) (IsR.exp (IsR.slice hB o 0 h))

/-- A row's key times the exponential of minus its sum. -/
theorem isR_pk (hK : IsR Kv (sh (256 * T) 0 k)) (hB : IsR B (sh (256 * T) 0 (b32 F))) (o : ℕ) (h : S256x512.Slices ![o, 0] S32x512) :
    IsR (mulf (extractStridedSlice S32x512 ![o, 0] Kv h) (Idealize.ShloMosaic.exp
        (subf (broadcast S32x512 (Scalar.ofBits (F := Ideal) .f32 0x00000000#32)) (extractStridedSlice S32x512 ![o, 0] B h))))
      (sh o 0 (sh (256 * T) 0 fun n c => k n c * Real.exp (0 - b32 F n c))) :=
  IsR.mul (IsR.slice hK o 0 h) (IsR.exp (IsR.sub IsR.zero (IsR.slice hB o 0 h)))

/-- The chunk's last row of sums. -/
theorem isR_last (hB : IsR B (sh (256 * T) 0 (b32 F))) (o : ℕ) (h : S256x512.Slices ![o, 0] S32x512) (h' : S32x512.Slices ![31, 0] S1x512)
    (ho : o % 32 = 0) :
    IsR (extractStridedSlice S1x512 ![31, 0] (extractStridedSlice S32x512 ![o, 0] B h) h') (fun _ c => L F (256 * T + o) 32 c) :=
  (IsR.slice (φ := .f32) (IsR.slice hB o 0 h) 31 0 h').congr fun r c hr hc => by
    show b32 F (256 * T + (o + (31 + r))) (0 + (0 + (0 + c))) = _
    rw [show 256 * T + (o + (31 + r)) = (256 * T + o) + 31 by omega, b32_at F _ _ _ (by omega) (by omega)]
    simp only [zero_add]

/-- A row's key times the exponential of the chunk's sum after it. -/
theorem isR_ph (hK : IsR Kv (sh (256 * T) 0 k)) (hB : IsR B (sh (256 * T) 0 (b32 F))) (o : ℕ) (h : S256x512.Slices ![o, 0] S32x512)
    (h' : S32x512.Slices ![31, 0] S1x512) (hb : S1x512.Broadcasts S32x512) (ho : o % 32 = 0) :
    IsR (mulf (extractStridedSlice S32x512 ![o, 0] Kv h) (Idealize.ShloMosaic.exp
        (subf (broadcastTo S32x512 (extractStridedSlice S1x512 ![31, 0] (extractStridedSlice S32x512 ![o, 0] B h) h') hb)
          (extractStridedSlice S32x512 ![o, 0] B h))))
      (sh o 0 (sh (256 * T) 0 fun n c => k n c * Real.exp (t32 F n c - b32 F n c))) :=
  (IsR.mul (IsR.slice hK o 0 h) (IsR.exp (IsR.sub (IsR.bcast (φ := .f32) (isR_last hB o h h' ho) hb) (IsR.slice hB o 0 h)))).congr
    fun r c hr hc => by
      show k _ _ * Real.exp (L F (256 * T + o) 32 c - b32 F (256 * T + (o + r)) (0 + (0 + c)))
        = k _ _ * Real.exp (t32 F (256 * T + (o + r)) (0 + (0 + c)) - b32 F (256 * T + (o + r)) (0 + (0 + c)))
      rw [← add_assoc (256 * T) o r, t32_at F (256 * T + o) r _ (by omega) hr]
      simp only [zero_add]

/-- In the first half of a chunk of 64 rows the two sums agree. -/
theorem isR_even {X : FVec Ideal S32x512 .f32} {o : ℕ} (ho : o % 64 = 0)
    (hX : IsR X (sh o 0 (sh (256 * T) 0 fun n c => q n c * Real.exp (b32 F n c)))) :
    IsR X (sh o 0 (sh (256 * T) 0 fun n c => q n c * Real.exp (b64 F n c))) :=
  hX.congr fun r c hr hc => by
    show q (256 * T + (o + r)) _ * Real.exp (b32 F (256 * T + (o + r)) _) = q (256 * T + (o + r)) _ * Real.exp (b64 F (256 * T + (o + r)) _)
    rw [← add_assoc (256 * T) o r, b64_at F _ _ _ (by omega) (by omega), b32_at F _ _ _ (by omega) (by omega)]

/-- In the second half the sum of the first half is added. -/
theorem isR_odd {X : FVec Ideal S32x512 .f32} {D : FVec Ideal S1x512 .f32} {o o' : ℕ} (ho : o % 64 = 0) (ho' : o' = o + 32)
    (hX : IsR X (sh o' 0 (sh (256 * T) 0 fun n c => q n c * Real.exp (b32 F n c))))
    (hD : IsR D (fun _ c => L F (256 * T + o) 32 c)) (hb : S1x512.Broadcasts S32x512) :
    IsR (mulf X (broadcastTo S32x512 (Idealize.ShloMosaic.exp D) hb)) (sh o' 0 (sh (256 * T) 0 fun n c => q n c * Real.exp (b64 F n c))) :=
  (IsR.mul hX (IsR.bcast (IsR.exp hD) hb)).congr fun r c hr hc => by
    subst ho'
    show q (256 * T + (o + 32 + r)) (0 + (0 + c)) * Real.exp (b32 F (256 * T + (o + 32 + r)) (0 + (0 + c))) * Real.exp (L F (256 * T + o) 32 c)
      = q (256 * T + (o + 32 + r)) (0 + (0 + c)) * Real.exp (b64 F (256 * T + (o + 32 + r)) (0 + (0 + c)))
    simp only [zero_add]
    rw [mul_assoc, ← Real.exp_add]
    congr 2
    rw [show 256 * T + (o + 32 + r) = (256 * T + o + 32) + r by omega, b32_at F _ _ _ (by omega) (by omega),
      show (256 * T + o + 32) + r = (256 * T + o) + (32 + r) by omega, b64_at F _ _ _ (by omega) (by omega),
      add_assoc 32 r 1, L_add F _ 32 (r + 1), add_comm]

/-- The keys of the second half, scaled to the end of the chunk of 64 rows. -/
theorem isR_kodd {X : FVec Ideal S32x512 .f32} {o o' : ℕ} (ho : o % 64 = 0) (ho' : o' = o + 32)
    (hX : IsR X (sh o' 0 (sh (256 * T) 0 fun n c => k n c * Real.exp (t32 F n c - b32 F n c)))) :
    IsR X (sh o' 0 (sh (256 * T) 0 fun n c => k n c * Real.exp (t64 F n c - b64 F n c))) :=
  hX.congr fun r c hr hc => by
    subst ho'
    show k (256 * T + (o + 32 + r)) (0 + (0 + c)) * Real.exp (t32 F (256 * T + (o + 32 + r)) (0 + (0 + c)) - b32 F (256 * T + (o + 32 + r)) (0 + (0 + c)))
      = k (256 * T + (o + 32 + r)) (0 + (0 + c)) * Real.exp (t64 F (256 * T + (o + 32 + r)) (0 + (0 + c)) - b64 F (256 * T + (o + 32 + r)) (0 + (0 + c)))
    simp only [zero_add]
    congr 2
    rw [show 256 * T + (o + 32 + r) = (256 * T + o + 32) + r by omega, b32_at F _ _ _ (by omega) (by omega), t32_at F _ _ _ (by omega) (by omega),
      show (256 * T + o + 32) + r = (256 * T + o) + (32 + r) by omega, b64_at F _ _ _ (by omega) (by omega),
      t64_at F _ _ _ (by omega) (by omega), add_assoc 32 r 1, L_add F _ 32 (r + 1), show (64 : ℕ) = 32 + 32 from rfl, L_add F _ 32 32]
    ring

/-- The keys of the first half, scaled to the end of the chunk of 64 rows. -/
theorem isR_keven {X : FVec Ideal S32x512 .f32} {D : FVec Ideal S1x512 .f32} {o o' : ℕ} (ho : o % 64 = 0) (ho' : o' = o + 32)
    (hX : IsR X (sh o 0 (sh (256 * T) 0 fun n c => k n c * Real.exp (t32 F n c - b32 F n c))))
    (hD : IsR D (fun _ c => L F (256 * T + o') 32 c)) (hb : S1x512.Broadcasts S32x512) :
    IsR (mulf X (broadcastTo S32x512 (Idealize.ShloMosaic.exp D) hb))
      (sh o 0 (sh (256 * T) 0 fun n c => k n c * Real.exp (t64 F n c - b64 F n c))) :=
  (IsR.mul hX (IsR.bcast (IsR.exp hD) hb)).congr fun r c hr hc => by
    subst ho'
    show k (256 * T + (o + r)) (0 + (0 + c)) * Real.exp (t32 F (256 * T + (o + r)) (0 + (0 + c)) - b32 F (256 * T + (o + r)) (0 + (0 + c)))
        * Real.exp (L F (256 * T + (o + 32)) 32 c)
      = k (256 * T + (o + r)) (0 + (0 + c)) * Real.exp (t64 F (256 * T + (o + r)) (0 + (0 + c)) - b64 F (256 * T + (o + r)) (0 + (0 + c)))
    simp only [zero_add]
    rw [mul_assoc, ← Real.exp_add]
    congr 2
    rw [← add_assoc (256 * T) o r, b32_at F _ _ _ (by omega) (by omega), t32_at F _ _ _ (by omega) (by omega),
      b64_at F _ _ _ (by omega) (by omega), t64_at F _ _ _ (by omega) (by omega), show (64 : ℕ) = 32 + 32 from rfl, L_add F _ 32 32, ← add_assoc (256 * T) o 32]
    ring

/-- What a chunk of 64 rows multiplies the state by. -/
theorem isR_dec {D E : FVec Ideal S1x512 .f32} {o o' : ℕ} (ho' : o' = o + 32) (hD : IsR D (fun _ c => L F (256 * T + o) 32 c))
    (hE : IsR E (fun _ c => L F (256 * T + o') 32 c)) :
    IsR (mulf (Idealize.ShloMosaic.exp D) (Idealize.ShloMosaic.exp E)) (fun _ c => Real.exp (L F (256 * T + o) 64 c)) :=
  (IsR.mul (IsR.exp hD) (IsR.exp hE)).congr fun r c hr hc => by
    subst ho'
    rw [← Real.exp_add, show (64 : ℕ) = 32 + 32 from rfl, L_add F _ 32 32, ← add_assoc (256 * T) o 32]

end Rows

/-! ### One chunk of 64 rows of one head -/

/-- The columns of one head. -/
def hd (p : ℕ) (x : ℕ → ℕ → ℝ) : ℕ → ℕ → ℝ := fun n d => x n (p + d)

section Chunk
variable (F k v q : ℕ → ℕ → ℝ) (T p : ℕ)

/-- The entry of a chunk's product of queries and keys. -/
def A64 (r s : ℕ) : ℝ :=
  if r / 64 = s / 64 ∧ s ≤ r then
    ∑ d ∈ range 128, q (256 * T + r) (p + d) * k (256 * T + s) (p + d) * Real.exp (b64 F (256 * T + r) (p + d) - b64 F (256 * T + s) (p + d))
  else 0

open Classical in
/-- The two masked products make the chunk's. -/
theorem A64_eq (r s : ℕ) :
    (if r / 32 = s / 32 ∧ s ≤ r then
        ∑ d ∈ range 128, (q (256 * T + r) (p + d) * Real.exp (b32 F (256 * T + r) (p + d)))
          * (k (256 * T + s) (p + d) * Real.exp (0 - b32 F (256 * T + s) (p + d))) else 0)
      + (if r / 64 = s / 64 ∧ s / 32 < r / 32 then
        ∑ d ∈ range 128, (q (256 * T + r) (p + d) * Real.exp (b32 F (256 * T + r) (p + d)))
          * (k (256 * T + s) (p + d) * Real.exp (t32 F (256 * T + s) (p + d) - b32 F (256 * T + s) (p + d))) else 0)
      = A64 F k q T p r s := by
  unfold A64
  by_cases h1 : r / 32 = s / 32 ∧ s ≤ r
  · rw [if_pos h1, if_neg (by omega), if_pos (by omega), add_zero]
    refine sum_congr rfl fun d _ => ?_
    have e : b64 F (256 * T + r) (p + d) - b64 F (256 * T + s) (p + d) = b32 F (256 * T + r) (p + d) + (0 - b32 F (256 * T + s) (p + d)) := by
      by_cases he : r / 32 % 2 = 0
      · rw [show 256 * T + r = (256 * T + 32 * (r / 32)) + r % 32 by omega, show 256 * T + s = (256 * T + 32 * (r / 32)) + s % 32 by omega,
          b64_at F _ _ _ (by omega) (by omega), b64_at F _ _ _ (by omega) (by omega), b32_at F _ _ _ (by omega) (by omega),
          b32_at F _ _ _ (by omega) (by omega)]
        ring
      · obtain ⟨w, hw⟩ : ∃ w, r / 32 = 2 * w + 1 := ⟨r / 32 / 2, by omega⟩
        rw [show 256 * T + r = (256 * T + 64 * w + 32) + r % 32 by omega, show 256 * T + s = (256 * T + 64 * w + 32) + s % 32 by omega,
          b32_at F _ _ _ (by omega) (by omega), b32_at F _ _ _ (by omega) (by omega),
          add_assoc _ 32 (r % 32), add_assoc _ 32 (s % 32), b64_at F _ _ _ (by omega) (by omega), b64_at F _ _ _ (by omega) (by omega),
          add_assoc 32 (r % 32) 1, add_assoc 32 (s % 32) 1, L_add F _ 32 (r % 32 + 1), L_add F _ 32 (s % 32 + 1)]
        ring
    rw [e, Real.exp_add]; ring
  · rw [if_neg h1, zero_add]
    by_cases h2 : r / 64 = s / 64 ∧ s / 32 < r / 32
    · rw [if_pos h2, if_pos (by omega)]
      refine sum_congr rfl fun d _ => ?_
      have e : b64 F (256 * T + r) (p + d) - b64 F (256 * T + s) (p + d)
          = b32 F (256 * T + r) (p + d) + (t32 F (256 * T + s) (p + d) - b32 F (256 * T + s) (p + d)) := by
        obtain ⟨w, hw⟩ : ∃ w, r / 64 = w := ⟨_, rfl⟩
        rw [show 256 * T + r = (256 * T + 64 * w + 32) + r % 32 by omega, show 256 * T + s = (256 * T + 64 * w) + s % 32 by omega,
          b32_at F _ _ _ (by omega) (by omega), b32_at F _ _ _ (by omega) (by omega), t32_at F _ _ _ (by omega) (by omega),
          add_assoc _ 32 (r % 32), b64_at F _ _ _ (by omega) (by omega), b64_at F _ _ _ (by omega) (by omega),
          add_assoc 32 _ 1, L_add]
        ring
      rw [e, Real.exp_add]; ring
    · rw [if_neg h2, if_neg (by omega)]

/-- Row `i` of a chunk: the chunk's own rows and the state before it. -/
theorem O_64 (hf : ∀ n c, 0 < F n c) (j i e : ℕ) (hj : j < 4) (hi : i < 64) :
    (∑ s ∈ range 256, A64 F k q T p (64 * j + i) s * v (256 * T + s) (p + e))
      + ∑ d ∈ range 128, (q (256 * T + (64 * j + i)) (p + d) * Real.exp (b64 F (256 * T + (64 * j + i)) (p + d)))
          * S (hd p F) (hd p k) (hd p v) (256 * T + 64 * j) d e
      = O (hd p F) (hd p k) (hd p v) (hd p q) (256 * T + (64 * j + i)) e := by
  rw [← add_assoc (256 * T), O_chunk (hd p F) (hd p k) (hd p v) (hd p q) (fun n d => hf n _) (256 * T + 64 * j) 64 i e hi]
  congr 1
  · obtain ⟨w, hw⟩ := Nat.exists_eq_add_of_le (show 64 * j + 64 ≤ 256 by omega)
    rw [show range 256 = range (64 * j + 64 + w) from congrArg range hw, sum_range_add _ (64 * j + 64) w, sum_range_add _ (64 * j) 64, sum_eq_zero (s := range (64 * j)), sum_eq_zero (s := range w),
      zero_add, add_zero]
    · refine sum_congr rfl fun s hs => ?_
      have hs' := mem_range.mp hs
      rw [show v (256 * T + (64 * j + s)) (p + e) = hd p v (256 * T + 64 * j + s) e by rw [← add_assoc]; rfl]
      congr 1
      unfold A64
      by_cases h : s ≤ i
      · rw [if_pos (by omega)]
        refine sum_congr rfl fun d _ => ?_
        rw [if_pos h, ← add_assoc, ← add_assoc, b64_at F _ _ _ (by omega) hi, b64_at F _ _ _ (by omega) hs']
        rfl
      · rw [if_neg (by omega)]
        refine (sum_eq_zero fun d _ => ?_).symm
        rw [if_neg h, mul_zero]
    · intro s hs
      unfold A64
      rw [if_neg (by omega), zero_mul]
    · intro s hs
      have hs' := mem_range.mp hs
      unfold A64
      rw [if_neg (by omega), zero_mul]
  · refine sum_congr rfl fun d _ => ?_
    rw [b64_at F _ _ _ (by omega) hi]
    rfl

/-- The state after a chunk. -/
theorem S_64 (hf : ∀ n c, 0 < F n c) (j d e : ℕ) :
    S (hd p F) (hd p k) (hd p v) (256 * T + 64 * j) d e * Real.exp (L F (256 * T + 64 * j) 64 (p + d))
      + ∑ s ∈ range 64, v (256 * T + (64 * j + s)) (p + e)
          * (k (256 * T + (64 * j + s)) (p + d) * Real.exp (t64 F (256 * T + (64 * j + s)) (p + d) - b64 F (256 * T + (64 * j + s)) (p + d)))
      = S (hd p F) (hd p k) (hd p v) (256 * T + 64 * (j + 1)) d e := by
  rw [show 256 * T + 64 * (j + 1) = 256 * T + 64 * j + 64 by omega, S_chunk (hd p F) (hd p k) (hd p v) (fun n d => hf n _) (256 * T + 64 * j) 64]
  congr 1
  · exact mul_comm _ _
  · refine sum_congr rfl fun s hs => ?_
    have hs' := mem_range.mp hs
    rw [← add_assoc (256 * T), t64_at F _ _ _ (by omega) hs', b64_at F _ _ _ (by omega) hs']
    show _ = k _ _ * Real.exp (L F _ _ _ - L F _ _ _) * v _ _
    ring

end Chunk

section Node
variable {F k v q : ℕ → ℕ → ℝ} {T p : ℕ}

/-- The masked product of a head's queries and keys, times its values. -/
theorem isR_intra {qt kt kh : FVec Ideal S256x512 .bf16} {M N : IVec S256x256 1} {Vv : FVec Ideal S256x128 .f32}
    (hq : IsR qt (sh (256 * T) 0 fun n c => q n c * Real.exp (b32 F n c)))
    (hk : IsR kt (sh (256 * T) 0 fun n c => k n c * Real.exp (0 - b32 F n c)))
    (hh : IsR kh (sh (256 * T) 0 fun n c => k n c * Real.exp (t32 F n c - b32 F n c)))
    (hM : IsM M (fun r s => r / 32 = s / 32 ∧ s ≤ r)) (hN : IsM N (fun r s => r / 64 = s / 64 ∧ s / 32 < r / 32))
    (hV : IsR Vv (fun r e => v (256 * T + r) (p + e))) (h : S256x512.Slices ![0, p] S256x128) (hb : FTy.bf16.bits < FTy.f32.bits) :
    IsR (matmul dot_S256x256_S256x128_S256x128_1_0_0_1_n_n none
        (truncf .bf16 (addf
          (select M (matmul dot_S256x128_S256x128_S256x256_1_1_0_0_n_n none (extractStridedSlice S256x128 ![0, p] qt h)
            (extractStridedSlice S256x128 ![0, p] kt h) (constant S256x256 .f32 0x00000000#32))
            (broadcast S256x256 (Scalar.ofBits (F := Ideal) .f32 0x00000000#32)))
          (select N (matmul dot_S256x128_S256x128_S256x256_1_1_0_0_n_n none (extractStridedSlice S256x128 ![0, p] qt h)
            (extractStridedSlice S256x128 ![0, p] kh h) (constant S256x256 .f32 0x00000000#32))
            (broadcast S256x256 (Scalar.ofBits (F := Ideal) .f32 0x00000000#32)))) hb)
        (truncf .bf16 Vv hb) (constant S256x128 .f32 0x00000000#32))
      (fun r e => ∑ s ∈ range 256, A64 F k q T p r s * v (256 * T + s) (p + e)) :=
  (IsR.nn (IsR.trunc (IsR.add
    (IsR.select hM (IsR.nt (IsR.slice hq 0 p h) (IsR.slice hk 0 p h) none) IsR.zero)
    (IsR.select hN (IsR.nt (IsR.slice hq 0 p h) (IsR.slice hh 0 p h) none) IsR.zero)) hb) (IsR.trunc hV hb) none).congr
  fun r e hr he => sum_congr rfl fun s _ => by
    rw [← A64_eq]
    simp only [sh, zero_add]

/-- One chunk's rows of a head. -/
theorem isR_o {I : FVec Ideal S256x128 .f32} {qi : FVec Ideal S256x512 .bf16} {st : FVec Ideal S128x128 .f32} (hf : ∀ n c, 0 < F n c)
    (hI : IsR I (fun r e => ∑ s ∈ range 256, A64 F k q T p r s * v (256 * T + s) (p + e)))
    (hq : IsR qi (sh (256 * T) 0 fun n c => q n c * Real.exp (b64 F n c))) (j : ℕ) (hj : j < 4)
    (hst : IsR st (fun e d => S (hd p F) (hd p k) (hd p v) (256 * T + 64 * j) d e)) (o : ℕ) (ho : o = 64 * j)
    (h : S256x128.Slices ![o, 0] S64x128) (h' : S256x512.Slices ![o, p] S64x128) (hb : FTy.bf16.bits < FTy.f32.bits) :
    IsR (addf (extractStridedSlice S64x128 ![o, 0] I h)
        (matmul dot_S64x128_S128x128_S64x128_1_1_0_0_n_n none (extractStridedSlice S64x128 ![o, p] qi h') (truncf .bf16 st hb)
          (constant S64x128 .f32 0x00000000#32)))
      (fun i e => O (hd p F) (hd p k) (hd p v) (hd p q) (256 * T + (64 * j + i)) e) :=
  (IsR.add (IsR.slice hI o 0 h) (IsR.nt (IsR.slice hq o p h') (IsR.trunc hst hb) none)).congr fun i e hi he => by
    subst ho
    rw [← O_64 F k v q T p hf j i e hj hi]
    simp only [sh, zero_add]

/-- The state after one chunk. -/
theorem isR_st {kb : FVec Ideal S256x512 .bf16} {st : FVec Ideal S128x128 .f32} {D : FVec Ideal S1x512 .f32} {Vv : FVec Ideal S256x128 .f32}
    (hf : ∀ n c, 0 < F n c)
    (hV : IsR Vv (fun r e => v (256 * T + r) (p + e)))
    (hk : IsR kb (sh (256 * T) 0 fun n c => k n c * Real.exp (t64 F n c - b64 F n c))) (j : ℕ) (o : ℕ) (ho : o = 64 * j)
    (hD : IsR D (fun _ c => Real.exp (L F (256 * T + o) 64 c)))
    (hst : IsR st (fun e d => S (hd p F) (hd p k) (hd p v) (256 * T + 64 * j) d e))
    (h : S256x128.Slices ![o, 0] S64x128) (h' : S256x512.Slices ![o, p] S64x128) (hb : FTy.bf16.bits < FTy.f32.bits)
    (hd' : S1x512.Slices ![0, p] S1x128) (hB : S1x128.Broadcasts S128x128) (ht : S64x128.Transposes [1, 0] S128x64) :
    IsR (addf (mulf st (broadcastTo S128x128 (extractStridedSlice S1x128 ![0, p] D hd') hB))
        (matmul dot_S128x64_S64x128_S128x128_1_0_0_1_n_n none
          (truncf .bf16 (Idealize.ShloMosaic.transpose S128x64 [1, 0] (extractStridedSlice S64x128 ![o, 0] Vv h) ht) hb)
          (extractStridedSlice S64x128 ![o, p] kb h') (constant S128x128 .f32 0x00000000#32)))
      (fun e d => S (hd p F) (hd p k) (hd p v) (256 * T + 64 * (j + 1)) d e) :=
  (IsR.add (IsR.mul hst (IsR.bcast (φ := .f32) (IsR.slice hD 0 p hd') hB))
    (IsR.nn (IsR.trunc (IsR.transpose (φ := .f32) (IsR.slice hV o 0 h) ht) hb) (IsR.slice hk o p h') none)).congr fun e d he hdd => by
    subst ho
    rw [← S_64 F k v T p hf j d e]
    simp only [sh, zero_add]

end Node

end Cert.Hgrn

end
-- ==== Proof.HgRefOps.lean ====
module

public import proofs.«01_k».proof.Proof.HgRef
public import proofs.«01_k».proof.Proof.HgFast
public import Idealize.ShloMosaic.Lib.DynamicIndex

/-! The operations of one trip of the reference's loop, read at an index of an array of real numbers. -/

@[expose] public section

set_option maxRecDepth 16384

noncomputable section

namespace Cert.ReferenceIdeal.Hgrn

open Idealize.ShloMosaic hiding ix1 ix2 ix3 ix4 ix5
open Idealize.ShloMosaic.ValueIdx
open Idealize.ShloMosaic.TcCoe Idealize.SL.Sem Idealize.ShloMosaic.StableHlo
open Cert.ReferenceIdeal Cert.ReferenceIdeal.Gen Cert.ReferenceIdeal.Value
open Cert.Hgrn Finset

/-- The chunk that the loop's counter names, cut out of the stack of chunks. -/
theorem cut_apply {α : Type} (X : S32x32x4x64x128.Idx → α) (w : S_.Idx → BitVec 32) (k : ℕ) (hk : k < 32)
    (hw : w = fun _ => Scf.iv 0#32 1#32 k) (b : Fin 32) (h : Fin 4) (t : Fin 64) (d : Fin 128) :
    shapeCast S32x4x64x128 (Host.dynamicSlice S1x32x4x64x128 X (fun a => (((![w, constantI S_ 32 0#32, constantI S_ 32 0#32,
        constantI S_ 32 0#32, constantI S_ 32 0#32] : Fin 5 → S_.Idx → BitVec 32)) a (Shape.Idx.first h_S_)).toInt)
        sliceFits_S32x32x4x64x128_S1x32x4x64x128) shapeCasts_S1x32x4x64x128_S32x4x64x128 (ix4 b h t d)
      = X (ix5 ⟨k, hk⟩ b h t d) := by
  have hs : S32x32x4x64x128.Slices ![k, 0, 0, 0, 0] S1x32x4x64x128 := by
    refine ⟨rfl, fun a => ?_⟩
    match a with
    | ⟨0, _⟩ => show k + 1 ≤ 32; omega
    | ⟨1, _⟩ => show 0 + 32 ≤ 32; omega
    | ⟨2, _⟩ => show 0 + 4 ≤ 4; omega
    | ⟨3, _⟩ => show 0 + 64 ≤ 64; omega
    | ⟨4, _⟩ => show 0 + 128 ≤ 128; omega
  rw [Host.dynamicSlice_eq_extractStridedSlice S1x32x4x64x128 X _ ![k, 0, 0, 0, 0] _ hs (by
    intro a
    subst hw
    match a with
    | ⟨0, _⟩ =>
      show (Scf.iv 0#32 1#32 k).toInt = (k : ℤ)
      rw [show Scf.iv 0#32 1#32 k = BitVec.ofNat 32 k by simp [Scf.iv]]
      exact toInt_ofNat_of_lt (by omega)
    | ⟨1, _⟩ => rfl
    | ⟨2, _⟩ => rfl
    | ⟨3, _⟩ => rfl
    | ⟨4, _⟩ => rfl)]
  refine (shapeCast_apply _ _ (ix4 b h t d) (ix5 (0 : Fin 1) b h t d) ?_).trans ?_
  · rw [Shape.rowMajor_val_five, Shape.rowMajor_val_four]
    show ((((0 : ℕ) * 32 + b.val) * 4 + h.val) * 64 + t.val) * 128 + d.val = ((b.val * 4 + h.val) * 64 + t.val) * 128 + d.val
    omega
  · refine extractStridedSlice_apply _ _ _ _ _ ?_
    intro a
    match a with
    | ⟨0, _⟩ => show k = k + 0; omega
    | ⟨1, _⟩ => show b.val = 0 + b.val; omega
    | ⟨2, _⟩ => show h.val = 0 + h.val; omega
    | ⟨3, _⟩ => show t.val = 0 + t.val; omega
    | ⟨4, _⟩ => show d.val = 0 + d.val; omega

/-- A chunk put at the place the loop's counter names. -/
theorem put_apply {α : Type} (X : S32x32x4x64x128.Idx → α) (U : S1x32x4x64x128.Idx → α) (w : S_.Idx → BitVec 32) (k : ℕ) (hk : k < 32)
    (hw : w = fun _ => Scf.iv 0#32 1#32 k) (n b : Fin 32) (h : Fin 4) (t : Fin 64) (d : Fin 128) :
    Host.dynamicUpdateSlice X U (fun a => (((![w, constantI S_ 32 0#32, constantI S_ 32 0#32,
        constantI S_ 32 0#32, constantI S_ 32 0#32] : Fin 5 → S_.Idx → BitVec 32)) a (Shape.Idx.first h_S_)).toInt)
        updateFits_S32x32x4x64x128_S1x32x4x64x128 (ix5 n b h t d)
      = if n.val = k then U (ix5 (0 : Fin 1) b h t d) else X (ix5 n b h t d) := by
  have hs : S32x32x4x64x128.Slices ![k, 0, 0, 0, 0] S1x32x4x64x128 := by
    refine ⟨rfl, fun a => ?_⟩
    match a with
    | ⟨0, _⟩ => show k + 1 ≤ 32; omega
    | ⟨1, _⟩ => show 0 + 32 ≤ 32; omega
    | ⟨2, _⟩ => show 0 + 4 ≤ 4; omega
    | ⟨3, _⟩ => show 0 + 64 ≤ 64; omega
    | ⟨4, _⟩ => show 0 + 128 ≤ 128; omega
  have hb := b.isLt
  have hh := h.isLt
  have ht := t.isLt
  have hd := d.isLt
  rw [Host.dynamicUpdateSlice_eq_updateSlice X U _ _ ![k, 0, 0, 0, 0] (by
    intro a
    subst hw
    match a with
    | ⟨0, _⟩ =>
      show (min (max (Scf.iv 0#32 1#32 k).toInt 0) ((32 - 1 : ℕ) : ℤ)).toNat = k
      rw [show Scf.iv 0#32 1#32 k = BitVec.ofNat 32 k by simp [Scf.iv], toInt_ofNat_of_lt (by omega)]
      omega
    | ⟨1, _⟩ => rfl
    | ⟨2, _⟩ => rfl
    | ⟨3, _⟩ => rfl
    | ⟨4, _⟩ => rfl) hs]
  unfold updateSlice
  by_cases hn : n.val = k
  · rw [if_pos hn, dif_pos (show _ from fun a => by
      match a with
      | ⟨0, _⟩ => show k ≤ n.val ∧ n.val < k + 1; omega
      | ⟨1, _⟩ => show 0 ≤ b.val ∧ b.val < 0 + 32; omega
      | ⟨2, _⟩ => show 0 ≤ h.val ∧ h.val < 0 + 4; omega
      | ⟨3, _⟩ => show 0 ≤ t.val ∧ t.val < 0 + 64; omega
      | ⟨4, _⟩ => show 0 ≤ d.val ∧ d.val < 0 + 128; omega)]
    refine congrArg U (funext fun a => Fin.ext ?_)
    match a with
    | ⟨0, _⟩ => show n.val - k = 0; omega
    | ⟨1, _⟩ => rfl
    | ⟨2, _⟩ => rfl
    | ⟨3, _⟩ => rfl
    | ⟨4, _⟩ => rfl
  · rw [if_neg hn, dif_neg fun hin => hn (by
      have h0 := hin 0
      change k ≤ n.val ∧ n.val < k + 1 at h0
      omega)]

/-- The two ways to write an index of four coordinates agree. -/
theorem ix4_eq {n0 n1 n2 n3 : ℕ} (a : Fin n0) (b : Fin n1) (c : Fin n2) (d : Fin n3) :
    Idealize.ShloMosaic.ix4 a b c d = ix4 a b c d := ValueIdx.eq_ix4 _

/-- The two ways to write an index of five coordinates agree. -/
theorem ix5_eq {n0 n1 n2 n3 n4 : ℕ} (a : Fin n0) (b : Fin n1) (c : Fin n2) (d : Fin n3) (e : Fin n4) :
    Idealize.ShloMosaic.ix5 a b c d e = ix5 a b c d e := ValueIdx.eq_ix5 _

/-- The product that adds up the keys against the values over the rows of a chunk. -/
theorem dotKV_apply (X : FVec Ideal S32x4x64x128 .f32) (Y : FVec Ideal S32x4x64x128 .f32) (b : Fin 32) (h : Fin 4) (d e : Fin 128) :
    Host.dotGeneral dot_S32x4x64x128_S32x4x64x128_S32x4x128x128_2_2_3_3_01_01 none X Y (ix4 b h d e)
      = ∑ t : Fin 64, X (ix4 b h t d) * Y (ix4 b h t e) := by
  pointwise
  simp only [ix4_eq, ix5_eq]

/-- The product of the weights of a chunk with its values. -/
theorem dotAV_apply (X : FVec Ideal S32x4x64x64 .f32) (Y : FVec Ideal S32x4x64x128 .f32) (b : Fin 32) (h : Fin 4) (t : Fin 64) (e : Fin 128) :
    Host.dotGeneral dot_S32x4x64x64_S32x4x64x128_S32x4x64x128_3_2_2_3_01_01 none X Y (ix4 b h t e)
      = ∑ s : Fin 64, X (ix4 b h t s) * Y (ix4 b h s e) := by
  pointwise
  simp only [ix4_eq, ix5_eq]

/-- The product of the queries with the state. -/
theorem dotQS_apply (X : FVec Ideal S32x4x64x128 .f32) (Y : FVec Ideal S32x4x128x128 .f32) (b : Fin 32) (h : Fin 4) (t : Fin 64) (e : Fin 128) :
    Host.dotGeneral dot_S32x4x64x128_S32x4x128x128_S32x4x64x128_3_2_2_3_01_01 none X Y (ix4 b h t e)
      = ∑ d : Fin 128, X (ix4 b h t d) * Y (ix4 b h d e) := by
  pointwise
  simp only [ix4_eq, ix5_eq]

/-- The sum over the last axis. -/
theorem sum4_apply (X : FVec Ideal S32x4x64x64x128 .f32) (b : Fin 32) (h : Fin 4) (t s : Fin 64) :
    Host.reduceAdd X (constant (F := Ideal) S_ .f32 0x00000000#32) reducesTo_S32x4x64x64x128_S32x4x64x64_d4 h_S_ (ix4 b h t s)
      = ∑ d : Fin 128, X (ix5 b h t s d) := by
  pointwise
  simp only [ix4_eq, ix5_eq]

/-- Adding up a list from the left. -/
theorem foldl_add_eq {ι : Type} (l : List ι) (g : ι → EReal) (a : EReal) : l.foldl (fun r n => r + g n) a = a + (l.map g).sum := by
  induction l generalizing a with
  | nil => simp
  | cons x l ih => simp [ih, add_assoc]

/-- The rows of a window that begins so many rows before the array add up to the rows up to its last one. -/
theorem sum_win (N j : ℕ) (hj : j < N) (g : ℕ → ℝ) :
    ∑ n ∈ range N, (if N - 1 ≤ j + n then g (j + n - (N - 1)) else 0) = ∑ i ∈ range (j + 1), g i := by
  obtain ⟨w, hw⟩ := Nat.exists_eq_add_of_le (show j + 1 ≤ N by omega)
  rw [show N = w + (j + 1) by omega, sum_range_add (n := w) (m := j + 1)]
  rw [sum_eq_zero (s := range w) (fun x hx => if_neg (by have := mem_range.mp hx; omega)), zero_add]
  exact sum_congr rfl fun x hx => by
    rw [if_pos (by omega), show j + (w + x) - (w + (j + 1) - 1) = x by omega]

/-- The running sum down the rows of a chunk. -/
theorem cumsum_apply (X : FVec Ideal S32x4x64x128 .f32) (b : Fin 32) (h : Fin 4) (t : Fin 64) (d : Fin 128) (x : ℕ → ℝ)
    (hX : ∀ s : Fin 64, X (ix4 b h s d) = ((x s.val : ℝ) : EReal)) :
    Host.reduceWindowAdd ![1, 1, 64, 1] ![1, 1, 1, 1] ![0, 0, 63, 0] ![0, 0, 0, 0] X
        (broadcastInDim S_ ![] bcast_S_S_ (constant (F := Ideal) S_ .f32 0x00000000#32))
        reduceWindows_S32x4x64x128_S32x4x64x128_w1s1p0_0_w1s1p0_0_w64s1p63_0_w1s1p0_0 h_S_ (ix4 b h t d)
      = ((∑ i ∈ range (t.val + 1), x i : ℝ) : EReal) := by
  have ht := t.isLt
  have hd := d.isLt
  have hb := b.isLt
  have hh := h.isLt
  rw [← sum_win 64 t.val t.isLt x, ← coe_sum_range]
  have hv : broadcastInDim S_ ![] bcast_S_S_ (constant (F := Ideal) S_ .f32 0x00000000#32) (Shape.Idx.first h_S_) = (0 : EReal) := by
    rw [broadcastInDim_scalar_apply]
    show Ideal.ofBits .f32 0x00000000#32 = 0
    simp
  have hN : (⟨4, ![1, 1, 64, 1]⟩ : Shape).numel = 64 := by decide
  have hW : ∀ n : Fin (⟨4, ![1, 1, 64, 1]⟩ : Shape).numel, (⟨4, ![1, 1, 64, 1]⟩ : Shape).rowMajor.symm n = ix4 (0 : Fin 1) (0 : Fin 1) (n.cast hN) (0 : Fin 1) := fun n => by
    rw [Equiv.symm_apply_eq]
    apply Fin.ext
    rw [Shape.rowMajor_val_four]
    show n.val = ((0 * 1 + 0) * 64 + n.val) * 1 + 0
    omega
  unfold Host.reduceWindowAdd
  rw [Ideal.hostReduceWindowAdd_def]
  unfold Ideal.hostReduceWindowAdd Host.reduceWindow
  refine (foldl_add_eq _ _ _).trans ?_
  rw [← Fin.sum_univ_def, hv, zero_add]
  refine Fintype.sum_equiv (finCongr hN) _ _ fun n => ?_
  have hn := (n.cast hN).isLt
  change n.val < 64 at hn
  rw [finCongr_apply, Fin.val_cast]
  dsimp only
  split
  · next hin =>
    have h2 := hin 2
    rw [hW n] at h2
    change 63 ≤ t.val * 1 + n.val ∧ t.val * 1 + n.val - 63 < 64 at h2
    rw [if_pos (by omega)]
    refine (congrArg X (funext fun a => Fin.ext ?_)).trans (hX ⟨t.val + n.val - 63, by omega⟩)
    have hw : ∀ a, ((⟨4, ![1, 1, 64, 1]⟩ : Shape).rowMajor.symm n a).val = (ix4 (0 : Fin 1) (0 : Fin 1) (n.cast hN) (0 : Fin 1) a).val :=
      fun a => by rw [hW n]
    match a with
    | ⟨0, _⟩ => show b.val * 1 + ((⟨4, ![1, 1, 64, 1]⟩ : Shape).rowMajor.symm n 0).val - 0 = b.val; rw [hw]; show b.val * 1 + 0 - 0 = b.val; omega
    | ⟨1, _⟩ => show h.val * 1 + ((⟨4, ![1, 1, 64, 1]⟩ : Shape).rowMajor.symm n 1).val - 0 = h.val; rw [hw]; show h.val * 1 + 0 - 0 = h.val; omega
    | ⟨2, _⟩ =>
      show t.val * 1 + ((⟨4, ![1, 1, 64, 1]⟩ : Shape).rowMajor.symm n 2).val - 63 = t.val + n.val - 63
      rw [hw]
      show t.val * 1 + n.val - 63 = t.val + n.val - 63
      omega
    | ⟨3, _⟩ => show d.val * 1 + ((⟨4, ![1, 1, 64, 1]⟩ : Shape).rowMajor.symm n 3).val - 0 = d.val; rw [hw]; show d.val * 1 + 0 - 0 = d.val; omega
  · next hin =>
    rw [if_neg fun hle => hin fun a => by
      rw [hW n]
      match a with
      | ⟨0, _⟩ => show 0 ≤ b.val * 1 + 0 ∧ b.val * 1 + 0 - 0 < 32; omega
      | ⟨1, _⟩ => show 0 ≤ h.val * 1 + 0 ∧ h.val * 1 + 0 - 0 < 4; omega
      | ⟨2, _⟩ => show 63 ≤ t.val * 1 + n.val ∧ t.val * 1 + n.val - 63 < 64; omega
      | ⟨3, _⟩ => show 0 ≤ d.val * 1 + 0 ∧ d.val * 1 + 0 - 0 < 128; omega]
    exact EReal.coe_zero.symm

end Cert.ReferenceIdeal.Hgrn
-- ==== Proof.HgRefStep.lean ====
module

public import proofs.«01_k».proof.Proof.HgRefOps

/-! What the reference's loop carries from chunk to chunk: the state of the recurrence, and the outputs of the chunks
    already done. -/

@[expose] public section

set_option maxRecDepth 16384

noncomputable section

namespace Cert.ReferenceIdeal.Hgrn

open Idealize.ShloMosaic hiding ix1 ix2 ix3 ix4 ix5
open Idealize.ShloMosaic.ValueIdx
open Idealize.ShloMosaic.TcCoe Idealize.SL.Sem Idealize.ShloMosaic.StableHlo
open Cert.ReferenceIdeal Cert.ReferenceIdeal.Gen Cert.ReferenceIdeal.Value
open Cert.Hgrn Finset

/-- The stack of chunks holds the real numbers `x` by batch, head, row and column. -/
def Q5 (X : S32x32x4x64x128.Idx → EReal) (x : ℕ → ℕ → ℕ → ℕ → ℝ) : Prop :=
  ∀ (n b : Fin 32) (h : Fin 4) (t : Fin 64) (d : Fin 128), X (ix5 n b h t d) = ((x b.val h.val (64 * n.val + t.val) d.val : ℝ) : EReal)

/-- What the loop carries before chunk `k`. -/
structure Scan (V0 : Valuation τ sig (Elt Ideal)) (k : ℕ) (f kk v q : ℕ → ℕ → ℕ → ℕ → ℝ) : Prop where
  e0 : Q5 (V0 (Proc.devRef .tc main_v53_0)) q
  e1 : Q5 (V0 (Proc.devRef .tc main_v53_1)) kk
  e2 : Q5 (V0 (Proc.devRef .tc main_v53_2)) v
  e3 : Q5 (V0 (Proc.devRef .tc main_v53_3)) (fun b h n d => Real.log (f b h n d))
  e4 : ∀ (t s : Fin 64) (u : Fin 1), (V0 (Proc.devRef .tc main_v53_4) : S64x64x1.Idx → BitVec 1) (ix3 t s u) = if s.val ≤ t.val then 1#1 else 0#1
  e5 : V0 (Proc.devRef .tc main_v53_5) = fun _ => Scf.iv 0#32 1#32 k
  e6 : ∀ (b : Fin 32) (h : Fin 4) (d e : Fin 128), (V0 (Proc.devRef .tc main_v53_6) : S32x4x128x128.Idx → EReal) (ix4 b h d e)
    = ((S (f b.val h.val) (kk b.val h.val) (v b.val h.val) (64 * k) d.val e.val : ℝ) : EReal)
  e7 : ∀ (n b : Fin 32) (h : Fin 4) (t : Fin 64) (e : Fin 128), n.val < k →
    (V0 (Proc.devRef .tc main_v53_7) : S32x32x4x64x128.Idx → EReal) (ix5 n b h t e)
    = ((O (f b.val h.val) (kk b.val h.val) (v b.val h.val) (q b.val h.val) (64 * n.val + t.val) e.val : ℝ) : EReal)

section
variable {V0 : Valuation τ sig (Elt Ideal)} {k : ℕ} {f kk v q : ℕ → ℕ → ℕ → ℕ → ℝ} (H : Scan V0 k f kk v q) (hk : k < 32)
include H hk

/-- The chunk's queries, -/
theorem v76_apply (b : Fin 32) (h : Fin 4) (t : Fin 64) (d : Fin 128) :
    (res_main_while0b_v76 V0 : S32x4x64x128.Idx → EReal) (ix4 b h t d) = ((q b.val h.val (64 * k + t.val) d.val : ℝ) : EReal) :=
  (cut_apply _ _ k hk H.e5 b h t d).trans (H.e0 _ _ _ _ _)

/-- its keys, -/
theorem v77_apply (b : Fin 32) (h : Fin 4) (t : Fin 64) (d : Fin 128) :
    (res_main_while0b_v77 V0 : S32x4x64x128.Idx → EReal) (ix4 b h t d) = ((kk b.val h.val (64 * k + t.val) d.val : ℝ) : EReal) :=
  (cut_apply _ _ k hk H.e5 b h t d).trans (H.e1 _ _ _ _ _)

/-- and its values. -/
theorem v78_apply (b : Fin 32) (h : Fin 4) (t : Fin 64) (d : Fin 128) :
    (res_main_while0b_v78 V0 : S32x4x64x128.Idx → EReal) (ix4 b h t d) = ((v b.val h.val (64 * k + t.val) d.val : ℝ) : EReal) :=
  (cut_apply _ _ k hk H.e5 b h t d).trans (H.e2 _ _ _ _ _)

/-- The running sum of the logarithms of the forget gate within the chunk. -/
theorem v80_apply (b : Fin 32) (h : Fin 4) (t : Fin 64) (d : Fin 128) :
    (res_main_while0b_v80 V0 : S32x4x64x128.Idx → EReal) (ix4 b h t d)
      = ((L (f b.val h.val) (64 * k) (t.val + 1) d.val : ℝ) : EReal) :=
  cumsum_apply _ b h t d (fun i => Real.log (f b.val h.val (64 * k + i) d.val)) fun s =>
    (cut_apply _ _ k hk H.e5 b h s d).trans (H.e3 _ _ _ _ _)

/-- The sum of the logarithms over the whole chunk. -/
theorem v100_apply (b : Fin 32) (h : Fin 4) (u : Fin 1) (d : Fin 128) :
    (res_main_while0b_v100 V0 : S32x4x1x128.Idx → EReal) (ix4 b h u d) = ((L (f b.val h.val) (64 * k) 64 d.val : ℝ) : EReal) := by
  refine (extractStridedSlice_apply _ _ _ (ix4 b h u d) (ix4 b h (63 : Fin 64) d) ?_).trans (v80_apply H hk b h 63 d)
  intro a
  match a with
  | ⟨0, _⟩ => show b.val = 0 + b.val; omega
  | ⟨1, _⟩ => show h.val = 0 + h.val; omega
  | ⟨2, _⟩ => show 63 = 63 + u.val; have := u.isLt; omega
  | ⟨3, _⟩ => show d.val = 0 + d.val; omega

/-- The state after the chunk. -/
theorem step6_apply (hf : ∀ b h n d, 0 < f b h n d) (b : Fin 32) (h : Fin 4) (d e : Fin 128) :
    (step_main_v53_6 V0 : S32x4x128x128.Idx → EReal) (ix4 b h d e)
      = ((S (f b.val h.val) (kk b.val h.val) (v b.val h.val) (64 * (k + 1)) d.val e.val : ℝ) : EReal) := by
  rw [show 64 * (k + 1) = 64 * k + 64 by omega, S_chunk _ _ _ (hf b.val h.val)]
  unfold step_main_v53_6
  rw [EReal.coe_add, EReal.coe_mul, ← coe_sum_range]
  refine congrArg₂ (· + ·) (congrArg₂ (· * ·) ?_ (H.e6 b h d e)) ((dotKV_apply _ _ b h d e).trans (sum_congr rfl fun t _ => ?_))
  · refine (broadcastInDim_apply _ _ _ (ix4 b h d e) (ix4 b h d (0 : Fin 1)) fun a => ?_).trans ?_
    · match a with
      | ⟨0, _⟩ => rfl
      | ⟨1, _⟩ => rfl
      | ⟨2, _⟩ => rfl
      | ⟨3, _⟩ => rfl
    refine (broadcastInDim_apply _ _ _ _ (ix3 b h d) fun a => ?_).trans ?_
    · match a with
      | ⟨0, _⟩ => rfl
      | ⟨1, _⟩ => rfl
      | ⟨2, _⟩ => rfl
    refine Eq.trans (congrArg Ideal.exp (shapeCast_apply _ _ (ix3 b h d) (ix4 b h (0 : Fin 1) d) ?_)) ?_
    · rw [Shape.rowMajor_val_four, Shape.rowMajor_val_three]
      show ((b.val * 4 + h.val) * 1 + 0) * 128 + d.val = (b.val * 4 + h.val) * 128 + d.val
      omega
    · rw [v100_apply H hk, Ideal.exp_coe]
  · rw [v78_apply H hk, EReal.coe_mul, EReal.coe_mul]
    refine congrArg (· * _) (congrArg₂ (· * ·) (v77_apply H hk b h t d) ?_)
    refine Eq.trans (congrArg Ideal.exp (congrArg₂ (· - ·) ((broadcastInDim_apply _ _ _ _ (ix4 b h (0 : Fin 1) d) fun a => ?_).trans
      (v100_apply H hk b h 0 d)) (v80_apply H hk b h t d))) ?_
    · match a with
      | ⟨0, _⟩ => rfl
      | ⟨1, _⟩ => rfl
      | ⟨2, _⟩ => rfl
      | ⟨3, _⟩ => rfl
    · rw [← EReal.coe_sub, Ideal.exp_coe]

/-- The weight of row `s` for the output of row `t`, before the sum over the columns. -/
theorem weight_apply (b : Fin 32) (h : Fin 4) (t s : Fin 64) (d : Fin 128) :
    (Host.exp (select (broadcastInDim S32x4x64x64x128 ![2, 3, 4] bcast_S64x64x1_S32x4x64x64x128_2_3_4 (V0 (Proc.devRef .tc main_v53_4)))
        (subf (broadcastInDim S32x4x64x64x128 ![0, 1, 2, 3, 4] bcast_S32x4x64x1x128_S32x4x64x64x128_0_1_2_3_4 (broadcastInDim S32x4x64x1x128 ![0, 1, 2, 4] bcast_S32x4x64x128_S32x4x64x1x128_0_1_2_4 (res_main_while0b_v80 V0)))
          (broadcastInDim S32x4x64x64x128 ![0, 1, 2, 3, 4] bcast_S32x4x1x64x128_S32x4x64x64x128_0_1_2_3_4 (broadcastInDim S32x4x1x64x128 ![0, 1, 3, 4] bcast_S32x4x64x128_S32x4x1x64x128_0_1_3_4 (res_main_while0b_v80 V0))))
        (broadcastInDim S32x4x64x64x128 ![] bcast_S_S32x4x64x64x128 (id (constant (F := Ideal) S_ .f32 0xFF800000#32)))) : FVec Ideal S32x4x64x64x128 .f32) (ix5 b h t s d)
      = (((if s.val ≤ t.val then Real.exp (L (f b.val h.val) (64 * k) (t.val + 1) d.val - L (f b.val h.val) (64 * k) (s.val + 1) d.val) else 0) : ℝ) : EReal) := by
  have hm : (broadcastInDim S32x4x64x64x128 ![2, 3, 4] bcast_S64x64x1_S32x4x64x64x128_2_3_4 (V0 (Proc.devRef .tc main_v53_4) : S64x64x1.Idx → BitVec 1)) (ix5 b h t s d)
      = if s.val ≤ t.val then 1#1 else 0#1 := by
    refine (broadcastInDim_apply _ _ _ _ (ix3 t s (0 : Fin 1)) fun a => ?_).trans (H.e4 t s 0)
    match a with
    | ⟨0, _⟩ => rfl
    | ⟨1, _⟩ => rfl
    | ⟨2, _⟩ => rfl
  refine Eq.trans (congrArg (fun w : BitVec 1 => Ideal.exp (if w = 1 then _ else _)) hm) ?_
  by_cases hst : s.val ≤ t.val
  · rw [if_pos hst, if_pos hst, if_pos (show (1#1 : BitVec 1) = 1 from rfl)]
    refine Eq.trans (congrArg Ideal.exp (congrArg₂ (· - ·) ?_ ?_)) ((congrArg Ideal.exp (EReal.coe_sub _ _).symm).trans (Ideal.exp_coe _))
    · refine (broadcastInDim_apply _ _ _ _ (ix5 b h t (0 : Fin 1) d) fun a => ?_).trans ((broadcastInDim_apply _ _ _ _ (ix4 b h t d) fun a => ?_).trans (v80_apply H hk b h t d))
      · match a with
        | ⟨0, _⟩ => rfl
        | ⟨1, _⟩ => rfl
        | ⟨2, _⟩ => rfl
        | ⟨3, _⟩ => rfl
        | ⟨4, _⟩ => rfl
      · match a with
        | ⟨0, _⟩ => rfl
        | ⟨1, _⟩ => rfl
        | ⟨2, _⟩ => rfl
        | ⟨3, _⟩ => rfl
    · refine (broadcastInDim_apply _ _ _ _ (ix5 b h (0 : Fin 1) s d) fun a => ?_).trans ((broadcastInDim_apply _ _ _ _ (ix4 b h s d) fun a => ?_).trans (v80_apply H hk b h s d))
      · match a with
        | ⟨0, _⟩ => rfl
        | ⟨1, _⟩ => rfl
        | ⟨2, _⟩ => rfl
        | ⟨3, _⟩ => rfl
        | ⟨4, _⟩ => rfl
      · match a with
        | ⟨0, _⟩ => rfl
        | ⟨1, _⟩ => rfl
        | ⟨2, _⟩ => rfl
        | ⟨3, _⟩ => rfl
  · rw [if_neg hst, if_neg hst, if_neg (by decide)]
    refine (congrArg Ideal.exp (broadcastInDim_scalar_apply _ _ _)).trans ?_
    show Ideal.exp (Ideal.ofBits .f32 0xFF800000#32) = _
    rw [show Ideal.ofBits .f32 0xFF800000#32 = ⊥ by simp [Ideal.ofBits, Ideal.ieee], Ideal.exp_bot]
    exact EReal.coe_zero.symm

/-- The outputs after the chunk: its own are put in, the others stay. -/
theorem step7_apply (hf : ∀ b h n d, 0 < f b h n d) (n b : Fin 32) (h : Fin 4) (t : Fin 64) (e : Fin 128) :
    (step_main_v53_7 V0 : S32x32x4x64x128.Idx → EReal) (ix5 n b h t e)
      = if n.val = k then ((O (f b.val h.val) (kk b.val h.val) (v b.val h.val) (q b.val h.val) (64 * k + t.val) e.val : ℝ) : EReal)
        else (V0 (Proc.devRef .tc main_v53_7) : S32x32x4x64x128.Idx → EReal) (ix5 n b h t e) := by
  unfold step_main_v53_7
  refine (put_apply _ _ _ k hk H.e5 n b h t e).trans ?_
  by_cases hn : n.val = k
  swap
  · rw [if_neg hn, if_neg hn]
  rw [if_pos hn, if_pos hn, O_chunk _ _ _ _ (hf b.val h.val) (64 * k) 64 t.val e.val t.isLt]
  refine (broadcastInDim_apply _ _ _ _ (ix4 b h t e) fun a => ?_).trans ?_
  · match a with
    | ⟨0, _⟩ => rfl
    | ⟨1, _⟩ => rfl
    | ⟨2, _⟩ => rfl
    | ⟨3, _⟩ => rfl
  rw [EReal.coe_add, ← coe_sum_range, ← coe_sum_range]
  refine congrArg₂ (· + ·) ((dotAV_apply _ _ b h t e).trans (sum_congr rfl fun s _ => ?_))
    ((dotQS_apply _ _ b h t e).trans (sum_congr rfl fun d _ => ?_))
  · rw [EReal.coe_mul, ← coe_sum_range]
    refine congrArg₂ (· * ·) ((sum4_apply _ b h t s).trans (sum_congr rfl fun d _ => ?_)) (v78_apply H hk b h s e)
    rw [EReal.coe_mul, EReal.coe_mul]
    refine congrArg₂ (· * ·) (congrArg₂ (· * ·) ?_ ?_) (weight_apply H hk b h t s d)
    · refine (broadcastInDim_apply _ _ _ _ (ix5 b h t (0 : Fin 1) d) fun a => ?_).trans ((broadcastInDim_apply _ _ _ _ (ix4 b h t d) fun a => ?_).trans (v76_apply H hk b h t d))
      · match a with
        | ⟨0, _⟩ => rfl
        | ⟨1, _⟩ => rfl
        | ⟨2, _⟩ => rfl
        | ⟨3, _⟩ => rfl
        | ⟨4, _⟩ => rfl
      · match a with
        | ⟨0, _⟩ => rfl
        | ⟨1, _⟩ => rfl
        | ⟨2, _⟩ => rfl
        | ⟨3, _⟩ => rfl
    · refine (broadcastInDim_apply _ _ _ _ (ix5 b h (0 : Fin 1) s d) fun a => ?_).trans ((broadcastInDim_apply _ _ _ _ (ix4 b h s d) fun a => ?_).trans (v77_apply H hk b h s d))
      · match a with
        | ⟨0, _⟩ => rfl
        | ⟨1, _⟩ => rfl
        | ⟨2, _⟩ => rfl
        | ⟨3, _⟩ => rfl
        | ⟨4, _⟩ => rfl
      · match a with
        | ⟨0, _⟩ => rfl
        | ⟨1, _⟩ => rfl
        | ⟨2, _⟩ => rfl
        | ⟨3, _⟩ => rfl
  · rw [EReal.coe_mul, EReal.coe_mul]
    refine congrArg₂ (· * ·) (congrArg₂ (· * ·) (v76_apply H hk b h t d) ?_) (H.e6 b h d e)
    exact (congrArg Ideal.exp (v80_apply H hk b h t d)).trans (Ideal.exp_coe _)

/-- One trip carries the loop from chunk `k` to the next. -/
theorem Scan.succ (hf : ∀ b h n d, 0 < f b h n d) {V1 : Valuation τ sig (Elt Ideal)} (h1 : Agree V1 (STEP V0))
    (h5 : V1 (Proc.devRef .tc main_v53_5) = fun _ => Scf.iv 0#32 1#32 (k + 1)) : Scan V1 (k + 1) f kk v q := by
  refine ⟨?_, ?_, ?_, ?_, ?_, h5, ?_, ?_⟩
  · rw [h1 main_v53_0 (by decide), STEP_main_v53_0]; exact H.e0
  · rw [h1 main_v53_1 (by decide), STEP_main_v53_1]; exact H.e1
  · rw [h1 main_v53_2 (by decide), STEP_main_v53_2]; exact H.e2
  · rw [h1 main_v53_3 (by decide), STEP_main_v53_3]; exact H.e3
  · rw [h1 main_v53_4 (by decide), STEP_main_v53_4]; exact H.e4
  · rw [h1 main_v53_6 (by decide), STEP_main_v53_6]; exact step6_apply H hk hf
  · rw [h1 main_v53_7 (by decide), STEP_main_v53_7]
    intro n b h t e hn
    refine (step7_apply H hk hf n b h t e).trans ?_
    by_cases hnk : n.val = k
    · rw [if_pos hnk, hnk]
    · rw [if_neg hnk]
      exact H.e7 n b h t e (by omega)

end

/-- The loop from its first chunk to its last. -/
theorem scan_all (m : (ℓ : Loc nD τ sig) → Buf (Elt Ideal) ℓ) (c : Dev nD) {f kk v q : ℕ → ℕ → ℕ → ℕ → ℝ} (hf : ∀ b h n d, 0 < f b h n d)
    (H : Scan (entryContents preI m c) 0 f kk v q) : ∀ k, k ≤ 32 → Scan (atK m k c) k f kk v q
  | 0, _ => H
  | k + 1, hk => (scan_all m c hf H k (by omega)).succ (by omega) hf (trip_agree (atK m k c)) (atK_ctr m c (k + 1))

end Cert.ReferenceIdeal.Hgrn
-- ==== Proof.HgRefIn.lean ====
module

public import proofs.«01_k».proof.Proof.HgRefStep

/-! What the reference's loop starts from: the queries, keys, values and forget gates, as real numbers. -/

@[expose] public section

set_option maxRecDepth 100000

noncomputable section

namespace Cert.ReferenceIdeal.Hgrn

open Idealize.ShloMosaic hiding ix1 ix2 ix3 ix4 ix5
open Idealize.ShloMosaic.ValueIdx
open Idealize.ShloMosaic.TcCoe Idealize.SL.Sem Idealize.ShloMosaic.StableHlo
open Cert.ReferenceIdeal Cert.ReferenceIdeal.Gen Cert.ReferenceIdeal.Value
open Cert.Hgrn Finset

/-- The two ways to write an index of two coordinates agree. -/
theorem ix2_eq {n0 n1 : ℕ} (a : Fin n0) (b : Fin n1) : Idealize.ShloMosaic.ix2 a b = ix2 a b := ValueIdx.eq_ix2 _

/-- A band of 512 columns from column `o` on, by batch and row. -/
def band (A0 : FVec Ideal S65536x2048 .f32) (o : ℕ) (hs : S32x2048x2048.Slices ![0, 0, o] S32x2048x512) : FVec Ideal S32x2048x512 .f32 :=
  extractStridedSlice S32x2048x512 ![0, 0, o] (shapeCast S32x2048x2048 A0 shapeCasts_S65536x2048_S32x2048x2048) hs

/-- An entry of a band. -/
theorem band_apply (A0 : FVec Ideal S65536x2048 .f32) (o : ℕ) (hs : S32x2048x2048.Slices ![0, 0, o] S32x2048x512) (ho : o + 512 ≤ 2048)
    (b : Fin 32) (n : Fin 2048) (c : Fin 512) :
    band A0 o hs (ix3 b n c) = A0 (ix2 ⟨2048 * b.val + n.val, by omega⟩ ⟨o + c.val, by omega⟩) := by
  refine (extractStridedSlice_apply _ _ _ (ix3 b n c) (ix3 b n (⟨o + c.val, by omega⟩ : Fin 2048)) fun a => ?_).trans
    (shapeCast_apply _ _ _ _ ?_)
  · match a with
    | ⟨0, _⟩ => show b.val = 0 + b.val; omega
    | ⟨1, _⟩ => show n.val = 0 + n.val; omega
    | ⟨2, _⟩ => rfl
  · rw [Shape.rowMajor_val_two, Shape.rowMajor_val_three]
    show (2048 * b.val + n.val) * 2048 + (o + c.val) = (b.val * 2048 + n.val) * 2048 + (o + c.val)
    omega

/-- An array by batch, row and column, cut into chunks of 64 rows and heads of 128 columns. -/
def chunks (X : FVec Ideal S32x2048x512 .f32) : FVec Ideal S32x32x4x64x128 .f32 :=
  transpose S32x32x4x64x128 [1, 0, 3, 2, 4] (shapeCast S32x32x64x4x128 X shapeCasts_S32x2048x512_S32x32x64x4x128)
    transposes_S32x32x64x4x128_S32x32x4x64x128_1_0_3_2_4

/-- An entry of the array cut into chunks. -/
theorem chunks_apply (X : FVec Ideal S32x2048x512 .f32) (n b : Fin 32) (h : Fin 4) (t : Fin 64) (d : Fin 128) :
    chunks X (ix5 n b h t d) = X (ix3 b ⟨64 * n.val + t.val, by omega⟩ ⟨128 * h.val + d.val, by omega⟩) := by
  refine (transpose_apply _ _ _ (ix5 n b h t d) (ix5 b n t h d) fun a => ?_).trans (shapeCast_apply _ _ _ _ ?_)
  · match a with
    | ⟨0, _⟩ => rfl
    | ⟨1, _⟩ => rfl
    | ⟨2, _⟩ => rfl
    | ⟨3, _⟩ => rfl
    | ⟨4, _⟩ => rfl
  · rw [Shape.rowMajor_val_five, Shape.rowMajor_val_three]
    show (b.val * 2048 + (64 * n.val + t.val)) * 512 + (128 * h.val + d.val)
      = (((b.val * 32 + n.val) * 64 + t.val) * 4 + h.val) * 128 + d.val
    omega

/-- The logistic function of every entry. -/
def sigV (X : FVec Ideal S32x2048x512 .f32) : FVec Ideal S32x2048x512 .f32 :=
  Host.divf (broadcastInDim S32x2048x512 ![] bcast_S_S32x2048x512 (constant (F := Ideal) S_ .f32 0x3F800000#32))
    (addf (broadcastInDim S32x2048x512 ![] bcast_S_S32x2048x512 (constant (F := Ideal) S_ .f32 0x3F800000#32)) (Host.exp (Host.negf X)))

/-- The logistic function of a real entry. -/
theorem sigV_apply (X : FVec Ideal S32x2048x512 .f32) (i : S32x2048x512.Idx) (x : ℝ) (hx : X i = (x : EReal)) :
    sigV X i = ((1 / (1 + Real.exp (0 - x)) : ℝ) : EReal) := by
  have h1 : (broadcastInDim S32x2048x512 ![] bcast_S_S32x2048x512 (constant (F := Ideal) S_ .f32 0x3F800000#32)) i = ((1 : ℝ) : EReal) := by
    rw [broadcastInDim_scalar_apply]
    show Ideal.ofBits .f32 0x3F800000#32 = _
    rw [Ideal.ofBits_one_f32]; rfl
  show Ideal.div _ (_ + Ideal.exp (- X i)) = _
  rw [h1, hx, ← EReal.coe_neg, Ideal.exp_coe, ← EReal.coe_add, Ideal.div_coe (by positivity), ← EReal.coe_mul, zero_sub]
  congr 1
  ring

/-- The logistic function of an entry, whatever it is. -/
theorem sigV_at (X : FVec Ideal S32x2048x512 .f32) (i : S32x2048x512.Idx) : sigV X i = Ideal.div 1 (1 + Ideal.exp (0 - (X i : EReal))) := by
  have h1 : (broadcastInDim S32x2048x512 ![] bcast_S_S32x2048x512 (constant (F := Ideal) S_ .f32 0x3F800000#32)) i = (1 : EReal) := by
    rw [broadcastInDim_scalar_apply]
    show Ideal.ofBits .f32 0x3F800000#32 = _
    rw [Ideal.ofBits_one_f32]
  show Ideal.div _ (_ + Ideal.exp (- X i)) = _
  rw [h1, zero_sub]

/-- The largest of the two layers' logits. -/
def mxV (A1 : FVec Ideal S2x512 .f32) : FVec Ideal S512 .f32 :=
  maximumf (broadcastInDim S512 ![] bcast_S_S512 (constant (F := Ideal) S_ .f32 0xFF800000#32))
    (Host.reduce FloatOps.maximumf A1 (constant (F := Ideal) S_ .f32 0xFF800000#32) reducesTo_S2x512_S512_d0 h_S_)

/-- The constant is minus infinity. -/
theorem neg_inf : Ideal.ofBits .f32 0xFF800000#32 = ⊥ := by simp [Ideal.ofBits, Ideal.ieee]

/-- The largest logit, as a real number. -/
theorem mxV_apply (A1 : FVec Ideal S2x512 .f32) (l : ℕ → ℕ → ℝ) (hl : IsR A1 l) (c : Fin 512) :
    mxV A1 (ix1 c) = ((l 0 c.val ⊔ l 1 c.val : ℝ) : EReal) := by
  have h1 : Host.reduce FloatOps.maximumf A1 (constant (F := Ideal) S_ .f32 0xFF800000#32) reducesTo_S2x512_S512_d0 h_S_ (ix1 c)
      = A1 (ix2 0 c) ⊔ A1 (ix2 1 c) := by
    pointwise
    rw [show (univ : Finset (Fin 2)) = {0, 1} from rfl, fold_insert (by decide), fold_singleton, neg_inf, max_bot_right]
    simp only [ix2_eq]
  show _ ⊔ _ = _
  rw [h1, broadcastInDim_scalar_apply]
  show Ideal.ofBits .f32 0xFF800000#32 ⊔ _ = _
  rw [neg_inf, bot_sup_eq, hl 0 c, hl 1 c]
  exact (EReal.coe_strictMono.monotone.map_max).symm

/-- A row for every layer, from one row. -/
def rowsV (X : FVec Ideal S512 .f32) : FVec Ideal S2x512 .f32 :=
  broadcastInDim S2x512 ![0, 1] bcast_S1x512_S2x512_0_1 (broadcastInDim S1x512 ![1] bcast_S512_S1x512_1 X)

/-- An entry of the rows. -/
theorem rowsV_apply (X : FVec Ideal S512 .f32) (r : Fin 2) (c : Fin 512) : rowsV X (ix2 r c) = X (ix1 c) := by
  refine (broadcastInDim_apply _ _ _ _ (ix2 (0 : Fin 1) c) fun a => ?_).trans (broadcastInDim_apply _ _ _ _ (ix1 c) fun a => ?_)
  · match a with
    | ⟨0, _⟩ => rfl
    | ⟨1, _⟩ => rfl
  · match a with
    | ⟨0, _⟩ => rfl

/-- The exponentials of the logits. -/
def exV (A1 : FVec Ideal S2x512 .f32) : FVec Ideal S2x512 .f32 := Host.exp (subf A1 (rowsV (mxV A1)))

/-- The softmax of the logits over the layers. -/
def smV (A1 : FVec Ideal S2x512 .f32) : FVec Ideal S2x512 .f32 :=
  Host.divf (exV A1) (rowsV (Host.reduceAdd (exV A1) (constant (F := Ideal) S_ .f32 0x00000000#32) reducesTo_S2x512_S512_d0 h_S_))

/-- The softmax as a real number. -/
def smR (l : ℕ → ℕ → ℝ) (r c : ℕ) : ℝ :=
  Real.exp (l r c - l 0 c ⊔ l 1 c) / (Real.exp (l 0 c - l 0 c ⊔ l 1 c) + Real.exp (l 1 c - l 0 c ⊔ l 1 c))

/-- An exponential, as a real number. -/
theorem exV_apply (A1 : FVec Ideal S2x512 .f32) (l : ℕ → ℕ → ℝ) (hl : IsR A1 l) (r : Fin 2) (c : Fin 512) :
    exV A1 (ix2 r c) = ((Real.exp (l r.val c.val - l 0 c.val ⊔ l 1 c.val) : ℝ) : EReal) := by
  show Ideal.exp (A1 (ix2 r c) - rowsV (mxV A1) (ix2 r c)) = _
  rw [rowsV_apply, mxV_apply A1 l hl, hl r c, ← EReal.coe_sub, Ideal.exp_coe]

/-- The softmax of real logits. -/
theorem smV_apply (A1 : FVec Ideal S2x512 .f32) (l : ℕ → ℕ → ℝ) (hl : IsR A1 l) (r : Fin 2) (c : Fin 512) :
    smV A1 (ix2 r c) = ((smR l r.val c.val : ℝ) : EReal) := by
  have h1 : Host.reduceAdd (exV A1) (constant (F := Ideal) S_ .f32 0x00000000#32) reducesTo_S2x512_S512_d0 h_S_ (ix1 c)
      = ((Real.exp (l 0 c.val - l 0 c.val ⊔ l 1 c.val) + Real.exp (l 1 c.val - l 0 c.val ⊔ l 1 c.val) : ℝ) : EReal) := by
    have e : Host.reduceAdd (exV A1) (constant (F := Ideal) S_ .f32 0x00000000#32) reducesTo_S2x512_S512_d0 h_S_ (ix1 c)
        = exV A1 (ix2 0 c) + exV A1 (ix2 1 c) := by
      pointwise
      simp only [ix2_eq, Fin.sum_univ_two]
    rw [e, exV_apply A1 l hl, exV_apply A1 l hl, EReal.coe_add]
    rfl
  show Ideal.div (exV A1 (ix2 r c)) (rowsV _ (ix2 r c)) = _
  rw [rowsV_apply, h1, exV_apply A1 l hl, Ideal.div_coe (by positivity), ← EReal.coe_mul, mul_one_div]
  rfl

/-- The running sum over the layers. -/
def cumV (X : FVec Ideal S2x512 .f32) : FVec Ideal S2x512 .f32 :=
  Host.reduceWindowAdd ![2, 1] ![1, 1] ![1, 0] ![0, 0] X (broadcastInDim S_ ![] bcast_S_S_ (constant (F := Ideal) S_ .f32 0x00000000#32))
    reduceWindows_S2x512_S2x512_w2s1p1_0_w1s1p0_0 h_S_

/-- The running sum, as a real number. -/
theorem cumV_apply (X : FVec Ideal S2x512 .f32) (r : Fin 2) (c : Fin 512) (x : ℕ → ℝ)
    (hX : ∀ s : Fin 2, X (ix2 s c) = ((x s.val : ℝ) : EReal)) :
    cumV X (ix2 r c) = ((∑ i ∈ range (r.val + 1), x i : ℝ) : EReal) := by
  have ht := r.isLt
  have hd := c.isLt
  rw [← sum_win 2 r.val r.isLt x, ← coe_sum_range]
  have hv : broadcastInDim S_ ![] bcast_S_S_ (constant (F := Ideal) S_ .f32 0x00000000#32) (Shape.Idx.first h_S_) = (0 : EReal) := by
    rw [broadcastInDim_scalar_apply]
    show Ideal.ofBits .f32 0x00000000#32 = 0
    simp
  have hN : (⟨2, ![2, 1]⟩ : Shape).numel = 2 := by decide
  have hW : ∀ n : Fin (⟨2, ![2, 1]⟩ : Shape).numel, (⟨2, ![2, 1]⟩ : Shape).rowMajor.symm n = ix2 (n.cast hN) (0 : Fin 1) := fun n => by
    rw [Equiv.symm_apply_eq]
    apply Fin.ext
    rw [Shape.rowMajor_val_two]
    show n.val = n.val * 1 + 0
    omega
  unfold cumV Host.reduceWindowAdd
  rw [Ideal.hostReduceWindowAdd_def]
  unfold Ideal.hostReduceWindowAdd Host.reduceWindow
  refine (foldl_add_eq _ _ _).trans ?_
  rw [← Fin.sum_univ_def, hv, zero_add]
  refine Fintype.sum_equiv (finCongr hN) _ _ fun n => ?_
  have hn := (n.cast hN).isLt
  change n.val < 2 at hn
  rw [finCongr_apply, Fin.val_cast]
  dsimp only
  split
  · next hin =>
    have h2 := hin 0
    rw [hW n] at h2
    change 1 ≤ r.val * 1 + n.val ∧ r.val * 1 + n.val - 1 < 2 at h2
    rw [if_pos (by omega)]
    refine (congrArg X (funext fun a => Fin.ext ?_)).trans (hX ⟨r.val + n.val - 1, by omega⟩)
    have hw : ∀ a, ((⟨2, ![2, 1]⟩ : Shape).rowMajor.symm n a).val = (ix2 (n.cast hN) (0 : Fin 1) a).val := fun a => by rw [hW n]
    match a with
    | ⟨0, _⟩ =>
      show r.val * 1 + ((⟨2, ![2, 1]⟩ : Shape).rowMajor.symm n 0).val - 1 = r.val + n.val - 1
      rw [hw]
      show r.val * 1 + n.val - 1 = r.val + n.val - 1
      omega
    | ⟨1, _⟩ => show c.val * 1 + ((⟨2, ![2, 1]⟩ : Shape).rowMajor.symm n 1).val - 0 = c.val; rw [hw]; show c.val * 1 + 0 - 0 = c.val; omega
  · next hin =>
    rw [if_neg fun hle => hin fun a => by
      rw [hW n]
      match a with
      | ⟨0, _⟩ => show 1 ≤ r.val * 1 + n.val ∧ r.val * 1 + n.val - 1 < 2; omega
      | ⟨1, _⟩ => show 0 ≤ c.val * 1 + 0 ∧ c.val * 1 + 0 - 0 < 512; omega]
    exact EReal.coe_zero.symm

/-- The lower bound of the forget gate at this layer. -/
def lbV (A1 : FVec Ideal S2x512 .f32) : FVec Ideal S512 .f32 :=
  shapeCast S512 (extractStridedSlice S1x512 ![1, 0] (subf (cumV (smV A1))
    (broadcastInDim S2x512 ![0, 1] bcast_S1x512_S2x512_0_1 (extractStridedSlice S1x512 ![0, 0] (cumV (smV A1)) slices_S2x512_S1x512_0_0)))
    slices_S2x512_S1x512_1_0) shapeCasts_S1x512_S512

/-- The lower bound, as a real number. -/
theorem lbV_apply (A1 : FVec Ideal S2x512 .f32) (l : ℕ → ℕ → ℝ) (hl : IsR A1 l) (c : Fin 512) :
    lbV A1 (ix1 c) = ((lbR l c.val : ℝ) : EReal) := by
  refine (shapeCast_apply _ _ (ix1 c) (ix2 (0 : Fin 1) c) ?_).trans ((extractStridedSlice_apply _ _ _ _ (ix2 (1 : Fin 2) c) fun a => ?_).trans ?_)
  · rw [Shape.rowMajor_val_two, Shape.rowMajor_val_one]
    show 0 * 512 + c.val = c.val
    omega
  · match a with
    | ⟨0, _⟩ => rfl
    | ⟨1, _⟩ => show c.val = 0 + c.val; omega
  · refine Eq.trans (congrArg₂ (fun a b : EReal => a - b) (cumV_apply _ 1 c (fun i => smR l i c.val) fun s => smV_apply A1 l hl s c)
      ((broadcastInDim_apply _ _ _ _ (ix2 (0 : Fin 1) c) fun a => ?_).trans ((extractStridedSlice_apply _ _ _ _ (ix2 (0 : Fin 2) c) fun a => ?_).trans
        (cumV_apply _ 0 c (fun i => smR l i c.val) fun s => smV_apply A1 l hl s c)))) ?_
    · match a with
      | ⟨0, _⟩ => rfl
      | ⟨1, _⟩ => rfl
    · match a with
      | ⟨0, _⟩ => rfl
      | ⟨1, _⟩ => show c.val = 0 + c.val; omega
    · show ((_ : ℝ) : EReal) - ((_ : ℝ) : EReal) = _
      rw [← EReal.coe_sub]
      congr 1
      show (∑ i ∈ range (1 + 1), smR l i c.val) - ∑ i ∈ range (0 + 1), smR l i c.val = lbR l c.val
      simp only [sum_range_succ, sum_range_zero, zero_add]
      rfl

/-- A row for every batch and row, from one row. -/
def rows3 (X : FVec Ideal S512 .f32) : FVec Ideal S32x2048x512 .f32 :=
  broadcastInDim S32x2048x512 ![0, 1, 2] bcast_S1x1x512_S32x2048x512_0_1_2 (broadcastInDim S1x1x512 ![2] bcast_S512_S1x1x512_2 X)

/-- An entry of the rows. -/
theorem rows3_apply (X : FVec Ideal S512 .f32) (b : Fin 32) (n : Fin 2048) (c : Fin 512) : rows3 X (ix3 b n c) = X (ix1 c) := by
  refine (broadcastInDim_apply _ _ _ _ (ix3 (0 : Fin 1) (0 : Fin 1) c) fun a => ?_).trans (broadcastInDim_apply _ _ _ _ (ix1 c) fun a => ?_)
  · match a with
    | ⟨0, _⟩ => rfl
    | ⟨1, _⟩ => rfl
    | ⟨2, _⟩ => rfl
  · match a with
    | ⟨0, _⟩ => rfl

/-- The forget gate. -/
def fgV (X : FVec Ideal S32x2048x512 .f32) (A1 : FVec Ideal S2x512 .f32) : FVec Ideal S32x2048x512 .f32 :=
  addf (rows3 (lbV A1)) (mulf (rows3 (subf (broadcastInDim S512 ![] bcast_S_S512 (constant (F := Ideal) S_ .f32 0x3F800000#32)) (lbV A1))) (sigV X))

/-- The forget gate, as a real number. -/
theorem fgV_apply (X : FVec Ideal S32x2048x512 .f32) (A1 : FVec Ideal S2x512 .f32) (l : ℕ → ℕ → ℝ) (hl : IsR A1 l) (x : ℕ → ℕ → ℝ)
    (b : Fin 32) (n : Fin 2048) (c : Fin 512) (hx : Ideal.div 1 (1 + Ideal.exp (0 - (X (ix3 b n c) : EReal))) = ((x n.val c.val ⊔ 0 : ℝ) : EReal)) :
    fgV X A1 (ix3 b n c) = ((FR l x n.val c.val : ℝ) : EReal) := by
  show rows3 (lbV A1) (ix3 b n c) + rows3 _ (ix3 b n c) * sigV X (ix3 b n c) = _
  rw [rows3_apply, rows3_apply, sigV_at X _, hx]
  show _ + (broadcastInDim S512 ![] bcast_S_S512 (constant (F := Ideal) S_ .f32 0x3F800000#32) (ix1 c) - lbV A1 (ix1 c)) * _ = _
  rw [broadcastInDim_scalar_apply, lbV_apply A1 l hl]
  show _ + (Ideal.ofBits .f32 0x3F800000#32 - _) * _ = _
  rw [Ideal.ofBits_one_f32, ← EReal.coe_one, ← EReal.coe_sub, ← EReal.coe_mul, ← EReal.coe_add]
  rfl

end Cert.ReferenceIdeal.Hgrn
-- ==== Proof.HgNode.lean ====
module

public import proofs.«01_k».proof.Proof.HgFast
public import Idealize.ShloMosaic.Lib.Pipeline.ReadBack

/-! What the blocks hold, the rows given out, and the masks of a chunk. -/

@[expose] public section

set_option maxRecDepth 16384

noncomputable section

namespace Cert.Hgrn

open Idealize.ShloMosaic hiding ix1 ix2 ix3
open Idealize.ShloMosaic.ValueIdx
open Idealize.SL.Sem
open Cert.KernelIdeal Cert.KernelIdeal.Gen
open Finset

/-- Read from the first row and column on. -/
theorem sh_zero (x : ℕ → ℕ → ℝ) : sh 0 0 x = x := by funext r c; simp [sh]

/-- The blocks of one point: rows from `256 * T` on of the query columns, of the logistic of the forget columns and of the value columns, the logits, the triangle of ones. -/
structure Inp (T : ℕ) (x0 x1 x2 : Vec Ideal S256x512 .f32) (x4 : Vec Ideal S2x512 .f32) (x6 : Vec Ideal S256x256 .bf16)
    (X0 X1 X2 l : ℕ → ℕ → ℝ) : Prop where
  h0 : IsR x0 (sh (256 * T) 0 X0)
  h1 : IsR (n := 256) (m := 512) (fun i => (Ideal.div 1 (1 + Ideal.exp (0 - (x1 i : EReal))) : EReal)) (sh (256 * T) 0 (fun n c => X1 n c ⊔ 0))
  h2 : IsR x2 (sh (256 * T) 0 X2)
  h4 : IsR x4 l
  h6 : IsR x6 (fun r c => if c ≤ r ∧ r / 32 = c / 32 then 1 else 0)

/-- A load of a rectangle of a block. -/
theorem IsR.readAt {n m n' m' : ℕ} {g : Memref sig .tc .vmem ⟨2, ![n, m]⟩ .f32} (hg : g.IsWhole) {X : Vec Ideal ⟨2, ![n, m]⟩ .f32}
    {x : ℕ → ℕ → ℝ} (hX : IsR X x) (o p : ℕ)
    (h : ∀ a, (![o, p] : Fin 2 → ℕ) a + (⟨2, ![n', m']⟩ : Shape).size a ≤ (⟨2, ![n, m]⟩ : Shape).size a) :
    IsR (View.readAt (Elt Ideal) g.view (Rect.unit (s := ⟨2, ![n, m]⟩) ![o, p] (⟨2, ![n', m']⟩ : Shape).size h).toLoadRect (hg.unread X)) (sh o p x) := by
  rw [View.readAt_eq_ld, hg.read_unread, View.ld_unit]
  exact IsR.slice (φ := .f32) hX o p _

/-- A load of a whole block. -/
theorem IsR.readAll {n m : ℕ} {g : Memref sig .tc .vmem ⟨2, ![n, m]⟩ .f32} (hg : g.IsWhole) {X : Vec Ideal ⟨2, ![n, m]⟩ .f32}
    {x : ℕ → ℕ → ℝ} (hX : IsR X x)
    (h : ∀ a, (![0, 0] : Fin 2 → ℕ) a + (⟨2, ![n, m]⟩ : Shape).size a ≤ (⟨2, ![n, m]⟩ : Shape).size a) :
    IsR (View.readAt (Elt Ideal) g.view (Rect.unit (s := ⟨2, ![n, m]⟩) ![0, 0] (⟨2, ![n, m]⟩ : Shape).size h).toLoadRect (hg.unread X)) x := by
  rw [Cert.KernelIdeal.Hgrn.readAt_all (F := Ideal) hg (by intro a; fin_cases a <;> rfl)]
  exact hX

/-- The logistic of a whole block, where it is known. -/
theorem IsR.sigAll {n m : ℕ} {g : Memref sig .tc .vmem ⟨2, ![n, m]⟩ .f32} (hg : g.IsWhole) {X : Vec Ideal ⟨2, ![n, m]⟩ .f32}
    {x : ℕ → ℕ → ℝ} (hX : IsR (n := n) (m := m) (fun i => (Ideal.div 1 (1 + Ideal.exp (0 - (X i : EReal))) : EReal)) x)
    (h : ∀ a, (![0, 0] : Fin 2 → ℕ) a + (⟨2, ![n, m]⟩ : Shape).size a ≤ (⟨2, ![n, m]⟩ : Shape).size a) :
    IsR (divf (broadcast ⟨2, ![n, m]⟩ (Scalar.ofBits (F := Ideal) .f32 0x3F800000#32)) (addf (broadcast ⟨2, ![n, m]⟩ (Scalar.ofBits (F := Ideal) .f32 0x3F800000#32))
      (Idealize.ShloMosaic.exp (subf (broadcast ⟨2, ![n, m]⟩ (Scalar.ofBits (F := Ideal) .f32 0x00000000#32))
        (View.readAt (Elt Ideal) g.view (Rect.unit (s := ⟨2, ![n, m]⟩) ![0, 0] (⟨2, ![n, m]⟩ : Shape).size h).toLoadRect (hg.unread X)))))) x := by
  rw [Cert.KernelIdeal.Hgrn.readAt_all (F := Ideal) hg (by intro a; fin_cases a <;> rfl)]
  intro r c
  refine Eq.trans ?_ (hX r c)
  show Ideal.div (Ideal.ofBits .f32 0x3F800000#32) (Ideal.ofBits .f32 0x3F800000#32 + Ideal.exp (Ideal.ofBits .f32 0x00000000#32 - X (ix2 r c))) = _
  rw [Ideal.ofBits_one_f32, Ideal.ofBits_zero_f32]

/-- A load of a whole block. -/
theorem IsR.readAllB {n m : ℕ} {g : Memref sig .tc .vmem ⟨2, ![n, m]⟩ .bf16} (hg : g.IsWhole) {X : Vec Ideal ⟨2, ![n, m]⟩ .bf16}
    {x : ℕ → ℕ → ℝ} (hX : IsR X x)
    (h : ∀ a, (![0, 0] : Fin 2 → ℕ) a + (⟨2, ![n, m]⟩ : Shape).size a ≤ (⟨2, ![n, m]⟩ : Shape).size a) :
    IsR (View.readAt (Elt Ideal) g.view (Rect.unit (s := ⟨2, ![n, m]⟩) ![0, 0] (⟨2, ![n, m]⟩ : Shape).size h).toLoadRect (hg.unread X)) x := by
  rw [Cert.KernelIdeal.Hgrn.readAt_all (F := Ideal) hg (by intro a; fin_cases a <;> rfl)]
  exact hX

/-- A load of one head's matrix of the state. -/
theorem IsR3.readAt {g : Memref sig .tc .vmem S4x128x128 .f32} (hg : g.IsWhole) {X : Vec Ideal S4x128x128 .f32} {x : ℕ → ℕ → ℝ} (j : Fin 4)
    (hX : ∀ e d : Fin 128, X (ix3 j e d) = ((x e.val d.val : ℝ) : EReal))
    (h : ∀ a, (![j.val, 0, 0] : Fin 3 → ℕ) a + S1x128x128.size a ≤ S4x128x128.size a) :
    IsR3 (View.readAt (Elt Ideal) g.view (Rect.unit (s := S4x128x128) ![j.val, 0, 0] S1x128x128.size h).toLoadRect (hg.unread X)) x := by
  rw [View.readAt_eq_ld, hg.read_unread, View.ld_unit]
  intro e d
  refine (extractStridedSlice_apply (s := S4x128x128) (t := S1x128x128) _ X _ _ (ix3 j e d) ?_).trans (hX e d)
  · intro a; match a with
    | ⟨0, _⟩ => rfl
    | ⟨1, _⟩ => exact (Nat.zero_add _).symm
    | ⟨2, _⟩ => exact (Nat.zero_add _).symm

/-- An entry given out: the head's row divided by its root mean square, times the weight, times the gated `g`. -/
def finE (o : ℕ → ℝ) (e : ℕ) (w g : EReal) : EReal :=
  ((o e : ℝ) : EReal) * Ideal.rsqrt (Ideal.div (∑ d : Fin 128, ((o d.val : ℝ) : EReal) * ((o d.val : ℝ) : EReal)) (Ideal.ofBits .f32 0x43000000#32)
      + Ideal.ofBits .f32 0x358637BD#32) * w
    * (g * Ideal.div (Ideal.ofBits .f32 0x3F800000#32) (Ideal.ofBits .f32 0x3F800000#32 + Ideal.exp (Ideal.ofBits .f32 0x00000000#32 - g)))

/-- An entry given out, as the program computes it. -/
theorem fin_apply {n : ℕ} {o : FVec Ideal ⟨2, ![n, 128]⟩ .f32} {y : ℕ → ℕ → ℝ} (ho : IsR o y) (w : FVec Ideal S1x128 .f32) (g : FVec Ideal ⟨2, ![n, 128]⟩ .f32)
    (hr : (⟨2, ![n, 128]⟩ : Shape).Reduces [1] ⟨1, ![n]⟩) (hc : (⟨1, ![n]⟩ : Shape).ShapeCasts ⟨2, ![n, 1]⟩)
    (hb : (⟨2, ![n, 1]⟩ : Shape).Broadcasts ⟨2, ![n, 128]⟩) (hb' : S1x128.Broadcasts ⟨2, ![n, 128]⟩) (hbt : FTy.bf16.bits < FTy.f32.bits)
    (i : Fin n) (e : Fin 128) :
    truncf .bf16 (mulf (mulf (mulf o (broadcastTo ⟨2, ![n, 128]⟩ (rsqrt (addf
        (divf (shapeCast ⟨2, ![n, 1]⟩ (multiReduction .add [1] ⟨1, ![n]⟩ (mulf o o) 0x00000000#32 hr (.inl rfl) rfl) hc)
          (broadcast ⟨2, ![n, 1]⟩ (Scalar.ofBits (F := Ideal) .f32 0x43000000#32)))
        (broadcast ⟨2, ![n, 1]⟩ (Scalar.ofBits (F := Ideal) .f32 0x358637BD#32)))) hb))
        (broadcastTo ⟨2, ![n, 128]⟩ w hb'))
      (mulf g (divf (broadcast ⟨2, ![n, 128]⟩ (Scalar.ofBits (F := Ideal) .f32 0x3F800000#32))
        (addf (broadcast ⟨2, ![n, 128]⟩ (Scalar.ofBits (F := Ideal) .f32 0x3F800000#32))
          (Idealize.ShloMosaic.exp (subf (broadcast ⟨2, ![n, 128]⟩ (Scalar.ofBits (F := Ideal) .f32 0x00000000#32)) g)))))) hbt (ix2 i e)
      = finE (y i.val) e.val (w (ix2 0 e)) (g (ix2 i e)) := by
  have e1 : ∀ k : Fin 128, hr.lift (a := 1) (ix1 i) k = ix2 i k := fun k => by
    funext a; match a with
    | ⟨0, _⟩ => rfl
    | ⟨1, _⟩ => rfl
  have e2 : multiReduction .add [1] ⟨1, ![n]⟩ (mulf o o) 0x00000000#32 hr (.inl rfl) rfl (ix1 i)
      = ∑ d : Fin 128, ((y i.val d.val : ℝ) : EReal) * ((y i.val d.val : ℝ) : EReal) :=
    (Ideal.multiReduction_add_single (mulf o o) _ hr (.inl rfl) rfl (ix1 i)).trans (Fintype.sum_congr _ _ fun k => by
      refine (congrArg (mulf o o) (e1 k)).trans ?_
      exact congrArg₂ (fun a b : EReal => a * b) (ho i k) (ho i k))
  have e3 : o (ix2 i e) = ((y i.val e.val : ℝ) : EReal) := ho i e
  show (o (ix2 i e) * broadcastTo ⟨2, ![n, 128]⟩ _ hb (ix2 i e)) * broadcastTo ⟨2, ![n, 128]⟩ w _ (ix2 i e) * _ = _
  rw [broadcastTo_apply w _ _ (ix2 0 e) (by intro a; match a with | ⟨0, _⟩ => rfl | ⟨1, _⟩ => rfl),
    broadcastTo_apply _ hb _ (ix2 i 0) (by intro a; match a with | ⟨0, _⟩ => (have := i.isLt; show i.val = if n = 1 then 0 else i.val; split <;> omega) | ⟨1, _⟩ => rfl)]
  show o (ix2 i e) * Ideal.rsqrt (Ideal.div (shapeCast ⟨2, ![n, 1]⟩ _ hc (ix2 i 0)) _ + _) * _ * _ = _
  rw [shapeCast_apply _ hc _ (ix1 i) (by rw [Shape.rowMajor_val_one, Shape.rowMajor_val_two]; show i.val = i.val * 1 + 0; omega), e3]
  exact congrArg (fun s => ((y i.val e.val : ℝ) : EReal) * Ideal.rsqrt (Ideal.div s (Ideal.ofBits .f32 0x43000000#32)
      + Ideal.ofBits .f32 0x358637BD#32) * w (ix2 0 e)
    * (g (ix2 i e) * Ideal.div (Ideal.ofBits .f32 0x3F800000#32) (Ideal.ofBits .f32 0x3F800000#32 + Ideal.exp (Ideal.ofBits .f32 0x00000000#32 - g (ix2 i e))))) e2

/-! ### The masks -/

/-- A coordinate's chunk, as the program's words compute it. -/
def fdivW (d x : BitVec 32) : BitVec 32 :=
  Scalar.select (IntOp.andi (IntOp.cmpi .ne (IntOp.subi ((IntOp.cmpi .sgt x 0#32).setWidth 32) ((IntOp.cmpi .slt x 0#32).setWidth 32)) 1#32)
    (IntOp.cmpi .ne (IntOp.remsi .vector x d) 0#32)) (IntOp.subi (IntOp.divsi .vector x d) 1#32) (IntOp.divsi .vector x d)

/-- Division by 32, word by word. -/
theorem fdivW_32 : ∀ r : Fin 256, fdivW 32#32 (BitVec.ofNat 32 r.val) = BitVec.ofNat 32 (r.val / 32) := by decide +kernel
/-- Division by 64, word by word. -/
theorem fdivW_64 : ∀ r : Fin 256, fdivW 64#32 (BitVec.ofNat 32 r.val) = BitVec.ofNat 32 (r.val / 64) := by decide +kernel

/-- Both bits are set. -/
theorem andW (a b : BitVec 1) : IntOp.andi a b = 1#1 ↔ a = 1#1 ∧ b = 1#1 := by revert a b; decide
/-- Equality of two small words is that of their numbers. -/
theorem eqW (a b : ℕ) (ha : a < 256) (hb : b < 256) : IntOp.cmpi .eq (BitVec.ofNat 32 a) (BitVec.ofNat 32 b) = 1#1 ↔ a = b := by
  word_cmp
/-- So is their order, -/
theorem sleW (a b : ℕ) (ha : a < 256) (hb : b < 256) : IntOp.cmpi .sle (BitVec.ofNat 32 a) (BitVec.ofNat 32 b) = 1#1 ↔ a ≤ b := by
  word_cmp
/-- and their strict order. -/
theorem sgtW (a b : ℕ) (ha : a < 256) (hb : b < 256) : IntOp.cmpi .sgt (BitVec.ofNat 32 a) (BitVec.ofNat 32 b) = 1#1 ↔ b < a := by
  word_cmp

/-- The mask where both hold. -/
theorem isM_and {M N : IVec S256x256 1} {p q : ℕ → ℕ → Prop} (hM : IsM M p) (hN : IsM N q) : IsM (andi M N) (fun r s => p r s ∧ q r s) := by
  intro r s
  show IntOp.andi (M (ix2 r s)) (N (ix2 r s)) = 1#1 ↔ _
  rw [andW, hM, hN]

/-- Each word of the array is a number of its row and column. -/
def IsW (W : IVec S256x256 32) (f : ℕ → ℕ → ℕ) : Prop :=
  ∀ r s : Fin 256, W (ix2 r s) = BitVec.ofNat 32 (f r.val s.val) ∧ f r.val s.val < 256

/-- The mask of equal numbers, -/
theorem isM_eq {V W : IVec S256x256 32} {f g : ℕ → ℕ → ℕ} (hV : IsW V f) (hW : IsW W g) : IsM (cmpi .eq V W) (fun r s => f r s = g r s) := by
  intro r s
  show IntOp.cmpi .eq (V (ix2 r s)) (W (ix2 r s)) = 1#1 ↔ _
  rw [(hV r s).1, (hW r s).1, eqW _ _ (hV r s).2 (hW r s).2]
/-- of numbers in order, -/
theorem isM_sle {V W : IVec S256x256 32} {f g : ℕ → ℕ → ℕ} (hV : IsW V f) (hW : IsW W g) : IsM (cmpi .sle V W) (fun r s => f r s ≤ g r s) := by
  intro r s
  show IntOp.cmpi .sle (V (ix2 r s)) (W (ix2 r s)) = 1#1 ↔ _
  rw [(hV r s).1, (hW r s).1, sleW _ _ (hV r s).2 (hW r s).2]
/-- and in strict order. -/
theorem isM_sgt {V W : IVec S256x256 32} {f g : ℕ → ℕ → ℕ} (hV : IsW V f) (hW : IsW W g) : IsM (cmpi .sgt V W) (fun r s => g r s < f r s) := by
  intro r s
  show IntOp.cmpi .sgt (V (ix2 r s)) (W (ix2 r s)) = 1#1 ↔ _
  rw [(hV r s).1, (hW r s).1, sgtW _ _ (hV r s).2 (hW r s).2]

/-- The row's number. -/
theorem isW_row (h : S256x256.Iotas Kind.tc 32 [0]) : IsW (iota Kind.tc S256x256 32 [0] h) (fun r _ => r) := by
  intro r s
  refine ⟨?_, r.isLt⟩
  show BitVec.ofNat 32 (0 * 256 + r.val) = _
  rw [Nat.zero_mul, Nat.zero_add]
/-- The column's number. -/
theorem isW_col (h : S256x256.Iotas Kind.tc 32 [1]) : IsW (iota Kind.tc S256x256 32 [1] h) (fun _ s => s) := by
  intro r s
  refine ⟨?_, s.isLt⟩
  show BitVec.ofNat 32 (0 * 256 + s.val) = _
  rw [Nat.zero_mul, Nat.zero_add]

/-- The chunk of 32 a number falls into, -/
theorem isW_div32 {V W : IVec S256x256 32} {f : ℕ → ℕ → ℕ} (hV : IsW V f) (e : ∀ x, W x = fdivW 32#32 (V x)) : IsW W (fun r s => f r s / 32) := by
  intro r s
  have := (hV r s).2
  refine ⟨?_, (Nat.div_le_self _ _).trans_lt this⟩
  rw [e, (hV r s).1]
  exact fdivW_32 ⟨_, this⟩
/-- and the chunk of 64. -/
theorem isW_div64 {V W : IVec S256x256 32} {f : ℕ → ℕ → ℕ} (hV : IsW V f) (e : ∀ x, W x = fdivW 64#32 (V x)) : IsW W (fun r s => f r s / 64) := by
  intro r s
  have := (hV r s).2
  refine ⟨?_, (Nat.div_le_self _ _).trans_lt this⟩
  rw [e, (hV r s).1]
  exact fdivW_64 ⟨_, this⟩

/-! ### What a point leaves -/

section Out
variable (T : ℕ) (F k v q : ℕ → ℕ → ℝ)

/-- The block given out. -/
def G9 (x3 : Vec Ideal S256x512 .f32) (x5 : Vec Ideal S1x128 .f32) : S256x512.Idx → EReal := fun y =>
  finE (fun d => O (hd (128 * ((y 1).val / 128)) F) (hd (128 * ((y 1).val / 128)) k) (hd (128 * ((y 1).val / 128)) v)
    (hd (128 * ((y 1).val / 128)) q) (256 * T + (y 0).val) d) ((y 1).val % 128)
    (x5 (ix2 0 ⟨(y 1).val % 128, Nat.mod_lt _ (by decide)⟩)) (x3 y)

/-- The state after the point, one matrix a head, transposed. -/
def G10 : S4x128x128.Idx → EReal := fun y =>
  ((S (hd (128 * (y 0).val) F) (hd (128 * (y 0).val) k) (hd (128 * (y 0).val) v) (256 * (T + 1)) (y 2).val (y 1).val : ℝ) : EReal)

variable {T F k v q}

/-- The rows of one head and one chunk of `n` rows are a piece of the block given out. -/
theorem G9_piece {n : ℕ} (b h : ℕ) {y : ℕ → ℕ → ℝ} (x3 : Vec Ideal S256x512 .f32) (x5 : Vec Ideal S1x128 .f32)
    (inb : ∀ a, (![b, 128 * h] : Fin 2 → ℕ) a + (⟨2, ![n, 128]⟩ : Shape).size a ≤ S256x512.size a)
    (hy : ∀ i e, i < n → e < 128 → y i e = O (hd (128 * h) F) (hd (128 * h) k) (hd (128 * h) v) (hd (128 * h) q) (256 * T + (b + i)) e)
    {W : (⟨2, ![n, 128]⟩ : Shape).Idx → EReal} {w : S1x128.Idx → EReal} {g : (⟨2, ![n, 128]⟩ : Shape).Idx → EReal}
    (hw : ∀ e : Fin 128, w (ix2 0 e) = x5 (ix2 0 e))
    (hg : ∀ x, g x = x3 ((Rect.unit (s := S256x512) ![b, 128 * h] (⟨2, ![n, 128]⟩ : Shape).size inb).emb x))
    (hW : ∀ (i : Fin n) (e : Fin 128), W (ix2 i e) = finE (y i.val) e.val (w (ix2 0 e)) (g (ix2 i e)))
    (x : (⟨2, ![n, 128]⟩ : Shape).Idx) :
    W x = G9 T F k v q x3 x5 ((Rect.unit (s := S256x512) ![b, 128 * h] (⟨2, ![n, 128]⟩ : Shape).size inb).emb x) := by
  obtain ⟨i, e, rfl⟩ : ∃ (i : Fin n) (e : Fin 128), x = ix2 i e := ⟨x 0, x 1, ValueIdx.eq_ix2 x⟩
  have e0 : ((Rect.unit (s := S256x512) ![b, 128 * h] (⟨2, ![n, 128]⟩ : Shape).size inb).emb (ix2 i e) 0).val = b + i.val := by
    show b + 1 * i.val = _; omega
  have e1 : ((Rect.unit (s := S256x512) ![b, 128 * h] (⟨2, ![n, 128]⟩ : Shape).size inb).emb (ix2 i e) 1).val = 128 * h + e.val := by
    show 128 * h + 1 * e.val = _; omega
  have he := e.isLt
  rw [hW, hw, hg]
  generalize (Rect.unit (s := S256x512) ![b, 128 * h] (⟨2, ![n, 128]⟩ : Shape).size inb).emb (ix2 i e) = z at e0 e1 ⊢
  unfold G9 finE
  have d1 : (z 1).val / 128 = h := by omega
  have d2 : (z 1).val % 128 = e.val := by omega
  have d3 : (⟨(z 1).val % 128, Nat.mod_lt _ (by decide)⟩ : Fin 128) = e := Fin.ext d2
  rw [d3, d2, d1, e0, hy i.val e.val i.isLt he]
  rw [Fintype.sum_congr _ _ fun d : Fin 128 => by rw [hy i.val d.val i.isLt d.isLt]]

/-- One head's matrix is a piece of the state. -/
theorem G10_piece (h : ℕ) (inb : ∀ a, (![h, 0, 0] : Fin 3 → ℕ) a + S1x128x128.size a ≤ S4x128x128.size a) {W : S1x128x128.Idx → EReal} {y : ℕ → ℕ → ℝ}
    (hW : IsR3 W y)
    (hy : ∀ e d, y e d = S (hd (128 * h) F) (hd (128 * h) k) (hd (128 * h) v) (256 * (T + 1)) d e) (x : S1x128x128.Idx) :
    W x = G10 T F k v ((Rect.unit (s := S4x128x128) ![h, 0, 0] S1x128x128.size inb).emb x) := by
  obtain ⟨i, e, d, rfl⟩ : ∃ (i : Fin 1) (e d : Fin 128), x = ix3 i e d := ⟨x 0, x 1, x 2, ValueIdx.eq_ix3 x⟩
  obtain rfl := Subsingleton.elim 0 i
  rw [hW, hy]
  have e0 : ((Rect.unit (s := S4x128x128) ![h, 0, 0] S1x128x128.size inb).emb (ix3 0 e d) 0).val = h := by
    show h + 1 * 0 = _; omega
  have e1 : ((Rect.unit (s := S4x128x128) ![h, 0, 0] S1x128x128.size inb).emb (ix3 0 e d) 1).val = e.val := by
    show 0 + 1 * e.val = _; omega
  have e2 : ((Rect.unit (s := S4x128x128) ![h, 0, 0] S1x128x128.size inb).emb (ix3 0 e d) 2).val = d.val := by
    show 0 + 1 * d.val = _; omega
  unfold G10
  rw [e0, e1, e2]

end Out

/-- A load of a rectangle of a block, entry by entry. -/
theorem readAt_emb {n m : ℕ} {g : Memref sig .tc .vmem ⟨2, ![n, m]⟩ .f32} (hg : g.IsWhole) (X : Vec Ideal ⟨2, ![n, m]⟩ .f32)
    (off size : Fin 2 → ℕ) (h : ∀ a, off a + size a ≤ (⟨2, ![n, m]⟩ : Shape).size a) (x : (⟨2, size⟩ : Shape).Idx) :
    View.readAt (Elt Ideal) g.view (Rect.unit (s := ⟨2, ![n, m]⟩) off size h).toLoadRect (hg.unread X) x
      = X ((Rect.unit (s := ⟨2, ![n, m]⟩) off size h).emb x) := by
  rw [View.readAt_eq_ld, hg.read_unread]
  rfl

/-- The state before the first point is zero. -/
theorem isR3_zero (f k v : ℕ → ℕ → ℝ) {X : S1x128x128.Idx → EReal} (h : ∀ x, X x = 0) : IsR3 X (fun e d => S f k v (256 * 0) d e) := fun e d => by
  rw [h]; rfl

/-- The weight, as loaded. -/
theorem pay3_eq {g : Memref sig .tc .vmem S1x128 .f32} (hg : g.IsWhole) (X : Vec Ideal S1x128 .f32) :
    k0_pay3 (F := Ideal) (View.readAt (Elt Ideal) g.view (Rect.unit ![0, 0] S1x128.size inb_S1x128_S1x128_0_0).toLoadRect (hg.unread X)) = X := by
  unfold k0_pay3
  rw [Cert.KernelIdeal.Hgrn.readAt_all (F := Ideal) hg (by intro a; fin_cases a <;> rfl)]
  exact shapeCast_self _ _

/-- What is stored of one head's rows is a piece of the block given out. -/
theorem fin_piece {n : ℕ} {T : ℕ} {F k v q : ℕ → ℕ → ℝ} {o : FVec Ideal ⟨2, ![n, 128]⟩ .f32} (b p h : ℕ) (hp : p = 128 * h) {y : ℕ → ℕ → ℝ}
    (ho : IsR o y) (hy : ∀ i e, i < n → e < 128 → y i e = O (hd (128 * h) F) (hd (128 * h) k) (hd (128 * h) v) (hd (128 * h) q) (256 * T + (b + i)) e)
    {g5 : Memref sig .tc .vmem S256x512 .f32} (h5 : g5.IsWhole) (x3 : Vec Ideal S256x512 .f32)
    {g7 : Memref sig .tc .vmem S1x128 .f32} (h7 : g7.IsWhole) (x5 : Vec Ideal S1x128 .f32)
    (inb : ∀ a, (![b, p] : Fin 2 → ℕ) a + (⟨2, ![n, 128]⟩ : Shape).size a ≤ S256x512.size a)
    (hr : (⟨2, ![n, 128]⟩ : Shape).Reduces [1] ⟨1, ![n]⟩) (hc : (⟨1, ![n]⟩ : Shape).ShapeCasts ⟨2, ![n, 1]⟩)
    (hb : (⟨2, ![n, 1]⟩ : Shape).Broadcasts ⟨2, ![n, 128]⟩) (hb' : S1x128.Broadcasts ⟨2, ![n, 128]⟩) (hbt : FTy.bf16.bits < FTy.f32.bits)
    (x : (⟨2, ![n, 128]⟩ : Shape).Idx) :
    truncf .bf16 (mulf (mulf (mulf o (broadcastTo ⟨2, ![n, 128]⟩ (rsqrt (addf
        (divf (shapeCast ⟨2, ![n, 1]⟩ (multiReduction .add [1] ⟨1, ![n]⟩ (mulf o o) 0x00000000#32 hr (.inl rfl) rfl) hc)
          (broadcast ⟨2, ![n, 1]⟩ (Scalar.ofBits (F := Ideal) .f32 0x43000000#32)))
        (broadcast ⟨2, ![n, 1]⟩ (Scalar.ofBits (F := Ideal) .f32 0x358637BD#32)))) hb))
        (broadcastTo ⟨2, ![n, 128]⟩ (k0_pay3 (F := Ideal) (View.readAt (Elt Ideal) g7.view (Rect.unit ![0, 0] S1x128.size inb_S1x128_S1x128_0_0).toLoadRect (h7.unread x5))) hb'))
      (mulf (View.readAt (Elt Ideal) g5.view (Rect.unit (s := S256x512) ![b, p] (⟨2, ![n, 128]⟩ : Shape).size inb).toLoadRect (h5.unread x3))
        (divf (broadcast ⟨2, ![n, 128]⟩ (Scalar.ofBits (F := Ideal) .f32 0x3F800000#32))
        (addf (broadcast ⟨2, ![n, 128]⟩ (Scalar.ofBits (F := Ideal) .f32 0x3F800000#32))
          (Idealize.ShloMosaic.exp (subf (broadcast ⟨2, ![n, 128]⟩ (Scalar.ofBits (F := Ideal) .f32 0x00000000#32))
            (View.readAt (Elt Ideal) g5.view (Rect.unit (s := S256x512) ![b, p] (⟨2, ![n, 128]⟩ : Shape).size inb).toLoadRect (h5.unread x3)))))))) hbt x
      = G9 T F k v q x3 x5 ((Rect.unit (s := S256x512) ![b, p] (⟨2, ![n, 128]⟩ : Shape).size inb).emb x) := by
  subst hp
  exact G9_piece b h x3 x5 inb hy (fun e => congrFun (pay3_eq h7 x5) _) (readAt_emb h5 x3 _ _ _) (fin_apply ho _ _ hr hc hb hb' hbt) x

end Cert.Hgrn

end
-- ==== Proof.HgRefVal.lean ====
module

public import proofs.«01_k».proof.Proof.HgRefIn
public import proofs.«01_k».proof.Proof.HgNode

/-! What the reference of the recurrence computes from finite inputs, as one expression of real numbers. -/

@[expose] public section

set_option maxRecDepth 100000

noncomputable section

namespace Cert.ReferenceIdeal.Hgrn

open Idealize.ShloMosaic hiding ix1 ix2 ix3 ix4 ix5
open Idealize.ShloMosaic.ValueIdx
open Idealize.ShloMosaic.TcCoe Idealize.SL.Sem Idealize.ShloMosaic.StableHlo
open Cert.ReferenceIdeal Cert.ReferenceIdeal.Gen Cert.ReferenceIdeal.Value
open Cert.Hgrn Finset

variable (m : (ℓ : Loc nD τ sig) → Buf (Elt Ideal) ℓ) (c : Dev nD)

/-- The projection handed in. -/
abbrev A0 : FVec Ideal S65536x2048 .f32 := m ((c.tc : Thread nD τ).loc main_arg0)
/-- The logits of the lower bounds. -/
abbrev A1 : FVec Ideal S2x512 .f32 := m ((c.tc : Thread nD τ).loc main_arg1)
/-- The weights of the norm. -/
abbrev A2 : FVec Ideal S2x128 .f32 := m ((c.tc : Thread nD τ).loc main_arg2)

/-- What the scan finds: the gated queries, -/
theorem in0 : entryContents preI m c (Proc.devRef .tc main_v53_0)
    = chunks (mulf (band (A0 m c) 0 slices_S32x2048x2048_S32x2048x512_0_0_0) (sigV (band (A0 m c) 0 slices_S32x2048x2048_S32x2048x512_0_0_0))) := by
  simp only [entryContents, afterL_cons, afterL_nil]
  after_reads_simp
  rfl

/-- the keys, -/
theorem in1 : entryContents preI m c (Proc.devRef .tc main_v53_1)
    = chunks (subf (broadcastInDim S32x2048x512 ![] bcast_S_S32x2048x512 (constant (F := Ideal) S_ .f32 0x3F800000#32))
        (fgV (band (A0 m c) 512 slices_S32x2048x2048_S32x2048x512_0_0_512) (A1 m c))) := by
  simp only [entryContents, afterL_cons, afterL_nil]
  after_reads_simp
  rfl

/-- the values, -/
theorem in2 : entryContents preI m c (Proc.devRef .tc main_v53_2)
    = chunks (band (A0 m c) 1024 slices_S32x2048x2048_S32x2048x512_0_0_1024) := by
  simp only [entryContents, afterL_cons, afterL_nil]
  after_reads_simp
  rfl

/-- the logarithms of the gates, -/
theorem in3 : entryContents preI m c (Proc.devRef .tc main_v53_3)
    = chunks (Host.log (fgV (band (A0 m c) 512 slices_S32x2048x2048_S32x2048x512_0_0_512) (A1 m c))) := by
  simp only [entryContents, afterL_cons, afterL_nil]
  after_reads_simp
  rfl

/-- the mask, -/
theorem in4 : entryContents preI m c (Proc.devRef .tc main_v53_4)
    = broadcastInDim S64x64x1 ![0, 1] bcast_S64x64_S64x64x1_0_1
        (select (cmpi .sge (addi (iotaInDim S64x64 32 0) (broadcastInDim S64x64 ![] bcast_S_S64x64 (constantI S_ 32 0#32))) (iotaInDim S64x64 32 1))
          (broadcastInDim S64x64 ![] bcast_S_S64x64 (constantI S_ 1 1#1)) (broadcastInDim S64x64 ![] bcast_S_S64x64 (constantI S_ 1 0#1))) := by
  simp only [entryContents, afterL_cons, afterL_nil]
  after_reads_simp
  rfl

/-- and a state of zeros. -/
theorem in6 : entryContents preI m c (Proc.devRef .tc main_v53_6)
    = broadcastInDim S32x4x128x128 ![] bcast_S_S32x4x128x128 (constant (F := Ideal) S_ .f32 0x00000000#32) := by
  simp only [entryContents, afterL_cons, afterL_nil]
  after_reads_simp
  rfl

/-- The sum over the last axis. -/
theorem sum3_apply (X : FVec Ideal S32x2048x4x128 .f32) (b : Fin 32) (n : Fin 2048) (h : Fin 4) :
    Host.reduceAdd X (constant (F := Ideal) S_ .f32 0x00000000#32) reducesTo_S32x2048x4x128_S32x2048x4_d3 h_S_ (ix3 b n h)
      = ∑ d : Fin 128, X (ix4 b n h d) := by
  pointwise
  simp only [ix4_eq]

/-- The mask of the rows that come no later. -/
theorem mask_bits : ∀ t s : Fin 64, ((select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1)) : S64x64.Idx → BitVec 1) (ix2 t s) : BitVec 1)
      = if s.val ≤ t.val then 1#1 else 0#1 := by
  decide +kernel

/-- What the arguments hold: real numbers in the columns of the queries and the values, a real logistic in those of the forget gate. -/
structure Args (A0 : FVec Ideal S65536x2048 .f32) (A1 : FVec Ideal S2x512 .f32) (w l : ℕ → ℕ → ℝ) : Prop where
  a0 : ∀ (r : Fin 65536) (k : Fin 2048), k.val < 512 ∨ 1024 ≤ k.val ∧ k.val < 1536 → A0 (ix2 r k) = ((w r.val k.val : ℝ) : EReal)
  a0f : ∀ (r : Fin 65536) (k : Fin 2048), 512 ≤ k.val → k.val < 1024 → Ideal.div 1 (1 + Ideal.exp (0 - (A0 (ix2 r k) : EReal))) = ((w r.val k.val ⊔ 0 : ℝ) : EReal)
  a1 : IsR A1 l

/-- The rows of one batch and the columns of one head, of the band from column `o` on. -/
def xb (w : ℕ → ℕ → ℝ) (o b : ℕ) : ℕ → ℕ → ℝ := sh (2048 * b) o w

/-- One head's columns of the gates of one batch. -/
def seqF (w l : ℕ → ℕ → ℝ) (b h : ℕ) : ℕ → ℕ → ℝ := hd (128 * h) (FR l (xb w 512 b))
def seqK (w l : ℕ → ℕ → ℝ) (b h : ℕ) : ℕ → ℕ → ℝ := hd (128 * h) (KR l (xb w 512 b))
def seqV (w : ℕ → ℕ → ℝ) (b h : ℕ) : ℕ → ℕ → ℝ := hd (128 * h) (xb w 1024 b)
def seqQ (w : ℕ → ℕ → ℝ) (b h : ℕ) : ℕ → ℕ → ℝ := hd (128 * h) (QR (xb w 0 b))

section
variable {m c} {w l : ℕ → ℕ → ℝ} (H : Args (A0 m c) (A1 m c) w l)
include H

/-- An entry of a band, as a real number. -/
theorem band_real (o : ℕ) (hs : S32x2048x2048.Slices ![0, 0, o] S32x2048x512) (ho : o = 0 ∨ o = 1024)
    (b : Fin 32) (n : Fin 2048) (k : Fin 512) :
    band (A0 m c) o hs (ix3 b n k) = ((xb w o b.val n.val k.val : ℝ) : EReal) :=
  (band_apply _ o hs (by omega) b n k).trans (H.a0 _ _ (by show o + k.val < 512 ∨ 1024 ≤ o + k.val ∧ o + k.val < 1536; omega))

/-- The forget gate of an entry, as a real number. -/
theorem fg_real (b : Fin 32) (n : Fin 2048) (k : Fin 512) :
    fgV (band (A0 m c) 512 slices_S32x2048x2048_S32x2048x512_0_0_512) (A1 m c) (ix3 b n k) = ((FR l (xb w 512 b.val) n.val k.val : ℝ) : EReal) :=
  fgV_apply _ _ l H.a1 (xb w 512 b.val) b n k ((congrArg (fun a : EReal => Ideal.div 1 (1 + Ideal.exp (0 - a))) (band_apply _ 512 _ (by omega) b n k)).trans
    (H.a0f _ _ (by show 512 ≤ 512 + k.val; omega) (by show 512 + k.val < 1024; omega)))

/-- What the loop starts from. -/
theorem entry : Scan (entryContents preI m c) 0 (seqF w l) (seqK w l) (seqV w) (seqQ w) := by
  refine ⟨?_, ?_, ?_, ?_, ?_, atK_ctr m c 0, ?_, ?_⟩
  · rw [in0]
    intro n b h t d
    rw [chunks_apply]
    show band _ _ _ _ * sigV _ _ = _
    rw [sigV_apply _ _ _ (band_real H 0 _ (by omega) b _ _), band_real H 0 _ (by omega) b _ _, ← EReal.coe_mul]
    rfl
  · rw [in1]
    intro n b h t d
    rw [chunks_apply]
    show broadcastInDim S32x2048x512 ![] bcast_S_S32x2048x512 (constant (F := Ideal) S_ .f32 0x3F800000#32) _ - fgV _ _ _ = _
    rw [fg_real H, broadcastInDim_scalar_apply]
    show Ideal.ofBits .f32 0x3F800000#32 - _ = _
    rw [Ideal.ofBits_one_f32, ← EReal.coe_one, ← EReal.coe_sub]
    rfl
  · rw [in2]
    intro n b h t d
    rw [chunks_apply]
    exact band_real H 1024 _ (by omega) b _ _
  · rw [in3]
    intro n b h t d
    rw [chunks_apply]
    show Ideal.log (fgV _ _ _) = _
    rw [fg_real H, Ideal.log_coe, if_neg (not_le.mpr (FR_pos _ _ _ _))]
    rfl
  · rw [in4]
    intro t s u
    refine (broadcastInDim_apply _ _ _ _ (ix2 t s) fun a => ?_).trans ?_
    · match a with
      | ⟨0, _⟩ => rfl
      | ⟨1, _⟩ => rfl
    exact mask_bits t s
  · rw [in6]
    intro b h d e
    refine (broadcastInDim_scalar_apply _ _ _).trans ?_
    show Ideal.ofBits .f32 0x00000000#32 = _
    rw [Ideal.ofBits_zero_f32]
    exact EReal.coe_zero.symm
  · intro n b h t e hn
    omega

end

/-- The operations after the loop, of its outputs, the gate's columns and the weights of the norm. -/
def postV (W : FVec Ideal S32x32x4x64x128 .f32) (G : FVec Ideal S32x2048x512 .f32) (A2 : FVec Ideal S2x128 .f32) : FVec Ideal S65536x512 .bf16 :=
  let o : FVec Ideal S32x2048x4x128 .f32 := shapeCast S32x2048x4x128 (transpose S32x32x64x4x128 [1, 0, 3, 2, 4] W transposes_S32x32x4x64x128_S32x32x64x4x128_1_0_3_2_4) shapeCasts_S32x32x64x4x128_S32x2048x4x128
  let g : FVec Ideal S32x2048x4x128 .f32 := shapeCast S32x2048x4x128 G shapeCasts_S32x2048x512_S32x2048x4x128
  truncf .bf16 (shapeCast S65536x512 (mulf
    (mulf (mulf o (broadcastInDim S32x2048x4x128 ![0, 1, 2, 3] bcast_S32x2048x4x1_S32x2048x4x128_0_1_2_3 (Host.rsqrt (addf
        (Host.divf (broadcastInDim S32x2048x4x1 ![0, 1, 2] bcast_S32x2048x4_S32x2048x4x1_0_1_2
            (Host.reduceAdd (mulf o o) (constant (F := Ideal) S_ .f32 0x00000000#32) reducesTo_S32x2048x4x128_S32x2048x4_d3 h_S_))
          (broadcastInDim S32x2048x4x1 ![] bcast_S_S32x2048x4x1 (constant (F := Ideal) S_ .f32 0x43000000#32)))
        (broadcastInDim S32x2048x4x1 ![] bcast_S_S32x2048x4x1 (constant (F := Ideal) S_ .f32 0x358637BD#32))))))
      (broadcastInDim S32x2048x4x128 ![0, 1, 2, 3] bcast_S1x1x1x128_S32x2048x4x128_0_1_2_3 (broadcastInDim S1x1x1x128 ![3] bcast_S128_S1x1x1x128_3
        (shapeCast S128 (extractStridedSlice S1x128 ![1, 0] A2 slices_S2x128_S1x128_1_0) shapeCasts_S1x128_S128))))
    (mulf g (Host.divf (broadcastInDim S32x2048x4x128 ![] bcast_S_S32x2048x4x128 (constant (F := Ideal) S_ .f32 0x3F800000#32))
      (addf (broadcastInDim S32x2048x4x128 ![] bcast_S_S32x2048x4x128 (constant (F := Ideal) S_ .f32 0x3F800000#32)) (Host.exp (Host.negf g))))))
    shapeCasts_S32x2048x4x128_S65536x512) bitsLt_bf16_f32

/-- The result, from the scan's rows. -/
theorem post_eq (m : (ℓ : Loc nD τ sig) → Buf (Elt Ideal) ℓ) (c : Dev nD) :
    finalContents condOps preI bodyI postI 32 m c (Proc.devRef .tc main_v75)
      = postV (atK m 32 c (Proc.devRef .tc main_v53_7)) (band (A0 m c) 1536 slices_S32x2048x2048_S32x2048x512_0_0_1536) (A2 m c) := by
  have h4 : entryContents preI m c (Proc.devRef .tc main_v4) = band (A0 m c) 1536 slices_S32x2048x2048_S32x2048x512_0_0_1536 := by
    simp only [entryContents, afterL_cons, afterL_nil]
    after_reads_simp
    rfl
  have h2 : entryContents preI m c (Proc.devRef .tc main_arg2) = A2 m c := by
    simp only [entryContents, afterL_cons, afterL_nil]
    after_reads_simp
    try rfl
  rw [← h4, ← h2, ← atK_keep m c main_v4 (by decide +kernel) 32, ← atK_keep m c main_arg2 (by decide +kernel) 32,
    ← after_of_writes_sub _ (atK m 32 c) condOps_writes (show main_v4 ∉ condOps_W by decide +kernel),
    ← after_of_writes_sub _ (atK m 32 c) condOps_writes (show main_arg2 ∉ condOps_W by decide +kernel),
    ← after_of_writes_sub _ (atK m 32 c) condOps_writes (show main_v53_7 ∉ condOps_W by decide +kernel)]
  unfold finalContents
  simp only [afterL_cons, afterL_nil]
  after_reads_simp
  rfl

/-- What the kernel and the reference give at a row and a column. -/
def outE (w l : ℕ → ℕ → ℝ) (A0 : (⟨2, ![65536, 2048]⟩ : Shape).Idx → EReal) (A2 : (⟨2, ![2, 128]⟩ : Shape).Idx → EReal) (r k : ℕ) (hr : r < 65536) (hk : k < 512) : EReal :=
  finE (fun e => O (seqF w l (r / 2048) (k / 128)) (seqK w l (r / 2048) (k / 128)) (seqV w (r / 2048) (k / 128)) (seqQ w (r / 2048) (k / 128)) (r % 2048) e)
    (k % 128) (A2 (ix2 (1 : Fin 2) ⟨k % 128, Nat.mod_lt _ (by decide)⟩)) (A0 (ix2 ⟨r, hr⟩ ⟨1536 + k, by omega⟩))

/-- Rounding to a narrower type leaves the value. -/
theorem truncf_at {s : Shape} (X : FVec Ideal s .f32) (h : FTy.bf16.bits < FTy.f32.bits) (i : s.Idx) : truncf .bf16 X h i = X i := rfl

/-- The operations after the loop at a row and a column. -/
theorem postV_apply (W : FVec Ideal S32x32x4x64x128 .f32) (A0 : FVec Ideal S65536x2048 .f32) (A2 : FVec Ideal S2x128 .f32) (w l : ℕ → ℕ → ℝ)
    (hW : ∀ (n b : Fin 32) (h : Fin 4) (t : Fin 64) (e : Fin 128), W (ix5 n b h t e)
      = ((O (seqF w l b.val h.val) (seqK w l b.val h.val) (seqV w b.val h.val) (seqQ w b.val h.val) (64 * n.val + t.val) e.val : ℝ) : EReal))
    (r : Fin 65536) (k : Fin 512) :
    postV W (band A0 1536 slices_S32x2048x2048_S32x2048x512_0_0_1536) A2 (ix2 r k) = outE w l A0 A2 r.val k.val r.isLt k.isLt := by
  have hr := r.isLt
  have hk := k.isLt
  obtain ⟨b, hb⟩ : ∃ b : Fin 32, b.val = r.val / 2048 := ⟨⟨r.val / 2048, by omega⟩, rfl⟩
  obtain ⟨n, hn⟩ : ∃ n : Fin 2048, n.val = r.val % 2048 := ⟨⟨r.val % 2048, by omega⟩, rfl⟩
  obtain ⟨h, hh⟩ : ∃ h : Fin 4, h.val = k.val / 128 := ⟨⟨k.val / 128, by omega⟩, rfl⟩
  obtain ⟨e, he⟩ : ∃ e : Fin 128, e.val = k.val % 128 := ⟨⟨k.val % 128, by omega⟩, rfl⟩
  have ho : ∀ e' : Fin 128, (shapeCast S32x2048x4x128 (transpose S32x32x64x4x128 [1, 0, 3, 2, 4] W transposes_S32x32x4x64x128_S32x32x64x4x128_1_0_3_2_4) shapeCasts_S32x32x64x4x128_S32x2048x4x128) (ix4 b n h e')
      = ((O (seqF w l (r.val / 2048) (k.val / 128)) (seqK w l (r.val / 2048) (k.val / 128)) (seqV w (r.val / 2048) (k.val / 128)) (seqQ w (r.val / 2048) (k.val / 128)) (r.val % 2048) e'.val : ℝ) : EReal) := fun e' => by
    refine (shapeCast_apply _ _ (ix4 b n h e') (ix5 b (⟨n.val / 64, by omega⟩ : Fin 32) (⟨n.val % 64, by omega⟩ : Fin 64) h e') ?_).trans
      ((transpose_apply _ _ _ _ (ix5 (⟨n.val / 64, by omega⟩ : Fin 32) b h (⟨n.val % 64, by omega⟩ : Fin 64) e') fun a => ?_).trans ?_)
    · rw [Shape.rowMajor_val_five, Shape.rowMajor_val_four]
      show (((b.val * 32 + n.val / 64) * 64 + n.val % 64) * 4 + h.val) * 128 + e'.val = ((b.val * 2048 + n.val) * 4 + h.val) * 128 + e'.val
      omega
    · match a with
      | ⟨0, _⟩ => rfl
      | ⟨1, _⟩ => rfl
      | ⟨2, _⟩ => rfl
      | ⟨3, _⟩ => rfl
      | ⟨4, _⟩ => rfl
    · rw [hW, ← hb, ← hh, ← hn]
      show ((O _ _ _ _ (64 * (n.val / 64) + n.val % 64) _ : ℝ) : EReal) = _
      rw [Nat.div_add_mod]
  have hg : (shapeCast S32x2048x4x128 (band A0 1536 slices_S32x2048x2048_S32x2048x512_0_0_1536) shapeCasts_S32x2048x512_S32x2048x4x128) (ix4 b n h e)
      = A0 (ix2 r ⟨1536 + k.val, by omega⟩) := by
    refine (shapeCast_apply _ _ (ix4 b n h e) (ix3 b n k) ?_).trans ((band_apply _ _ _ (by omega) b n k).trans ?_)
    · rw [Shape.rowMajor_val_three, Shape.rowMajor_val_four]
      show (b.val * 2048 + n.val) * 512 + k.val = ((b.val * 2048 + n.val) * 4 + h.val) * 128 + e.val
      omega
    · refine congrArg A0 (congrArg₂ ix2 (Fin.ext ?_) rfl)
      show 2048 * b.val + n.val = r.val
      omega
  have hw2 : (broadcastInDim S32x2048x4x128 ![0, 1, 2, 3] bcast_S1x1x1x128_S32x2048x4x128_0_1_2_3 (broadcastInDim S1x1x1x128 ![3] bcast_S128_S1x1x1x128_3
        (shapeCast S128 (extractStridedSlice S1x128 ![1, 0] A2 slices_S2x128_S1x128_1_0) shapeCasts_S1x128_S128))) (ix4 b n h e)
      = A2 (ix2 (1 : Fin 2) ⟨k.val % 128, Nat.mod_lt _ (by decide)⟩) := by
    refine (broadcastInDim_apply _ _ _ _ (ix4 (0 : Fin 1) (0 : Fin 1) (0 : Fin 1) e) fun a => ?_).trans
      ((broadcastInDim_apply _ _ _ _ (ix1 e) fun a => ?_).trans ((shapeCast_apply _ _ _ (ix2 (0 : Fin 1) e) ?_).trans
        ((extractStridedSlice_apply _ _ _ _ (ix2 (1 : Fin 2) e) fun a => ?_).trans ?_)))
    · match a with
      | ⟨0, _⟩ => rfl
      | ⟨1, _⟩ => rfl
      | ⟨2, _⟩ => rfl
      | ⟨3, _⟩ => rfl
    · match a with
      | ⟨0, _⟩ => rfl
    · rw [Shape.rowMajor_val_two, Shape.rowMajor_val_one]
      show 0 * 128 + e.val = e.val
      omega
    · match a with
      | ⟨0, _⟩ => rfl
      | ⟨1, _⟩ => show e.val = 0 + e.val; omega
    · exact congrArg A2 (congrArg₂ ix2 rfl (Fin.ext he))
  have hs : Host.reduceAdd (mulf (shapeCast S32x2048x4x128 (transpose S32x32x64x4x128 [1, 0, 3, 2, 4] W transposes_S32x32x4x64x128_S32x32x64x4x128_1_0_3_2_4) shapeCasts_S32x32x64x4x128_S32x2048x4x128 : FVec Ideal S32x2048x4x128 .f32)
      (shapeCast S32x2048x4x128 (transpose S32x32x64x4x128 [1, 0, 3, 2, 4] W transposes_S32x32x4x64x128_S32x32x64x4x128_1_0_3_2_4) shapeCasts_S32x32x64x4x128_S32x2048x4x128))
      (constant (F := Ideal) S_ .f32 0x00000000#32) reducesTo_S32x2048x4x128_S32x2048x4_d3 h_S_ (ix3 b n h)
      = ∑ d : Fin 128, ((O (seqF w l (r.val / 2048) (k.val / 128)) (seqK w l (r.val / 2048) (k.val / 128)) (seqV w (r.val / 2048) (k.val / 128)) (seqQ w (r.val / 2048) (k.val / 128)) (r.val % 2048) d.val : ℝ) : EReal)
          * ((O (seqF w l (r.val / 2048) (k.val / 128)) (seqK w l (r.val / 2048) (k.val / 128)) (seqV w (r.val / 2048) (k.val / 128)) (seqQ w (r.val / 2048) (k.val / 128)) (r.val % 2048) d.val : ℝ) : EReal) :=
    (sum3_apply _ b n h).trans (sum_congr rfl fun d _ => congrArg₂ (fun a b : EReal => a * b) (ho d) (ho d))
  unfold postV outE finE
  refine (truncf_at _ _ _).trans ?_
  refine (shapeCast_apply _ _ (ix2 r k) (ix4 b n h e) ?_).trans ?_
  · rw [Shape.rowMajor_val_four, Shape.rowMajor_val_two]
    show ((b.val * 2048 + n.val) * 4 + h.val) * 128 + e.val = r.val * 512 + k.val
    omega
  refine congrArg₂ (fun a b : EReal => a * b) (congrArg₂ (fun a b : EReal => a * b) (congrArg₂ (fun a b : EReal => a * b) ((ho e).trans (by rw [he])) ?_) hw2) ?_
  · refine (broadcastInDim_apply _ _ _ _ (ix4 b n h (0 : Fin 1)) fun a => ?_).trans ?_
    · match a with
      | ⟨0, _⟩ => rfl
      | ⟨1, _⟩ => rfl
      | ⟨2, _⟩ => rfl
      | ⟨3, _⟩ => rfl
    refine congrArg Ideal.rsqrt (congrArg₂ (fun a b : EReal => a + b) (congrArg₂ (fun a b : EReal => Ideal.div a b) ?_ (broadcastInDim_scalar_apply _ _ _)) (broadcastInDim_scalar_apply _ _ _))
    refine (broadcastInDim_apply _ _ _ _ (ix3 b n h) fun a => ?_).trans hs
    match a with
    | ⟨0, _⟩ => rfl
    | ⟨1, _⟩ => rfl
    | ⟨2, _⟩ => rfl
  · refine congrArg₂ (fun a b : EReal => a * b) hg (congrArg₂ (fun a b : EReal => Ideal.div a b) (broadcastInDim_scalar_apply _ _ _)
      (congrArg₂ (fun a b : EReal => a + b) (broadcastInDim_scalar_apply _ _ _) (congrArg Ideal.exp ?_)))
    rw [Ideal.ofBits_zero_f32, zero_sub]
    exact congrArg (fun a : EReal => -a) hg

/-- What the reference of the recurrence gives. -/
theorem ref_value {m : (ℓ : Loc nD τ sig) → Buf (Elt Ideal) ℓ} {c : Dev nD} {w l : ℕ → ℕ → ℝ} (H : Args (A0 m c) (A1 m c) w l) (r : Fin 65536) (k : Fin 512) :
    (finalContents condOps preI bodyI postI 32 m c (Proc.devRef .tc main_v75) : S65536x512.Idx → EReal) (ix2 r k)
      = outE w l (A0 m c) (A2 m c) r.val k.val r.isLt k.isLt := by
  rw [post_eq]
  exact postV_apply _ _ _ w l (fun n b h t e =>
    (scan_all m c (fun b h n d => FR_pos _ _ _ _) (entry H) 32 le_rfl).e7 n b h t e n.isLt) r k

end Cert.ReferenceIdeal.Hgrn
-- ==== Proof.HgIn.lean ====
module

public import proofs.«01_k».proof.Proof.HgBase
public import proofs.«01_k».proof.Proof.HgRefVal

@[expose] public section

set_option maxRecDepth 16384

/-! The blocks the recurrence's launch reads at a point, entry by entry. -/

noncomputable section

open Idealize.ShloMosaic hiding ix1 ix2 ix3
open Idealize.ShloMosaic.ValueIdx
open Idealize.ShloMosaic.TcCoe Idealize.ShloMosaic.Tactic Idealize.SL.Sem
open Cert.KernelIdeal Cert.KernelIdeal.Gen Cert.KernelIdeal.Hgrn

namespace Cert.Hgrn.In

section
variable {F : FTy → Type} [FloatOps F] [Named F]
variable (m : (ℓ : Loc nD τ sig) → Buf (Elt F) ℓ)

/-- Which block each window reads, or writes, at a point. -/
theorem idxs : ∀ t : Fin cfg0.N,
    (win0_0.index t 0 = t.val ∧ win0_0.index t 1 = 0) ∧ (win0_1.index t 0 = t.val ∧ win0_1.index t 1 = 1)
    ∧ (win0_2.index t 0 = t.val ∧ win0_2.index t 1 = 2) ∧ (win0_3.index t 0 = t.val ∧ win0_3.index t 1 = 3)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = t.val ∧ win0_7.index t 1 = 0) :=
  (by decide +kernel : ∀ t : Fin grid0.N, _)

/-- There are 256 points. -/
theorem lt256 (t : Fin cfg0.N) : t.val < 256 := Nat.lt_of_lt_of_eq t.isLt N_0

/-- Window 0 reads columns of the point's rows. -/
theorem blk0 (c : Dev nD) (t : Fin cfg0.N) (p : Fin 256) (q : Fin 512) :
    (iblk m c 0 t : Vec F S256x512 .f32) (ix2 p q) = (m (c.tc.loc main_arg0) : Vec F S65536x2048 .f32)
      (ix2 ⟨256 * t.val + p.val, by have := lt256 t; omega⟩ ⟨0 + q.val, by omega⟩) := by
  obtain ⟨h0, h1, h2, h3, h4, h5, h6, h7⟩ := idxs t
  rw [← V_main_arg0 m c]
  unfold iblk
  rw [View.read_apply]
  show V m c main_arg0 _ = V m c main_arg0 _
  congr 1
  funext a
  apply Fin.ext
  match a with
  | ⟨0, _⟩ => show win0_0.index t 0 * 256 + 1 * p.val = 256 * t.val + p.val; rw [h0.1]; omega
  | ⟨1, _⟩ => show win0_0.index t 1 * 512 + 1 * q.val = 0 + q.val; rw [h0.2]; omega

/-- Window 1 reads columns of the point's rows. -/
theorem blk1 (c : Dev nD) (t : Fin cfg0.N) (p : Fin 256) (q : Fin 512) :
    (iblk m c 1 t : Vec F S256x512 .f32) (ix2 p q) = (m (c.tc.loc main_arg0) : Vec F S65536x2048 .f32)
      (ix2 ⟨256 * t.val + p.val, by have := lt256 t; omega⟩ ⟨512 + q.val, by omega⟩) := by
  obtain ⟨h0, h1, h2, h3, h4, h5, h6, h7⟩ := idxs t
  rw [← V_main_arg0 m c]
  unfold iblk
  rw [View.read_apply]
  show V m c main_arg0 _ = V m c main_arg0 _
  congr 1
  funext a
  apply Fin.ext
  match a with
  | ⟨0, _⟩ => show win0_1.index t 0 * 256 + 1 * p.val = 256 * t.val + p.val; rw [h1.1]; omega
  | ⟨1, _⟩ => show win0_1.index t 1 * 512 + 1 * q.val = 512 + q.val; rw [h1.2]; omega

/-- Window 2 reads columns of the point's rows. -/
theorem blk2 (c : Dev nD) (t : Fin cfg0.N) (p : Fin 256) (q : Fin 512) :
    (iblk m c 2 t : Vec F S256x512 .f32) (ix2 p q) = (m (c.tc.loc main_arg0) : Vec F S65536x2048 .f32)
      (ix2 ⟨256 * t.val + p.val, by have := lt256 t; omega⟩ ⟨1024 + q.val, by omega⟩) := by
  obtain ⟨h0, h1, h2, h3, h4, h5, h6, h7⟩ := idxs t
  rw [← V_main_arg0 m c]
  unfold iblk
  rw [View.read_apply]
  show V m c main_arg0 _ = V m c main_arg0 _
  congr 1
  funext a
  apply Fin.ext
  match a with
  | ⟨0, _⟩ => show win0_2.index t 0 * 256 + 1 * p.val = 256 * t.val + p.val; rw [h2.1]; omega
  | ⟨1, _⟩ => show win0_2.index t 1 * 512 + 1 * q.val = 1024 + q.val; rw [h2.2]; omega

/-- Window 3 reads columns of the point's rows. -/
theorem blk3 (c : Dev nD) (t : Fin cfg0.N) (p : Fin 256) (q : Fin 512) :
    (iblk m c 3 t : Vec F S256x512 .f32) (ix2 p q) = (m (c.tc.loc main_arg0) : Vec F S65536x2048 .f32)
      (ix2 ⟨256 * t.val + p.val, by have := lt256 t; omega⟩ ⟨1536 + q.val, by omega⟩) := by
  obtain ⟨h0, h1, h2, h3, h4, h5, h6, h7⟩ := idxs t
  rw [← V_main_arg0 m c]
  unfold iblk
  rw [View.read_apply]
  show V m c main_arg0 _ = V m c main_arg0 _
  congr 1
  funext a
  apply Fin.ext
  match a with
  | ⟨0, _⟩ => show win0_3.index t 0 * 256 + 1 * p.val = 256 * t.val + p.val; rw [h3.1]; omega
  | ⟨1, _⟩ => show win0_3.index t 1 * 512 + 1 * q.val = 1536 + q.val; rw [h3.2]; omega

/-- Window 4 reads the logits. -/
theorem blk4 (c : Dev nD) (t : Fin cfg0.N) (p : Fin 2) (q : Fin 512) :
    (iblk m c 4 t : Vec F S2x512 .f32) (ix2 p q) = (m (c.tc.loc main_arg1) : Vec F S2x512 .f32) (ix2 p q) := by
  obtain ⟨h0, h1, h2, h3, h4, h5, h6, h7⟩ := idxs t
  rw [← V_main_arg1 m c]
  unfold iblk
  rw [View.read_apply]
  show V m c main_arg1 _ = V m c main_arg1 _
  congr 1
  funext a
  apply Fin.ext
  match a with
  | ⟨0, _⟩ => show win0_4.index t 0 * 2 + 1 * p.val = p.val; rw [h4.1]; omega
  | ⟨1, _⟩ => show win0_4.index t 1 * 512 + 1 * q.val = q.val; rw [h4.2]; omega

/-- Window 5 reads the norm's weights. -/
theorem blk5 (c : Dev nD) (t : Fin cfg0.N) (p : Fin 1) (q : Fin 128) :
    (iblk m c 5 t : Vec F S1x128 .f32) (ix2 p q) = (V m c main_v2 : Vec F S1x128 .f32) (ix2 p q) := by
  obtain ⟨h0, h1, h2, h3, h4, h5, h6, h7⟩ := idxs t
  unfold iblk
  rw [View.read_apply]
  show V m c main_v2 _ = V m c main_v2 _
  congr 1
  funext a
  apply Fin.ext
  match a with
  | ⟨0, _⟩ => show win0_5.index t 0 * 1 + 1 * p.val = p.val; rw [h5.1]; omega
  | ⟨1, _⟩ => show win0_5.index t 1 * 128 + 1 * q.val = q.val; rw [h5.2]; omega

/-- Window 6 reads the lower triangles. -/
theorem blk6 (c : Dev nD) (t : Fin cfg0.N) (p : Fin 256) (q : Fin 256) :
    (iblk m c 6 t : Vec F S256x256 .bf16) (ix2 p q) = (V m c main_v11 : Vec F S256x256 .bf16) (ix2 p q) := by
  obtain ⟨h0, h1, h2, h3, h4, h5, h6, h7⟩ := idxs t
  unfold iblk
  rw [View.read_apply]
  show V m c main_v11 _ = V m c main_v11 _
  congr 1
  funext a
  apply Fin.ext
  match a with
  | ⟨0, _⟩ => show win0_6.index t 0 * 256 + 1 * p.val = p.val; rw [h6.1]; omega
  | ⟨1, _⟩ => show win0_6.index t 1 * 256 + 1 * q.val = q.val; rw [h6.2]; omega

/-- The norm's weights the launch finds: layer 1 of the argument. -/
theorem V_v2 (c : Dev nD) : V m c main_v2 = (broadcastInDim S1x128 ![1] bcast_S128_S1x128_1 (shapeCast S128 (extractStridedSlice S1x128 ![1, 0] (m ((c : Thread nD τ).loc main_arg2)) slices_S2x128_S1x128_1_0) shapeCasts_S1x128_S128) : Vec F S1x128 .f32) := by
  unfold V hostOps0 hostOps0_1 hostOps0_2 hostOps0_3 hostOps0_4 hostOps0_5 hostOps0_6
  simp only [List.flatten_cons, List.flatten_nil, List.append_nil, List.cons_append, List.nil_append]
  after_results_simp <;> rfl

/-- Division by thirty-two, rounded down. -/
def fdiv (x : IVec S256x256 32) : IVec S256x256 32 :=
  select (andi (cmpi .ne (signi x) (broadcastInDim S256x256 ![] bcast_S_S256x256 (signi (constantI S_ 32 32#32))))
      (cmpi .ne (Host.remsi x (broadcastInDim S256x256 ![] bcast_S_S256x256 (constantI S_ 32 32#32))) (broadcastInDim S256x256 ![] bcast_S_S256x256 (constantI S_ 32 0#32))))
    (subi (Host.divsi x (broadcastInDim S256x256 ![] bcast_S_S256x256 (constantI S_ 32 32#32))) (broadcastInDim S256x256 ![] bcast_S_S256x256 (constantI S_ 32 1#32)))
    (Host.divsi x (broadcastInDim S256x256 ![] bcast_S_S256x256 (constantI S_ 32 32#32)))

/-- The bits of the lower triangles. -/
def bits : IVec S256x256 1 :=
  andi (cmpi .sge (iotaInDim S256x256 32 0) (iotaInDim S256x256 32 1)) (cmpi .eq (fdiv (iotaInDim S256x256 32 0)) (fdiv (iotaInDim S256x256 32 1)))

/-- The lower triangles the launch finds. -/
theorem V_v11 (c : Dev nD) : V m c main_v11 = (truncf .bf16 (select bits (broadcastInDim S256x256 ![] bcast_S_S256x256 (constant S_ .f32 0x3F800000#32)) (broadcastInDim S256x256 ![] bcast_S_S256x256 (constant S_ .f32 0x00000000#32)) : Vec F S256x256 .f32) bitsLt_bf16_f32 : Vec F S256x256 .bf16) := by
  unfold V hostOps0 hostOps0_1 hostOps0_2 hostOps0_3 hostOps0_4 hostOps0_5 hostOps0_6
  simp only [List.flatten_cons, List.flatten_nil, List.append_nil, List.cons_append, List.nil_append]
  after_results_simp <;> rfl

end

end Cert.Hgrn.In

end
-- ==== Proof.HgInp.lean ====
module

public import proofs.«01_k».proof.Proof.HgIn

@[expose] public section

set_option maxRecDepth 16384

/-! The inputs of a point, as reals. -/

noncomputable section

open Idealize.ShloMosaic hiding ix1 ix2 ix3
open Idealize.ShloMosaic.ValueIdx
open Idealize.ShloMosaic.TcCoe Idealize.ShloMosaic.Tactic Idealize.SL.Sem
open Cert.KernelIdeal Cert.KernelIdeal.Gen Cert.KernelIdeal.Hgrn

namespace Cert.Hgrn.In

/-- A row number, divided. -/
theorem fdiv0 (p q : Fin 256) : (fdiv (iotaInDim S256x256 32 0) (ix2 p q) : BitVec 32) = BitVec.ofNat 32 (p.val / 32) :=
  (show (fdiv (iotaInDim S256x256 32 0) (ix2 p q) : BitVec 32) = fdiv (iotaInDim S256x256 32 0) (ix2 p (0 : Fin 256)) from rfl).trans
    ((by decide +kernel : ∀ p : Fin 256, (fdiv (iotaInDim S256x256 32 0) (ix2 p (0 : Fin 256)) : BitVec 32) = BitVec.ofNat 32 (p.val / 32)) p)

/-- A column number, divided. -/
theorem fdiv1 (p q : Fin 256) : (fdiv (iotaInDim S256x256 32 1) (ix2 p q) : BitVec 32) = BitVec.ofNat 32 (q.val / 32) :=
  (show (fdiv (iotaInDim S256x256 32 1) (ix2 p q) : BitVec 32) = fdiv (iotaInDim S256x256 32 1) (ix2 (0 : Fin 256) q) from rfl).trans
    ((by decide +kernel : ∀ q : Fin 256, (fdiv (iotaInDim S256x256 32 1) (ix2 (0 : Fin 256) q) : BitVec 32) = BitVec.ofNat 32 (q.val / 32)) q)

/-- The bits, entry by entry. -/
theorem bits_at (p q : Fin 256) : (bits (ix2 p q) : BitVec 1) = if q.val ≤ p.val ∧ p.val / 32 = q.val / 32 then 1#1 else 0#1 := by
  have hp := p.isLt
  have hq := q.isLt
  show IntOp.andi (IntOp.cmpi .sge (BitVec.ofNat 32 p.val) (BitVec.ofNat 32 q.val)) (IntOp.cmpi .eq (fdiv (iotaInDim S256x256 32 0) (ix2 p q)) (fdiv (iotaInDim S256x256 32 1) (ix2 p q))) = _
  rw [fdiv0, fdiv1]
  have e1 : IntOp.cmpi .sge (BitVec.ofNat 32 p.val) (BitVec.ofNat 32 q.val) = if q.val ≤ p.val then 1#1 else 0#1 := by
    split
    · word_cmp
    · word_cmp
  have e2 : IntOp.cmpi .eq (BitVec.ofNat 32 (p.val / 32)) (BitVec.ofNat 32 (q.val / 32)) = if p.val / 32 = q.val / 32 then 1#1 else 0#1 := by
    split
    · word_cmp
    · word_cmp
  rw [e1, e2]
  by_cases h1 : q.val ≤ p.val <;> by_cases h2 : p.val / 32 = q.val / 32 <;> simp [h1, h2, IntOp.andi]

variable (m : (ℓ : Loc nD τ sig) → Buf (Elt Ideal) ℓ)

/-- The lower triangles of thirty-two rows, down the diagonal. -/
theorem tri_at (c : Dev nD) (t : Fin cfg0.N) : IsR (iblk m c 6 t : Vec Ideal S256x256 .bf16) (fun r c => if c ≤ r ∧ r / 32 = c / 32 then 1 else 0) := by
  intro p q
  refine (blk6 m c t p q).trans ?_
  rw [V_v11]
  show (if bits (ix2 p q) = 1#1 then Ideal.ofBits .f32 0x3F800000#32 else Ideal.ofBits .f32 0x00000000#32) = _
  rw [bits_at, Ideal.ofBits_one_f32, Ideal.ofBits_zero_f32]
  by_cases h : q.val ≤ p.val ∧ p.val / 32 = q.val / 32
  · rw [if_pos h, if_pos (show (1#1 : BitVec 1) = 1#1 from rfl)]
    show (1 : EReal) = (((if q.val ≤ p.val ∧ p.val / 32 = q.val / 32 then 1 else 0 : ℝ)) : EReal)
    rw [if_pos h]; rfl
  · rw [if_neg h, if_neg (by decide)]
    show (0 : EReal) = (((if q.val ≤ p.val ∧ p.val / 32 = q.val / 32 then 1 else 0 : ℝ)) : EReal)
    rw [if_neg h]; rfl

/-- The norm's weights, entry by entry. -/
theorem gn_at (c : Dev nD) (t : Fin cfg0.N) (q : Fin 128) :
    (iblk m c 5 t : Vec Ideal S1x128 .f32) (ix2 (0 : Fin 1) q) = (m (c.tc.loc main_arg2) : Vec Ideal S2x128 .f32) (ix2 (1 : Fin 2) q) := by
  refine (blk5 m c t 0 q).trans ?_
  rw [V_v2]
  pointwise
  exact congrArg (m (c.tc.loc main_arg2) : S2x128.Idx → EReal) (funext fun a => match a with | ⟨0, _⟩ => rfl | ⟨1, _⟩ => rfl)

open Cert.ReferenceIdeal.Hgrn (Args xb)

/-- The blocks of a point, as reals. -/
theorem inp (c : Dev nD) {w l : ℕ → ℕ → ℝ} (H : Args (m (c.tc.loc main_arg0)) (m (c.tc.loc main_arg1)) w l) (t : Fin cfg0.N) :
    Inp (t.val % 8) (iblk m c 0 t) (iblk m c 1 t) (iblk m c 2 t) (iblk m c 4 t) (iblk m c 6 t)
      (xb w 0 (t.val / 8)) (xb w 512 (t.val / 8)) (xb w 1024 (t.val / 8)) l where
  h0 := fun r k => (blk0 m c t r k).trans ((H.a0 _ _ (.inl (show 0 + k.val < 512 by omega))).trans (by
    show ((w (256 * t.val + r.val) (0 + k.val) : ℝ) : EReal) = ((w (2048 * (t.val / 8) + (256 * (t.val % 8) + r.val)) (0 + (0 + k.val)) : ℝ) : EReal)
    rw [show 2048 * (t.val / 8) + (256 * (t.val % 8) + r.val) = 256 * t.val + r.val by omega, Nat.zero_add (0 + k.val)]))
  h1 := fun r k => (congrArg (fun a : EReal => Ideal.div 1 (1 + Ideal.exp (0 - a))) (blk1 m c t r k)).trans ((H.a0f _ _ (show 512 ≤ 512 + k.val by omega) (show 512 + k.val < 1024 by omega)).trans (by
    show ((w (256 * t.val + r.val) (512 + k.val) ⊔ 0 : ℝ) : EReal) = ((w (2048 * (t.val / 8) + (256 * (t.val % 8) + r.val)) (512 + (0 + k.val)) ⊔ 0 : ℝ) : EReal)
    rw [show 2048 * (t.val / 8) + (256 * (t.val % 8) + r.val) = 256 * t.val + r.val by omega, Nat.zero_add]))
  h2 := fun r k => (blk2 m c t r k).trans ((H.a0 _ _ (.inr ⟨show 1024 ≤ 1024 + k.val by omega, show 1024 + k.val < 1536 by omega⟩)).trans (by
    show ((w (256 * t.val + r.val) (1024 + k.val) : ℝ) : EReal) = ((w (2048 * (t.val / 8) + (256 * (t.val % 8) + r.val)) (1024 + (0 + k.val)) : ℝ) : EReal)
    rw [show 2048 * (t.val / 8) + (256 * (t.val % 8) + r.val) = 256 * t.val + r.val by omega, Nat.zero_add]))
  h4 := fun r k => (blk4 m c t r k).trans (H.a1 r k)
  h6 := tri_at m c t

end Cert.Hgrn.In

end
-- ==== Proof.HgRunAF.lean ====
module

public import proofs.«01_k».proof.Proof.HgBase

@[expose] public section

set_option maxRecDepth 16384

noncomputable section

namespace Cert.KernelIdeal.Hgrn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- The body's run, first point of a sequence, scaled form: the pieces it leaves in the output block and in the state. -/
def runAF (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S256x256 .bf16) (harg8 : arg8.IsWhole) (arg9 : Memref sig .tc .vmem S256x512 .bf16) (harg9 : arg9.IsWhole) (arg10 : Memref sig .tc .vmem S4x128x128 .f32) (harg10 : arg10.IsWhole) (arg11 : Memref sig .tc .vmem S256x512 .f32) (harg11 : arg11.IsWhole) (arg12 : Memref sig .tc .vmem S256x512 .f32) (harg12 : arg12.IsWhole) (hc0 : cond0_0 i)
    (x0 : Vec F S256x512 .f32) (x1 : Vec F S256x512 .f32) (x2 : Vec F S256x512 .f32) (x3 : Vec F S256x512 .f32) (x4 : Vec F S2x512 .f32) (x5 : Vec F S1x128 .f32) (x6 : Vec F S256x256 .bf16) (hx : cmpw x4 x1 x6 = 0#1) :
    Σ' (L9 : List (View.Piece (Elt F) S256x512 .bf16)), { L10 : List (View.Piece (Elt F) S4x128x128 .f32) //
      ∀ (f9 : BufTy.Contents (Elt F) arg9.view.ty) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (arg9.view.loc (c : Thread nD τ) ↦[arg9.view.set]{fullShare} f9) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (arg9.view.loc (c : Thread nD τ) ↦[arg9.view.set]{fullShare} arg9.view.writes (Elt F) f9 L9) ∗ (∃ f, arg10.view.loc (c : Thread nD τ) ↦[arg10.view.set]{fullShare} arg10.view.writes (Elt F) f L10) ∗ (∃ d, owns (c : Thread nD τ) arg11 fullShare d) ∗ (∃ d, owns (c : Thread nD τ) arg12 fullShare d)) -∗ K ⟨⟩))
          ⊢ wp frame (wpE (defs₀ (F := F)) Variants.none c none) E (cc0_hgrn i arg2 harg2 arg3 harg3 arg4 harg4 arg5 harg5 arg6 harg6 arg7 harg7 arg8 harg8 arg9 harg9 arg10 harg10 arg11 harg11 arg12 harg12) K } := by
  refine ⟨?_, ?_, fun f9 E K => ?run⟩
  case run =>
    simp only [cc0_hgrn_eq_skeleton]; unfold cc0_hgrn_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, H9, ⟨%d10, %f10, -, H10⟩, ⟨%d11, %f11, -, H11⟩, ⟨%d12, %f12, -, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    have h56 : w56 (View.readAt (Elt F) arg6.view (Rect.unit (s := S2x512) ![0, 0] S2x512.size inb_S2x512_S2x512_0_0).toLoadRect (harg6.unread x4)) (View.readAt (Elt F) arg3.view (Rect.unit (s := S256x512) ![0, 0] S256x512.size inb_S256x512_S256x512_0_0).toLoadRect (harg3.unread x1)) (View.readAt (Elt F) arg8.view (Rect.unit (s := S256x256) ![0, 0] S256x256.size inb_S256x256_S256x256_0_0).toLoadRect (harg8.unread x6)) = 1#1 := by rw [readAt_all (s := S2x512) harg6 hz, readAt_all (s := S256x512) harg3 hz, readAt_all (s := S256x256) harg8 hz]; unfold w56; rw [hx]; decide
    have h58 : ¬w58 (View.readAt (Elt F) arg6.view (Rect.unit (s := S2x512) ![0, 0] S2x512.size inb_S2x512_S2x512_0_0).toLoadRect (harg6.unread x4)) (View.readAt (Elt F) arg3.view (Rect.unit (s := S256x512) ![0, 0] S256x512.size inb_S256x512_S256x512_0_0).toLoadRect (harg3.unread x1)) (View.readAt (Elt F) arg8.view (Rect.unit (s := S256x256) ![0, 0] S256x256.size inb_S256x256_S256x256_0_0).toLoadRect (harg8.unread x6)) = 1#1 := by rw [readAt_all (s := S2x512) harg6 hz, readAt_all (s := S256x512) harg3 hz, readAt_all (s := S256x256) harg8 hz]; unfold w58; rw [hx]; decide
    sl_exec (disch := first | sl_exact hc0 | sl_exact h56 | sl_exact h58)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexact H9
    isplitl [H10]; · iexists _; iexact H10
    isplitl [H11]
    · iexists _; iexists _; isplitr; swap; · iexact H11
      ipureintro; rfl
    iexists _; iexists _; isplitr; swap; · iexact H12
    ipureintro; rfl

end Cert.KernelIdeal.Hgrn

end
-- ==== Proof.HgRunAE.lean ====
module

public import proofs.«01_k».proof.Proof.HgBase

@[expose] public section

set_option maxRecDepth 16384

noncomputable section

namespace Cert.KernelIdeal.Hgrn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- The body's run, first point of a sequence, term by term form: the pieces it leaves in the output block and in the state. -/
def runAE (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S256x256 .bf16) (harg8 : arg8.IsWhole) (arg9 : Memref sig .tc .vmem S256x512 .bf16) (harg9 : arg9.IsWhole) (arg10 : Memref sig .tc .vmem S4x128x128 .f32) (harg10 : arg10.IsWhole) (arg11 : Memref sig .tc .vmem S256x512 .f32) (harg11 : arg11.IsWhole) (arg12 : Memref sig .tc .vmem S256x512 .f32) (harg12 : arg12.IsWhole) (hc0 : cond0_0 i)
    (x0 : Vec F S256x512 .f32) (x1 : Vec F S256x512 .f32) (x2 : Vec F S256x512 .f32) (x3 : Vec F S256x512 .f32) (x4 : Vec F S2x512 .f32) (x5 : Vec F S1x128 .f32) (x6 : Vec F S256x256 .bf16) (hx : cmpw x4 x1 x6 = 1#1) :
    Σ' (L9 : BufTy.Contents (Elt F) arg9.view.ty → List (View.Piece (Elt F) S256x512 .bf16)), { L10 : BufTy.Contents (Elt F) arg9.view.ty → List (View.Piece (Elt F) S4x128x128 .f32) //
      ∀ (f9 : BufTy.Contents (Elt F) arg9.view.ty) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (arg9.view.loc (c : Thread nD τ) ↦[arg9.view.set]{fullShare} f9) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (arg9.view.loc (c : Thread nD τ) ↦[arg9.view.set]{fullShare} arg9.view.writes (Elt F) f9 (L9 f9)) ∗ (∃ f, arg10.view.loc (c : Thread nD τ) ↦[arg10.view.set]{fullShare} arg10.view.writes (Elt F) f (L10 f9)) ∗ (∃ d, owns (c : Thread nD τ) arg11 fullShare d) ∗ (∃ d, owns (c : Thread nD τ) arg12 fullShare d)) -∗ K ⟨⟩))
          ⊢ wp frame (wpE (defs₀ (F := F)) Variants.none c none) E (cc0_hgrn i arg2 harg2 arg3 harg3 arg4 harg4 arg5 harg5 arg6 harg6 arg7 harg7 arg8 harg8 arg9 harg9 arg10 harg10 arg11 harg11 arg12 harg12) K } := by
  refine ⟨?_, ?_, fun f9 E K => ?run⟩
  case run =>
    simp only [cc0_hgrn_eq_skeleton]; unfold cc0_hgrn_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, H9, ⟨%d10, %f10, -, H10⟩, ⟨%d11, %f11, -, H11⟩, ⟨%d12, %f12, -, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    have h56 : ¬w56 (View.readAt (Elt F) arg6.view (Rect.unit (s := S2x512) ![0, 0] S2x512.size inb_S2x512_S2x512_0_0).toLoadRect (harg6.unread x4)) (View.readAt (Elt F) arg3.view (Rect.unit (s := S256x512) ![0, 0] S256x512.size inb_S256x512_S256x512_0_0).toLoadRect (harg3.unread x1)) (View.readAt (Elt F) arg8.view (Rect.unit (s := S256x256) ![0, 0] S256x256.size inb_S256x256_S256x256_0_0).toLoadRect (harg8.unread x6)) = 1#1 := by rw [readAt_all (s := S2x512) harg6 hz, readAt_all (s := S256x512) harg3 hz, readAt_all (s := S256x256) harg8 hz]; unfold w56; rw [hx]; decide
    have h58 : w58 (View.readAt (Elt F) arg6.view (Rect.unit (s := S2x512) ![0, 0] S2x512.size inb_S2x512_S2x512_0_0).toLoadRect (harg6.unread x4)) (View.readAt (Elt F) arg3.view (Rect.unit (s := S256x512) ![0, 0] S256x512.size inb_S256x512_S256x512_0_0).toLoadRect (harg3.unread x1)) (View.readAt (Elt F) arg8.view (Rect.unit (s := S256x256) ![0, 0] S256x256.size inb_S256x256_S256x256_0_0).toLoadRect (harg8.unread x6)) = 1#1 := by rw [readAt_all (s := S2x512) harg6 hz, readAt_all (s := S256x512) harg3 hz, readAt_all (s := S256x256) harg8 hz]; unfold w58; rw [hx]; decide
    sl_exec (disch := first | sl_exact hc0 | sl_exact h56 | sl_exact h58)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexact H9
    isplitl [H10]; · iexists _; iexact H10
    isplitl [H11]
    · iexists _; iexists _; isplitr; swap; · iexact H11
      ipureintro; rfl
    iexists _; iexists _; isplitr; swap; · iexact H12
    ipureintro; rfl

end Cert.KernelIdeal.Hgrn

end
-- ==== Proof.HgRunBF.lean ====
module

public import proofs.«01_k».proof.Proof.HgBase

@[expose] public section

set_option maxRecDepth 16384

noncomputable section

namespace Cert.KernelIdeal.Hgrn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- The body's run, later point of a sequence, scaled form: the pieces it leaves in the output block and in the state. -/
def runBF (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S256x256 .bf16) (harg8 : arg8.IsWhole) (arg9 : Memref sig .tc .vmem S256x512 .bf16) (harg9 : arg9.IsWhole) (arg10 : Memref sig .tc .vmem S4x128x128 .f32) (harg10 : arg10.IsWhole) (arg11 : Memref sig .tc .vmem S256x512 .f32) (harg11 : arg11.IsWhole) (arg12 : Memref sig .tc .vmem S256x512 .f32) (harg12 : arg12.IsWhole) (hc0 : ¬cond0_0 i)
    (x0 : Vec F S256x512 .f32) (x1 : Vec F S256x512 .f32) (x2 : Vec F S256x512 .f32) (x3 : Vec F S256x512 .f32) (x4 : Vec F S2x512 .f32) (x5 : Vec F S1x128 .f32) (x6 : Vec F S256x256 .bf16) (xs : Vec F S4x128x128 .f32) (hx : cmpw x4 x1 x6 = 0#1) :
    Σ' (L9 : List (View.Piece (Elt F) S256x512 .bf16)), { L10 : List (View.Piece (Elt F) S4x128x128 .f32) //
      ∀ (f9 : BufTy.Contents (Elt F) arg9.view.ty) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (arg9.view.loc (c : Thread nD τ) ↦[arg9.view.set]{fullShare} f9) ∗ owns (c : Thread nD τ) arg10 fullShare xs ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (arg9.view.loc (c : Thread nD τ) ↦[arg9.view.set]{fullShare} arg9.view.writes (Elt F) f9 L9) ∗ (arg10.view.loc (c : Thread nD τ) ↦[arg10.view.set]{fullShare} arg10.view.writes (Elt F) (harg10.unread xs) L10) ∗ (∃ d, owns (c : Thread nD τ) arg11 fullShare d) ∗ (∃ d, owns (c : Thread nD τ) arg12 fullShare d)) -∗ K ⟨⟩))
          ⊢ wp frame (wpE (defs₀ (F := F)) Variants.none c none) E (cc0_hgrn i arg2 harg2 arg3 harg3 arg4 harg4 arg5 harg5 arg6 harg6 arg7 harg7 arg8 harg8 arg9 harg9 arg10 harg10 arg11 harg11 arg12 harg12) K } := by
  refine ⟨?_, ?_, fun f9 E K => ?run⟩
  case run =>
    simp only [cc0_hgrn_eq_skeleton]; unfold cc0_hgrn_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, H9, ⟨%f10, %hf10, H10⟩, ⟨%d11, %f11, -, H11⟩, ⟨%d12, %f12, -, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10
    have h56 : w56 (View.readAt (Elt F) arg6.view (Rect.unit (s := S2x512) ![0, 0] S2x512.size inb_S2x512_S2x512_0_0).toLoadRect (harg6.unread x4)) (View.readAt (Elt F) arg3.view (Rect.unit (s := S256x512) ![0, 0] S256x512.size inb_S256x512_S256x512_0_0).toLoadRect (harg3.unread x1)) (View.readAt (Elt F) arg8.view (Rect.unit (s := S256x256) ![0, 0] S256x256.size inb_S256x256_S256x256_0_0).toLoadRect (harg8.unread x6)) = 1#1 := by rw [readAt_all (s := S2x512) harg6 hz, readAt_all (s := S256x512) harg3 hz, readAt_all (s := S256x256) harg8 hz]; unfold w56; rw [hx]; decide
    have h58 : ¬w58 (View.readAt (Elt F) arg6.view (Rect.unit (s := S2x512) ![0, 0] S2x512.size inb_S2x512_S2x512_0_0).toLoadRect (harg6.unread x4)) (View.readAt (Elt F) arg3.view (Rect.unit (s := S256x512) ![0, 0] S256x512.size inb_S256x512_S256x512_0_0).toLoadRect (harg3.unread x1)) (View.readAt (Elt F) arg8.view (Rect.unit (s := S256x256) ![0, 0] S256x256.size inb_S256x256_S256x256_0_0).toLoadRect (harg8.unread x6)) = 1#1 := by rw [readAt_all (s := S2x512) harg6 hz, readAt_all (s := S256x512) harg3 hz, readAt_all (s := S256x256) harg8 hz]; unfold w58; rw [hx]; decide
    sl_exec (disch := first | sl_exact hc0 | sl_exact h56 | sl_exact h58)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexact H9
    isplitl [H10]; · iexact H10
    isplitl [H11]
    · iexists _; iexists _; isplitr; swap; · iexact H11
      ipureintro; rfl
    iexists _; iexists _; isplitr; swap; · iexact H12
    ipureintro; rfl

end Cert.KernelIdeal.Hgrn

end
-- ==== Proof.HgRunBE.lean ====
module

public import proofs.«01_k».proof.Proof.HgBase

@[expose] public section

set_option maxRecDepth 16384

noncomputable section

namespace Cert.KernelIdeal.Hgrn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- The body's run, later point of a sequence, term by term form: the pieces it leaves in the output block and in the state. -/
def runBE (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S256x256 .bf16) (harg8 : arg8.IsWhole) (arg9 : Memref sig .tc .vmem S256x512 .bf16) (harg9 : arg9.IsWhole) (arg10 : Memref sig .tc .vmem S4x128x128 .f32) (harg10 : arg10.IsWhole) (arg11 : Memref sig .tc .vmem S256x512 .f32) (harg11 : arg11.IsWhole) (arg12 : Memref sig .tc .vmem S256x512 .f32) (harg12 : arg12.IsWhole) (hc0 : ¬cond0_0 i)
    (x0 : Vec F S256x512 .f32) (x1 : Vec F S256x512 .f32) (x2 : Vec F S256x512 .f32) (x3 : Vec F S256x512 .f32) (x4 : Vec F S2x512 .f32) (x5 : Vec F S1x128 .f32) (x6 : Vec F S256x256 .bf16) (xs : Vec F S4x128x128 .f32) (hx : cmpw x4 x1 x6 = 1#1) :
    Σ' (L9 : BufTy.Contents (Elt F) arg9.view.ty → List (View.Piece (Elt F) S256x512 .bf16)), { L10 : BufTy.Contents (Elt F) arg9.view.ty → List (View.Piece (Elt F) S4x128x128 .f32) //
      ∀ (f9 : BufTy.Contents (Elt F) arg9.view.ty) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (arg9.view.loc (c : Thread nD τ) ↦[arg9.view.set]{fullShare} f9) ∗ owns (c : Thread nD τ) arg10 fullShare xs ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (arg9.view.loc (c : Thread nD τ) ↦[arg9.view.set]{fullShare} arg9.view.writes (Elt F) f9 (L9 f9)) ∗ (arg10.view.loc (c : Thread nD τ) ↦[arg10.view.set]{fullShare} arg10.view.writes (Elt F) (harg10.unread xs) (L10 f9)) ∗ (∃ d, owns (c : Thread nD τ) arg11 fullShare d) ∗ (∃ d, owns (c : Thread nD τ) arg12 fullShare d)) -∗ K ⟨⟩))
          ⊢ wp frame (wpE (defs₀ (F := F)) Variants.none c none) E (cc0_hgrn i arg2 harg2 arg3 harg3 arg4 harg4 arg5 harg5 arg6 harg6 arg7 harg7 arg8 harg8 arg9 harg9 arg10 harg10 arg11 harg11 arg12 harg12) K } := by
  refine ⟨?_, ?_, fun f9 E K => ?run⟩
  case run =>
    simp only [cc0_hgrn_eq_skeleton]; unfold cc0_hgrn_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, H9, ⟨%f10, %hf10, H10⟩, ⟨%d11, %f11, -, H11⟩, ⟨%d12, %f12, -, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10
    have h56 : ¬w56 (View.readAt (Elt F) arg6.view (Rect.unit (s := S2x512) ![0, 0] S2x512.size inb_S2x512_S2x512_0_0).toLoadRect (harg6.unread x4)) (View.readAt (Elt F) arg3.view (Rect.unit (s := S256x512) ![0, 0] S256x512.size inb_S256x512_S256x512_0_0).toLoadRect (harg3.unread x1)) (View.readAt (Elt F) arg8.view (Rect.unit (s := S256x256) ![0, 0] S256x256.size inb_S256x256_S256x256_0_0).toLoadRect (harg8.unread x6)) = 1#1 := by rw [readAt_all (s := S2x512) harg6 hz, readAt_all (s := S256x512) harg3 hz, readAt_all (s := S256x256) harg8 hz]; unfold w56; rw [hx]; decide
    have h58 : w58 (View.readAt (Elt F) arg6.view (Rect.unit (s := S2x512) ![0, 0] S2x512.size inb_S2x512_S2x512_0_0).toLoadRect (harg6.unread x4)) (View.readAt (Elt F) arg3.view (Rect.unit (s := S256x512) ![0, 0] S256x512.size inb_S256x512_S256x512_0_0).toLoadRect (harg3.unread x1)) (View.readAt (Elt F) arg8.view (Rect.unit (s := S256x256) ![0, 0] S256x256.size inb_S256x256_S256x256_0_0).toLoadRect (harg8.unread x6)) = 1#1 := by rw [readAt_all (s := S2x512) harg6 hz, readAt_all (s := S256x512) harg3 hz, readAt_all (s := S256x256) harg8 hz]; unfold w58; rw [hx]; decide
    sl_exec (disch := first | sl_exact hc0 | sl_exact h56 | sl_exact h58)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexact H9
    isplitl [H10]; · iexact H10
    isplitl [H11]
    · iexists _; iexists _; isplitr; swap; · iexact H11
      ipureintro; rfl
    iexists _; iexists _; isplitr; swap; · iexact H12
    ipureintro; rfl

end Cert.KernelIdeal.Hgrn

end
-- ==== Proof.HgCov.lean ====
module

public import proofs.«01_k».proof.Proof.HgRunAF
public import proofs.«01_k».proof.Proof.HgRunAE
public import proofs.«01_k».proof.Proof.HgRunBF
public import proofs.«01_k».proof.Proof.HgRunBE

@[expose] public section

set_option maxRecDepth 16384

noncomputable section

namespace Cert.KernelIdeal.Hgrn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- Owned contents, as a buffer. -/
theorem own_raw (c : Dev nD) {s : Shape} {e : EltTy} (g : Memref sig .tc .vmem s e) (x : Vec F s e) :
    (owns (c : Thread nD τ) g fullShare x : sProp 𝕄) ⊢ iprop(∃ f, ⌜g.view.read (Elt F) f = x⌝ ∗ (g.view.loc (c : Thread nD τ) ↦[g.view.set]{fullShare} f)) := by
  unfold owns; exact Idealize.SL.BI.Entails.refl _

set_option maxHeartbeats 4000000 in
/-- A trip's pieces do not depend on what the output block held. -/
theorem trip_ind (𝒱 : Variants) (c : Dev nD) (bd : Option 𝒱.V) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S256x256 .bf16) (harg8 : arg8.IsWhole) (arg9 : Memref sig .tc .vmem S256x512 .bf16) (harg9 : arg9.IsWhole) (arg10 : Memref sig .tc .vmem S4x128x128 .f32) (harg10 : arg10.IsWhole) (arg11 : Memref sig .tc .vmem S256x512 .f32) (harg11 : arg11.IsWhole) (arg12 : Memref sig .tc .vmem S256x512 .f32) (harg12 : arg12.IsWhole) (v52 : Vec F S1x128 .f32) (v65 : IVec S32x32 32) (v66 : IVec S32x128 32) (Y2 : BufTy.Contents (Elt F) arg2.view.ty) (Y4 : BufTy.Contents (Elt F) arg4.view.ty) (Y5 : BufTy.Contents (Elt F) arg5.view.ty) (Y11 : BufTy.Contents (Elt F) arg11.view.ty) (Y12 : BufTy.Contents (Elt F) arg12.view.ty) (k : Fin k0_t1_loop.trips) (f g : BufTy.Contents (Elt F) arg9.view.ty) (h : BufTy.Contents (Elt F) arg10.view.ty) :
    tripL_k0_t1 (F := F) 𝒱 c bd i arg2 harg2 arg3 harg3 arg4 harg4 arg5 harg5 arg6 harg6 arg7 harg7 arg8 harg8 arg9 harg9 arg10 harg10 arg11 harg11 arg12 harg12 v52 v65 v66 Y2 Y4 Y5 Y11 Y12 k f h = tripL_k0_t1 (F := F) 𝒱 c bd i arg2 harg2 arg3 harg3 arg4 harg4 arg5 harg5 arg6 harg6 arg7 harg7 arg8 harg8 arg9 harg9 arg10 harg10 arg11 harg11 arg12 harg12 v52 v65 v66 Y2 Y4 Y5 Y11 Y12 k g h := by
  unfold tripL_k0_t1 trip_k0_t1; rfl

set_option maxHeartbeats 4000000 in
/-- The loop's pieces do not depend on what the output block held before it. -/
theorem pb_ind (𝒱 : Variants) (c : Dev nD) (bd : Option 𝒱.V) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S256x256 .bf16) (harg8 : arg8.IsWhole) (arg9 : Memref sig .tc .vmem S256x512 .bf16) (harg9 : arg9.IsWhole) (arg10 : Memref sig .tc .vmem S4x128x128 .f32) (harg10 : arg10.IsWhole) (arg11 : Memref sig .tc .vmem S256x512 .f32) (harg11 : arg11.IsWhole) (arg12 : Memref sig .tc .vmem S256x512 .f32) (harg12 : arg12.IsWhole) (v52 : Vec F S1x128 .f32) (v65 : IVec S32x32 32) (v66 : IVec S32x128 32) (Y2 : BufTy.Contents (Elt F) arg2.view.ty) (Y4 : BufTy.Contents (Elt F) arg4.view.ty) (Y5 : BufTy.Contents (Elt F) arg5.view.ty) (Y11 : BufTy.Contents (Elt F) arg11.view.ty) (Y12 : BufTy.Contents (Elt F) arg12.view.ty) (f g : BufTy.Contents (Elt F) arg9.view.ty) (h : BufTy.Contents (Elt F) arg10.view.ty) (k : ℕ) (hk : k ≤ k0_t1_loop.trips) :
    pb_k0_t1 (F := F) 𝒱 c bd i arg2 harg2 arg3 harg3 arg4 harg4 arg5 harg5 arg6 harg6 arg7 harg7 arg8 harg8 arg9 harg9 arg10 harg10 arg11 harg11 arg12 harg12 v52 v65 v66 Y2 Y4 Y5 Y11 Y12 f h k = pb_k0_t1 (F := F) 𝒱 c bd i arg2 harg2 arg3 harg3 arg4 harg4 arg5 harg5 arg6 harg6 arg7 harg7 arg8 harg8 arg9 harg9 arg10 harg10 arg11 harg11 arg12 harg12 v52 v65 v66 Y2 Y4 Y5 Y11 Y12 g h k := by
  induction k with
  | zero => rfl
  | succ k ih =>
    have e : pb_k0_t1 (F := F) 𝒱 c bd i arg2 harg2 arg3 harg3 arg4 harg4 arg5 harg5 arg6 harg6 arg7 harg7 arg8 harg8 arg9 harg9 arg10 harg10 arg11 harg11 arg12 harg12 v52 v65 v66 Y2 Y4 Y5 Y11 Y12 f h (⟨k, hk⟩ : Fin k0_t1_loop.trips).val = pb_k0_t1 (F := F) 𝒱 c bd i arg2 harg2 arg3 harg3 arg4 harg4 arg5 harg5 arg6 harg6 arg7 harg7 arg8 harg8 arg9 harg9 arg10 harg10 arg11 harg11 arg12 harg12 v52 v65 v66 Y2 Y4 Y5 Y11 Y12 g h (⟨k, hk⟩ : Fin k0_t1_loop.trips).val := ih (Nat.le_of_succ_le hk)
    refine (pb_k0_t1_succ 𝒱 c bd i arg2 harg2 arg3 harg3 arg4 harg4 arg5 harg5 arg6 harg6 arg7 harg7 arg8 harg8 arg9 harg9 arg10 harg10 arg11 harg11 arg12 harg12 v52 v65 v66 Y2 Y4 Y5 Y11 Y12 f h ⟨k, hk⟩).trans (Eq.trans ?_ (pb_k0_t1_succ 𝒱 c bd i arg2 harg2 arg3 harg3 arg4 harg4 arg5 harg5 arg6 harg6 arg7 harg7 arg8 harg8 arg9 harg9 arg10 harg10 arg11 harg11 arg12 harg12 v52 v65 v66 Y2 Y4 Y5 Y11 Y12 g h ⟨k, hk⟩).symm)
    rw [e]
    exact congrArg (fun x => (x.1 ++ (pb_k0_t1 (F := F) 𝒱 c bd i arg2 harg2 arg3 harg3 arg4 harg4 arg5 harg5 arg6 harg6 arg7 harg7 arg8 harg8 arg9 harg9 arg10 harg10 arg11 harg11 arg12 harg12 v52 v65 v66 Y2 Y4 Y5 Y11 Y12 g h (⟨k, hk⟩ : Fin k0_t1_loop.trips).val).1, x.2 ++ (pb_k0_t1 (F := F) 𝒱 c bd i arg2 harg2 arg3 harg3 arg4 harg4 arg5 harg5 arg6 harg6 arg7 harg7 arg8 harg8 arg9 harg9 arg10 harg10 arg11 harg11 arg12 harg12 v52 v65 v66 Y2 Y4 Y5 Y11 Y12 g h (⟨k, hk⟩ : Fin k0_t1_loop.trips).val).2)) (trip_ind 𝒱 c bd i arg2 harg2 arg3 harg3 arg4 harg4 arg5 harg5 arg6 harg6 arg7 harg7 arg8 harg8 arg9 harg9 arg10 harg10 arg11 harg11 arg12 harg12 v52 v65 v66 Y2 Y4 Y5 Y11 Y12 ⟨k, hk⟩ _ _ _)

set_option maxHeartbeats 4000000 in
/-- The pieces do not depend on what the output block held before the point. -/
theorem indAE_9 (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S256x256 .bf16) (harg8 : arg8.IsWhole) (arg9 : Memref sig .tc .vmem S256x512 .bf16) (harg9 : arg9.IsWhole) (arg10 : Memref sig .tc .vmem S4x128x128 .f32) (harg10 : arg10.IsWhole) (arg11 : Memref sig .tc .vmem S256x512 .f32) (harg11 : arg11.IsWhole) (arg12 : Memref sig .tc .vmem S256x512 .f32) (harg12 : arg12.IsWhole) (hc0 : cond0_0 i) (x0 : Vec F S256x512 .f32) (x1 : Vec F S256x512 .f32) (x2 : Vec F S256x512 .f32) (x3 : Vec F S256x512 .f32) (x4 : Vec F S2x512 .f32) (x5 : Vec F S1x128 .f32) (x6 : Vec F S256x256 .bf16) (hx : cmpw x4 x1 x6 = 1#1) (f g : BufTy.Contents (Elt F) arg9.view.ty) :
    (runAE c i arg2 harg2 arg3 harg3 arg4 harg4 arg5 harg5 arg6 harg6 arg7 harg7 arg8 harg8 arg9 harg9 arg10 harg10 arg11 harg11 arg12 harg12 hc0 x0 x1 x2 x3 x4 x5 x6 hx).1 f = (runAE c i arg2 harg2 arg3 harg3 arg4 harg4 arg5 harg5 arg6 harg6 arg7 harg7 arg8 harg8 arg9 harg9 arg10 harg10 arg11 harg11 arg12 harg12 hc0 x0 x1 x2 x3 x4 x5 x6 hx).1 g := by
  unfold runAE; dsimp only
  rw [pb_ind _ _ _ _ _ _ _ _ _ _ _ _ _ _ _ _ _ _ _ _ _ _ _ _ _ _  _ _ _ _ _ _ _ _ f g _ _ (Nat.le_refl _)]

set_option maxHeartbeats 4000000 in
/-- The pieces do not depend on what the output block held before the point. -/
theorem indAE_10 (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S256x256 .bf16) (harg8 : arg8.IsWhole) (arg9 : Memref sig .tc .vmem S256x512 .bf16) (harg9 : arg9.IsWhole) (arg10 : Memref sig .tc .vmem S4x128x128 .f32) (harg10 : arg10.IsWhole) (arg11 : Memref sig .tc .vmem S256x512 .f32) (harg11 : arg11.IsWhole) (arg12 : Memref sig .tc .vmem S256x512 .f32) (harg12 : arg12.IsWhole) (hc0 : cond0_0 i) (x0 : Vec F S256x512 .f32) (x1 : Vec F S256x512 .f32) (x2 : Vec F S256x512 .f32) (x3 : Vec F S256x512 .f32) (x4 : Vec F S2x512 .f32) (x5 : Vec F S1x128 .f32) (x6 : Vec F S256x256 .bf16) (hx : cmpw x4 x1 x6 = 1#1) (f g : BufTy.Contents (Elt F) arg9.view.ty) :
    (runAE c i arg2 harg2 arg3 harg3 arg4 harg4 arg5 harg5 arg6 harg6 arg7 harg7 arg8 harg8 arg9 harg9 arg10 harg10 arg11 harg11 arg12 harg12 hc0 x0 x1 x2 x3 x4 x5 x6 hx).2.1 f = (runAE c i arg2 harg2 arg3 harg3 arg4 harg4 arg5 harg5 arg6 harg6 arg7 harg7 arg8 harg8 arg9 harg9 arg10 harg10 arg11 harg11 arg12 harg12 hc0 x0 x1 x2 x3 x4 x5 x6 hx).2.1 g := by
  unfold runAE; dsimp only
  rw [pb_ind _ _ _ _ _ _ _ _ _ _ _ _ _ _ _ _ _ _ _ _ _ _ _ _ _ _  _ _ _ _ _ _ _ _ f g _ _ (Nat.le_refl _)]

set_option maxHeartbeats 4000000 in
/-- The pieces do not depend on what the output block held before the point. -/
theorem indBE_9 (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S256x256 .bf16) (harg8 : arg8.IsWhole) (arg9 : Memref sig .tc .vmem S256x512 .bf16) (harg9 : arg9.IsWhole) (arg10 : Memref sig .tc .vmem S4x128x128 .f32) (harg10 : arg10.IsWhole) (arg11 : Memref sig .tc .vmem S256x512 .f32) (harg11 : arg11.IsWhole) (arg12 : Memref sig .tc .vmem S256x512 .f32) (harg12 : arg12.IsWhole) (hc0 : ¬cond0_0 i) (x0 : Vec F S256x512 .f32) (x1 : Vec F S256x512 .f32) (x2 : Vec F S256x512 .f32) (x3 : Vec F S256x512 .f32) (x4 : Vec F S2x512 .f32) (x5 : Vec F S1x128 .f32) (x6 : Vec F S256x256 .bf16) (xs : Vec F S4x128x128 .f32) (hx : cmpw x4 x1 x6 = 1#1) (f g : BufTy.Contents (Elt F) arg9.view.ty) :
    (runBE c i arg2 harg2 arg3 harg3 arg4 harg4 arg5 harg5 arg6 harg6 arg7 harg7 arg8 harg8 arg9 harg9 arg10 harg10 arg11 harg11 arg12 harg12 hc0 x0 x1 x2 x3 x4 x5 x6 xs hx).1 f = (runBE c i arg2 harg2 arg3 harg3 arg4 harg4 arg5 harg5 arg6 harg6 arg7 harg7 arg8 harg8 arg9 harg9 arg10 harg10 arg11 harg11 arg12 harg12 hc0 x0 x1 x2 x3 x4 x5 x6 xs hx).1 g := by
  unfold runBE; dsimp only
  rw [pb_ind _ _ _ _ _ _ _ _ _ _ _ _ _ _ _ _ _ _ _ _ _ _ _ _ _ _  _ _ _ _ _ _ _ _ f g _ _ (Nat.le_refl _)]

set_option maxHeartbeats 4000000 in
/-- The pieces do not depend on what the output block held before the point. -/
theorem indBE_10 (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S256x256 .bf16) (harg8 : arg8.IsWhole) (arg9 : Memref sig .tc .vmem S256x512 .bf16) (harg9 : arg9.IsWhole) (arg10 : Memref sig .tc .vmem S4x128x128 .f32) (harg10 : arg10.IsWhole) (arg11 : Memref sig .tc .vmem S256x512 .f32) (harg11 : arg11.IsWhole) (arg12 : Memref sig .tc .vmem S256x512 .f32) (harg12 : arg12.IsWhole) (hc0 : ¬cond0_0 i) (x0 : Vec F S256x512 .f32) (x1 : Vec F S256x512 .f32) (x2 : Vec F S256x512 .f32) (x3 : Vec F S256x512 .f32) (x4 : Vec F S2x512 .f32) (x5 : Vec F S1x128 .f32) (x6 : Vec F S256x256 .bf16) (xs : Vec F S4x128x128 .f32) (hx : cmpw x4 x1 x6 = 1#1) (f g : BufTy.Contents (Elt F) arg9.view.ty) :
    (runBE c i arg2 harg2 arg3 harg3 arg4 harg4 arg5 harg5 arg6 harg6 arg7 harg7 arg8 harg8 arg9 harg9 arg10 harg10 arg11 harg11 arg12 harg12 hc0 x0 x1 x2 x3 x4 x5 x6 xs hx).2.1 f = (runBE c i arg2 harg2 arg3 harg3 arg4 harg4 arg5 harg5 arg6 harg6 arg7 harg7 arg8 harg8 arg9 harg9 arg10 harg10 arg11 harg11 arg12 harg12 hc0 x0 x1 x2 x3 x4 x5 x6 xs hx).2.1 g := by
  unfold runBE; dsimp only
  rw [pb_ind _ _ _ _ _ _ _ _ _ _ _ _ _ _ _ _ _ _ _ _ _ _ _ _ _ _  _ _ _ _ _ _ _ _ f g _ _ (Nat.le_refl _)]

/-- The output's pieces cover the block (later point, scaled form). -/
theorem covBF_9 (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S256x256 .bf16) (harg8 : arg8.IsWhole) (arg9 : Memref sig .tc .vmem S256x512 .bf16) (harg9 : arg9.IsWhole) (arg10 : Memref sig .tc .vmem S4x128x128 .f32) (harg10 : arg10.IsWhole) (arg11 : Memref sig .tc .vmem S256x512 .f32) (harg11 : arg11.IsWhole) (arg12 : Memref sig .tc .vmem S256x512 .f32) (harg12 : arg12.IsWhole) (hc0 : ¬cond0_0 i) (x0 : Vec F S256x512 .f32) (x1 : Vec F S256x512 .f32) (x2 : Vec F S256x512 .f32) (x3 : Vec F S256x512 .f32) (x4 : Vec F S2x512 .f32) (x5 : Vec F S1x128 .f32) (x6 : Vec F S256x256 .bf16) (xs : Vec F S4x128x128 .f32) (hx : cmpw x4 x1 x6 = 0#1) (y : S256x512.Idx) :
    ∃ pc ∈ ((runBF c i arg2 harg2 arg3 harg3 arg4 harg4 arg5 harg5 arg6 harg6 arg7 harg7 arg8 harg8 arg9 harg9 arg10 harg10 arg11 harg11 arg12 harg12 hc0 x0 x1 x2 x3 x4 x5 x6 xs hx).1), y ∈ pc.1.set :=
  View.cover_of_tiledL ((runBF c i arg2 harg2 arg3 harg3 arg4 harg4 arg5 harg5 arg6 harg6 arg7 harg7 arg8 harg8 arg9 harg9 arg10 harg10 arg11 harg11 arg12 harg12 hc0 x0 x1 x2 x3 x4 x5 x6 xs hx).1) S64x128.size (by sl_kernel_rfl) y

/-- The state's pieces cover the state (later point, scaled form). -/
theorem covBF_10 (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S256x256 .bf16) (harg8 : arg8.IsWhole) (arg9 : Memref sig .tc .vmem S256x512 .bf16) (harg9 : arg9.IsWhole) (arg10 : Memref sig .tc .vmem S4x128x128 .f32) (harg10 : arg10.IsWhole) (arg11 : Memref sig .tc .vmem S256x512 .f32) (harg11 : arg11.IsWhole) (arg12 : Memref sig .tc .vmem S256x512 .f32) (harg12 : arg12.IsWhole) (hc0 : ¬cond0_0 i) (x0 : Vec F S256x512 .f32) (x1 : Vec F S256x512 .f32) (x2 : Vec F S256x512 .f32) (x3 : Vec F S256x512 .f32) (x4 : Vec F S2x512 .f32) (x5 : Vec F S1x128 .f32) (x6 : Vec F S256x256 .bf16) (xs : Vec F S4x128x128 .f32) (hx : cmpw x4 x1 x6 = 0#1) (y : S4x128x128.Idx) :
    ∃ pc ∈ ((runBF c i arg2 harg2 arg3 harg3 arg4 harg4 arg5 harg5 arg6 harg6 arg7 harg7 arg8 harg8 arg9 harg9 arg10 harg10 arg11 harg11 arg12 harg12 hc0 x0 x1 x2 x3 x4 x5 x6 xs hx).2.1), y ∈ pc.1.set :=
  View.cover_of_tiledL ((runBF c i arg2 harg2 arg3 harg3 arg4 harg4 arg5 harg5 arg6 harg6 arg7 harg7 arg8 harg8 arg9 harg9 arg10 harg10 arg11 harg11 arg12 harg12 hc0 x0 x1 x2 x3 x4 x5 x6 xs hx).2.1) S1x128x128.size (by sl_kernel_rfl) y

/-- The output's pieces cover the block (later point, term by term form). -/
theorem covBE_9 (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S256x256 .bf16) (harg8 : arg8.IsWhole) (arg9 : Memref sig .tc .vmem S256x512 .bf16) (harg9 : arg9.IsWhole) (arg10 : Memref sig .tc .vmem S4x128x128 .f32) (harg10 : arg10.IsWhole) (arg11 : Memref sig .tc .vmem S256x512 .f32) (harg11 : arg11.IsWhole) (arg12 : Memref sig .tc .vmem S256x512 .f32) (harg12 : arg12.IsWhole) (hc0 : ¬cond0_0 i) (x0 : Vec F S256x512 .f32) (x1 : Vec F S256x512 .f32) (x2 : Vec F S256x512 .f32) (x3 : Vec F S256x512 .f32) (x4 : Vec F S2x512 .f32) (x5 : Vec F S1x128 .f32) (x6 : Vec F S256x256 .bf16) (xs : Vec F S4x128x128 .f32) (hx : cmpw x4 x1 x6 = 1#1) (f9 : BufTy.Contents (Elt F) arg9.view.ty) (y : S256x512.Idx) :
    ∃ pc ∈ ((runBE c i arg2 harg2 arg3 harg3 arg4 harg4 arg5 harg5 arg6 harg6 arg7 harg7 arg8 harg8 arg9 harg9 arg10 harg10 arg11 harg11 arg12 harg12 hc0 x0 x1 x2 x3 x4 x5 x6 xs hx).1 f9), y ∈ pc.1.set :=
  View.cover_of_tiledL ((runBE c i arg2 harg2 arg3 harg3 arg4 harg4 arg5 harg5 arg6 harg6 arg7 harg7 arg8 harg8 arg9 harg9 arg10 harg10 arg11 harg11 arg12 harg12 hc0 x0 x1 x2 x3 x4 x5 x6 xs hx).1 f9) S32x128.size (by sl_kernel_rfl) y

/-- The state's pieces cover the state (later point, term by term form). -/
theorem covBE_10 (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S256x256 .bf16) (harg8 : arg8.IsWhole) (arg9 : Memref sig .tc .vmem S256x512 .bf16) (harg9 : arg9.IsWhole) (arg10 : Memref sig .tc .vmem S4x128x128 .f32) (harg10 : arg10.IsWhole) (arg11 : Memref sig .tc .vmem S256x512 .f32) (harg11 : arg11.IsWhole) (arg12 : Memref sig .tc .vmem S256x512 .f32) (harg12 : arg12.IsWhole) (hc0 : ¬cond0_0 i) (x0 : Vec F S256x512 .f32) (x1 : Vec F S256x512 .f32) (x2 : Vec F S256x512 .f32) (x3 : Vec F S256x512 .f32) (x4 : Vec F S2x512 .f32) (x5 : Vec F S1x128 .f32) (x6 : Vec F S256x256 .bf16) (xs : Vec F S4x128x128 .f32) (hx : cmpw x4 x1 x6 = 1#1) (f9 : BufTy.Contents (Elt F) arg9.view.ty) (y : S4x128x128.Idx) :
    ∃ pc ∈ ((runBE c i arg2 harg2 arg3 harg3 arg4 harg4 arg5 harg5 arg6 harg6 arg7 harg7 arg8 harg8 arg9 harg9 arg10 harg10 arg11 harg11 arg12 harg12 hc0 x0 x1 x2 x3 x4 x5 x6 xs hx).2.1 f9), y ∈ pc.1.set :=
  View.cover_of_tiledL ((runBE c i arg2 harg2 arg3 harg3 arg4 harg4 arg5 harg5 arg6 harg6 arg7 harg7 arg8 harg8 arg9 harg9 arg10 harg10 arg11 harg11 arg12 harg12 hc0 x0 x1 x2 x3 x4 x5 x6 xs hx).2.1 f9) S1x128x128.size (by sl_kernel_rfl) y

/-- The output's pieces cover the block (first point, scaled form). -/
theorem covAF_9 (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S256x256 .bf16) (harg8 : arg8.IsWhole) (arg9 : Memref sig .tc .vmem S256x512 .bf16) (harg9 : arg9.IsWhole) (arg10 : Memref sig .tc .vmem S4x128x128 .f32) (harg10 : arg10.IsWhole) (arg11 : Memref sig .tc .vmem S256x512 .f32) (harg11 : arg11.IsWhole) (arg12 : Memref sig .tc .vmem S256x512 .f32) (harg12 : arg12.IsWhole) (hc0 : cond0_0 i) (x0 : Vec F S256x512 .f32) (x1 : Vec F S256x512 .f32) (x2 : Vec F S256x512 .f32) (x3 : Vec F S256x512 .f32) (x4 : Vec F S2x512 .f32) (x5 : Vec F S1x128 .f32) (x6 : Vec F S256x256 .bf16) (hx : cmpw x4 x1 x6 = 0#1) (y : S256x512.Idx) :
    ∃ pc ∈ ((runAF c i arg2 harg2 arg3 harg3 arg4 harg4 arg5 harg5 arg6 harg6 arg7 harg7 arg8 harg8 arg9 harg9 arg10 harg10 arg11 harg11 arg12 harg12 hc0 x0 x1 x2 x3 x4 x5 x6 hx).1), y ∈ pc.1.set :=
  View.cover_of_tiledL ((runAF c i arg2 harg2 arg3 harg3 arg4 harg4 arg5 harg5 arg6 harg6 arg7 harg7 arg8 harg8 arg9 harg9 arg10 harg10 arg11 harg11 arg12 harg12 hc0 x0 x1 x2 x3 x4 x5 x6 hx).1) S64x128.size (by sl_kernel_rfl) y

/-- The state's pieces cover the state (first point, scaled form). -/
theorem covAF_10 (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S256x256 .bf16) (harg8 : arg8.IsWhole) (arg9 : Memref sig .tc .vmem S256x512 .bf16) (harg9 : arg9.IsWhole) (arg10 : Memref sig .tc .vmem S4x128x128 .f32) (harg10 : arg10.IsWhole) (arg11 : Memref sig .tc .vmem S256x512 .f32) (harg11 : arg11.IsWhole) (arg12 : Memref sig .tc .vmem S256x512 .f32) (harg12 : arg12.IsWhole) (hc0 : cond0_0 i) (x0 : Vec F S256x512 .f32) (x1 : Vec F S256x512 .f32) (x2 : Vec F S256x512 .f32) (x3 : Vec F S256x512 .f32) (x4 : Vec F S2x512 .f32) (x5 : Vec F S1x128 .f32) (x6 : Vec F S256x256 .bf16) (hx : cmpw x4 x1 x6 = 0#1) (y : S4x128x128.Idx) :
    ∃ pc ∈ ((runAF c i arg2 harg2 arg3 harg3 arg4 harg4 arg5 harg5 arg6 harg6 arg7 harg7 arg8 harg8 arg9 harg9 arg10 harg10 arg11 harg11 arg12 harg12 hc0 x0 x1 x2 x3 x4 x5 x6 hx).2.1), y ∈ pc.1.set :=
  View.cover_of_tiledL ((runAF c i arg2 harg2 arg3 harg3 arg4 harg4 arg5 harg5 arg6 harg6 arg7 harg7 arg8 harg8 arg9 harg9 arg10 harg10 arg11 harg11 arg12 harg12 hc0 x0 x1 x2 x3 x4 x5 x6 hx).2.1) S1x128x128.size (by sl_kernel_rfl) y

/-- The output's pieces cover the block (first point, term by term form). -/
theorem covAE_9 (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S256x256 .bf16) (harg8 : arg8.IsWhole) (arg9 : Memref sig .tc .vmem S256x512 .bf16) (harg9 : arg9.IsWhole) (arg10 : Memref sig .tc .vmem S4x128x128 .f32) (harg10 : arg10.IsWhole) (arg11 : Memref sig .tc .vmem S256x512 .f32) (harg11 : arg11.IsWhole) (arg12 : Memref sig .tc .vmem S256x512 .f32) (harg12 : arg12.IsWhole) (hc0 : cond0_0 i) (x0 : Vec F S256x512 .f32) (x1 : Vec F S256x512 .f32) (x2 : Vec F S256x512 .f32) (x3 : Vec F S256x512 .f32) (x4 : Vec F S2x512 .f32) (x5 : Vec F S1x128 .f32) (x6 : Vec F S256x256 .bf16) (hx : cmpw x4 x1 x6 = 1#1) (f9 : BufTy.Contents (Elt F) arg9.view.ty) (y : S256x512.Idx) :
    ∃ pc ∈ ((runAE c i arg2 harg2 arg3 harg3 arg4 harg4 arg5 harg5 arg6 harg6 arg7 harg7 arg8 harg8 arg9 harg9 arg10 harg10 arg11 harg11 arg12 harg12 hc0 x0 x1 x2 x3 x4 x5 x6 hx).1 f9), y ∈ pc.1.set :=
  View.cover_of_tiledL ((runAE c i arg2 harg2 arg3 harg3 arg4 harg4 arg5 harg5 arg6 harg6 arg7 harg7 arg8 harg8 arg9 harg9 arg10 harg10 arg11 harg11 arg12 harg12 hc0 x0 x1 x2 x3 x4 x5 x6 hx).1 f9) S32x128.size (by sl_kernel_rfl) y

/-- The state's pieces cover the state (first point, term by term form). -/
theorem covAE_10 (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S256x256 .bf16) (harg8 : arg8.IsWhole) (arg9 : Memref sig .tc .vmem S256x512 .bf16) (harg9 : arg9.IsWhole) (arg10 : Memref sig .tc .vmem S4x128x128 .f32) (harg10 : arg10.IsWhole) (arg11 : Memref sig .tc .vmem S256x512 .f32) (harg11 : arg11.IsWhole) (arg12 : Memref sig .tc .vmem S256x512 .f32) (harg12 : arg12.IsWhole) (hc0 : cond0_0 i) (x0 : Vec F S256x512 .f32) (x1 : Vec F S256x512 .f32) (x2 : Vec F S256x512 .f32) (x3 : Vec F S256x512 .f32) (x4 : Vec F S2x512 .f32) (x5 : Vec F S1x128 .f32) (x6 : Vec F S256x256 .bf16) (hx : cmpw x4 x1 x6 = 1#1) (f9 : BufTy.Contents (Elt F) arg9.view.ty) (y : S4x128x128.Idx) :
    ∃ pc ∈ ((runAE c i arg2 harg2 arg3 harg3 arg4 harg4 arg5 harg5 arg6 harg6 arg7 harg7 arg8 harg8 arg9 harg9 arg10 harg10 arg11 harg11 arg12 harg12 hc0 x0 x1 x2 x3 x4 x5 x6 hx).2.1 f9), y ∈ pc.1.set :=
  View.cover_of_tiledL ((runAE c i arg2 harg2 arg3 harg3 arg4 harg4 arg5 harg5 arg6 harg6 arg7 harg7 arg8 harg8 arg9 harg9 arg10 harg10 arg11 harg11 arg12 harg12 hc0 x0 x1 x2 x3 x4 x5 x6 hx).2.1 f9) S1x128x128.size (by sl_kernel_rfl) y

end Cert.KernelIdeal.Hgrn

end
-- ==== Proof.HgFrame.lean ====
module

public import proofs.«01_k».proof.Proof.HgCov
public import Idealize.ShloMosaic.Lib.Claim

@[expose] public section

set_option maxRecDepth 16384

noncomputable section

namespace Cert.KernelIdeal.Hgrn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ
variable (m : (ℓ : Loc nD τ sig) → Buf (Elt F) ℓ) (ρ : Dev nD → PrngReg)

/-- The first point of a sequence is every eighth. -/
theorem hcond : ∀ t : Fin cfg0.N, cond0_0 (grid0.coords t) ↔ t.val % 8 = 0 :=
  (fun t => by
    have ht : t.val < 256 := Nat.lt_of_lt_of_eq t.isLt N_0
    have e0 : (grid0.coords t 0).val = t.val / 8 % 32 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-- Window 0 is used at every point. -/
theorem live0 : ∀ t : Fin cfg0.N, cfg0.idle 0 (grid0.coords t) = false := fun _ => rfl
/-- Window 1 is used at every point. -/
theorem live1 : ∀ t : Fin cfg0.N, cfg0.idle 1 (grid0.coords t) = false := fun _ => rfl
/-- Window 2 is used at every point. -/
theorem live2 : ∀ t : Fin cfg0.N, cfg0.idle 2 (grid0.coords t) = false := fun _ => rfl
/-- Window 3 is used at every point. -/
theorem live3 : ∀ t : Fin cfg0.N, cfg0.idle 3 (grid0.coords t) = false := fun _ => rfl
/-- Window 4 is used at every point. -/
theorem live4 : ∀ t : Fin cfg0.N, cfg0.idle 4 (grid0.coords t) = false := fun _ => rfl
/-- Window 5 is used at every point. -/
theorem live5 : ∀ t : Fin cfg0.N, cfg0.idle 5 (grid0.coords t) = false := fun _ => rfl
/-- Window 6 is used at every point. -/
theorem live6 : ∀ t : Fin cfg0.N, cfg0.idle 6 (grid0.coords t) = false := fun _ => rfl
/-- Window 7 is used at every point. -/
theorem live7 : ∀ t : Fin cfg0.N, cfg0.idle 7 (grid0.coords t) = false := fun _ => rfl

abbrev VO : View sig .tc .vmem S256x512 .bf16 := (Memref.whole cc0_stg7_0 : Memref sig .tc .vmem S256x512 .bf16).view
abbrev scM0_0 : Memref sig .tc .vmem S4x128x128 .f32 := Memref.whole cc0_scratch0
abbrev scM0_1 : Memref sig .tc .vmem S256x512 .f32 := Memref.whole cc0_scratch1
abbrev scM0_2 : Memref sig .tc .vmem S256x512 .f32 := Memref.whole cc0_scratch2
abbrev VS : View sig .tc .vmem S4x128x128 .f32 := scM0_0.view

/-- The invariant around the launch: the three scratch buffers and the generator register, at anything. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- A bit that is not one is zero. -/
theorem bit0 : ∀ {b : BitVec 1}, ¬b = 1#1 → b = 0#1 := by decide

/-- The output block and the state the run leaves at a point (AF). -/
def stepAF (c : Dev nD) (t : Fin cfg0.N) (h0 : t.val % 8 = 0) (hx : cmpw (iblk m c 4 t) (iblk m c 1 t) (iblk m c 6 t) = 0#1) : Vec F S256x512 .bf16 × Vec F S4x128x128 .f32 :=
  (VO.read (Elt F) (VO.writes (Elt F) VO.junk ((runAF c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) scM0_0 (Memref.isWhole_whole _) scM0_1 (Memref.isWhole_whole _) scM0_2 (Memref.isWhole_whole _) ((hcond t).mpr h0) (iblk m c 0 t) (iblk m c 1 t) (iblk m c 2 t) (iblk m c 3 t) (iblk m c 4 t) (iblk m c 5 t) (iblk m c 6 t) hx).1)),
   VS.read (Elt F) (VS.writes (Elt F) VS.junk ((runAF c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) scM0_0 (Memref.isWhole_whole _) scM0_1 (Memref.isWhole_whole _) scM0_2 (Memref.isWhole_whole _) ((hcond t).mpr h0) (iblk m c 0 t) (iblk m c 1 t) (iblk m c 2 t) (iblk m c 3 t) (iblk m c 4 t) (iblk m c 5 t) (iblk m c 6 t) hx).2.1)))

/-- The output block and the state the run leaves at a point (AE). -/
def stepAE (c : Dev nD) (t : Fin cfg0.N) (h0 : t.val % 8 = 0) (hx : cmpw (iblk m c 4 t) (iblk m c 1 t) (iblk m c 6 t) = 1#1) : Vec F S256x512 .bf16 × Vec F S4x128x128 .f32 :=
  (VO.read (Elt F) (VO.writes (Elt F) VO.junk ((runAE c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) scM0_0 (Memref.isWhole_whole _) scM0_1 (Memref.isWhole_whole _) scM0_2 (Memref.isWhole_whole _) ((hcond t).mpr h0) (iblk m c 0 t) (iblk m c 1 t) (iblk m c 2 t) (iblk m c 3 t) (iblk m c 4 t) (iblk m c 5 t) (iblk m c 6 t) hx).1 (win0_7.stage (cfg0.slots t 7)).view.junk)),
   VS.read (Elt F) (VS.writes (Elt F) VS.junk ((runAE c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) scM0_0 (Memref.isWhole_whole _) scM0_1 (Memref.isWhole_whole _) scM0_2 (Memref.isWhole_whole _) ((hcond t).mpr h0) (iblk m c 0 t) (iblk m c 1 t) (iblk m c 2 t) (iblk m c 3 t) (iblk m c 4 t) (iblk m c 5 t) (iblk m c 6 t) hx).2.1 (win0_7.stage (cfg0.slots t 7)).view.junk)))

/-- The output block and the state the run leaves at a point (BF). -/
def stepBF (c : Dev nD) (t : Fin cfg0.N) (h0 : ¬t.val % 8 = 0) (hx : cmpw (iblk m c 4 t) (iblk m c 1 t) (iblk m c 6 t) = 0#1) (xs : Vec F S4x128x128 .f32) : Vec F S256x512 .bf16 × Vec F S4x128x128 .f32 :=
  (VO.read (Elt F) (VO.writes (Elt F) VO.junk ((runBF c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) scM0_0 (Memref.isWhole_whole _) scM0_1 (Memref.isWhole_whole _) scM0_2 (Memref.isWhole_whole _) (fun h => h0 ((hcond t).mp h)) (iblk m c 0 t) (iblk m c 1 t) (iblk m c 2 t) (iblk m c 3 t) (iblk m c 4 t) (iblk m c 5 t) (iblk m c 6 t) xs hx).1)),
   VS.read (Elt F) (VS.writes (Elt F) VS.junk ((runBF c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) scM0_0 (Memref.isWhole_whole _) scM0_1 (Memref.isWhole_whole _) scM0_2 (Memref.isWhole_whole _) (fun h => h0 ((hcond t).mp h)) (iblk m c 0 t) (iblk m c 1 t) (iblk m c 2 t) (iblk m c 3 t) (iblk m c 4 t) (iblk m c 5 t) (iblk m c 6 t) xs hx).2.1)))

/-- The output block and the state the run leaves at a point (BE). -/
def stepBE (c : Dev nD) (t : Fin cfg0.N) (h0 : ¬t.val % 8 = 0) (hx : cmpw (iblk m c 4 t) (iblk m c 1 t) (iblk m c 6 t) = 1#1) (xs : Vec F S4x128x128 .f32) : Vec F S256x512 .bf16 × Vec F S4x128x128 .f32 :=
  (VO.read (Elt F) (VO.writes (Elt F) VO.junk ((runBE c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) scM0_0 (Memref.isWhole_whole _) scM0_1 (Memref.isWhole_whole _) scM0_2 (Memref.isWhole_whole _) (fun h => h0 ((hcond t).mp h)) (iblk m c 0 t) (iblk m c 1 t) (iblk m c 2 t) (iblk m c 3 t) (iblk m c 4 t) (iblk m c 5 t) (iblk m c 6 t) xs hx).1 (win0_7.stage (cfg0.slots t 7)).view.junk)),
   VS.read (Elt F) (VS.writes (Elt F) VS.junk ((runBE c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) scM0_0 (Memref.isWhole_whole _) scM0_1 (Memref.isWhole_whole _) scM0_2 (Memref.isWhole_whole _) (fun h => h0 ((hcond t).mp h)) (iblk m c 0 t) (iblk m c 1 t) (iblk m c 2 t) (iblk m c 3 t) (iblk m c 4 t) (iblk m c 5 t) (iblk m c 6 t) xs hx).2.1 (win0_7.stage (cfg0.slots t 7)).view.junk)))

/-- What a point leaves in the output block and the state, from the state before. -/
def step (c : Dev nD) (t : Fin cfg0.N) (xs : Vec F S4x128x128 .f32) : Vec F S256x512 .bf16 × Vec F S4x128x128 .f32 :=
  if h0 : t.val % 8 = 0 then
    if hx : cmpw (iblk m c 4 t) (iblk m c 1 t) (iblk m c 6 t) = 1#1 then stepAE m c t h0 hx else stepAF m c t h0 (bit0 hx)
  else
    if hx : cmpw (iblk m c 4 t) (iblk m c 1 t) (iblk m c 6 t) = 1#1 then stepBE m c t h0 hx xs else stepBF m c t h0 (bit0 hx) xs

/-- What the output block and the state hold after each point. -/
def outs (c : Dev nD) : (n : ℕ) → n < cfg0.N → Vec F S256x512 .bf16 × Vec F S4x128x128 .f32
  | 0, hn => step m c ⟨0, hn⟩ (VS.read (Elt F) VS.junk)
  | n + 1, hn => step m c ⟨n + 1, hn⟩ (outs c n (Nat.lt_of_succ_lt hn)).2

/-- A point that is not the first continues from the state of the one before. -/
theorem outs_pos (c : Dev nD) (t : Fin cfg0.N) (h : t.val ≠ 0) :
    outs m c t.val t.isLt = step m c t (outs m c (t.val - 1) (Nat.lt_of_le_of_lt (Nat.sub_le _ _) t.isLt)).2 := by
  obtain ⟨n, hn⟩ := t
  cases n with
  | zero => exact absurd rfl h
  | succ n => rfl

/-- At the first point of a sequence the state before does not matter. -/
theorem outs_A (c : Dev nD) (t : Fin cfg0.N) (h : t.val % 8 = 0) (xs : Vec F S4x128x128 .f32) :
    outs m c t.val t.isLt = step m c t xs := by
  obtain ⟨n, hn⟩ := t
  cases n with
  | zero => unfold outs step; rw [dif_pos h, dif_pos h]
  | succ n => unfold outs step; rw [dif_pos h, dif_pos h]

/-- The invariant before position `n`: the state at what the point before left, the rest at anything. -/
def PhiS (c : Dev nD) : (n : ℕ) → n ≤ cfg0.N → sProp 𝕄
  | 0, _ => Pipeline.ΦA spec0 c
  | n + 1, hn => iprop(iprop(owns (c : Thread nD τ) scM0_0 fullShare ((outs m c n hn).2) ∗ (∃ d, owns (c : Thread nD τ) scM0_1 fullShare d) ∗ (∃ d, owns (c : Thread nD τ) scM0_2 fullShare d)) ∗ (∃ r, prngReg c r))

/-- The invariant after a point, -/
theorem PhiS_succ (c : Dev nD) (n : ℕ) (hn : n < cfg0.N) :
    PhiS m c (n + 1) hn = iprop(iprop(owns (c : Thread nD τ) scM0_0 fullShare ((outs m c n hn).2) ∗ (∃ d, owns (c : Thread nD τ) scM0_1 fullShare d) ∗ (∃ d, owns (c : Thread nD τ) scM0_2 fullShare d)) ∗ (∃ r, prngReg c r)) := rfl

/-- and before any point but the first. -/
theorem PhiS_pos (c : Dev nD) (n : ℕ) (h : n ≤ cfg0.N) (hz : n ≠ 0) :
    PhiS m c n h = iprop(iprop(owns (c : Thread nD τ) scM0_0 fullShare ((outs m c (n - 1) (by omega)).2) ∗ (∃ d, owns (c : Thread nD τ) scM0_1 fullShare d) ∗ (∃ d, owns (c : Thread nD τ) scM0_2 fullShare d)) ∗ (∃ r, prngReg c r)) := by
  cases n with
  | zero => exact absurd rfl hz
  | succ n => rfl

/-- The invariant with the state's contents forgotten. -/
theorem PhiS_weak (c : Dev nD) (n : ℕ) (h : n ≤ cfg0.N) : PhiS m c n h ⊢ Pipeline.ΦA spec0 c := by
  cases n with
  | zero => exact Idealize.SL.BI.Entails.refl _
  | succ n =>
    rw [PhiS_succ, PhiA0_eq]
    iintro ⟨⟨HS0, HS1, HS2⟩, Hg⟩
    isplitl [HS0 HS1 HS2]
    · isplitl [HS0]
      · iexists _; iexact HS0
      isplitl [HS1]; · iexact HS1
      iexact HS2
    iexact Hg

/-- The launch's data: the arrays as found, each input's block, the output at what the points leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outs m c t.val t.isLt).1
  Φ t := PhiS m c t.val (Nat.le_of_lt_succ t.isLt)
  q w := Pipeline.shareOf spec0 w
  owed _ := 0

/-- The arrays are as found. -/
theorem A_eq (c : Dev nD) (w : Fin cfg0.W) : (dats m 0 c).A w = V m c (Pipeline.arrRef spec0 w) := by
  dsimp only [dats]

/-- The invariant at a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What window 0 holds after a point. -/
theorem after0 (c : Dev nD) (t : Fin cfg0.N) : (dats m 0 c).after 0 t = iblk m c 0 t := by dsimp only [dats]
/-- What window 1 holds after a point. -/
theorem after1 (c : Dev nD) (t : Fin cfg0.N) : (dats m 0 c).after 1 t = iblk m c 1 t := by dsimp only [dats]
/-- What window 2 holds after a point. -/
theorem after2 (c : Dev nD) (t : Fin cfg0.N) : (dats m 0 c).after 2 t = iblk m c 2 t := by dsimp only [dats]
/-- What window 3 holds after a point. -/
theorem after3 (c : Dev nD) (t : Fin cfg0.N) : (dats m 0 c).after 3 t = iblk m c 3 t := by dsimp only [dats]
/-- What window 4 holds after a point. -/
theorem after4 (c : Dev nD) (t : Fin cfg0.N) : (dats m 0 c).after 4 t = iblk m c 4 t := by dsimp only [dats]
/-- What window 5 holds after a point. -/
theorem after5 (c : Dev nD) (t : Fin cfg0.N) : (dats m 0 c).after 5 t = iblk m c 5 t := by dsimp only [dats]
/-- What window 6 holds after a point. -/
theorem after6 (c : Dev nD) (t : Fin cfg0.N) : (dats m 0 c).after 6 t = iblk m c 6 t := by dsimp only [dats]
/-- What window 7 holds after a point. -/
theorem after7 (c : Dev nD) (t : Fin cfg0.N) : (dats m 0 c).after 7 t = (outs m c t.val t.isLt).1 := by dsimp only [dats]
/-- What window 0 holds before a point. -/
theorem before0 (c : Dev nD) (t : Fin cfg0.N) (d) : (dats m 0 c).before 0 t d = iblk m c 0 t :=
  before0_0_of m (dats m 0 c) (A_eq m c 0) (after0 m c) t d
/-- What window 1 holds before a point. -/
theorem before1 (c : Dev nD) (t : Fin cfg0.N) (d) : (dats m 0 c).before 1 t d = iblk m c 1 t :=
  before0_1_of m (dats m 0 c) (A_eq m c 1) (after1 m c) t d
/-- What window 2 holds before a point. -/
theorem before2 (c : Dev nD) (t : Fin cfg0.N) (d) : (dats m 0 c).before 2 t d = iblk m c 2 t :=
  before0_2_of m (dats m 0 c) (A_eq m c 2) (after2 m c) t d
/-- What window 3 holds before a point. -/
theorem before3 (c : Dev nD) (t : Fin cfg0.N) (d) : (dats m 0 c).before 3 t d = iblk m c 3 t :=
  before0_3_of m (dats m 0 c) (A_eq m c 3) (after3 m c) t d
/-- What window 4 holds before a point. -/
theorem before4 (c : Dev nD) (t : Fin cfg0.N) (d) : (dats m 0 c).before 4 t d = iblk m c 4 t :=
  before0_4_of m (dats m 0 c) (A_eq m c 4) (after4 m c) t d
/-- What window 5 holds before a point. -/
theorem before5 (c : Dev nD) (t : Fin cfg0.N) (d) : (dats m 0 c).before 5 t d = iblk m c 5 t :=
  before0_5_of m (dats m 0 c) (A_eq m c 5) (after5 m c) t d
/-- What window 6 holds before a point. -/
theorem before6 (c : Dev nD) (t : Fin cfg0.N) (d) : (dats m 0 c).before 6 t d = iblk m c 6 t :=
  before0_6_of m (dats m 0 c) (A_eq m c 6) (after6 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 6400000 in
/-- The body at a point: the run of the point's case, its blocks put in, its pieces read back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (win0_0.stage (cfg0.slots t 0)) fullShare ((dats m 0 c).after 0 t) from by
    unfold Dat.leavesExact; rw [live0 t], after0]
  rw [show (dats m 0 c).leavesExact 1 t = owns (c : Thread nD τ) (win0_1.stage (cfg0.slots t 1)) fullShare ((dats m 0 c).after 1 t) from by
    unfold Dat.leavesExact; rw [live1 t], after1]
  rw [show (dats m 0 c).leavesExact 2 t = owns (c : Thread nD τ) (win0_2.stage (cfg0.slots t 2)) fullShare ((dats m 0 c).after 2 t) from by
    unfold Dat.leavesExact; rw [live2 t], after2]
  rw [show (dats m 0 c).leavesExact 3 t = owns (c : Thread nD τ) (win0_3.stage (cfg0.slots t 3)) fullShare ((dats m 0 c).after 3 t) from by
    unfold Dat.leavesExact; rw [live3 t], after3]
  rw [show (dats m 0 c).leavesExact 4 t = owns (c : Thread nD τ) (win0_4.stage (cfg0.slots t 4)) fullShare ((dats m 0 c).after 4 t) from by
    unfold Dat.leavesExact; rw [live4 t], after4]
  rw [show (dats m 0 c).leavesExact 5 t = owns (c : Thread nD τ) (win0_5.stage (cfg0.slots t 5)) fullShare ((dats m 0 c).after 5 t) from by
    unfold Dat.leavesExact; rw [live5 t], after5]
  rw [show (dats m 0 c).leavesExact 6 t = owns (c : Thread nD τ) (win0_6.stage (cfg0.slots t 6)) fullShare ((dats m 0 c).after 6 t) from by
    unfold Dat.leavesExact; rw [live6 t], after6]
  rw [show (dats m 0 c).leavesExact 7 t = owns (c : Thread nD τ) (win0_7.stage (cfg0.slots t 7)) fullShare ((dats m 0 c).after 7 t) from by
    unfold Dat.leavesExact; rw [live7 t], after7]
  by_cases h0 : t.val % 8 = 0
  · rw [PhiS_castSucc m c t, outs_A m c t h0 (VS.read (Elt F) VS.junk)]
    refine BIBase.Entails.trans (Laws.sep_mono_left (PhiS_weak m c t.val (Nat.le_of_lt t.isLt))) ?_
    rw [PhiA0_eq]
    unfold step; rw [dif_pos h0]
    by_cases hx : cmpw (iblk m c 4 t) (iblk m c 1 t) (iblk m c 6 t) = 1#1
    · rw [dif_pos hx]
      unfold stepAE; dsimp only
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      ihave ⟨%f7, -, H7⟩ := (own_raw c _ _) $$ [H7]
      · iexact H7
      iapply ((runAE c (grid0.coords t) _ _ _ _ _ _ _ _ _ _ _ _ _ _ _ _ _ _ _ _ _ _ ((hcond t).mpr h0) (iblk m c 0 t) (iblk m c 1 t) (iblk m c 2 t) (iblk m c 3 t) (iblk m c 4 t) (iblk m c 5 t) (iblk m c 6 t) hx).2.2 f7 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      iintro ⟨H0, H1, H2, H3, H4, H5, H6, H7, ⟨%es, HS0⟩, HS1, HS2⟩
      isplitl [HS0 HS1 HS2 Hg]
      · isplitl [HS0 HS1 HS2]
        · isplitl [HS0]
          · unfold owns; iexists _; isplitr
            swap; · iexact HS0
            ipureintro; rw [indAE_10 c _ _ _ _ _ _ _ _ _ _ _ _ _ _ _ _ _ _ _ _ _ _ _ _ _ _ _ _ _ _ _ _  f7 (win0_7.stage (cfg0.slots t 7)).view.junk]; exact View.read_writes_of_cover _ _ _ _ _ (covAE_10 c _ _ _ _ _ _ _ _ _ _ _ _ _ _ _ _ _ _ _ _ _ _ _ _ _ _ _ _ _ _ _ _ _ )
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; rw [indAE_9 c _ _ _ _ _ _ _ _ _ _ _ _ _ _ _ _ _ _ _ _ _ _ _ _ _ _ _ _ _ _ _ _  f7 (win0_7.stage (cfg0.slots t 7)).view.junk]; exact View.read_writes_of_cover _ _ _ _ _ (covAE_9 c _ _ _ _ _ _ _ _ _ _ _ _ _ _ _ _ _ _ _ _ _ _ _ _ _ _ _ _ _ _ _ _ _ )
    · rw [dif_neg hx]; replace hx := bit0 hx
      unfold stepAF; dsimp only
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      ihave ⟨%f7, -, H7⟩ := (own_raw c _ _) $$ [H7]
      · iexact H7
      iapply ((runAF c (grid0.coords t) _ _ _ _ _ _ _ _ _ _ _ _ _ _ _ _ _ _ _ _ _ _ ((hcond t).mpr h0) (iblk m c 0 t) (iblk m c 1 t) (iblk m c 2 t) (iblk m c 3 t) (iblk m c 4 t) (iblk m c 5 t) (iblk m c 6 t) hx).2.2 f7 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      iintro ⟨H0, H1, H2, H3, H4, H5, H6, H7, ⟨%es, HS0⟩, HS1, HS2⟩
      isplitl [HS0 HS1 HS2 Hg]
      · isplitl [HS0 HS1 HS2]
        · isplitl [HS0]
          · unfold owns; iexists _; isplitr
            swap; · iexact HS0
            ipureintro; exact View.read_writes_of_cover _ _ _ _ _ (covAF_10 c _ _ _ _ _ _ _ _ _ _ _ _ _ _ _ _ _ _ _ _ _ _ _ _ _ _ _ _ _ _ _ _ )
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (covAF_9 c _ _ _ _ _ _ _ _ _ _ _ _ _ _ _ _ _ _ _ _ _ _ _ _ _ _ _ _ _ _ _ _ )
  · rw [PhiS_castSucc m c t, PhiS_pos m c _ _ (fun h => h0 (by rw [h])), outs_pos m c t (fun h => h0 (by rw [h]))]
    generalize (outs m c (t.val - 1) (Nat.lt_of_le_of_lt (Nat.sub_le _ _) t.isLt)).2 = xs
    unfold step; rw [dif_neg h0]
    by_cases hx : cmpw (iblk m c 4 t) (iblk m c 1 t) (iblk m c 6 t) = 1#1
    · rw [dif_pos hx]
      unfold stepBE; dsimp only
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      ihave ⟨%f7, -, H7⟩ := (own_raw c _ _) $$ [H7]
      · iexact H7
      iapply ((runBE c (grid0.coords t) _ _ _ _ _ _ _ _ _ _ _ _ _ _ _ _ _ _ _ _ _ _ (fun h => h0 ((hcond t).mp h)) (iblk m c 0 t) (iblk m c 1 t) (iblk m c 2 t) (iblk m c 3 t) (iblk m c 4 t) (iblk m c 5 t) (iblk m c 6 t) xs hx).2.2 f7 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      iintro ⟨H0, H1, H2, H3, H4, H5, H6, H7, HS0, HS1, HS2⟩
      isplitl [HS0 HS1 HS2 Hg]
      · isplitl [HS0 HS1 HS2]
        · isplitl [HS0]
          · unfold owns; iexists _; isplitr
            swap; · iexact HS0
            ipureintro; rw [indBE_10 c _ _ _ _ _ _ _ _ _ _ _ _ _ _ _ _ _ _ _ _ _ _ _ _ _ _ _ _ _ _ _ _ _  f7 (win0_7.stage (cfg0.slots t 7)).view.junk]; exact View.read_writes_of_cover _ _ _ _ _ (covBE_10 c _ _ _ _ _ _ _ _ _ _ _ _ _ _ _ _ _ _ _ _ _ _ _ _ _ _ _ _ _ _ _ _ _ _ )
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; rw [indBE_9 c _ _ _ _ _ _ _ _ _ _ _ _ _ _ _ _ _ _ _ _ _ _ _ _ _ _ _ _ _ _ _ _ _  f7 (win0_7.stage (cfg0.slots t 7)).view.junk]; exact View.read_writes_of_cover _ _ _ _ _ (covBE_9 c _ _ _ _ _ _ _ _ _ _ _ _ _ _ _ _ _ _ _ _ _ _ _ _ _ _ _ _ _ _ _ _ _ _ )
    · rw [dif_neg hx]; replace hx := bit0 hx
      unfold stepBF; dsimp only
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      ihave ⟨%f7, -, H7⟩ := (own_raw c _ _) $$ [H7]
      · iexact H7
      iapply ((runBF c (grid0.coords t) _ _ _ _ _ _ _ _ _ _ _ _ _ _ _ _ _ _ _ _ _ _ (fun h => h0 ((hcond t).mp h)) (iblk m c 0 t) (iblk m c 1 t) (iblk m c 2 t) (iblk m c 3 t) (iblk m c 4 t) (iblk m c 5 t) (iblk m c 6 t) xs hx).2.2 f7 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      iintro ⟨H0, H1, H2, H3, H4, H5, H6, H7, HS0, HS1, HS2⟩
      isplitl [HS0 HS1 HS2 Hg]
      · isplitl [HS0 HS1 HS2]
        · isplitl [HS0]
          · unfold owns; iexists _; isplitr
            swap; · iexact HS0
            ipureintro; exact View.read_writes_of_cover _ _ _ _ _ (covBF_10 c _ _ _ _ _ _ _ _ _ _ _ _ _ _ _ _ _ _ _ _ _ _ _ _ _ _ _ _ _ _ _ _ _ )
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (covBF_9 c _ _ _ _ _ _ _ _ _ _ _ _ _ _ _ _ _ _ _ _ _ _ _ _ _ _ _ _ _ _ _ _ _ )

/-- The body table's row at a point is the body called there. -/
theorem row (t : Fin cfg0.N) :
    defs₀ (F := F) .tc cfg0.body (cfg0.bodyArgs t (cfg0.slots t)) = bodyAt0 t := by
  unfold defs₀; rw [Defs.onTc_tc]

/-- The body's duty at every point. -/
theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

/-- The invariant holds at the start, -/
theorem hin (c : Dev nD) : Pipeline.ΦA spec0 c ⊢ (dats m 0 c).Φ 0 := by
  rw [show (dats m 0 c).Φ 0 = Pipeline.ΦA spec0 c from rfl]
  try exact Idealize.SL.BI.Entails.refl _

/-- and gives back the scratch at the end. -/
theorem hout (c : Dev nD) : (dats m 0 c).Φ (Fin.last cfg0.N) ⊢ Pipeline.ΦA spec0 c :=
  show PhiS m c (Fin.last cfg0.N).val (Nat.le_of_lt_succ (Fin.last cfg0.N).isLt) ⊢ _ from PhiS_weak m c _ _

set_option backward.isDefEq.respectTransparency.types false in
/-- The launch: every execution ends, each array at what the points write back, every semaphore counter at zero. -/
theorem run_main : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The launch's final states have the arguments unchanged and every counter at zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hgrn

end
-- ==== Proof.HgBF.lean ====
module

public import proofs.«01_k».proof.Proof.HgNode
public import proofs.«01_k».proof.Proof.HgCov

/-! The values of the body's run: a later point of a sequence, scaled form. Each lemma reads one array of the run as reals. -/

@[expose] public section

set_option maxRecDepth 16384

noncomputable section

namespace Cert.Hgrn.BF

open Idealize.ShloMosaic hiding ix1 ix2 ix3
open Idealize.ShloMosaic.ValueIdx
open Cert.KernelIdeal Cert.KernelIdeal.Gen Cert.KernelIdeal.Hgrn
open Finset

variable {c : Dev nD} {T : ℕ} {X0 X1 X2 l : ℕ → ℕ → ℝ}
variable {arg2 : Memref sig .tc .vmem S256x512 .f32} {harg2 : arg2.IsWhole} {arg3 : Memref sig .tc .vmem S256x512 .f32} {harg3 : arg3.IsWhole} {arg4 : Memref sig .tc .vmem S256x512 .f32} {harg4 : arg4.IsWhole} {arg5 : Memref sig .tc .vmem S256x512 .f32} {harg5 : arg5.IsWhole} {arg6 : Memref sig .tc .vmem S2x512 .f32} {harg6 : arg6.IsWhole} {arg7 : Memref sig .tc .vmem S1x128 .f32} {harg7 : arg7.IsWhole} {arg8 : Memref sig .tc .vmem S256x256 .bf16} {harg8 : arg8.IsWhole} {arg10 : Memref sig .tc .vmem S4x128x128 .f32} {harg10 : arg10.IsWhole}
variable {x0 x1 x2 x3 : Vec Ideal S256x512 .f32} {x4 : Vec Ideal S2x512 .f32} {x5 : Vec Ideal S1x128 .f32} {x6 : Vec Ideal S256x256 .bf16} {xs : Vec Ideal S4x128x128 .f32}

/-- The lower bound of the gate. -/
theorem n15 (H : Inp T x0 x1 x2 x4 x6 X0 X1 X2 l) :
    IsR (n := 1) (m := 512) (runBF.sl.v15 (F := Ideal) c arg6 harg6 x4) (fun _ c => lbR l c) := by
  have h4 : IsR (n := 1) (m := 512) (runBF.sl.v4 (F := Ideal) c arg6 harg6 x4) (fun _ c => l 0 c) :=
    (IsR.slice (φ := .f32) (IsR.readAll harg6 H.h4 _) 0 0 _).congr fun r c hr hc => by
      obtain rfl : r = 0 := by omega
      simp only [sh, zero_add, add_zero]
  have h5 : IsR (n := 1) (m := 512) (runBF.sl.v5 (F := Ideal) c arg6 harg6 x4) (fun _ c => l 1 c) :=
    (IsR.slice (φ := .f32) (IsR.readAll harg6 H.h4 _) 1 0 _).congr fun r c hr hc => by
      obtain rfl : r = 0 := by omega
      simp only [sh, zero_add, add_zero]
  have h6 := IsR.max h4 h5
  have h8 := IsR.exp (IsR.sub h4 h6)
  have h10 := IsR.exp (IsR.sub h5 h6)
  have h11 := IsR.add h8 h10
  have h12 := IsR.div h8 h11 fun r c => (add_pos (Real.exp_pos _) (Real.exp_pos _)).ne'
  have h13 := IsR.div h10 h11 fun r c => (add_pos (Real.exp_pos _) (Real.exp_pos _)).ne'
  exact IsR.sub (IsR.add h12 h13) h12

/-- The forget gate. -/
theorem n29 (H : Inp T x0 x1 x2 x4 x6 X0 X1 X2 l) :
    IsR (n := 256) (m := 512) (runBF.sl.v29 (F := Ideal) c arg3 harg3 arg6 harg6 x1 x4) (sh (256 * T) 0 (FR l X1)) :=
  (IsR.add (IsR.bcast (n15 H) _) (IsR.mul (IsR.bcast (IsR.sub IsR.one (n15 H)) _)
    (IsR.sigAll harg3 H.h1 _))).congr fun r c hr hc => by
    simp only [sh, FR, zero_add]

/-- What is written for the key. -/
theorem n31 (H : Inp T x0 x1 x2 x4 x6 X0 X1 X2 l) :
    IsR (n := 256) (m := 512) (runBF.sl.v31 (F := Ideal) c arg3 harg3 arg6 harg6 x1 x4) (sh (256 * T) 0 (KR l X1)) :=
  IsR.sub IsR.one (n29 H)

/-- The logarithm of the gate. -/
theorem n32 (H : Inp T x0 x1 x2 x4 x6 X0 X1 X2 l) :
    IsR (n := 256) (m := 512) (runBF.sl.v32 (F := Ideal) c arg3 harg3 arg6 harg6 x1 x4) (fun r c => Real.log (FR l X1 (256 * T + r) (0 + c))) :=
  IsR.log (n29 H) fun r c => FR_pos _ _ _ _

/-- The triangle of ones. -/
theorem n41 (H : Inp T x0 x1 x2 x4 x6 X0 X1 X2 l) :
    IsR (n := 256) (m := 256) (runBF.sl.v41 (F := Ideal) c arg8 harg8 x6) (fun r c => if c ≤ r ∧ r / 32 = c / 32 then 1 else 0) := by
  show IsR (shapeCast S256x256 _ _) _
  rw [shapeCast_self]
  exact IsR.readAllB harg8 H.h6 _

/-- The logarithms summed from the start of each chunk of 32 rows. -/
theorem nB (H : Inp T x0 x1 x2 x4 x6 X0 X1 X2 l) :
    IsR (n := 256) (m := 512) (k0_pay1 (F := Ideal) (runBF.sl.v36 (F := Ideal) c arg3 harg3 arg6 harg6 x1 x4) (runBF.sl.v39 (F := Ideal) c arg3 harg3 arg6 harg6 x1 x4) (runBF.sl.v41 (F := Ideal) c arg8 harg8 x6) (runBF.sl.v42 (F := Ideal) c arg3 harg3 arg6 harg6 arg8 harg8 x1 x4 x6)) (sh (256 * T) 0 (b32 (FR l X1))) := by
  have h32 := n32 (arg3 := arg3) (harg3 := harg3) (arg6 := arg6) (harg6 := harg6) (c := c) H
  have h41 := n41 (arg8 := arg8) (harg8 := harg8) (c := c) H
  have h36 : IsR (n := 256) (m := 512) (runBF.sl.v36 (F := Ideal) c arg3 harg3 arg6 harg6 x1 x4) (fun _ _ => 0) := (IsR.sub h32 h32).congr fun r c _ _ => sub_self _
  have h39 : IsR (n := 256) (m := 512) (runBF.sl.v39 (F := Ideal) c arg3 harg3 arg6 harg6 x1 x4) (fun _ _ => 0) := (IsR.sub h36 h36).congr fun r c _ _ => sub_self _
  refine IsR.congr (IsR.add (IsR.add (IsR.nn (φ := .bf16) (ψ := .bf16) h41 h32 none) (IsR.nn (φ := .bf16) (ψ := .bf16) h41 h36 none))
    (IsR.nn (φ := .bf16) (ψ := .bf16) h41 h39 none)) fun r c hr hc => ?_
  simp only [mul_zero, sum_const_zero, add_zero]
  exact tri_sum _ _ _ _ hr

/-- The gated query. -/
theorem n67 (H : Inp T x0 x1 x2 x4 x6 X0 X1 X2 l) :
    IsR (n := 256) (m := 512) (runBF.sl.v67 (F := Ideal) c arg2 harg2 x0) (sh (256 * T) 0 (QR X0)) :=
  IsR.mul (IsR.readAll harg2 H.h0 _) (IsR.div IsR.one (IsR.add IsR.one (IsR.exp (IsR.sub IsR.zero (IsR.readAll harg2 H.h0 _))))
      fun r c => (add_pos one_pos (Real.exp_pos _)).ne')

/-- Rows 0 on: queries times their decays, chunks of 32. -/
theorem n72 (H : Inp T x0 x1 x2 x4 x6 X0 X1 X2 l) :
    IsR (n := 32) (m := 512) (runBF.sl.v72 (F := Ideal) c arg2 harg2 arg3 harg3 arg6 harg6 arg8 harg8 x0 x1 x4 x6) (sh 0 0 (sh (256 * T) 0 fun n c => QR X0 n c * Real.exp (b32 (FR l X1) n c))) :=
  isR_pq (n67 H) (nB H) 0 _

/-- Rows 32 on: queries times their decays, chunks of 32. -/
theorem n88 (H : Inp T x0 x1 x2 x4 x6 X0 X1 X2 l) :
    IsR (n := 32) (m := 512) (runBF.sl.v88 (F := Ideal) c arg2 harg2 arg3 harg3 arg6 harg6 arg8 harg8 x0 x1 x4 x6) (sh 32 0 (sh (256 * T) 0 fun n c => QR X0 n c * Real.exp (b32 (FR l X1) n c))) :=
  isR_pq (n67 H) (nB H) 32 _

/-- Rows 0 on: keys divided by their decays, chunks of 32. -/
theorem n77 (H : Inp T x0 x1 x2 x4 x6 X0 X1 X2 l) :
    IsR (n := 32) (m := 512) (runBF.sl.v77 (F := Ideal) c arg3 harg3 arg6 harg6 arg8 harg8 x1 x4 x6) (sh 0 0 (sh (256 * T) 0 fun n c => KR l X1 n c * Real.exp (0 - b32 (FR l X1) n c))) :=
  isR_pk (n31 H) (nB H) 0 _

/-- Rows 32 on: keys divided by their decays, chunks of 32. -/
theorem n93 (H : Inp T x0 x1 x2 x4 x6 X0 X1 X2 l) :
    IsR (n := 32) (m := 512) (runBF.sl.v93 (F := Ideal) c arg3 harg3 arg6 harg6 arg8 harg8 x1 x4 x6) (sh 32 0 (sh (256 * T) 0 fun n c => KR l X1 n c * Real.exp (0 - b32 (FR l X1) n c))) :=
  isR_pk (n31 H) (nB H) 32 _

/-- Rows 0 on: keys times the decays that remain, chunks of 32. -/
theorem n82 (H : Inp T x0 x1 x2 x4 x6 X0 X1 X2 l) :
    IsR (n := 32) (m := 512) (runBF.sl.v82 (F := Ideal) c arg3 harg3 arg6 harg6 arg8 harg8 x1 x4 x6) (sh 0 0 (sh (256 * T) 0 fun n c => KR l X1 n c * Real.exp (t32 (FR l X1) n c - b32 (FR l X1) n c))) :=
  isR_ph (n31 H) (nB H) 0 _ _ _ (by decide)

/-- Rows 32 on: keys times the decays that remain, chunks of 32. -/
theorem n98 (H : Inp T x0 x1 x2 x4 x6 X0 X1 X2 l) :
    IsR (n := 32) (m := 512) (runBF.sl.v98 (F := Ideal) c arg3 harg3 arg6 harg6 arg8 harg8 x1 x4 x6) (sh 32 0 (sh (256 * T) 0 fun n c => KR l X1 n c * Real.exp (t32 (FR l X1) n c - b32 (FR l X1) n c))) :=
  isR_ph (n31 H) (nB H) 32 _ _ _ (by decide)

/-- The summed logarithms of the 32 rows from row 0 on. -/
theorem n69 (H : Inp T x0 x1 x2 x4 x6 X0 X1 X2 l) :
    IsR (n := 1) (m := 512) (runBF.sl.v69 (F := Ideal) c arg3 harg3 arg6 harg6 arg8 harg8 x1 x4 x6) (fun _ c => L (FR l X1) (256 * T + 0) 32 c) :=
  isR_last (nB H) 0 _ _ (by decide)

/-- The summed logarithms of the 32 rows from row 32 on. -/
theorem n85 (H : Inp T x0 x1 x2 x4 x6 X0 X1 X2 l) :
    IsR (n := 1) (m := 512) (runBF.sl.v85 (F := Ideal) c arg3 harg3 arg6 harg6 arg8 harg8 x1 x4 x6) (fun _ c => L (FR l X1) (256 * T + 32) 32 c) :=
  isR_last (nB H) 32 _ _ (by decide)

/-- Rows 0 on: queries times their decays, chunks of 64. -/
theorem e72 (H : Inp T x0 x1 x2 x4 x6 X0 X1 X2 l) :
    IsR (n := 32) (m := 512) (runBF.sl.v72 (F := Ideal) c arg2 harg2 arg3 harg3 arg6 harg6 arg8 harg8 x0 x1 x4 x6) (sh 0 0 (sh (256 * T) 0 fun n c => QR X0 n c * Real.exp (b64 (FR l X1) n c))) :=
  isR_even (by decide) (n72 H)

/-- Rows 32 on: queries times their decays, chunks of 64. -/
theorem n101 (H : Inp T x0 x1 x2 x4 x6 X0 X1 X2 l) :
    IsR (n := 32) (m := 512) (runBF.sl.v101 (F := Ideal) c arg2 harg2 arg3 harg3 arg6 harg6 arg8 harg8 x0 x1 x4 x6) (sh 32 0 (sh (256 * T) 0 fun n c => QR X0 n c * Real.exp (b64 (FR l X1) n c))) :=
  isR_odd (o := 0) (by decide) rfl (n88 H) (n69 H) _

/-- Rows 32 on: keys times the decays that remain, chunks of 64. -/
theorem e98 (H : Inp T x0 x1 x2 x4 x6 X0 X1 X2 l) :
    IsR (n := 32) (m := 512) (runBF.sl.v98 (F := Ideal) c arg3 harg3 arg6 harg6 arg8 harg8 x1 x4 x6) (sh 32 0 (sh (256 * T) 0 fun n c => KR l X1 n c * Real.exp (t64 (FR l X1) n c - b64 (FR l X1) n c))) :=
  isR_kodd (o := 0) (by decide) rfl (n98 H)

/-- Rows 0 on: keys times the decays that remain, chunks of 64. -/
theorem n103 (H : Inp T x0 x1 x2 x4 x6 X0 X1 X2 l) :
    IsR (n := 32) (m := 512) (runBF.sl.v103 (F := Ideal) c arg3 harg3 arg6 harg6 arg8 harg8 x1 x4 x6) (sh 0 0 (sh (256 * T) 0 fun n c => KR l X1 n c * Real.exp (t64 (FR l X1) n c - b64 (FR l X1) n c))) :=
  isR_keven (o := 0) (by decide) rfl (n82 H) (n85 H) _

/-- The decay over the chunk of 64 rows from row 0 on. -/
theorem n104 (H : Inp T x0 x1 x2 x4 x6 X0 X1 X2 l) :
    IsR (n := 1) (m := 512) (runBF.sl.v104 (F := Ideal) c arg3 harg3 arg6 harg6 arg8 harg8 x1 x4 x6) (fun _ c => Real.exp (L (FR l X1) (256 * T + 0) 64 c)) :=
  isR_dec (o := 0) rfl (n69 H) (n85 H)

/-- Rows 64 on: queries times their decays, chunks of 32. -/
theorem n109 (H : Inp T x0 x1 x2 x4 x6 X0 X1 X2 l) :
    IsR (n := 32) (m := 512) (runBF.sl.v109 (F := Ideal) c arg2 harg2 arg3 harg3 arg6 harg6 arg8 harg8 x0 x1 x4 x6) (sh 64 0 (sh (256 * T) 0 fun n c => QR X0 n c * Real.exp (b32 (FR l X1) n c))) :=
  isR_pq (n67 H) (nB H) 64 _

/-- Rows 96 on: queries times their decays, chunks of 32. -/
theorem n125 (H : Inp T x0 x1 x2 x4 x6 X0 X1 X2 l) :
    IsR (n := 32) (m := 512) (runBF.sl.v125 (F := Ideal) c arg2 harg2 arg3 harg3 arg6 harg6 arg8 harg8 x0 x1 x4 x6) (sh 96 0 (sh (256 * T) 0 fun n c => QR X0 n c * Real.exp (b32 (FR l X1) n c))) :=
  isR_pq (n67 H) (nB H) 96 _

/-- Rows 64 on: keys divided by their decays, chunks of 32. -/
theorem n114 (H : Inp T x0 x1 x2 x4 x6 X0 X1 X2 l) :
    IsR (n := 32) (m := 512) (runBF.sl.v114 (F := Ideal) c arg3 harg3 arg6 harg6 arg8 harg8 x1 x4 x6) (sh 64 0 (sh (256 * T) 0 fun n c => KR l X1 n c * Real.exp (0 - b32 (FR l X1) n c))) :=
  isR_pk (n31 H) (nB H) 64 _

/-- Rows 96 on: keys divided by their decays, chunks of 32. -/
theorem n130 (H : Inp T x0 x1 x2 x4 x6 X0 X1 X2 l) :
    IsR (n := 32) (m := 512) (runBF.sl.v130 (F := Ideal) c arg3 harg3 arg6 harg6 arg8 harg8 x1 x4 x6) (sh 96 0 (sh (256 * T) 0 fun n c => KR l X1 n c * Real.exp (0 - b32 (FR l X1) n c))) :=
  isR_pk (n31 H) (nB H) 96 _

/-- Rows 64 on: keys times the decays that remain, chunks of 32. -/
theorem n119 (H : Inp T x0 x1 x2 x4 x6 X0 X1 X2 l) :
    IsR (n := 32) (m := 512) (runBF.sl.v119 (F := Ideal) c arg3 harg3 arg6 harg6 arg8 harg8 x1 x4 x6) (sh 64 0 (sh (256 * T) 0 fun n c => KR l X1 n c * Real.exp (t32 (FR l X1) n c - b32 (FR l X1) n c))) :=
  isR_ph (n31 H) (nB H) 64 _ _ _ (by decide)

/-- Rows 96 on: keys times the decays that remain, chunks of 32. -/
theorem n135 (H : Inp T x0 x1 x2 x4 x6 X0 X1 X2 l) :
    IsR (n := 32) (m := 512) (runBF.sl.v135 (F := Ideal) c arg3 harg3 arg6 harg6 arg8 harg8 x1 x4 x6) (sh 96 0 (sh (256 * T) 0 fun n c => KR l X1 n c * Real.exp (t32 (FR l X1) n c - b32 (FR l X1) n c))) :=
  isR_ph (n31 H) (nB H) 96 _ _ _ (by decide)

/-- The summed logarithms of the 32 rows from row 64 on. -/
theorem n106 (H : Inp T x0 x1 x2 x4 x6 X0 X1 X2 l) :
    IsR (n := 1) (m := 512) (runBF.sl.v106 (F := Ideal) c arg3 harg3 arg6 harg6 arg8 harg8 x1 x4 x6) (fun _ c => L (FR l X1) (256 * T + 64) 32 c) :=
  isR_last (nB H) 64 _ _ (by decide)

/-- The summed logarithms of the 32 rows from row 96 on. -/
theorem n122 (H : Inp T x0 x1 x2 x4 x6 X0 X1 X2 l) :
    IsR (n := 1) (m := 512) (runBF.sl.v122 (F := Ideal) c arg3 harg3 arg6 harg6 arg8 harg8 x1 x4 x6) (fun _ c => L (FR l X1) (256 * T + 96) 32 c) :=
  isR_last (nB H) 96 _ _ (by decide)

/-- Rows 64 on: queries times their decays, chunks of 64. -/
theorem e109 (H : Inp T x0 x1 x2 x4 x6 X0 X1 X2 l) :
    IsR (n := 32) (m := 512) (runBF.sl.v109 (F := Ideal) c arg2 harg2 arg3 harg3 arg6 harg6 arg8 harg8 x0 x1 x4 x6) (sh 64 0 (sh (256 * T) 0 fun n c => QR X0 n c * Real.exp (b64 (FR l X1) n c))) :=
  isR_even (by decide) (n109 H)

/-- Rows 96 on: queries times their decays, chunks of 64. -/
theorem n138 (H : Inp T x0 x1 x2 x4 x6 X0 X1 X2 l) :
    IsR (n := 32) (m := 512) (runBF.sl.v138 (F := Ideal) c arg2 harg2 arg3 harg3 arg6 harg6 arg8 harg8 x0 x1 x4 x6) (sh 96 0 (sh (256 * T) 0 fun n c => QR X0 n c * Real.exp (b64 (FR l X1) n c))) :=
  isR_odd (o := 64) (by decide) rfl (n125 H) (n106 H) _

/-- Rows 96 on: keys times the decays that remain, chunks of 64. -/
theorem e135 (H : Inp T x0 x1 x2 x4 x6 X0 X1 X2 l) :
    IsR (n := 32) (m := 512) (runBF.sl.v135 (F := Ideal) c arg3 harg3 arg6 harg6 arg8 harg8 x1 x4 x6) (sh 96 0 (sh (256 * T) 0 fun n c => KR l X1 n c * Real.exp (t64 (FR l X1) n c - b64 (FR l X1) n c))) :=
  isR_kodd (o := 64) (by decide) rfl (n135 H)

/-- Rows 64 on: keys times the decays that remain, chunks of 64. -/
theorem n140 (H : Inp T x0 x1 x2 x4 x6 X0 X1 X2 l) :
    IsR (n := 32) (m := 512) (runBF.sl.v140 (F := Ideal) c arg3 harg3 arg6 harg6 arg8 harg8 x1 x4 x6) (sh 64 0 (sh (256 * T) 0 fun n c => KR l X1 n c * Real.exp (t64 (FR l X1) n c - b64 (FR l X1) n c))) :=
  isR_keven (o := 64) (by decide) rfl (n119 H) (n122 H) _

/-- The decay over the chunk of 64 rows from row 64 on. -/
theorem n141 (H : Inp T x0 x1 x2 x4 x6 X0 X1 X2 l) :
    IsR (n := 1) (m := 512) (runBF.sl.v141 (F := Ideal) c arg3 harg3 arg6 harg6 arg8 harg8 x1 x4 x6) (fun _ c => Real.exp (L (FR l X1) (256 * T + 64) 64 c)) :=
  isR_dec (o := 64) rfl (n106 H) (n122 H)

/-- Rows 128 on: queries times their decays, chunks of 32. -/
theorem n146 (H : Inp T x0 x1 x2 x4 x6 X0 X1 X2 l) :
    IsR (n := 32) (m := 512) (runBF.sl.v146 (F := Ideal) c arg2 harg2 arg3 harg3 arg6 harg6 arg8 harg8 x0 x1 x4 x6) (sh 128 0 (sh (256 * T) 0 fun n c => QR X0 n c * Real.exp (b32 (FR l X1) n c))) :=
  isR_pq (n67 H) (nB H) 128 _

/-- Rows 160 on: queries times their decays, chunks of 32. -/
theorem n162 (H : Inp T x0 x1 x2 x4 x6 X0 X1 X2 l) :
    IsR (n := 32) (m := 512) (runBF.sl.v162 (F := Ideal) c arg2 harg2 arg3 harg3 arg6 harg6 arg8 harg8 x0 x1 x4 x6) (sh 160 0 (sh (256 * T) 0 fun n c => QR X0 n c * Real.exp (b32 (FR l X1) n c))) :=
  isR_pq (n67 H) (nB H) 160 _

/-- Rows 128 on: keys divided by their decays, chunks of 32. -/
theorem n151 (H : Inp T x0 x1 x2 x4 x6 X0 X1 X2 l) :
    IsR (n := 32) (m := 512) (runBF.sl.v151 (F := Ideal) c arg3 harg3 arg6 harg6 arg8 harg8 x1 x4 x6) (sh 128 0 (sh (256 * T) 0 fun n c => KR l X1 n c * Real.exp (0 - b32 (FR l X1) n c))) :=
  isR_pk (n31 H) (nB H) 128 _

/-- Rows 160 on: keys divided by their decays, chunks of 32. -/
theorem n167 (H : Inp T x0 x1 x2 x4 x6 X0 X1 X2 l) :
    IsR (n := 32) (m := 512) (runBF.sl.v167 (F := Ideal) c arg3 harg3 arg6 harg6 arg8 harg8 x1 x4 x6) (sh 160 0 (sh (256 * T) 0 fun n c => KR l X1 n c * Real.exp (0 - b32 (FR l X1) n c))) :=
  isR_pk (n31 H) (nB H) 160 _

/-- Rows 128 on: keys times the decays that remain, chunks of 32. -/
theorem n156 (H : Inp T x0 x1 x2 x4 x6 X0 X1 X2 l) :
    IsR (n := 32) (m := 512) (runBF.sl.v156 (F := Ideal) c arg3 harg3 arg6 harg6 arg8 harg8 x1 x4 x6) (sh 128 0 (sh (256 * T) 0 fun n c => KR l X1 n c * Real.exp (t32 (FR l X1) n c - b32 (FR l X1) n c))) :=
  isR_ph (n31 H) (nB H) 128 _ _ _ (by decide)

/-- Rows 160 on: keys times the decays that remain, chunks of 32. -/
theorem n172 (H : Inp T x0 x1 x2 x4 x6 X0 X1 X2 l) :
    IsR (n := 32) (m := 512) (runBF.sl.v172 (F := Ideal) c arg3 harg3 arg6 harg6 arg8 harg8 x1 x4 x6) (sh 160 0 (sh (256 * T) 0 fun n c => KR l X1 n c * Real.exp (t32 (FR l X1) n c - b32 (FR l X1) n c))) :=
  isR_ph (n31 H) (nB H) 160 _ _ _ (by decide)

/-- The summed logarithms of the 32 rows from row 128 on. -/
theorem n143 (H : Inp T x0 x1 x2 x4 x6 X0 X1 X2 l) :
    IsR (n := 1) (m := 512) (runBF.sl.v143 (F := Ideal) c arg3 harg3 arg6 harg6 arg8 harg8 x1 x4 x6) (fun _ c => L (FR l X1) (256 * T + 128) 32 c) :=
  isR_last (nB H) 128 _ _ (by decide)

/-- The summed logarithms of the 32 rows from row 160 on. -/
theorem n159 (H : Inp T x0 x1 x2 x4 x6 X0 X1 X2 l) :
    IsR (n := 1) (m := 512) (runBF.sl.v159 (F := Ideal) c arg3 harg3 arg6 harg6 arg8 harg8 x1 x4 x6) (fun _ c => L (FR l X1) (256 * T + 160) 32 c) :=
  isR_last (nB H) 160 _ _ (by decide)

/-- Rows 128 on: queries times their decays, chunks of 64. -/
theorem e146 (H : Inp T x0 x1 x2 x4 x6 X0 X1 X2 l) :
    IsR (n := 32) (m := 512) (runBF.sl.v146 (F := Ideal) c arg2 harg2 arg3 harg3 arg6 harg6 arg8 harg8 x0 x1 x4 x6) (sh 128 0 (sh (256 * T) 0 fun n c => QR X0 n c * Real.exp (b64 (FR l X1) n c))) :=
  isR_even (by decide) (n146 H)

/-- Rows 160 on: queries times their decays, chunks of 64. -/
theorem n175 (H : Inp T x0 x1 x2 x4 x6 X0 X1 X2 l) :
    IsR (n := 32) (m := 512) (runBF.sl.v175 (F := Ideal) c arg2 harg2 arg3 harg3 arg6 harg6 arg8 harg8 x0 x1 x4 x6) (sh 160 0 (sh (256 * T) 0 fun n c => QR X0 n c * Real.exp (b64 (FR l X1) n c))) :=
  isR_odd (o := 128) (by decide) rfl (n162 H) (n143 H) _

/-- Rows 160 on: keys times the decays that remain, chunks of 64. -/
theorem e172 (H : Inp T x0 x1 x2 x4 x6 X0 X1 X2 l) :
    IsR (n := 32) (m := 512) (runBF.sl.v172 (F := Ideal) c arg3 harg3 arg6 harg6 arg8 harg8 x1 x4 x6) (sh 160 0 (sh (256 * T) 0 fun n c => KR l X1 n c * Real.exp (t64 (FR l X1) n c - b64 (FR l X1) n c))) :=
  isR_kodd (o := 128) (by decide) rfl (n172 H)

/-- Rows 128 on: keys times the decays that remain, chunks of 64. -/
theorem n177 (H : Inp T x0 x1 x2 x4 x6 X0 X1 X2 l) :
    IsR (n := 32) (m := 512) (runBF.sl.v177 (F := Ideal) c arg3 harg3 arg6 harg6 arg8 harg8 x1 x4 x6) (sh 128 0 (sh (256 * T) 0 fun n c => KR l X1 n c * Real.exp (t64 (FR l X1) n c - b64 (FR l X1) n c))) :=
  isR_keven (o := 128) (by decide) rfl (n156 H) (n159 H) _

/-- The decay over the chunk of 64 rows from row 128 on. -/
theorem n178 (H : Inp T x0 x1 x2 x4 x6 X0 X1 X2 l) :
    IsR (n := 1) (m := 512) (runBF.sl.v178 (F := Ideal) c arg3 harg3 arg6 harg6 arg8 harg8 x1 x4 x6) (fun _ c => Real.exp (L (FR l X1) (256 * T + 128) 64 c)) :=
  isR_dec (o := 128) rfl (n143 H) (n159 H)

/-- Rows 192 on: queries times their decays, chunks of 32. -/
theorem n183 (H : Inp T x0 x1 x2 x4 x6 X0 X1 X2 l) :
    IsR (n := 32) (m := 512) (runBF.sl.v183 (F := Ideal) c arg2 harg2 arg3 harg3 arg6 harg6 arg8 harg8 x0 x1 x4 x6) (sh 192 0 (sh (256 * T) 0 fun n c => QR X0 n c * Real.exp (b32 (FR l X1) n c))) :=
  isR_pq (n67 H) (nB H) 192 _

/-- Rows 224 on: queries times their decays, chunks of 32. -/
theorem n199 (H : Inp T x0 x1 x2 x4 x6 X0 X1 X2 l) :
    IsR (n := 32) (m := 512) (runBF.sl.v199 (F := Ideal) c arg2 harg2 arg3 harg3 arg6 harg6 arg8 harg8 x0 x1 x4 x6) (sh 224 0 (sh (256 * T) 0 fun n c => QR X0 n c * Real.exp (b32 (FR l X1) n c))) :=
  isR_pq (n67 H) (nB H) 224 _

/-- Rows 192 on: keys divided by their decays, chunks of 32. -/
theorem n188 (H : Inp T x0 x1 x2 x4 x6 X0 X1 X2 l) :
    IsR (n := 32) (m := 512) (runBF.sl.v188 (F := Ideal) c arg3 harg3 arg6 harg6 arg8 harg8 x1 x4 x6) (sh 192 0 (sh (256 * T) 0 fun n c => KR l X1 n c * Real.exp (0 - b32 (FR l X1) n c))) :=
  isR_pk (n31 H) (nB H) 192 _

/-- Rows 224 on: keys divided by their decays, chunks of 32. -/
theorem n204 (H : Inp T x0 x1 x2 x4 x6 X0 X1 X2 l) :
    IsR (n := 32) (m := 512) (runBF.sl.v204 (F := Ideal) c arg3 harg3 arg6 harg6 arg8 harg8 x1 x4 x6) (sh 224 0 (sh (256 * T) 0 fun n c => KR l X1 n c * Real.exp (0 - b32 (FR l X1) n c))) :=
  isR_pk (n31 H) (nB H) 224 _

/-- Rows 192 on: keys times the decays that remain, chunks of 32. -/
theorem n193 (H : Inp T x0 x1 x2 x4 x6 X0 X1 X2 l) :
    IsR (n := 32) (m := 512) (runBF.sl.v193 (F := Ideal) c arg3 harg3 arg6 harg6 arg8 harg8 x1 x4 x6) (sh 192 0 (sh (256 * T) 0 fun n c => KR l X1 n c * Real.exp (t32 (FR l X1) n c - b32 (FR l X1) n c))) :=
  isR_ph (n31 H) (nB H) 192 _ _ _ (by decide)

/-- Rows 224 on: keys times the decays that remain, chunks of 32. -/
theorem n209 (H : Inp T x0 x1 x2 x4 x6 X0 X1 X2 l) :
    IsR (n := 32) (m := 512) (runBF.sl.v209 (F := Ideal) c arg3 harg3 arg6 harg6 arg8 harg8 x1 x4 x6) (sh 224 0 (sh (256 * T) 0 fun n c => KR l X1 n c * Real.exp (t32 (FR l X1) n c - b32 (FR l X1) n c))) :=
  isR_ph (n31 H) (nB H) 224 _ _ _ (by decide)

/-- The summed logarithms of the 32 rows from row 192 on. -/
theorem n180 (H : Inp T x0 x1 x2 x4 x6 X0 X1 X2 l) :
    IsR (n := 1) (m := 512) (runBF.sl.v180 (F := Ideal) c arg3 harg3 arg6 harg6 arg8 harg8 x1 x4 x6) (fun _ c => L (FR l X1) (256 * T + 192) 32 c) :=
  isR_last (nB H) 192 _ _ (by decide)

/-- The summed logarithms of the 32 rows from row 224 on. -/
theorem n196 (H : Inp T x0 x1 x2 x4 x6 X0 X1 X2 l) :
    IsR (n := 1) (m := 512) (runBF.sl.v196 (F := Ideal) c arg3 harg3 arg6 harg6 arg8 harg8 x1 x4 x6) (fun _ c => L (FR l X1) (256 * T + 224) 32 c) :=
  isR_last (nB H) 224 _ _ (by decide)

/-- Rows 192 on: queries times their decays, chunks of 64. -/
theorem e183 (H : Inp T x0 x1 x2 x4 x6 X0 X1 X2 l) :
    IsR (n := 32) (m := 512) (runBF.sl.v183 (F := Ideal) c arg2 harg2 arg3 harg3 arg6 harg6 arg8 harg8 x0 x1 x4 x6) (sh 192 0 (sh (256 * T) 0 fun n c => QR X0 n c * Real.exp (b64 (FR l X1) n c))) :=
  isR_even (by decide) (n183 H)

/-- Rows 224 on: queries times their decays, chunks of 64. -/
theorem n212 (H : Inp T x0 x1 x2 x4 x6 X0 X1 X2 l) :
    IsR (n := 32) (m := 512) (runBF.sl.v212 (F := Ideal) c arg2 harg2 arg3 harg3 arg6 harg6 arg8 harg8 x0 x1 x4 x6) (sh 224 0 (sh (256 * T) 0 fun n c => QR X0 n c * Real.exp (b64 (FR l X1) n c))) :=
  isR_odd (o := 192) (by decide) rfl (n199 H) (n180 H) _

/-- Rows 224 on: keys times the decays that remain, chunks of 64. -/
theorem e209 (H : Inp T x0 x1 x2 x4 x6 X0 X1 X2 l) :
    IsR (n := 32) (m := 512) (runBF.sl.v209 (F := Ideal) c arg3 harg3 arg6 harg6 arg8 harg8 x1 x4 x6) (sh 224 0 (sh (256 * T) 0 fun n c => KR l X1 n c * Real.exp (t64 (FR l X1) n c - b64 (FR l X1) n c))) :=
  isR_kodd (o := 192) (by decide) rfl (n209 H)

/-- Rows 192 on: keys times the decays that remain, chunks of 64. -/
theorem n214 (H : Inp T x0 x1 x2 x4 x6 X0 X1 X2 l) :
    IsR (n := 32) (m := 512) (runBF.sl.v214 (F := Ideal) c arg3 harg3 arg6 harg6 arg8 harg8 x1 x4 x6) (sh 192 0 (sh (256 * T) 0 fun n c => KR l X1 n c * Real.exp (t64 (FR l X1) n c - b64 (FR l X1) n c))) :=
  isR_keven (o := 192) (by decide) rfl (n193 H) (n196 H) _

/-- The decay over the chunk of 64 rows from row 192 on. -/
theorem n215 (H : Inp T x0 x1 x2 x4 x6 X0 X1 X2 l) :
    IsR (n := 1) (m := 512) (runBF.sl.v215 (F := Ideal) c arg3 harg3 arg6 harg6 arg8 harg8 x1 x4 x6) (fun _ c => Real.exp (L (FR l X1) (256 * T + 192) 64 c)) :=
  isR_dec (o := 192) rfl (n180 H) (n196 H)

/-- The queries, scaled from the start of the chunk of 32 rows. -/
theorem n217 (H : Inp T x0 x1 x2 x4 x6 X0 X1 X2 l) :
    IsR (n := 256) (m := 512) (runBF.sl.v217 (F := Ideal) c arg2 harg2 arg3 harg3 arg6 harg6 arg8 harg8 x0 x1 x4 x6) (sh (256 * T) 0 (fun n c => QR X0 n c * Real.exp (b32 (FR l X1) n c))) :=
  IsR.cat8 (φ := .f32) (n72 H) (n88 H) (n109 H) (n125 H) (n146 H) (n162 H) (n183 H) (n199 H) concatenates_S32x512_S32x512_S32x512_S32x512_S32x512_S32x512_S32x512_S32x512_S256x512_d0

/-- The keys, scaled to the start of the chunk of 32 rows. -/
theorem n219 (H : Inp T x0 x1 x2 x4 x6 X0 X1 X2 l) :
    IsR (n := 256) (m := 512) (runBF.sl.v219 (F := Ideal) c arg3 harg3 arg6 harg6 arg8 harg8 x1 x4 x6) (sh (256 * T) 0 (fun n c => KR l X1 n c * Real.exp (0 - b32 (FR l X1) n c))) :=
  IsR.cat8 (φ := .f32) (n77 H) (n93 H) (n114 H) (n130 H) (n151 H) (n167 H) (n188 H) (n204 H) concatenates_S32x512_S32x512_S32x512_S32x512_S32x512_S32x512_S32x512_S32x512_S256x512_d0

/-- The keys, scaled to the end of the chunk of 32 rows. -/
theorem n221 (H : Inp T x0 x1 x2 x4 x6 X0 X1 X2 l) :
    IsR (n := 256) (m := 512) (runBF.sl.v221 (F := Ideal) c arg3 harg3 arg6 harg6 arg8 harg8 x1 x4 x6) (sh (256 * T) 0 (fun n c => KR l X1 n c * Real.exp (t32 (FR l X1) n c - b32 (FR l X1) n c))) :=
  IsR.cat8 (φ := .f32) (n82 H) (n98 H) (n119 H) (n135 H) (n156 H) (n172 H) (n193 H) (n209 H) concatenates_S32x512_S32x512_S32x512_S32x512_S32x512_S32x512_S32x512_S32x512_S256x512_d0

/-- The queries, scaled from the start of the chunk of 64 rows. -/
theorem n223 (H : Inp T x0 x1 x2 x4 x6 X0 X1 X2 l) :
    IsR (n := 256) (m := 512) (runBF.sl.v223 (F := Ideal) c arg2 harg2 arg3 harg3 arg6 harg6 arg8 harg8 x0 x1 x4 x6) (sh (256 * T) 0 (fun n c => QR X0 n c * Real.exp (b64 (FR l X1) n c))) :=
  IsR.cat8 (φ := .f32) (e72 H) (n101 H) (e109 H) (n138 H) (e146 H) (n175 H) (e183 H) (n212 H) concatenates_S32x512_S32x512_S32x512_S32x512_S32x512_S32x512_S32x512_S32x512_S256x512_d0

/-- The keys, scaled to the end of the chunk of 64 rows. -/
theorem n225 (H : Inp T x0 x1 x2 x4 x6 X0 X1 X2 l) :
    IsR (n := 256) (m := 512) (runBF.sl.v225 (F := Ideal) c arg3 harg3 arg6 harg6 arg8 harg8 x1 x4 x6) (sh (256 * T) 0 (fun n c => KR l X1 n c * Real.exp (t64 (FR l X1) n c - b64 (FR l X1) n c))) :=
  IsR.cat8 (φ := .f32) (n103 H) (e98 H) (n140 H) (e135 H) (n177 H) (e172 H) (n214 H) (e209 H) concatenates_S32x512_S32x512_S32x512_S32x512_S32x512_S32x512_S32x512_S32x512_S256x512_d0

/-- A row's chunk of 32. -/
theorem w251  :
    IsW runBF.sl.v251 (fun r _ => r / 32) :=
  isW_div32 (isW_row _) fun x => rfl

/-- A column's chunk of 32. -/
theorem w275  :
    IsW runBF.sl.v275 (fun _ s => s / 32) :=
  isW_div32 (isW_col _) fun x => rfl

/-- A row's chunk of 64. -/
theorem w302  :
    IsW runBF.sl.v302 (fun r _ => r / 64) :=
  isW_div64 (isW_row _) fun x => rfl

/-- A column's chunk of 64. -/
theorem w326  :
    IsW runBF.sl.v326 (fun _ s => s / 64) :=
  isW_div64 (isW_col _) fun x => rfl

/-- The mask within a chunk of 32. -/
theorem n278  :
    IsM runBF.sl.v278 (fun r s => r / 32 = s / 32 ∧ s ≤ r) :=
  isM_and (isM_eq w251 w275) (isM_sle (isW_col _) (isW_row _))

/-- The mask across the two halves of a chunk of 64. -/
theorem n377  :
    IsM runBF.sl.v377 (fun r s => r / 64 = s / 64 ∧ s / 32 < r / 32) :=
  isM_and (isM_eq w302 w326) (isM_sgt w251 w275)

/-- The values of head 0. -/
theorem vv0 (H : Inp T x0 x1 x2 x4 x6 X0 X1 X2 l) :
    IsR (n := 256) (m := 128) (runBF.sl.r (F := Ideal) c arg4 harg4 x2) (fun r e => X2 (256 * T + r) (0 + e)) :=
  (IsR.readAt harg4 H.h2 0 0 _).congr fun r e hr he => by
    simp only [sh, zero_add]

/-- Head 0 within its chunks. -/
theorem n392 (H : Inp T x0 x1 x2 x4 x6 X0 X1 X2 l) :
    IsR (n := 256) (m := 128) (runBF.sl.v392 (F := Ideal) c arg2 harg2 arg3 harg3 arg4 harg4 arg6 harg6 arg8 harg8 x0 x1 x2 x4 x6) (fun r e => ∑ s ∈ range 256, A64 (FR l X1) (KR l X1) (QR X0) T 0 r s * X2 (256 * T + s) (0 + e)) :=
  isR_intra (n217 H) (n219 H) (n221 H) n278 n377 (vv0 H) _ _

/-- The state of head 0 before the point. -/
theorem n394 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal)) :
    IsR (n := 128) (m := 128) (runBF.sl.v394 (F := Ideal) c arg10 harg10 xs) (fun e d => S (hd 0 (FR l X1)) (hd 0 (KR l X1)) (hd 0 X2) (256 * T) d e) :=
  IsR3.cast (φ := .f32) (IsR3.readAt harg10 0 (hS 0) _) _

/-- Chunk 0 of head 0. -/
theorem n399 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal)) :
    IsR (n := 64) (m := 128) (runBF.sl.v399 (F := Ideal) c arg2 harg2 arg3 harg3 arg4 harg4 arg6 harg6 arg8 harg8 arg10 harg10 x0 x1 x2 x4 x6 xs) (fun i e => O (hd 0 (FR l X1)) (hd 0 (KR l X1)) (hd 0 X2) (hd 0 (QR X0)) (256 * T + (64 * 0 + i)) e) :=
  isR_o (FR_pos l X1) (n392 H) (n223 H) 0 (by decide) (n394 H hS) 0 rfl _ _ _

/-- The state of head 0 after chunk 0. -/
theorem n408 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal)) :
    IsR (n := 128) (m := 128) (runBF.sl.v408 (F := Ideal) c arg3 harg3 arg4 harg4 arg6 harg6 arg8 harg8 arg10 harg10 x1 x2 x4 x6 xs) (fun e d => S (hd 0 (FR l X1)) (hd 0 (KR l X1)) (hd 0 X2) (256 * T + 64 * (0 + 1)) d e) :=
  isR_st (FR_pos l X1) (vv0 H) (n225 H) 0 0 rfl (n104 H) (n394 H hS) _ _ _ _ _ _

/-- Chunk 1 of head 0. -/
theorem n437 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal)) :
    IsR (n := 64) (m := 128) (runBF.sl.v437 (F := Ideal) c arg2 harg2 arg3 harg3 arg4 harg4 arg6 harg6 arg8 harg8 arg10 harg10 x0 x1 x2 x4 x6 xs) (fun i e => O (hd 0 (FR l X1)) (hd 0 (KR l X1)) (hd 0 X2) (hd 0 (QR X0)) (256 * T + (64 * 1 + i)) e) :=
  isR_o (FR_pos l X1) (n392 H) (n223 H) 1 (by decide) (n408 H hS) 64 rfl _ _ _

/-- The state of head 0 after chunk 1. -/
theorem n446 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal)) :
    IsR (n := 128) (m := 128) (runBF.sl.v446 (F := Ideal) c arg3 harg3 arg4 harg4 arg6 harg6 arg8 harg8 arg10 harg10 x1 x2 x4 x6 xs) (fun e d => S (hd 0 (FR l X1)) (hd 0 (KR l X1)) (hd 0 X2) (256 * T + 64 * (1 + 1)) d e) :=
  isR_st (FR_pos l X1) (vv0 H) (n225 H) 1 64 rfl (n141 H) (n408 H hS) _ _ _ _ _ _

/-- Chunk 2 of head 0. -/
theorem n475 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal)) :
    IsR (n := 64) (m := 128) (runBF.sl.v475 (F := Ideal) c arg2 harg2 arg3 harg3 arg4 harg4 arg6 harg6 arg8 harg8 arg10 harg10 x0 x1 x2 x4 x6 xs) (fun i e => O (hd 0 (FR l X1)) (hd 0 (KR l X1)) (hd 0 X2) (hd 0 (QR X0)) (256 * T + (64 * 2 + i)) e) :=
  isR_o (FR_pos l X1) (n392 H) (n223 H) 2 (by decide) (n446 H hS) 128 rfl _ _ _

/-- The state of head 0 after chunk 2. -/
theorem n484 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal)) :
    IsR (n := 128) (m := 128) (runBF.sl.v484 (F := Ideal) c arg3 harg3 arg4 harg4 arg6 harg6 arg8 harg8 arg10 harg10 x1 x2 x4 x6 xs) (fun e d => S (hd 0 (FR l X1)) (hd 0 (KR l X1)) (hd 0 X2) (256 * T + 64 * (2 + 1)) d e) :=
  isR_st (FR_pos l X1) (vv0 H) (n225 H) 2 128 rfl (n178 H) (n446 H hS) _ _ _ _ _ _

/-- Chunk 3 of head 0. -/
theorem n513 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal)) :
    IsR (n := 64) (m := 128) (runBF.sl.v513 (F := Ideal) c arg2 harg2 arg3 harg3 arg4 harg4 arg6 harg6 arg8 harg8 arg10 harg10 x0 x1 x2 x4 x6 xs) (fun i e => O (hd 0 (FR l X1)) (hd 0 (KR l X1)) (hd 0 X2) (hd 0 (QR X0)) (256 * T + (64 * 3 + i)) e) :=
  isR_o (FR_pos l X1) (n392 H) (n223 H) 3 (by decide) (n484 H hS) 192 rfl _ _ _

/-- The state of head 0 after chunk 3. -/
theorem n522 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal)) :
    IsR (n := 128) (m := 128) (runBF.sl.v522 (F := Ideal) c arg3 harg3 arg4 harg4 arg6 harg6 arg8 harg8 arg10 harg10 x1 x2 x4 x6 xs) (fun e d => S (hd 0 (FR l X1)) (hd 0 (KR l X1)) (hd 0 X2) (256 * T + 64 * (3 + 1)) d e) :=
  isR_st (FR_pos l X1) (vv0 H) (n225 H) 3 192 rfl (n215 H) (n484 H hS) _ _ _ _ _ _

/-- The values of head 1. -/
theorem vv1 (H : Inp T x0 x1 x2 x4 x6 X0 X1 X2 l) :
    IsR (n := 256) (m := 128) (runBF.sl.r_2 (F := Ideal) c arg4 harg4 x2) (fun r e => X2 (256 * T + r) (128 + e)) :=
  (IsR.readAt harg4 H.h2 0 128 _).congr fun r e hr he => by
    simp only [sh, zero_add]

/-- Head 1 within its chunks. -/
theorem n564 (H : Inp T x0 x1 x2 x4 x6 X0 X1 X2 l) :
    IsR (n := 256) (m := 128) (runBF.sl.v564 (F := Ideal) c arg2 harg2 arg3 harg3 arg4 harg4 arg6 harg6 arg8 harg8 x0 x1 x2 x4 x6) (fun r e => ∑ s ∈ range 256, A64 (FR l X1) (KR l X1) (QR X0) T 128 r s * X2 (256 * T + s) (128 + e)) :=
  isR_intra (n217 H) (n219 H) (n221 H) n278 n377 (vv1 H) _ _

/-- The state of head 1 before the point. -/
theorem n566 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal)) :
    IsR (n := 128) (m := 128) (runBF.sl.v566 (F := Ideal) c arg10 harg10 xs) (fun e d => S (hd 128 (FR l X1)) (hd 128 (KR l X1)) (hd 128 X2) (256 * T) d e) :=
  IsR3.cast (φ := .f32) (IsR3.readAt harg10 1 (hS 1) _) _

/-- Chunk 0 of head 1. -/
theorem n571 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal)) :
    IsR (n := 64) (m := 128) (runBF.sl.v571 (F := Ideal) c arg2 harg2 arg3 harg3 arg4 harg4 arg6 harg6 arg8 harg8 arg10 harg10 x0 x1 x2 x4 x6 xs) (fun i e => O (hd 128 (FR l X1)) (hd 128 (KR l X1)) (hd 128 X2) (hd 128 (QR X0)) (256 * T + (64 * 0 + i)) e) :=
  isR_o (FR_pos l X1) (n564 H) (n223 H) 0 (by decide) (n566 H hS) 0 rfl _ _ _

/-- The state of head 1 after chunk 0. -/
theorem n580 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal)) :
    IsR (n := 128) (m := 128) (runBF.sl.v580 (F := Ideal) c arg3 harg3 arg4 harg4 arg6 harg6 arg8 harg8 arg10 harg10 x1 x2 x4 x6 xs) (fun e d => S (hd 128 (FR l X1)) (hd 128 (KR l X1)) (hd 128 X2) (256 * T + 64 * (0 + 1)) d e) :=
  isR_st (FR_pos l X1) (vv1 H) (n225 H) 0 0 rfl (n104 H) (n566 H hS) _ _ _ _ _ _

/-- Chunk 1 of head 1. -/
theorem n609 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal)) :
    IsR (n := 64) (m := 128) (runBF.sl.v609 (F := Ideal) c arg2 harg2 arg3 harg3 arg4 harg4 arg6 harg6 arg8 harg8 arg10 harg10 x0 x1 x2 x4 x6 xs) (fun i e => O (hd 128 (FR l X1)) (hd 128 (KR l X1)) (hd 128 X2) (hd 128 (QR X0)) (256 * T + (64 * 1 + i)) e) :=
  isR_o (FR_pos l X1) (n564 H) (n223 H) 1 (by decide) (n580 H hS) 64 rfl _ _ _

/-- The state of head 1 after chunk 1. -/
theorem n618 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal)) :
    IsR (n := 128) (m := 128) (runBF.sl.v618 (F := Ideal) c arg3 harg3 arg4 harg4 arg6 harg6 arg8 harg8 arg10 harg10 x1 x2 x4 x6 xs) (fun e d => S (hd 128 (FR l X1)) (hd 128 (KR l X1)) (hd 128 X2) (256 * T + 64 * (1 + 1)) d e) :=
  isR_st (FR_pos l X1) (vv1 H) (n225 H) 1 64 rfl (n141 H) (n580 H hS) _ _ _ _ _ _

/-- Chunk 2 of head 1. -/
theorem n647 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal)) :
    IsR (n := 64) (m := 128) (runBF.sl.v647 (F := Ideal) c arg2 harg2 arg3 harg3 arg4 harg4 arg6 harg6 arg8 harg8 arg10 harg10 x0 x1 x2 x4 x6 xs) (fun i e => O (hd 128 (FR l X1)) (hd 128 (KR l X1)) (hd 128 X2) (hd 128 (QR X0)) (256 * T + (64 * 2 + i)) e) :=
  isR_o (FR_pos l X1) (n564 H) (n223 H) 2 (by decide) (n618 H hS) 128 rfl _ _ _

/-- The state of head 1 after chunk 2. -/
theorem n656 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal)) :
    IsR (n := 128) (m := 128) (runBF.sl.v656 (F := Ideal) c arg3 harg3 arg4 harg4 arg6 harg6 arg8 harg8 arg10 harg10 x1 x2 x4 x6 xs) (fun e d => S (hd 128 (FR l X1)) (hd 128 (KR l X1)) (hd 128 X2) (256 * T + 64 * (2 + 1)) d e) :=
  isR_st (FR_pos l X1) (vv1 H) (n225 H) 2 128 rfl (n178 H) (n618 H hS) _ _ _ _ _ _

/-- Chunk 3 of head 1. -/
theorem n685 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal)) :
    IsR (n := 64) (m := 128) (runBF.sl.v685 (F := Ideal) c arg2 harg2 arg3 harg3 arg4 harg4 arg6 harg6 arg8 harg8 arg10 harg10 x0 x1 x2 x4 x6 xs) (fun i e => O (hd 128 (FR l X1)) (hd 128 (KR l X1)) (hd 128 X2) (hd 128 (QR X0)) (256 * T + (64 * 3 + i)) e) :=
  isR_o (FR_pos l X1) (n564 H) (n223 H) 3 (by decide) (n656 H hS) 192 rfl _ _ _

/-- The state of head 1 after chunk 3. -/
theorem n694 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal)) :
    IsR (n := 128) (m := 128) (runBF.sl.v694 (F := Ideal) c arg3 harg3 arg4 harg4 arg6 harg6 arg8 harg8 arg10 harg10 x1 x2 x4 x6 xs) (fun e d => S (hd 128 (FR l X1)) (hd 128 (KR l X1)) (hd 128 X2) (256 * T + 64 * (3 + 1)) d e) :=
  isR_st (FR_pos l X1) (vv1 H) (n225 H) 3 192 rfl (n215 H) (n656 H hS) _ _ _ _ _ _

/-- The values of head 2. -/
theorem vv2 (H : Inp T x0 x1 x2 x4 x6 X0 X1 X2 l) :
    IsR (n := 256) (m := 128) (runBF.sl.r_4 (F := Ideal) c arg4 harg4 x2) (fun r e => X2 (256 * T + r) (256 + e)) :=
  (IsR.readAt harg4 H.h2 0 256 _).congr fun r e hr he => by
    simp only [sh, zero_add]

/-- Head 2 within its chunks. -/
theorem n736 (H : Inp T x0 x1 x2 x4 x6 X0 X1 X2 l) :
    IsR (n := 256) (m := 128) (runBF.sl.v736 (F := Ideal) c arg2 harg2 arg3 harg3 arg4 harg4 arg6 harg6 arg8 harg8 x0 x1 x2 x4 x6) (fun r e => ∑ s ∈ range 256, A64 (FR l X1) (KR l X1) (QR X0) T 256 r s * X2 (256 * T + s) (256 + e)) :=
  isR_intra (n217 H) (n219 H) (n221 H) n278 n377 (vv2 H) _ _

/-- The state of head 2 before the point. -/
theorem n738 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal)) :
    IsR (n := 128) (m := 128) (runBF.sl.v738 (F := Ideal) c arg10 harg10 xs) (fun e d => S (hd 256 (FR l X1)) (hd 256 (KR l X1)) (hd 256 X2) (256 * T) d e) :=
  IsR3.cast (φ := .f32) (IsR3.readAt harg10 2 (hS 2) _) _

/-- Chunk 0 of head 2. -/
theorem n743 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal)) :
    IsR (n := 64) (m := 128) (runBF.sl.v743 (F := Ideal) c arg2 harg2 arg3 harg3 arg4 harg4 arg6 harg6 arg8 harg8 arg10 harg10 x0 x1 x2 x4 x6 xs) (fun i e => O (hd 256 (FR l X1)) (hd 256 (KR l X1)) (hd 256 X2) (hd 256 (QR X0)) (256 * T + (64 * 0 + i)) e) :=
  isR_o (FR_pos l X1) (n736 H) (n223 H) 0 (by decide) (n738 H hS) 0 rfl _ _ _

/-- The state of head 2 after chunk 0. -/
theorem n752 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal)) :
    IsR (n := 128) (m := 128) (runBF.sl.v752 (F := Ideal) c arg3 harg3 arg4 harg4 arg6 harg6 arg8 harg8 arg10 harg10 x1 x2 x4 x6 xs) (fun e d => S (hd 256 (FR l X1)) (hd 256 (KR l X1)) (hd 256 X2) (256 * T + 64 * (0 + 1)) d e) :=
  isR_st (FR_pos l X1) (vv2 H) (n225 H) 0 0 rfl (n104 H) (n738 H hS) _ _ _ _ _ _

/-- Chunk 1 of head 2. -/
theorem n781 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal)) :
    IsR (n := 64) (m := 128) (runBF.sl.v781 (F := Ideal) c arg2 harg2 arg3 harg3 arg4 harg4 arg6 harg6 arg8 harg8 arg10 harg10 x0 x1 x2 x4 x6 xs) (fun i e => O (hd 256 (FR l X1)) (hd 256 (KR l X1)) (hd 256 X2) (hd 256 (QR X0)) (256 * T + (64 * 1 + i)) e) :=
  isR_o (FR_pos l X1) (n736 H) (n223 H) 1 (by decide) (n752 H hS) 64 rfl _ _ _

/-- The state of head 2 after chunk 1. -/
theorem n790 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal)) :
    IsR (n := 128) (m := 128) (runBF.sl.v790 (F := Ideal) c arg3 harg3 arg4 harg4 arg6 harg6 arg8 harg8 arg10 harg10 x1 x2 x4 x6 xs) (fun e d => S (hd 256 (FR l X1)) (hd 256 (KR l X1)) (hd 256 X2) (256 * T + 64 * (1 + 1)) d e) :=
  isR_st (FR_pos l X1) (vv2 H) (n225 H) 1 64 rfl (n141 H) (n752 H hS) _ _ _ _ _ _

/-- Chunk 2 of head 2. -/
theorem n819 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal)) :
    IsR (n := 64) (m := 128) (runBF.sl.v819 (F := Ideal) c arg2 harg2 arg3 harg3 arg4 harg4 arg6 harg6 arg8 harg8 arg10 harg10 x0 x1 x2 x4 x6 xs) (fun i e => O (hd 256 (FR l X1)) (hd 256 (KR l X1)) (hd 256 X2) (hd 256 (QR X0)) (256 * T + (64 * 2 + i)) e) :=
  isR_o (FR_pos l X1) (n736 H) (n223 H) 2 (by decide) (n790 H hS) 128 rfl _ _ _

/-- The state of head 2 after chunk 2. -/
theorem n828 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal)) :
    IsR (n := 128) (m := 128) (runBF.sl.v828 (F := Ideal) c arg3 harg3 arg4 harg4 arg6 harg6 arg8 harg8 arg10 harg10 x1 x2 x4 x6 xs) (fun e d => S (hd 256 (FR l X1)) (hd 256 (KR l X1)) (hd 256 X2) (256 * T + 64 * (2 + 1)) d e) :=
  isR_st (FR_pos l X1) (vv2 H) (n225 H) 2 128 rfl (n178 H) (n790 H hS) _ _ _ _ _ _

/-- Chunk 3 of head 2. -/
theorem n857 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal)) :
    IsR (n := 64) (m := 128) (runBF.sl.v857 (F := Ideal) c arg2 harg2 arg3 harg3 arg4 harg4 arg6 harg6 arg8 harg8 arg10 harg10 x0 x1 x2 x4 x6 xs) (fun i e => O (hd 256 (FR l X1)) (hd 256 (KR l X1)) (hd 256 X2) (hd 256 (QR X0)) (256 * T + (64 * 3 + i)) e) :=
  isR_o (FR_pos l X1) (n736 H) (n223 H) 3 (by decide) (n828 H hS) 192 rfl _ _ _

/-- The state of head 2 after chunk 3. -/
theorem n866 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal)) :
    IsR (n := 128) (m := 128) (runBF.sl.v866 (F := Ideal) c arg3 harg3 arg4 harg4 arg6 harg6 arg8 harg8 arg10 harg10 x1 x2 x4 x6 xs) (fun e d => S (hd 256 (FR l X1)) (hd 256 (KR l X1)) (hd 256 X2) (256 * T + 64 * (3 + 1)) d e) :=
  isR_st (FR_pos l X1) (vv2 H) (n225 H) 3 192 rfl (n215 H) (n828 H hS) _ _ _ _ _ _

/-- The values of head 3. -/
theorem vv3 (H : Inp T x0 x1 x2 x4 x6 X0 X1 X2 l) :
    IsR (n := 256) (m := 128) (runBF.sl.r_6 (F := Ideal) c arg4 harg4 x2) (fun r e => X2 (256 * T + r) (384 + e)) :=
  (IsR.readAt harg4 H.h2 0 384 _).congr fun r e hr he => by
    simp only [sh, zero_add]

/-- Head 3 within its chunks. -/
theorem n908 (H : Inp T x0 x1 x2 x4 x6 X0 X1 X2 l) :
    IsR (n := 256) (m := 128) (runBF.sl.v908 (F := Ideal) c arg2 harg2 arg3 harg3 arg4 harg4 arg6 harg6 arg8 harg8 x0 x1 x2 x4 x6) (fun r e => ∑ s ∈ range 256, A64 (FR l X1) (KR l X1) (QR X0) T 384 r s * X2 (256 * T + s) (384 + e)) :=
  isR_intra (n217 H) (n219 H) (n221 H) n278 n377 (vv3 H) _ _

/-- The state of head 3 before the point. -/
theorem n910 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal)) :
    IsR (n := 128) (m := 128) (runBF.sl.v910 (F := Ideal) c arg10 harg10 xs) (fun e d => S (hd 384 (FR l X1)) (hd 384 (KR l X1)) (hd 384 X2) (256 * T) d e) :=
  IsR3.cast (φ := .f32) (IsR3.readAt harg10 3 (hS 3) _) _

/-- Chunk 0 of head 3. -/
theorem n915 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal)) :
    IsR (n := 64) (m := 128) (runBF.sl.v915 (F := Ideal) c arg2 harg2 arg3 harg3 arg4 harg4 arg6 harg6 arg8 harg8 arg10 harg10 x0 x1 x2 x4 x6 xs) (fun i e => O (hd 384 (FR l X1)) (hd 384 (KR l X1)) (hd 384 X2) (hd 384 (QR X0)) (256 * T + (64 * 0 + i)) e) :=
  isR_o (FR_pos l X1) (n908 H) (n223 H) 0 (by decide) (n910 H hS) 0 rfl _ _ _

/-- The state of head 3 after chunk 0. -/
theorem n924 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal)) :
    IsR (n := 128) (m := 128) (runBF.sl.v924 (F := Ideal) c arg3 harg3 arg4 harg4 arg6 harg6 arg8 harg8 arg10 harg10 x1 x2 x4 x6 xs) (fun e d => S (hd 384 (FR l X1)) (hd 384 (KR l X1)) (hd 384 X2) (256 * T + 64 * (0 + 1)) d e) :=
  isR_st (FR_pos l X1) (vv3 H) (n225 H) 0 0 rfl (n104 H) (n910 H hS) _ _ _ _ _ _

/-- Chunk 1 of head 3. -/
theorem n953 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal)) :
    IsR (n := 64) (m := 128) (runBF.sl.v953 (F := Ideal) c arg2 harg2 arg3 harg3 arg4 harg4 arg6 harg6 arg8 harg8 arg10 harg10 x0 x1 x2 x4 x6 xs) (fun i e => O (hd 384 (FR l X1)) (hd 384 (KR l X1)) (hd 384 X2) (hd 384 (QR X0)) (256 * T + (64 * 1 + i)) e) :=
  isR_o (FR_pos l X1) (n908 H) (n223 H) 1 (by decide) (n924 H hS) 64 rfl _ _ _

/-- The state of head 3 after chunk 1. -/
theorem n962 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal)) :
    IsR (n := 128) (m := 128) (runBF.sl.v962 (F := Ideal) c arg3 harg3 arg4 harg4 arg6 harg6 arg8 harg8 arg10 harg10 x1 x2 x4 x6 xs) (fun e d => S (hd 384 (FR l X1)) (hd 384 (KR l X1)) (hd 384 X2) (256 * T + 64 * (1 + 1)) d e) :=
  isR_st (FR_pos l X1) (vv3 H) (n225 H) 1 64 rfl (n141 H) (n924 H hS) _ _ _ _ _ _

/-- Chunk 2 of head 3. -/
theorem n991 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal)) :
    IsR (n := 64) (m := 128) (runBF.sl.v991 (F := Ideal) c arg2 harg2 arg3 harg3 arg4 harg4 arg6 harg6 arg8 harg8 arg10 harg10 x0 x1 x2 x4 x6 xs) (fun i e => O (hd 384 (FR l X1)) (hd 384 (KR l X1)) (hd 384 X2) (hd 384 (QR X0)) (256 * T + (64 * 2 + i)) e) :=
  isR_o (FR_pos l X1) (n908 H) (n223 H) 2 (by decide) (n962 H hS) 128 rfl _ _ _

/-- The state of head 3 after chunk 2. -/
theorem n1000 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal)) :
    IsR (n := 128) (m := 128) (runBF.sl.v1000 (F := Ideal) c arg3 harg3 arg4 harg4 arg6 harg6 arg8 harg8 arg10 harg10 x1 x2 x4 x6 xs) (fun e d => S (hd 384 (FR l X1)) (hd 384 (KR l X1)) (hd 384 X2) (256 * T + 64 * (2 + 1)) d e) :=
  isR_st (FR_pos l X1) (vv3 H) (n225 H) 2 128 rfl (n178 H) (n962 H hS) _ _ _ _ _ _

/-- Chunk 3 of head 3. -/
theorem n1029 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal)) :
    IsR (n := 64) (m := 128) (runBF.sl.v1029 (F := Ideal) c arg2 harg2 arg3 harg3 arg4 harg4 arg6 harg6 arg8 harg8 arg10 harg10 x0 x1 x2 x4 x6 xs) (fun i e => O (hd 384 (FR l X1)) (hd 384 (KR l X1)) (hd 384 X2) (hd 384 (QR X0)) (256 * T + (64 * 3 + i)) e) :=
  isR_o (FR_pos l X1) (n908 H) (n223 H) 3 (by decide) (n1000 H hS) 192 rfl _ _ _

/-- The state of head 3 after chunk 3. -/
theorem n1038 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal)) :
    IsR (n := 128) (m := 128) (runBF.sl.v1038 (F := Ideal) c arg3 harg3 arg4 harg4 arg6 harg6 arg8 harg8 arg10 harg10 x1 x2 x4 x6 xs) (fun e d => S (hd 384 (FR l X1)) (hd 384 (KR l X1)) (hd 384 X2) (256 * T + 64 * (3 + 1)) d e) :=
  isR_st (FR_pos l X1) (vv3 H) (n225 H) 3 192 rfl (n215 H) (n1000 H hS) _ _ _ _ _ _

/-- The piece given out from row 0, column 0 on. -/
theorem p431 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal))
    (inb : ∀ a, (![0, 0] : Fin 2 → ℕ) a + S64x128.size a ≤ S256x512.size a) :
    ∀ x, (runBF.sl.v431 (F := Ideal) c arg2 harg2 arg3 harg3 arg4 harg4 arg5 harg5 arg6 harg6 arg7 harg7 arg8 harg8 arg10 harg10 x0 x1 x2 x3 x4 x5 x6 xs) x = G9 T (FR l X1) (KR l X1) X2 (QR X0) x3 x5 ((Rect.unit (s := S256x512) ![0, 0] S64x128.size inb).emb x) :=
  fin_piece 0 0 0 rfl (n399 H hS) (fun i e _ _ => rfl) harg5 x3 harg7 x5 inb _ _ _ _ _

/-- The piece given out from row 64, column 0 on. -/
theorem p469 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal))
    (inb : ∀ a, (![64, 0] : Fin 2 → ℕ) a + S64x128.size a ≤ S256x512.size a) :
    ∀ x, (runBF.sl.v469 (F := Ideal) c arg2 harg2 arg3 harg3 arg4 harg4 arg5 harg5 arg6 harg6 arg7 harg7 arg8 harg8 arg10 harg10 x0 x1 x2 x3 x4 x5 x6 xs) x = G9 T (FR l X1) (KR l X1) X2 (QR X0) x3 x5 ((Rect.unit (s := S256x512) ![64, 0] S64x128.size inb).emb x) :=
  fin_piece 64 0 0 rfl (n437 H hS) (fun i e _ _ => rfl) harg5 x3 harg7 x5 inb _ _ _ _ _

/-- The piece given out from row 128, column 0 on. -/
theorem p507 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal))
    (inb : ∀ a, (![128, 0] : Fin 2 → ℕ) a + S64x128.size a ≤ S256x512.size a) :
    ∀ x, (runBF.sl.v507 (F := Ideal) c arg2 harg2 arg3 harg3 arg4 harg4 arg5 harg5 arg6 harg6 arg7 harg7 arg8 harg8 arg10 harg10 x0 x1 x2 x3 x4 x5 x6 xs) x = G9 T (FR l X1) (KR l X1) X2 (QR X0) x3 x5 ((Rect.unit (s := S256x512) ![128, 0] S64x128.size inb).emb x) :=
  fin_piece 128 0 0 rfl (n475 H hS) (fun i e _ _ => rfl) harg5 x3 harg7 x5 inb _ _ _ _ _

/-- The piece given out from row 192, column 0 on. -/
theorem p545 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal))
    (inb : ∀ a, (![192, 0] : Fin 2 → ℕ) a + S64x128.size a ≤ S256x512.size a) :
    ∀ x, (runBF.sl.v545 (F := Ideal) c arg2 harg2 arg3 harg3 arg4 harg4 arg5 harg5 arg6 harg6 arg7 harg7 arg8 harg8 arg10 harg10 x0 x1 x2 x3 x4 x5 x6 xs) x = G9 T (FR l X1) (KR l X1) X2 (QR X0) x3 x5 ((Rect.unit (s := S256x512) ![192, 0] S64x128.size inb).emb x) :=
  fin_piece 192 0 0 rfl (n513 H hS) (fun i e _ _ => rfl) harg5 x3 harg7 x5 inb _ _ _ _ _

/-- The piece given out from row 0, column 128 on. -/
theorem p603 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal))
    (inb : ∀ a, (![0, 128] : Fin 2 → ℕ) a + S64x128.size a ≤ S256x512.size a) :
    ∀ x, (runBF.sl.v603 (F := Ideal) c arg2 harg2 arg3 harg3 arg4 harg4 arg5 harg5 arg6 harg6 arg7 harg7 arg8 harg8 arg10 harg10 x0 x1 x2 x3 x4 x5 x6 xs) x = G9 T (FR l X1) (KR l X1) X2 (QR X0) x3 x5 ((Rect.unit (s := S256x512) ![0, 128] S64x128.size inb).emb x) :=
  fin_piece 0 128 1 rfl (n571 H hS) (fun i e _ _ => rfl) harg5 x3 harg7 x5 inb _ _ _ _ _

/-- The piece given out from row 64, column 128 on. -/
theorem p641 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal))
    (inb : ∀ a, (![64, 128] : Fin 2 → ℕ) a + S64x128.size a ≤ S256x512.size a) :
    ∀ x, (runBF.sl.v641 (F := Ideal) c arg2 harg2 arg3 harg3 arg4 harg4 arg5 harg5 arg6 harg6 arg7 harg7 arg8 harg8 arg10 harg10 x0 x1 x2 x3 x4 x5 x6 xs) x = G9 T (FR l X1) (KR l X1) X2 (QR X0) x3 x5 ((Rect.unit (s := S256x512) ![64, 128] S64x128.size inb).emb x) :=
  fin_piece 64 128 1 rfl (n609 H hS) (fun i e _ _ => rfl) harg5 x3 harg7 x5 inb _ _ _ _ _

/-- The piece given out from row 128, column 128 on. -/
theorem p679 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal))
    (inb : ∀ a, (![128, 128] : Fin 2 → ℕ) a + S64x128.size a ≤ S256x512.size a) :
    ∀ x, (runBF.sl.v679 (F := Ideal) c arg2 harg2 arg3 harg3 arg4 harg4 arg5 harg5 arg6 harg6 arg7 harg7 arg8 harg8 arg10 harg10 x0 x1 x2 x3 x4 x5 x6 xs) x = G9 T (FR l X1) (KR l X1) X2 (QR X0) x3 x5 ((Rect.unit (s := S256x512) ![128, 128] S64x128.size inb).emb x) :=
  fin_piece 128 128 1 rfl (n647 H hS) (fun i e _ _ => rfl) harg5 x3 harg7 x5 inb _ _ _ _ _

/-- The piece given out from row 192, column 128 on. -/
theorem p717 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal))
    (inb : ∀ a, (![192, 128] : Fin 2 → ℕ) a + S64x128.size a ≤ S256x512.size a) :
    ∀ x, (runBF.sl.v717 (F := Ideal) c arg2 harg2 arg3 harg3 arg4 harg4 arg5 harg5 arg6 harg6 arg7 harg7 arg8 harg8 arg10 harg10 x0 x1 x2 x3 x4 x5 x6 xs) x = G9 T (FR l X1) (KR l X1) X2 (QR X0) x3 x5 ((Rect.unit (s := S256x512) ![192, 128] S64x128.size inb).emb x) :=
  fin_piece 192 128 1 rfl (n685 H hS) (fun i e _ _ => rfl) harg5 x3 harg7 x5 inb _ _ _ _ _

/-- The piece given out from row 0, column 256 on. -/
theorem p775 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal))
    (inb : ∀ a, (![0, 256] : Fin 2 → ℕ) a + S64x128.size a ≤ S256x512.size a) :
    ∀ x, (runBF.sl.v775 (F := Ideal) c arg2 harg2 arg3 harg3 arg4 harg4 arg5 harg5 arg6 harg6 arg7 harg7 arg8 harg8 arg10 harg10 x0 x1 x2 x3 x4 x5 x6 xs) x = G9 T (FR l X1) (KR l X1) X2 (QR X0) x3 x5 ((Rect.unit (s := S256x512) ![0, 256] S64x128.size inb).emb x) :=
  fin_piece 0 256 2 rfl (n743 H hS) (fun i e _ _ => rfl) harg5 x3 harg7 x5 inb _ _ _ _ _

/-- The piece given out from row 64, column 256 on. -/
theorem p813 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal))
    (inb : ∀ a, (![64, 256] : Fin 2 → ℕ) a + S64x128.size a ≤ S256x512.size a) :
    ∀ x, (runBF.sl.v813 (F := Ideal) c arg2 harg2 arg3 harg3 arg4 harg4 arg5 harg5 arg6 harg6 arg7 harg7 arg8 harg8 arg10 harg10 x0 x1 x2 x3 x4 x5 x6 xs) x = G9 T (FR l X1) (KR l X1) X2 (QR X0) x3 x5 ((Rect.unit (s := S256x512) ![64, 256] S64x128.size inb).emb x) :=
  fin_piece 64 256 2 rfl (n781 H hS) (fun i e _ _ => rfl) harg5 x3 harg7 x5 inb _ _ _ _ _

/-- The piece given out from row 128, column 256 on. -/
theorem p851 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal))
    (inb : ∀ a, (![128, 256] : Fin 2 → ℕ) a + S64x128.size a ≤ S256x512.size a) :
    ∀ x, (runBF.sl.v851 (F := Ideal) c arg2 harg2 arg3 harg3 arg4 harg4 arg5 harg5 arg6 harg6 arg7 harg7 arg8 harg8 arg10 harg10 x0 x1 x2 x3 x4 x5 x6 xs) x = G9 T (FR l X1) (KR l X1) X2 (QR X0) x3 x5 ((Rect.unit (s := S256x512) ![128, 256] S64x128.size inb).emb x) :=
  fin_piece 128 256 2 rfl (n819 H hS) (fun i e _ _ => rfl) harg5 x3 harg7 x5 inb _ _ _ _ _

/-- The piece given out from row 192, column 256 on. -/
theorem p889 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal))
    (inb : ∀ a, (![192, 256] : Fin 2 → ℕ) a + S64x128.size a ≤ S256x512.size a) :
    ∀ x, (runBF.sl.v889 (F := Ideal) c arg2 harg2 arg3 harg3 arg4 harg4 arg5 harg5 arg6 harg6 arg7 harg7 arg8 harg8 arg10 harg10 x0 x1 x2 x3 x4 x5 x6 xs) x = G9 T (FR l X1) (KR l X1) X2 (QR X0) x3 x5 ((Rect.unit (s := S256x512) ![192, 256] S64x128.size inb).emb x) :=
  fin_piece 192 256 2 rfl (n857 H hS) (fun i e _ _ => rfl) harg5 x3 harg7 x5 inb _ _ _ _ _

/-- The piece given out from row 0, column 384 on. -/
theorem p947 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal))
    (inb : ∀ a, (![0, 384] : Fin 2 → ℕ) a + S64x128.size a ≤ S256x512.size a) :
    ∀ x, (runBF.sl.v947 (F := Ideal) c arg2 harg2 arg3 harg3 arg4 harg4 arg5 harg5 arg6 harg6 arg7 harg7 arg8 harg8 arg10 harg10 x0 x1 x2 x3 x4 x5 x6 xs) x = G9 T (FR l X1) (KR l X1) X2 (QR X0) x3 x5 ((Rect.unit (s := S256x512) ![0, 384] S64x128.size inb).emb x) :=
  fin_piece 0 384 3 rfl (n915 H hS) (fun i e _ _ => rfl) harg5 x3 harg7 x5 inb _ _ _ _ _

/-- The piece given out from row 64, column 384 on. -/
theorem p985 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal))
    (inb : ∀ a, (![64, 384] : Fin 2 → ℕ) a + S64x128.size a ≤ S256x512.size a) :
    ∀ x, (runBF.sl.v985 (F := Ideal) c arg2 harg2 arg3 harg3 arg4 harg4 arg5 harg5 arg6 harg6 arg7 harg7 arg8 harg8 arg10 harg10 x0 x1 x2 x3 x4 x5 x6 xs) x = G9 T (FR l X1) (KR l X1) X2 (QR X0) x3 x5 ((Rect.unit (s := S256x512) ![64, 384] S64x128.size inb).emb x) :=
  fin_piece 64 384 3 rfl (n953 H hS) (fun i e _ _ => rfl) harg5 x3 harg7 x5 inb _ _ _ _ _

/-- The piece given out from row 128, column 384 on. -/
theorem p1023 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal))
    (inb : ∀ a, (![128, 384] : Fin 2 → ℕ) a + S64x128.size a ≤ S256x512.size a) :
    ∀ x, (runBF.sl.v1023 (F := Ideal) c arg2 harg2 arg3 harg3 arg4 harg4 arg5 harg5 arg6 harg6 arg7 harg7 arg8 harg8 arg10 harg10 x0 x1 x2 x3 x4 x5 x6 xs) x = G9 T (FR l X1) (KR l X1) X2 (QR X0) x3 x5 ((Rect.unit (s := S256x512) ![128, 384] S64x128.size inb).emb x) :=
  fin_piece 128 384 3 rfl (n991 H hS) (fun i e _ _ => rfl) harg5 x3 harg7 x5 inb _ _ _ _ _

/-- The piece given out from row 192, column 384 on. -/
theorem p1061 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal))
    (inb : ∀ a, (![192, 384] : Fin 2 → ℕ) a + S64x128.size a ≤ S256x512.size a) :
    ∀ x, (runBF.sl.v1061 (F := Ideal) c arg2 harg2 arg3 harg3 arg4 harg4 arg5 harg5 arg6 harg6 arg7 harg7 arg8 harg8 arg10 harg10 x0 x1 x2 x3 x4 x5 x6 xs) x = G9 T (FR l X1) (KR l X1) X2 (QR X0) x3 x5 ((Rect.unit (s := S256x512) ![192, 384] S64x128.size inb).emb x) :=
  fin_piece 192 384 3 rfl (n1029 H hS) (fun i e _ _ => rfl) harg5 x3 harg7 x5 inb _ _ _ _ _

/-- The state left of head 0. -/
theorem s0 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal))
    (inb : ∀ a, (![0, 0, 0] : Fin 3 → ℕ) a + S1x128x128.size a ≤ S4x128x128.size a) :
    ∀ x, (runBF.sl.v549 (F := Ideal) c arg3 harg3 arg4 harg4 arg6 harg6 arg8 harg8 arg10 harg10 x1 x2 x4 x6 xs) x = G10 T (FR l X1) (KR l X1) X2 ((Rect.unit (s := S4x128x128) ![0, 0, 0] S1x128x128.size inb).emb x) :=
  G10_piece 0 inb (IsR.cast3 (φ := .f32) (n522 H hS) _) (fun e d => rfl)

/-- The state left of head 1. -/
theorem s1 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal))
    (inb : ∀ a, (![1, 0, 0] : Fin 3 → ℕ) a + S1x128x128.size a ≤ S4x128x128.size a) :
    ∀ x, (runBF.sl.v721 (F := Ideal) c arg3 harg3 arg4 harg4 arg6 harg6 arg8 harg8 arg10 harg10 x1 x2 x4 x6 xs) x = G10 T (FR l X1) (KR l X1) X2 ((Rect.unit (s := S4x128x128) ![1, 0, 0] S1x128x128.size inb).emb x) :=
  G10_piece 1 inb (IsR.cast3 (φ := .f32) (n694 H hS) _) (fun e d => rfl)

/-- The state left of head 2. -/
theorem s2 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal))
    (inb : ∀ a, (![2, 0, 0] : Fin 3 → ℕ) a + S1x128x128.size a ≤ S4x128x128.size a) :
    ∀ x, (runBF.sl.v893 (F := Ideal) c arg3 harg3 arg4 harg4 arg6 harg6 arg8 harg8 arg10 harg10 x1 x2 x4 x6 xs) x = G10 T (FR l X1) (KR l X1) X2 ((Rect.unit (s := S4x128x128) ![2, 0, 0] S1x128x128.size inb).emb x) :=
  G10_piece 2 inb (IsR.cast3 (φ := .f32) (n866 H hS) _) (fun e d => rfl)

/-- The state left of head 3. -/
theorem s3 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal))
    (inb : ∀ a, (![3, 0, 0] : Fin 3 → ℕ) a + S1x128x128.size a ≤ S4x128x128.size a) :
    ∀ x, (k0_pay4 (F := Ideal) (runBF.sl.v1038 (F := Ideal) c arg3 harg3 arg4 harg4 arg6 harg6 arg8 harg8 arg10 harg10 x1 x2 x4 x6 xs)) x = G10 T (FR l X1) (KR l X1) X2 ((Rect.unit (s := S4x128x128) ![3, 0, 0] S1x128x128.size inb).emb x) :=
  G10_piece 3 inb (IsR.cast3 (φ := .f32) (n1038 H hS) _) (fun e d => rfl)

/-- The block given out. -/
theorem out9 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal)) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S256x256 .bf16) (harg8 : arg8.IsWhole) (arg9 : Memref sig .tc .vmem S256x512 .bf16) (harg9 : arg9.IsWhole) (arg10 : Memref sig .tc .vmem S4x128x128 .f32) (harg10 : arg10.IsWhole) (arg11 : Memref sig .tc .vmem S256x512 .f32) (harg11 : arg11.IsWhole) (arg12 : Memref sig .tc .vmem S256x512 .f32) (harg12 : arg12.IsWhole) (hc0 : ¬cond0_0 i) (hx : cmpw x4 x1 x6 = 0#1) (y : S256x512.Idx) :
    View.canon (runBF (F := Ideal) c i arg2 harg2 arg3 harg3 arg4 harg4 arg5 harg5 arg6 harg6 arg7 harg7 arg8 harg8 arg9 harg9 arg10 harg10 arg11 harg11 arg12 harg12 hc0 x0 x1 x2 x3 x4 x5 x6 xs hx).1 y = (G9 T (FR l X1) (KR l X1) X2 (QR X0) x3 x5) y :=
  View.canon_apply_of_pieces (G9 T (FR l X1) (KR l X1) X2 (QR X0) x3 x5) _ (View.PiecesOf.mem (show View.PiecesOf (G9 T (FR l X1) (KR l X1) X2 (QR X0) x3 x5) (runBF (F := Ideal) c i arg2 harg2 arg3 harg3 arg4 harg4 arg5 harg5 arg6 harg6 arg7 harg7 arg8 harg8 arg9 harg9 arg10 harg10 arg11 harg11 arg12 harg12 hc0 x0 x1 x2 x3 x4 x5 x6 xs hx).1 from ⟨p1061 H hS (by decide), p1023 H hS (by decide), p985 H hS (by decide), p947 H hS (by decide), p889 H hS (by decide), p851 H hS (by decide), p813 H hS (by decide), p775 H hS (by decide), p717 H hS (by decide), p679 H hS (by decide), p641 H hS (by decide), p603 H hS (by decide), p545 H hS (by decide), p507 H hS (by decide), p469 H hS (by decide), p431 H hS (by decide), trivial⟩)) y (covBF_9 c i arg2 harg2 arg3 harg3 arg4 harg4 arg5 harg5 arg6 harg6 arg7 harg7 arg8 harg8 arg9 harg9 arg10 harg10 arg11 harg11 arg12 harg12 hc0 x0 x1 x2 x3 x4 x5 x6 xs hx y)

/-- The state left. -/
theorem out10 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal)) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S256x256 .bf16) (harg8 : arg8.IsWhole) (arg9 : Memref sig .tc .vmem S256x512 .bf16) (harg9 : arg9.IsWhole) (arg10 : Memref sig .tc .vmem S4x128x128 .f32) (harg10 : arg10.IsWhole) (arg11 : Memref sig .tc .vmem S256x512 .f32) (harg11 : arg11.IsWhole) (arg12 : Memref sig .tc .vmem S256x512 .f32) (harg12 : arg12.IsWhole) (hc0 : ¬cond0_0 i) (hx : cmpw x4 x1 x6 = 0#1) (y : S4x128x128.Idx) :
    View.canon (runBF (F := Ideal) c i arg2 harg2 arg3 harg3 arg4 harg4 arg5 harg5 arg6 harg6 arg7 harg7 arg8 harg8 arg9 harg9 arg10 harg10 arg11 harg11 arg12 harg12 hc0 x0 x1 x2 x3 x4 x5 x6 xs hx).2.1 y = (G10 T (FR l X1) (KR l X1) X2) y :=
  View.canon_apply_of_pieces (G10 T (FR l X1) (KR l X1) X2) _ (View.PiecesOf.mem (show View.PiecesOf (G10 T (FR l X1) (KR l X1) X2) (runBF (F := Ideal) c i arg2 harg2 arg3 harg3 arg4 harg4 arg5 harg5 arg6 harg6 arg7 harg7 arg8 harg8 arg9 harg9 arg10 harg10 arg11 harg11 arg12 harg12 hc0 x0 x1 x2 x3 x4 x5 x6 xs hx).2.1 from ⟨s3 H hS (by decide), s2 H hS (by decide), s1 H hS (by decide), s0 H hS (by decide), trivial⟩)) y (covBF_10 c i arg2 harg2 arg3 harg3 arg4 harg4 arg5 harg5 arg6 harg6 arg7 harg7 arg8 harg8 arg9 harg9 arg10 harg10 arg11 harg11 arg12 harg12 hc0 x0 x1 x2 x3 x4 x5 x6 xs hx y)

end Cert.Hgrn.BF

end
-- ==== Proof.HgAF.lean ====
module

public import proofs.«01_k».proof.Proof.HgNode
public import proofs.«01_k».proof.Proof.HgCov

/-! The values of the body's run: the first point of a sequence, scaled form. Each lemma reads one array of the run as reals. -/

@[expose] public section

set_option maxRecDepth 16384

noncomputable section

namespace Cert.Hgrn.AF

open Idealize.ShloMosaic hiding ix1 ix2 ix3
open Idealize.ShloMosaic.ValueIdx
open Cert.KernelIdeal Cert.KernelIdeal.Gen Cert.KernelIdeal.Hgrn
open Finset

variable {c : Dev nD} {T : ℕ} {X0 X1 X2 l : ℕ → ℕ → ℝ}
variable {arg2 : Memref sig .tc .vmem S256x512 .f32} {harg2 : arg2.IsWhole} {arg3 : Memref sig .tc .vmem S256x512 .f32} {harg3 : arg3.IsWhole} {arg4 : Memref sig .tc .vmem S256x512 .f32} {harg4 : arg4.IsWhole} {arg5 : Memref sig .tc .vmem S256x512 .f32} {harg5 : arg5.IsWhole} {arg6 : Memref sig .tc .vmem S2x512 .f32} {harg6 : arg6.IsWhole} {arg7 : Memref sig .tc .vmem S1x128 .f32} {harg7 : arg7.IsWhole} {arg8 : Memref sig .tc .vmem S256x256 .bf16} {harg8 : arg8.IsWhole} {arg10 : Memref sig .tc .vmem S4x128x128 .f32} {harg10 : arg10.IsWhole}
variable {x0 x1 x2 x3 : Vec Ideal S256x512 .f32} {x4 : Vec Ideal S2x512 .f32} {x5 : Vec Ideal S1x128 .f32} {x6 : Vec Ideal S256x256 .bf16} {xs : Vec Ideal S4x128x128 .f32}

/-- The lower bound of the gate. -/
theorem n15 (H : Inp T x0 x1 x2 x4 x6 X0 X1 X2 l) :
    IsR (n := 1) (m := 512) (runAF.sl.v15 (F := Ideal) c arg6 harg6 x4) (fun _ c => lbR l c) := by
  have h4 : IsR (n := 1) (m := 512) (runAF.sl.v4 (F := Ideal) c arg6 harg6 x4) (fun _ c => l 0 c) :=
    (IsR.slice (φ := .f32) (IsR.readAll harg6 H.h4 _) 0 0 _).congr fun r c hr hc => by
      obtain rfl : r = 0 := by omega
      simp only [sh, zero_add, add_zero]
  have h5 : IsR (n := 1) (m := 512) (runAF.sl.v5 (F := Ideal) c arg6 harg6 x4) (fun _ c => l 1 c) :=
    (IsR.slice (φ := .f32) (IsR.readAll harg6 H.h4 _) 1 0 _).congr fun r c hr hc => by
      obtain rfl : r = 0 := by omega
      simp only [sh, zero_add, add_zero]
  have h6 := IsR.max h4 h5
  have h8 := IsR.exp (IsR.sub h4 h6)
  have h10 := IsR.exp (IsR.sub h5 h6)
  have h11 := IsR.add h8 h10
  have h12 := IsR.div h8 h11 fun r c => (add_pos (Real.exp_pos _) (Real.exp_pos _)).ne'
  have h13 := IsR.div h10 h11 fun r c => (add_pos (Real.exp_pos _) (Real.exp_pos _)).ne'
  exact IsR.sub (IsR.add h12 h13) h12

/-- The forget gate. -/
theorem n29 (H : Inp T x0 x1 x2 x4 x6 X0 X1 X2 l) :
    IsR (n := 256) (m := 512) (runAF.sl.v29 (F := Ideal) c arg3 harg3 arg6 harg6 x1 x4) (sh (256 * T) 0 (FR l X1)) :=
  (IsR.add (IsR.bcast (n15 H) _) (IsR.mul (IsR.bcast (IsR.sub IsR.one (n15 H)) _)
    (IsR.sigAll harg3 H.h1 _))).congr fun r c hr hc => by
    simp only [sh, FR, zero_add]

/-- What is written for the key. -/
theorem n31 (H : Inp T x0 x1 x2 x4 x6 X0 X1 X2 l) :
    IsR (n := 256) (m := 512) (runAF.sl.v31 (F := Ideal) c arg3 harg3 arg6 harg6 x1 x4) (sh (256 * T) 0 (KR l X1)) :=
  IsR.sub IsR.one (n29 H)

/-- The logarithm of the gate. -/
theorem n32 (H : Inp T x0 x1 x2 x4 x6 X0 X1 X2 l) :
    IsR (n := 256) (m := 512) (runAF.sl.v32 (F := Ideal) c arg3 harg3 arg6 harg6 x1 x4) (fun r c => Real.log (FR l X1 (256 * T + r) (0 + c))) :=
  IsR.log (n29 H) fun r c => FR_pos _ _ _ _

/-- The triangle of ones. -/
theorem n41 (H : Inp T x0 x1 x2 x4 x6 X0 X1 X2 l) :
    IsR (n := 256) (m := 256) (runAF.sl.v41 (F := Ideal) c arg8 harg8 x6) (fun r c => if c ≤ r ∧ r / 32 = c / 32 then 1 else 0) := by
  show IsR (shapeCast S256x256 _ _) _
  rw [shapeCast_self]
  exact IsR.readAllB harg8 H.h6 _

/-- The logarithms summed from the start of each chunk of 32 rows. -/
theorem nB (H : Inp T x0 x1 x2 x4 x6 X0 X1 X2 l) :
    IsR (n := 256) (m := 512) (k0_pay1 (F := Ideal) (runAF.sl.v36 (F := Ideal) c arg3 harg3 arg6 harg6 x1 x4) (runAF.sl.v39 (F := Ideal) c arg3 harg3 arg6 harg6 x1 x4) (runAF.sl.v41 (F := Ideal) c arg8 harg8 x6) (runAF.sl.v42 (F := Ideal) c arg3 harg3 arg6 harg6 arg8 harg8 x1 x4 x6)) (sh (256 * T) 0 (b32 (FR l X1))) := by
  have h32 := n32 (arg3 := arg3) (harg3 := harg3) (arg6 := arg6) (harg6 := harg6) (c := c) H
  have h41 := n41 (arg8 := arg8) (harg8 := harg8) (c := c) H
  have h36 : IsR (n := 256) (m := 512) (runAF.sl.v36 (F := Ideal) c arg3 harg3 arg6 harg6 x1 x4) (fun _ _ => 0) := (IsR.sub h32 h32).congr fun r c _ _ => sub_self _
  have h39 : IsR (n := 256) (m := 512) (runAF.sl.v39 (F := Ideal) c arg3 harg3 arg6 harg6 x1 x4) (fun _ _ => 0) := (IsR.sub h36 h36).congr fun r c _ _ => sub_self _
  refine IsR.congr (IsR.add (IsR.add (IsR.nn (φ := .bf16) (ψ := .bf16) h41 h32 none) (IsR.nn (φ := .bf16) (ψ := .bf16) h41 h36 none))
    (IsR.nn (φ := .bf16) (ψ := .bf16) h41 h39 none)) fun r c hr hc => ?_
  simp only [mul_zero, sum_const_zero, add_zero]
  exact tri_sum _ _ _ _ hr

/-- The gated query. -/
theorem n67 (H : Inp T x0 x1 x2 x4 x6 X0 X1 X2 l) :
    IsR (n := 256) (m := 512) (runAF.sl.v67 (F := Ideal) c arg2 harg2 x0) (sh (256 * T) 0 (QR X0)) :=
  IsR.mul (IsR.readAll harg2 H.h0 _) (IsR.div IsR.one (IsR.add IsR.one (IsR.exp (IsR.sub IsR.zero (IsR.readAll harg2 H.h0 _))))
      fun r c => (add_pos one_pos (Real.exp_pos _)).ne')

/-- Rows 0 on: queries times their decays, chunks of 32. -/
theorem n72 (H : Inp T x0 x1 x2 x4 x6 X0 X1 X2 l) :
    IsR (n := 32) (m := 512) (runAF.sl.v72 (F := Ideal) c arg2 harg2 arg3 harg3 arg6 harg6 arg8 harg8 x0 x1 x4 x6) (sh 0 0 (sh (256 * T) 0 fun n c => QR X0 n c * Real.exp (b32 (FR l X1) n c))) :=
  isR_pq (n67 H) (nB H) 0 _

/-- Rows 32 on: queries times their decays, chunks of 32. -/
theorem n88 (H : Inp T x0 x1 x2 x4 x6 X0 X1 X2 l) :
    IsR (n := 32) (m := 512) (runAF.sl.v88 (F := Ideal) c arg2 harg2 arg3 harg3 arg6 harg6 arg8 harg8 x0 x1 x4 x6) (sh 32 0 (sh (256 * T) 0 fun n c => QR X0 n c * Real.exp (b32 (FR l X1) n c))) :=
  isR_pq (n67 H) (nB H) 32 _

/-- Rows 0 on: keys divided by their decays, chunks of 32. -/
theorem n77 (H : Inp T x0 x1 x2 x4 x6 X0 X1 X2 l) :
    IsR (n := 32) (m := 512) (runAF.sl.v77 (F := Ideal) c arg3 harg3 arg6 harg6 arg8 harg8 x1 x4 x6) (sh 0 0 (sh (256 * T) 0 fun n c => KR l X1 n c * Real.exp (0 - b32 (FR l X1) n c))) :=
  isR_pk (n31 H) (nB H) 0 _

/-- Rows 32 on: keys divided by their decays, chunks of 32. -/
theorem n93 (H : Inp T x0 x1 x2 x4 x6 X0 X1 X2 l) :
    IsR (n := 32) (m := 512) (runAF.sl.v93 (F := Ideal) c arg3 harg3 arg6 harg6 arg8 harg8 x1 x4 x6) (sh 32 0 (sh (256 * T) 0 fun n c => KR l X1 n c * Real.exp (0 - b32 (FR l X1) n c))) :=
  isR_pk (n31 H) (nB H) 32 _

/-- Rows 0 on: keys times the decays that remain, chunks of 32. -/
theorem n82 (H : Inp T x0 x1 x2 x4 x6 X0 X1 X2 l) :
    IsR (n := 32) (m := 512) (runAF.sl.v82 (F := Ideal) c arg3 harg3 arg6 harg6 arg8 harg8 x1 x4 x6) (sh 0 0 (sh (256 * T) 0 fun n c => KR l X1 n c * Real.exp (t32 (FR l X1) n c - b32 (FR l X1) n c))) :=
  isR_ph (n31 H) (nB H) 0 _ _ _ (by decide)

/-- Rows 32 on: keys times the decays that remain, chunks of 32. -/
theorem n98 (H : Inp T x0 x1 x2 x4 x6 X0 X1 X2 l) :
    IsR (n := 32) (m := 512) (runAF.sl.v98 (F := Ideal) c arg3 harg3 arg6 harg6 arg8 harg8 x1 x4 x6) (sh 32 0 (sh (256 * T) 0 fun n c => KR l X1 n c * Real.exp (t32 (FR l X1) n c - b32 (FR l X1) n c))) :=
  isR_ph (n31 H) (nB H) 32 _ _ _ (by decide)

/-- The summed logarithms of the 32 rows from row 0 on. -/
theorem n69 (H : Inp T x0 x1 x2 x4 x6 X0 X1 X2 l) :
    IsR (n := 1) (m := 512) (runAF.sl.v69 (F := Ideal) c arg3 harg3 arg6 harg6 arg8 harg8 x1 x4 x6) (fun _ c => L (FR l X1) (256 * T + 0) 32 c) :=
  isR_last (nB H) 0 _ _ (by decide)

/-- The summed logarithms of the 32 rows from row 32 on. -/
theorem n85 (H : Inp T x0 x1 x2 x4 x6 X0 X1 X2 l) :
    IsR (n := 1) (m := 512) (runAF.sl.v85 (F := Ideal) c arg3 harg3 arg6 harg6 arg8 harg8 x1 x4 x6) (fun _ c => L (FR l X1) (256 * T + 32) 32 c) :=
  isR_last (nB H) 32 _ _ (by decide)

/-- Rows 0 on: queries times their decays, chunks of 64. -/
theorem e72 (H : Inp T x0 x1 x2 x4 x6 X0 X1 X2 l) :
    IsR (n := 32) (m := 512) (runAF.sl.v72 (F := Ideal) c arg2 harg2 arg3 harg3 arg6 harg6 arg8 harg8 x0 x1 x4 x6) (sh 0 0 (sh (256 * T) 0 fun n c => QR X0 n c * Real.exp (b64 (FR l X1) n c))) :=
  isR_even (by decide) (n72 H)

/-- Rows 32 on: queries times their decays, chunks of 64. -/
theorem n101 (H : Inp T x0 x1 x2 x4 x6 X0 X1 X2 l) :
    IsR (n := 32) (m := 512) (runAF.sl.v101 (F := Ideal) c arg2 harg2 arg3 harg3 arg6 harg6 arg8 harg8 x0 x1 x4 x6) (sh 32 0 (sh (256 * T) 0 fun n c => QR X0 n c * Real.exp (b64 (FR l X1) n c))) :=
  isR_odd (o := 0) (by decide) rfl (n88 H) (n69 H) _

/-- Rows 32 on: keys times the decays that remain, chunks of 64. -/
theorem e98 (H : Inp T x0 x1 x2 x4 x6 X0 X1 X2 l) :
    IsR (n := 32) (m := 512) (runAF.sl.v98 (F := Ideal) c arg3 harg3 arg6 harg6 arg8 harg8 x1 x4 x6) (sh 32 0 (sh (256 * T) 0 fun n c => KR l X1 n c * Real.exp (t64 (FR l X1) n c - b64 (FR l X1) n c))) :=
  isR_kodd (o := 0) (by decide) rfl (n98 H)

/-- Rows 0 on: keys times the decays that remain, chunks of 64. -/
theorem n103 (H : Inp T x0 x1 x2 x4 x6 X0 X1 X2 l) :
    IsR (n := 32) (m := 512) (runAF.sl.v103 (F := Ideal) c arg3 harg3 arg6 harg6 arg8 harg8 x1 x4 x6) (sh 0 0 (sh (256 * T) 0 fun n c => KR l X1 n c * Real.exp (t64 (FR l X1) n c - b64 (FR l X1) n c))) :=
  isR_keven (o := 0) (by decide) rfl (n82 H) (n85 H) _

/-- The decay over the chunk of 64 rows from row 0 on. -/
theorem n104 (H : Inp T x0 x1 x2 x4 x6 X0 X1 X2 l) :
    IsR (n := 1) (m := 512) (runAF.sl.v104 (F := Ideal) c arg3 harg3 arg6 harg6 arg8 harg8 x1 x4 x6) (fun _ c => Real.exp (L (FR l X1) (256 * T + 0) 64 c)) :=
  isR_dec (o := 0) rfl (n69 H) (n85 H)

/-- Rows 64 on: queries times their decays, chunks of 32. -/
theorem n109 (H : Inp T x0 x1 x2 x4 x6 X0 X1 X2 l) :
    IsR (n := 32) (m := 512) (runAF.sl.v109 (F := Ideal) c arg2 harg2 arg3 harg3 arg6 harg6 arg8 harg8 x0 x1 x4 x6) (sh 64 0 (sh (256 * T) 0 fun n c => QR X0 n c * Real.exp (b32 (FR l X1) n c))) :=
  isR_pq (n67 H) (nB H) 64 _

/-- Rows 96 on: queries times their decays, chunks of 32. -/
theorem n125 (H : Inp T x0 x1 x2 x4 x6 X0 X1 X2 l) :
    IsR (n := 32) (m := 512) (runAF.sl.v125 (F := Ideal) c arg2 harg2 arg3 harg3 arg6 harg6 arg8 harg8 x0 x1 x4 x6) (sh 96 0 (sh (256 * T) 0 fun n c => QR X0 n c * Real.exp (b32 (FR l X1) n c))) :=
  isR_pq (n67 H) (nB H) 96 _

/-- Rows 64 on: keys divided by their decays, chunks of 32. -/
theorem n114 (H : Inp T x0 x1 x2 x4 x6 X0 X1 X2 l) :
    IsR (n := 32) (m := 512) (runAF.sl.v114 (F := Ideal) c arg3 harg3 arg6 harg6 arg8 harg8 x1 x4 x6) (sh 64 0 (sh (256 * T) 0 fun n c => KR l X1 n c * Real.exp (0 - b32 (FR l X1) n c))) :=
  isR_pk (n31 H) (nB H) 64 _

/-- Rows 96 on: keys divided by their decays, chunks of 32. -/
theorem n130 (H : Inp T x0 x1 x2 x4 x6 X0 X1 X2 l) :
    IsR (n := 32) (m := 512) (runAF.sl.v130 (F := Ideal) c arg3 harg3 arg6 harg6 arg8 harg8 x1 x4 x6) (sh 96 0 (sh (256 * T) 0 fun n c => KR l X1 n c * Real.exp (0 - b32 (FR l X1) n c))) :=
  isR_pk (n31 H) (nB H) 96 _

/-- Rows 64 on: keys times the decays that remain, chunks of 32. -/
theorem n119 (H : Inp T x0 x1 x2 x4 x6 X0 X1 X2 l) :
    IsR (n := 32) (m := 512) (runAF.sl.v119 (F := Ideal) c arg3 harg3 arg6 harg6 arg8 harg8 x1 x4 x6) (sh 64 0 (sh (256 * T) 0 fun n c => KR l X1 n c * Real.exp (t32 (FR l X1) n c - b32 (FR l X1) n c))) :=
  isR_ph (n31 H) (nB H) 64 _ _ _ (by decide)

/-- Rows 96 on: keys times the decays that remain, chunks of 32. -/
theorem n135 (H : Inp T x0 x1 x2 x4 x6 X0 X1 X2 l) :
    IsR (n := 32) (m := 512) (runAF.sl.v135 (F := Ideal) c arg3 harg3 arg6 harg6 arg8 harg8 x1 x4 x6) (sh 96 0 (sh (256 * T) 0 fun n c => KR l X1 n c * Real.exp (t32 (FR l X1) n c - b32 (FR l X1) n c))) :=
  isR_ph (n31 H) (nB H) 96 _ _ _ (by decide)

/-- The summed logarithms of the 32 rows from row 64 on. -/
theorem n106 (H : Inp T x0 x1 x2 x4 x6 X0 X1 X2 l) :
    IsR (n := 1) (m := 512) (runAF.sl.v106 (F := Ideal) c arg3 harg3 arg6 harg6 arg8 harg8 x1 x4 x6) (fun _ c => L (FR l X1) (256 * T + 64) 32 c) :=
  isR_last (nB H) 64 _ _ (by decide)

/-- The summed logarithms of the 32 rows from row 96 on. -/
theorem n122 (H : Inp T x0 x1 x2 x4 x6 X0 X1 X2 l) :
    IsR (n := 1) (m := 512) (runAF.sl.v122 (F := Ideal) c arg3 harg3 arg6 harg6 arg8 harg8 x1 x4 x6) (fun _ c => L (FR l X1) (256 * T + 96) 32 c) :=
  isR_last (nB H) 96 _ _ (by decide)

/-- Rows 64 on: queries times their decays, chunks of 64. -/
theorem e109 (H : Inp T x0 x1 x2 x4 x6 X0 X1 X2 l) :
    IsR (n := 32) (m := 512) (runAF.sl.v109 (F := Ideal) c arg2 harg2 arg3 harg3 arg6 harg6 arg8 harg8 x0 x1 x4 x6) (sh 64 0 (sh (256 * T) 0 fun n c => QR X0 n c * Real.exp (b64 (FR l X1) n c))) :=
  isR_even (by decide) (n109 H)

/-- Rows 96 on: queries times their decays, chunks of 64. -/
theorem n138 (H : Inp T x0 x1 x2 x4 x6 X0 X1 X2 l) :
    IsR (n := 32) (m := 512) (runAF.sl.v138 (F := Ideal) c arg2 harg2 arg3 harg3 arg6 harg6 arg8 harg8 x0 x1 x4 x6) (sh 96 0 (sh (256 * T) 0 fun n c => QR X0 n c * Real.exp (b64 (FR l X1) n c))) :=
  isR_odd (o := 64) (by decide) rfl (n125 H) (n106 H) _

/-- Rows 96 on: keys times the decays that remain, chunks of 64. -/
theorem e135 (H : Inp T x0 x1 x2 x4 x6 X0 X1 X2 l) :
    IsR (n := 32) (m := 512) (runAF.sl.v135 (F := Ideal) c arg3 harg3 arg6 harg6 arg8 harg8 x1 x4 x6) (sh 96 0 (sh (256 * T) 0 fun n c => KR l X1 n c * Real.exp (t64 (FR l X1) n c - b64 (FR l X1) n c))) :=
  isR_kodd (o := 64) (by decide) rfl (n135 H)

/-- Rows 64 on: keys times the decays that remain, chunks of 64. -/
theorem n140 (H : Inp T x0 x1 x2 x4 x6 X0 X1 X2 l) :
    IsR (n := 32) (m := 512) (runAF.sl.v140 (F := Ideal) c arg3 harg3 arg6 harg6 arg8 harg8 x1 x4 x6) (sh 64 0 (sh (256 * T) 0 fun n c => KR l X1 n c * Real.exp (t64 (FR l X1) n c - b64 (FR l X1) n c))) :=
  isR_keven (o := 64) (by decide) rfl (n119 H) (n122 H) _

/-- The decay over the chunk of 64 rows from row 64 on. -/
theorem n141 (H : Inp T x0 x1 x2 x4 x6 X0 X1 X2 l) :
    IsR (n := 1) (m := 512) (runAF.sl.v141 (F := Ideal) c arg3 harg3 arg6 harg6 arg8 harg8 x1 x4 x6) (fun _ c => Real.exp (L (FR l X1) (256 * T + 64) 64 c)) :=
  isR_dec (o := 64) rfl (n106 H) (n122 H)

/-- Rows 128 on: queries times their decays, chunks of 32. -/
theorem n146 (H : Inp T x0 x1 x2 x4 x6 X0 X1 X2 l) :
    IsR (n := 32) (m := 512) (runAF.sl.v146 (F := Ideal) c arg2 harg2 arg3 harg3 arg6 harg6 arg8 harg8 x0 x1 x4 x6) (sh 128 0 (sh (256 * T) 0 fun n c => QR X0 n c * Real.exp (b32 (FR l X1) n c))) :=
  isR_pq (n67 H) (nB H) 128 _

/-- Rows 160 on: queries times their decays, chunks of 32. -/
theorem n162 (H : Inp T x0 x1 x2 x4 x6 X0 X1 X2 l) :
    IsR (n := 32) (m := 512) (runAF.sl.v162 (F := Ideal) c arg2 harg2 arg3 harg3 arg6 harg6 arg8 harg8 x0 x1 x4 x6) (sh 160 0 (sh (256 * T) 0 fun n c => QR X0 n c * Real.exp (b32 (FR l X1) n c))) :=
  isR_pq (n67 H) (nB H) 160 _

/-- Rows 128 on: keys divided by their decays, chunks of 32. -/
theorem n151 (H : Inp T x0 x1 x2 x4 x6 X0 X1 X2 l) :
    IsR (n := 32) (m := 512) (runAF.sl.v151 (F := Ideal) c arg3 harg3 arg6 harg6 arg8 harg8 x1 x4 x6) (sh 128 0 (sh (256 * T) 0 fun n c => KR l X1 n c * Real.exp (0 - b32 (FR l X1) n c))) :=
  isR_pk (n31 H) (nB H) 128 _

/-- Rows 160 on: keys divided by their decays, chunks of 32. -/
theorem n167 (H : Inp T x0 x1 x2 x4 x6 X0 X1 X2 l) :
    IsR (n := 32) (m := 512) (runAF.sl.v167 (F := Ideal) c arg3 harg3 arg6 harg6 arg8 harg8 x1 x4 x6) (sh 160 0 (sh (256 * T) 0 fun n c => KR l X1 n c * Real.exp (0 - b32 (FR l X1) n c))) :=
  isR_pk (n31 H) (nB H) 160 _

/-- Rows 128 on: keys times the decays that remain, chunks of 32. -/
theorem n156 (H : Inp T x0 x1 x2 x4 x6 X0 X1 X2 l) :
    IsR (n := 32) (m := 512) (runAF.sl.v156 (F := Ideal) c arg3 harg3 arg6 harg6 arg8 harg8 x1 x4 x6) (sh 128 0 (sh (256 * T) 0 fun n c => KR l X1 n c * Real.exp (t32 (FR l X1) n c - b32 (FR l X1) n c))) :=
  isR_ph (n31 H) (nB H) 128 _ _ _ (by decide)

/-- Rows 160 on: keys times the decays that remain, chunks of 32. -/
theorem n172 (H : Inp T x0 x1 x2 x4 x6 X0 X1 X2 l) :
    IsR (n := 32) (m := 512) (runAF.sl.v172 (F := Ideal) c arg3 harg3 arg6 harg6 arg8 harg8 x1 x4 x6) (sh 160 0 (sh (256 * T) 0 fun n c => KR l X1 n c * Real.exp (t32 (FR l X1) n c - b32 (FR l X1) n c))) :=
  isR_ph (n31 H) (nB H) 160 _ _ _ (by decide)

/-- The summed logarithms of the 32 rows from row 128 on. -/
theorem n143 (H : Inp T x0 x1 x2 x4 x6 X0 X1 X2 l) :
    IsR (n := 1) (m := 512) (runAF.sl.v143 (F := Ideal) c arg3 harg3 arg6 harg6 arg8 harg8 x1 x4 x6) (fun _ c => L (FR l X1) (256 * T + 128) 32 c) :=
  isR_last (nB H) 128 _ _ (by decide)

/-- The summed logarithms of the 32 rows from row 160 on. -/
theorem n159 (H : Inp T x0 x1 x2 x4 x6 X0 X1 X2 l) :
    IsR (n := 1) (m := 512) (runAF.sl.v159 (F := Ideal) c arg3 harg3 arg6 harg6 arg8 harg8 x1 x4 x6) (fun _ c => L (FR l X1) (256 * T + 160) 32 c) :=
  isR_last (nB H) 160 _ _ (by decide)

/-- Rows 128 on: queries times their decays, chunks of 64. -/
theorem e146 (H : Inp T x0 x1 x2 x4 x6 X0 X1 X2 l) :
    IsR (n := 32) (m := 512) (runAF.sl.v146 (F := Ideal) c arg2 harg2 arg3 harg3 arg6 harg6 arg8 harg8 x0 x1 x4 x6) (sh 128 0 (sh (256 * T) 0 fun n c => QR X0 n c * Real.exp (b64 (FR l X1) n c))) :=
  isR_even (by decide) (n146 H)

/-- Rows 160 on: queries times their decays, chunks of 64. -/
theorem n175 (H : Inp T x0 x1 x2 x4 x6 X0 X1 X2 l) :
    IsR (n := 32) (m := 512) (runAF.sl.v175 (F := Ideal) c arg2 harg2 arg3 harg3 arg6 harg6 arg8 harg8 x0 x1 x4 x6) (sh 160 0 (sh (256 * T) 0 fun n c => QR X0 n c * Real.exp (b64 (FR l X1) n c))) :=
  isR_odd (o := 128) (by decide) rfl (n162 H) (n143 H) _

/-- Rows 160 on: keys times the decays that remain, chunks of 64. -/
theorem e172 (H : Inp T x0 x1 x2 x4 x6 X0 X1 X2 l) :
    IsR (n := 32) (m := 512) (runAF.sl.v172 (F := Ideal) c arg3 harg3 arg6 harg6 arg8 harg8 x1 x4 x6) (sh 160 0 (sh (256 * T) 0 fun n c => KR l X1 n c * Real.exp (t64 (FR l X1) n c - b64 (FR l X1) n c))) :=
  isR_kodd (o := 128) (by decide) rfl (n172 H)

/-- Rows 128 on: keys times the decays that remain, chunks of 64. -/
theorem n177 (H : Inp T x0 x1 x2 x4 x6 X0 X1 X2 l) :
    IsR (n := 32) (m := 512) (runAF.sl.v177 (F := Ideal) c arg3 harg3 arg6 harg6 arg8 harg8 x1 x4 x6) (sh 128 0 (sh (256 * T) 0 fun n c => KR l X1 n c * Real.exp (t64 (FR l X1) n c - b64 (FR l X1) n c))) :=
  isR_keven (o := 128) (by decide) rfl (n156 H) (n159 H) _

/-- The decay over the chunk of 64 rows from row 128 on. -/
theorem n178 (H : Inp T x0 x1 x2 x4 x6 X0 X1 X2 l) :
    IsR (n := 1) (m := 512) (runAF.sl.v178 (F := Ideal) c arg3 harg3 arg6 harg6 arg8 harg8 x1 x4 x6) (fun _ c => Real.exp (L (FR l X1) (256 * T + 128) 64 c)) :=
  isR_dec (o := 128) rfl (n143 H) (n159 H)

/-- Rows 192 on: queries times their decays, chunks of 32. -/
theorem n183 (H : Inp T x0 x1 x2 x4 x6 X0 X1 X2 l) :
    IsR (n := 32) (m := 512) (runAF.sl.v183 (F := Ideal) c arg2 harg2 arg3 harg3 arg6 harg6 arg8 harg8 x0 x1 x4 x6) (sh 192 0 (sh (256 * T) 0 fun n c => QR X0 n c * Real.exp (b32 (FR l X1) n c))) :=
  isR_pq (n67 H) (nB H) 192 _

/-- Rows 224 on: queries times their decays, chunks of 32. -/
theorem n199 (H : Inp T x0 x1 x2 x4 x6 X0 X1 X2 l) :
    IsR (n := 32) (m := 512) (runAF.sl.v199 (F := Ideal) c arg2 harg2 arg3 harg3 arg6 harg6 arg8 harg8 x0 x1 x4 x6) (sh 224 0 (sh (256 * T) 0 fun n c => QR X0 n c * Real.exp (b32 (FR l X1) n c))) :=
  isR_pq (n67 H) (nB H) 224 _

/-- Rows 192 on: keys divided by their decays, chunks of 32. -/
theorem n188 (H : Inp T x0 x1 x2 x4 x6 X0 X1 X2 l) :
    IsR (n := 32) (m := 512) (runAF.sl.v188 (F := Ideal) c arg3 harg3 arg6 harg6 arg8 harg8 x1 x4 x6) (sh 192 0 (sh (256 * T) 0 fun n c => KR l X1 n c * Real.exp (0 - b32 (FR l X1) n c))) :=
  isR_pk (n31 H) (nB H) 192 _

/-- Rows 224 on: keys divided by their decays, chunks of 32. -/
theorem n204 (H : Inp T x0 x1 x2 x4 x6 X0 X1 X2 l) :
    IsR (n := 32) (m := 512) (runAF.sl.v204 (F := Ideal) c arg3 harg3 arg6 harg6 arg8 harg8 x1 x4 x6) (sh 224 0 (sh (256 * T) 0 fun n c => KR l X1 n c * Real.exp (0 - b32 (FR l X1) n c))) :=
  isR_pk (n31 H) (nB H) 224 _

/-- Rows 192 on: keys times the decays that remain, chunks of 32. -/
theorem n193 (H : Inp T x0 x1 x2 x4 x6 X0 X1 X2 l) :
    IsR (n := 32) (m := 512) (runAF.sl.v193 (F := Ideal) c arg3 harg3 arg6 harg6 arg8 harg8 x1 x4 x6) (sh 192 0 (sh (256 * T) 0 fun n c => KR l X1 n c * Real.exp (t32 (FR l X1) n c - b32 (FR l X1) n c))) :=
  isR_ph (n31 H) (nB H) 192 _ _ _ (by decide)

/-- Rows 224 on: keys times the decays that remain, chunks of 32. -/
theorem n209 (H : Inp T x0 x1 x2 x4 x6 X0 X1 X2 l) :
    IsR (n := 32) (m := 512) (runAF.sl.v209 (F := Ideal) c arg3 harg3 arg6 harg6 arg8 harg8 x1 x4 x6) (sh 224 0 (sh (256 * T) 0 fun n c => KR l X1 n c * Real.exp (t32 (FR l X1) n c - b32 (FR l X1) n c))) :=
  isR_ph (n31 H) (nB H) 224 _ _ _ (by decide)

/-- The summed logarithms of the 32 rows from row 192 on. -/
theorem n180 (H : Inp T x0 x1 x2 x4 x6 X0 X1 X2 l) :
    IsR (n := 1) (m := 512) (runAF.sl.v180 (F := Ideal) c arg3 harg3 arg6 harg6 arg8 harg8 x1 x4 x6) (fun _ c => L (FR l X1) (256 * T + 192) 32 c) :=
  isR_last (nB H) 192 _ _ (by decide)

/-- The summed logarithms of the 32 rows from row 224 on. -/
theorem n196 (H : Inp T x0 x1 x2 x4 x6 X0 X1 X2 l) :
    IsR (n := 1) (m := 512) (runAF.sl.v196 (F := Ideal) c arg3 harg3 arg6 harg6 arg8 harg8 x1 x4 x6) (fun _ c => L (FR l X1) (256 * T + 224) 32 c) :=
  isR_last (nB H) 224 _ _ (by decide)

/-- Rows 192 on: queries times their decays, chunks of 64. -/
theorem e183 (H : Inp T x0 x1 x2 x4 x6 X0 X1 X2 l) :
    IsR (n := 32) (m := 512) (runAF.sl.v183 (F := Ideal) c arg2 harg2 arg3 harg3 arg6 harg6 arg8 harg8 x0 x1 x4 x6) (sh 192 0 (sh (256 * T) 0 fun n c => QR X0 n c * Real.exp (b64 (FR l X1) n c))) :=
  isR_even (by decide) (n183 H)

/-- Rows 224 on: queries times their decays, chunks of 64. -/
theorem n212 (H : Inp T x0 x1 x2 x4 x6 X0 X1 X2 l) :
    IsR (n := 32) (m := 512) (runAF.sl.v212 (F := Ideal) c arg2 harg2 arg3 harg3 arg6 harg6 arg8 harg8 x0 x1 x4 x6) (sh 224 0 (sh (256 * T) 0 fun n c => QR X0 n c * Real.exp (b64 (FR l X1) n c))) :=
  isR_odd (o := 192) (by decide) rfl (n199 H) (n180 H) _

/-- Rows 224 on: keys times the decays that remain, chunks of 64. -/
theorem e209 (H : Inp T x0 x1 x2 x4 x6 X0 X1 X2 l) :
    IsR (n := 32) (m := 512) (runAF.sl.v209 (F := Ideal) c arg3 harg3 arg6 harg6 arg8 harg8 x1 x4 x6) (sh 224 0 (sh (256 * T) 0 fun n c => KR l X1 n c * Real.exp (t64 (FR l X1) n c - b64 (FR l X1) n c))) :=
  isR_kodd (o := 192) (by decide) rfl (n209 H)

/-- Rows 192 on: keys times the decays that remain, chunks of 64. -/
theorem n214 (H : Inp T x0 x1 x2 x4 x6 X0 X1 X2 l) :
    IsR (n := 32) (m := 512) (runAF.sl.v214 (F := Ideal) c arg3 harg3 arg6 harg6 arg8 harg8 x1 x4 x6) (sh 192 0 (sh (256 * T) 0 fun n c => KR l X1 n c * Real.exp (t64 (FR l X1) n c - b64 (FR l X1) n c))) :=
  isR_keven (o := 192) (by decide) rfl (n193 H) (n196 H) _

/-- The decay over the chunk of 64 rows from row 192 on. -/
theorem n215 (H : Inp T x0 x1 x2 x4 x6 X0 X1 X2 l) :
    IsR (n := 1) (m := 512) (runAF.sl.v215 (F := Ideal) c arg3 harg3 arg6 harg6 arg8 harg8 x1 x4 x6) (fun _ c => Real.exp (L (FR l X1) (256 * T + 192) 64 c)) :=
  isR_dec (o := 192) rfl (n180 H) (n196 H)

/-- The queries, scaled from the start of the chunk of 32 rows. -/
theorem n217 (H : Inp T x0 x1 x2 x4 x6 X0 X1 X2 l) :
    IsR (n := 256) (m := 512) (runAF.sl.v217 (F := Ideal) c arg2 harg2 arg3 harg3 arg6 harg6 arg8 harg8 x0 x1 x4 x6) (sh (256 * T) 0 (fun n c => QR X0 n c * Real.exp (b32 (FR l X1) n c))) :=
  IsR.cat8 (φ := .f32) (n72 H) (n88 H) (n109 H) (n125 H) (n146 H) (n162 H) (n183 H) (n199 H) concatenates_S32x512_S32x512_S32x512_S32x512_S32x512_S32x512_S32x512_S32x512_S256x512_d0

/-- The keys, scaled to the start of the chunk of 32 rows. -/
theorem n219 (H : Inp T x0 x1 x2 x4 x6 X0 X1 X2 l) :
    IsR (n := 256) (m := 512) (runAF.sl.v219 (F := Ideal) c arg3 harg3 arg6 harg6 arg8 harg8 x1 x4 x6) (sh (256 * T) 0 (fun n c => KR l X1 n c * Real.exp (0 - b32 (FR l X1) n c))) :=
  IsR.cat8 (φ := .f32) (n77 H) (n93 H) (n114 H) (n130 H) (n151 H) (n167 H) (n188 H) (n204 H) concatenates_S32x512_S32x512_S32x512_S32x512_S32x512_S32x512_S32x512_S32x512_S256x512_d0

/-- The keys, scaled to the end of the chunk of 32 rows. -/
theorem n221 (H : Inp T x0 x1 x2 x4 x6 X0 X1 X2 l) :
    IsR (n := 256) (m := 512) (runAF.sl.v221 (F := Ideal) c arg3 harg3 arg6 harg6 arg8 harg8 x1 x4 x6) (sh (256 * T) 0 (fun n c => KR l X1 n c * Real.exp (t32 (FR l X1) n c - b32 (FR l X1) n c))) :=
  IsR.cat8 (φ := .f32) (n82 H) (n98 H) (n119 H) (n135 H) (n156 H) (n172 H) (n193 H) (n209 H) concatenates_S32x512_S32x512_S32x512_S32x512_S32x512_S32x512_S32x512_S32x512_S256x512_d0

/-- The queries, scaled from the start of the chunk of 64 rows. -/
theorem n223 (H : Inp T x0 x1 x2 x4 x6 X0 X1 X2 l) :
    IsR (n := 256) (m := 512) (runAF.sl.v223 (F := Ideal) c arg2 harg2 arg3 harg3 arg6 harg6 arg8 harg8 x0 x1 x4 x6) (sh (256 * T) 0 (fun n c => QR X0 n c * Real.exp (b64 (FR l X1) n c))) :=
  IsR.cat8 (φ := .f32) (e72 H) (n101 H) (e109 H) (n138 H) (e146 H) (n175 H) (e183 H) (n212 H) concatenates_S32x512_S32x512_S32x512_S32x512_S32x512_S32x512_S32x512_S32x512_S256x512_d0

/-- The keys, scaled to the end of the chunk of 64 rows. -/
theorem n225 (H : Inp T x0 x1 x2 x4 x6 X0 X1 X2 l) :
    IsR (n := 256) (m := 512) (runAF.sl.v225 (F := Ideal) c arg3 harg3 arg6 harg6 arg8 harg8 x1 x4 x6) (sh (256 * T) 0 (fun n c => KR l X1 n c * Real.exp (t64 (FR l X1) n c - b64 (FR l X1) n c))) :=
  IsR.cat8 (φ := .f32) (n103 H) (e98 H) (n140 H) (e135 H) (n177 H) (e172 H) (n214 H) (e209 H) concatenates_S32x512_S32x512_S32x512_S32x512_S32x512_S32x512_S32x512_S32x512_S256x512_d0

/-- A row's chunk of 32. -/
theorem w251  :
    IsW runAF.sl.v251 (fun r _ => r / 32) :=
  isW_div32 (isW_row _) fun x => rfl

/-- A column's chunk of 32. -/
theorem w275  :
    IsW runAF.sl.v275 (fun _ s => s / 32) :=
  isW_div32 (isW_col _) fun x => rfl

/-- A row's chunk of 64. -/
theorem w302  :
    IsW runAF.sl.v302 (fun r _ => r / 64) :=
  isW_div64 (isW_row _) fun x => rfl

/-- A column's chunk of 64. -/
theorem w326  :
    IsW runAF.sl.v326 (fun _ s => s / 64) :=
  isW_div64 (isW_col _) fun x => rfl

/-- The mask within a chunk of 32. -/
theorem n278  :
    IsM runAF.sl.v278 (fun r s => r / 32 = s / 32 ∧ s ≤ r) :=
  isM_and (isM_eq w251 w275) (isM_sle (isW_col _) (isW_row _))

/-- The mask across the two halves of a chunk of 64. -/
theorem n377  :
    IsM runAF.sl.v377 (fun r s => r / 64 = s / 64 ∧ s / 32 < r / 32) :=
  isM_and (isM_eq w302 w326) (isM_sgt w251 w275)

/-- The values of head 0. -/
theorem vv0 (H : Inp T x0 x1 x2 x4 x6 X0 X1 X2 l) :
    IsR (n := 256) (m := 128) (runAF.sl.r (F := Ideal) c arg4 harg4 x2) (fun r e => X2 (256 * T + r) (0 + e)) :=
  (IsR.readAt harg4 H.h2 0 0 _).congr fun r e hr he => by
    simp only [sh, zero_add]

/-- Head 0 within its chunks. -/
theorem n392 (H : Inp T x0 x1 x2 x4 x6 X0 X1 X2 l) :
    IsR (n := 256) (m := 128) (runAF.sl.v392 (F := Ideal) c arg2 harg2 arg3 harg3 arg4 harg4 arg6 harg6 arg8 harg8 x0 x1 x2 x4 x6) (fun r e => ∑ s ∈ range 256, A64 (FR l X1) (KR l X1) (QR X0) T 0 r s * X2 (256 * T + s) (0 + e)) :=
  isR_intra (n217 H) (n219 H) (n221 H) n278 n377 (vv0 H) _ _

/-- Head 0 of the state is zero before the first point. -/
theorem z393 (x : S1x128x128.Idx) : (runAF.sl.v393 (F := Ideal) c arg10) x = 0 := by
  unfold runAF.sl.v393
  unfold runAF.sl.H10_1
  rw [View.readCov_fill]
  · exact Ideal.ofBits_zero_f32
  · intro a; fin_cases a <;> rfl

/-- The state of head 0 before the point. -/
theorem n394 (H : Inp 0 x0 x1 x2 x4 x6 X0 X1 X2 l) :
    IsR (n := 128) (m := 128) (runAF.sl.v394 (F := Ideal) c arg10) (fun e d => S (hd 0 (FR l X1)) (hd 0 (KR l X1)) (hd 0 X2) (256 * 0) d e) :=
  IsR3.cast (φ := .f32) (isR3_zero _ _ _ z393) _

/-- Chunk 0 of head 0. -/
theorem n399 (H : Inp 0 x0 x1 x2 x4 x6 X0 X1 X2 l) :
    IsR (n := 64) (m := 128) (runAF.sl.v399 (F := Ideal) c arg2 harg2 arg3 harg3 arg4 harg4 arg6 harg6 arg8 harg8 arg10 x0 x1 x2 x4 x6) (fun i e => O (hd 0 (FR l X1)) (hd 0 (KR l X1)) (hd 0 X2) (hd 0 (QR X0)) (256 * 0 + (64 * 0 + i)) e) :=
  isR_o (FR_pos l X1) (n392 H) (n223 H) 0 (by decide) (n394 H) 0 rfl _ _ _

/-- The state of head 0 after chunk 0. -/
theorem n408 (H : Inp 0 x0 x1 x2 x4 x6 X0 X1 X2 l) :
    IsR (n := 128) (m := 128) (runAF.sl.v408 (F := Ideal) c arg3 harg3 arg4 harg4 arg6 harg6 arg8 harg8 arg10 x1 x2 x4 x6) (fun e d => S (hd 0 (FR l X1)) (hd 0 (KR l X1)) (hd 0 X2) (256 * 0 + 64 * (0 + 1)) d e) :=
  isR_st (FR_pos l X1) (vv0 H) (n225 H) 0 0 rfl (n104 H) (n394 H) _ _ _ _ _ _

/-- Chunk 1 of head 0. -/
theorem n437 (H : Inp 0 x0 x1 x2 x4 x6 X0 X1 X2 l) :
    IsR (n := 64) (m := 128) (runAF.sl.v437 (F := Ideal) c arg2 harg2 arg3 harg3 arg4 harg4 arg6 harg6 arg8 harg8 arg10 x0 x1 x2 x4 x6) (fun i e => O (hd 0 (FR l X1)) (hd 0 (KR l X1)) (hd 0 X2) (hd 0 (QR X0)) (256 * 0 + (64 * 1 + i)) e) :=
  isR_o (FR_pos l X1) (n392 H) (n223 H) 1 (by decide) (n408 H) 64 rfl _ _ _

/-- The state of head 0 after chunk 1. -/
theorem n446 (H : Inp 0 x0 x1 x2 x4 x6 X0 X1 X2 l) :
    IsR (n := 128) (m := 128) (runAF.sl.v446 (F := Ideal) c arg3 harg3 arg4 harg4 arg6 harg6 arg8 harg8 arg10 x1 x2 x4 x6) (fun e d => S (hd 0 (FR l X1)) (hd 0 (KR l X1)) (hd 0 X2) (256 * 0 + 64 * (1 + 1)) d e) :=
  isR_st (FR_pos l X1) (vv0 H) (n225 H) 1 64 rfl (n141 H) (n408 H) _ _ _ _ _ _

/-- Chunk 2 of head 0. -/
theorem n475 (H : Inp 0 x0 x1 x2 x4 x6 X0 X1 X2 l) :
    IsR (n := 64) (m := 128) (runAF.sl.v475 (F := Ideal) c arg2 harg2 arg3 harg3 arg4 harg4 arg6 harg6 arg8 harg8 arg10 x0 x1 x2 x4 x6) (fun i e => O (hd 0 (FR l X1)) (hd 0 (KR l X1)) (hd 0 X2) (hd 0 (QR X0)) (256 * 0 + (64 * 2 + i)) e) :=
  isR_o (FR_pos l X1) (n392 H) (n223 H) 2 (by decide) (n446 H) 128 rfl _ _ _

/-- The state of head 0 after chunk 2. -/
theorem n484 (H : Inp 0 x0 x1 x2 x4 x6 X0 X1 X2 l) :
    IsR (n := 128) (m := 128) (runAF.sl.v484 (F := Ideal) c arg3 harg3 arg4 harg4 arg6 harg6 arg8 harg8 arg10 x1 x2 x4 x6) (fun e d => S (hd 0 (FR l X1)) (hd 0 (KR l X1)) (hd 0 X2) (256 * 0 + 64 * (2 + 1)) d e) :=
  isR_st (FR_pos l X1) (vv0 H) (n225 H) 2 128 rfl (n178 H) (n446 H) _ _ _ _ _ _

/-- Chunk 3 of head 0. -/
theorem n513 (H : Inp 0 x0 x1 x2 x4 x6 X0 X1 X2 l) :
    IsR (n := 64) (m := 128) (runAF.sl.v513 (F := Ideal) c arg2 harg2 arg3 harg3 arg4 harg4 arg6 harg6 arg8 harg8 arg10 x0 x1 x2 x4 x6) (fun i e => O (hd 0 (FR l X1)) (hd 0 (KR l X1)) (hd 0 X2) (hd 0 (QR X0)) (256 * 0 + (64 * 3 + i)) e) :=
  isR_o (FR_pos l X1) (n392 H) (n223 H) 3 (by decide) (n484 H) 192 rfl _ _ _

/-- The state of head 0 after chunk 3. -/
theorem n522 (H : Inp 0 x0 x1 x2 x4 x6 X0 X1 X2 l) :
    IsR (n := 128) (m := 128) (runAF.sl.v522 (F := Ideal) c arg3 harg3 arg4 harg4 arg6 harg6 arg8 harg8 arg10 x1 x2 x4 x6) (fun e d => S (hd 0 (FR l X1)) (hd 0 (KR l X1)) (hd 0 X2) (256 * 0 + 64 * (3 + 1)) d e) :=
  isR_st (FR_pos l X1) (vv0 H) (n225 H) 3 192 rfl (n215 H) (n484 H) _ _ _ _ _ _

/-- The values of head 1. -/
theorem vv1 (H : Inp T x0 x1 x2 x4 x6 X0 X1 X2 l) :
    IsR (n := 256) (m := 128) (runAF.sl.r_2 (F := Ideal) c arg4 harg4 x2) (fun r e => X2 (256 * T + r) (128 + e)) :=
  (IsR.readAt harg4 H.h2 0 128 _).congr fun r e hr he => by
    simp only [sh, zero_add]

/-- Head 1 within its chunks. -/
theorem n564 (H : Inp T x0 x1 x2 x4 x6 X0 X1 X2 l) :
    IsR (n := 256) (m := 128) (runAF.sl.v564 (F := Ideal) c arg2 harg2 arg3 harg3 arg4 harg4 arg6 harg6 arg8 harg8 x0 x1 x2 x4 x6) (fun r e => ∑ s ∈ range 256, A64 (FR l X1) (KR l X1) (QR X0) T 128 r s * X2 (256 * T + s) (128 + e)) :=
  isR_intra (n217 H) (n219 H) (n221 H) n278 n377 (vv1 H) _ _

/-- Head 1 of the state is zero before the first point. -/
theorem z565 (x : S1x128x128.Idx) : (runAF.sl.v565 (F := Ideal) c arg3 harg3 arg4 harg4 arg6 harg6 arg8 harg8 arg10 x1 x2 x4 x6) x = 0 := by
  unfold runAF.sl.v565
  unfold runAF.sl.H10_2
  rw [View.readCov_skip _ _ _ _ _ (by decide +kernel)]
  unfold runAF.sl.H10_1
  rw [View.readCov_fill]
  · exact Ideal.ofBits_zero_f32
  · intro a; fin_cases a <;> rfl

/-- The state of head 1 before the point. -/
theorem n566 (H : Inp 0 x0 x1 x2 x4 x6 X0 X1 X2 l) :
    IsR (n := 128) (m := 128) (runAF.sl.v566 (F := Ideal) c arg3 harg3 arg4 harg4 arg6 harg6 arg8 harg8 arg10 x1 x2 x4 x6) (fun e d => S (hd 128 (FR l X1)) (hd 128 (KR l X1)) (hd 128 X2) (256 * 0) d e) :=
  IsR3.cast (φ := .f32) (isR3_zero _ _ _ z565) _

/-- Chunk 0 of head 1. -/
theorem n571 (H : Inp 0 x0 x1 x2 x4 x6 X0 X1 X2 l) :
    IsR (n := 64) (m := 128) (runAF.sl.v571 (F := Ideal) c arg2 harg2 arg3 harg3 arg4 harg4 arg6 harg6 arg8 harg8 arg10 x0 x1 x2 x4 x6) (fun i e => O (hd 128 (FR l X1)) (hd 128 (KR l X1)) (hd 128 X2) (hd 128 (QR X0)) (256 * 0 + (64 * 0 + i)) e) :=
  isR_o (FR_pos l X1) (n564 H) (n223 H) 0 (by decide) (n566 H) 0 rfl _ _ _

/-- The state of head 1 after chunk 0. -/
theorem n580 (H : Inp 0 x0 x1 x2 x4 x6 X0 X1 X2 l) :
    IsR (n := 128) (m := 128) (runAF.sl.v580 (F := Ideal) c arg3 harg3 arg4 harg4 arg6 harg6 arg8 harg8 arg10 x1 x2 x4 x6) (fun e d => S (hd 128 (FR l X1)) (hd 128 (KR l X1)) (hd 128 X2) (256 * 0 + 64 * (0 + 1)) d e) :=
  isR_st (FR_pos l X1) (vv1 H) (n225 H) 0 0 rfl (n104 H) (n566 H) _ _ _ _ _ _

/-- Chunk 1 of head 1. -/
theorem n609 (H : Inp 0 x0 x1 x2 x4 x6 X0 X1 X2 l) :
    IsR (n := 64) (m := 128) (runAF.sl.v609 (F := Ideal) c arg2 harg2 arg3 harg3 arg4 harg4 arg6 harg6 arg8 harg8 arg10 x0 x1 x2 x4 x6) (fun i e => O (hd 128 (FR l X1)) (hd 128 (KR l X1)) (hd 128 X2) (hd 128 (QR X0)) (256 * 0 + (64 * 1 + i)) e) :=
  isR_o (FR_pos l X1) (n564 H) (n223 H) 1 (by decide) (n580 H) 64 rfl _ _ _

/-- The state of head 1 after chunk 1. -/
theorem n618 (H : Inp 0 x0 x1 x2 x4 x6 X0 X1 X2 l) :
    IsR (n := 128) (m := 128) (runAF.sl.v618 (F := Ideal) c arg3 harg3 arg4 harg4 arg6 harg6 arg8 harg8 arg10 x1 x2 x4 x6) (fun e d => S (hd 128 (FR l X1)) (hd 128 (KR l X1)) (hd 128 X2) (256 * 0 + 64 * (1 + 1)) d e) :=
  isR_st (FR_pos l X1) (vv1 H) (n225 H) 1 64 rfl (n141 H) (n580 H) _ _ _ _ _ _

/-- Chunk 2 of head 1. -/
theorem n647 (H : Inp 0 x0 x1 x2 x4 x6 X0 X1 X2 l) :
    IsR (n := 64) (m := 128) (runAF.sl.v647 (F := Ideal) c arg2 harg2 arg3 harg3 arg4 harg4 arg6 harg6 arg8 harg8 arg10 x0 x1 x2 x4 x6) (fun i e => O (hd 128 (FR l X1)) (hd 128 (KR l X1)) (hd 128 X2) (hd 128 (QR X0)) (256 * 0 + (64 * 2 + i)) e) :=
  isR_o (FR_pos l X1) (n564 H) (n223 H) 2 (by decide) (n618 H) 128 rfl _ _ _

/-- The state of head 1 after chunk 2. -/
theorem n656 (H : Inp 0 x0 x1 x2 x4 x6 X0 X1 X2 l) :
    IsR (n := 128) (m := 128) (runAF.sl.v656 (F := Ideal) c arg3 harg3 arg4 harg4 arg6 harg6 arg8 harg8 arg10 x1 x2 x4 x6) (fun e d => S (hd 128 (FR l X1)) (hd 128 (KR l X1)) (hd 128 X2) (256 * 0 + 64 * (2 + 1)) d e) :=
  isR_st (FR_pos l X1) (vv1 H) (n225 H) 2 128 rfl (n178 H) (n618 H) _ _ _ _ _ _

/-- Chunk 3 of head 1. -/
theorem n685 (H : Inp 0 x0 x1 x2 x4 x6 X0 X1 X2 l) :
    IsR (n := 64) (m := 128) (runAF.sl.v685 (F := Ideal) c arg2 harg2 arg3 harg3 arg4 harg4 arg6 harg6 arg8 harg8 arg10 x0 x1 x2 x4 x6) (fun i e => O (hd 128 (FR l X1)) (hd 128 (KR l X1)) (hd 128 X2) (hd 128 (QR X0)) (256 * 0 + (64 * 3 + i)) e) :=
  isR_o (FR_pos l X1) (n564 H) (n223 H) 3 (by decide) (n656 H) 192 rfl _ _ _

/-- The state of head 1 after chunk 3. -/
theorem n694 (H : Inp 0 x0 x1 x2 x4 x6 X0 X1 X2 l) :
    IsR (n := 128) (m := 128) (runAF.sl.v694 (F := Ideal) c arg3 harg3 arg4 harg4 arg6 harg6 arg8 harg8 arg10 x1 x2 x4 x6) (fun e d => S (hd 128 (FR l X1)) (hd 128 (KR l X1)) (hd 128 X2) (256 * 0 + 64 * (3 + 1)) d e) :=
  isR_st (FR_pos l X1) (vv1 H) (n225 H) 3 192 rfl (n215 H) (n656 H) _ _ _ _ _ _

/-- The values of head 2. -/
theorem vv2 (H : Inp T x0 x1 x2 x4 x6 X0 X1 X2 l) :
    IsR (n := 256) (m := 128) (runAF.sl.r_4 (F := Ideal) c arg4 harg4 x2) (fun r e => X2 (256 * T + r) (256 + e)) :=
  (IsR.readAt harg4 H.h2 0 256 _).congr fun r e hr he => by
    simp only [sh, zero_add]

/-- Head 2 within its chunks. -/
theorem n736 (H : Inp T x0 x1 x2 x4 x6 X0 X1 X2 l) :
    IsR (n := 256) (m := 128) (runAF.sl.v736 (F := Ideal) c arg2 harg2 arg3 harg3 arg4 harg4 arg6 harg6 arg8 harg8 x0 x1 x2 x4 x6) (fun r e => ∑ s ∈ range 256, A64 (FR l X1) (KR l X1) (QR X0) T 256 r s * X2 (256 * T + s) (256 + e)) :=
  isR_intra (n217 H) (n219 H) (n221 H) n278 n377 (vv2 H) _ _

/-- Head 2 of the state is zero before the first point. -/
theorem z737 (x : S1x128x128.Idx) : (runAF.sl.v737 (F := Ideal) c arg3 harg3 arg4 harg4 arg6 harg6 arg8 harg8 arg10 x1 x2 x4 x6) x = 0 := by
  unfold runAF.sl.v737
  unfold runAF.sl.H10_3
  rw [View.readCov_skip _ _ _ _ _ (by decide +kernel)]
  unfold runAF.sl.H10_2
  rw [View.readCov_skip _ _ _ _ _ (by decide +kernel)]
  unfold runAF.sl.H10_1
  rw [View.readCov_fill]
  · exact Ideal.ofBits_zero_f32
  · intro a; fin_cases a <;> rfl

/-- The state of head 2 before the point. -/
theorem n738 (H : Inp 0 x0 x1 x2 x4 x6 X0 X1 X2 l) :
    IsR (n := 128) (m := 128) (runAF.sl.v738 (F := Ideal) c arg3 harg3 arg4 harg4 arg6 harg6 arg8 harg8 arg10 x1 x2 x4 x6) (fun e d => S (hd 256 (FR l X1)) (hd 256 (KR l X1)) (hd 256 X2) (256 * 0) d e) :=
  IsR3.cast (φ := .f32) (isR3_zero _ _ _ z737) _

/-- Chunk 0 of head 2. -/
theorem n743 (H : Inp 0 x0 x1 x2 x4 x6 X0 X1 X2 l) :
    IsR (n := 64) (m := 128) (runAF.sl.v743 (F := Ideal) c arg2 harg2 arg3 harg3 arg4 harg4 arg6 harg6 arg8 harg8 arg10 x0 x1 x2 x4 x6) (fun i e => O (hd 256 (FR l X1)) (hd 256 (KR l X1)) (hd 256 X2) (hd 256 (QR X0)) (256 * 0 + (64 * 0 + i)) e) :=
  isR_o (FR_pos l X1) (n736 H) (n223 H) 0 (by decide) (n738 H) 0 rfl _ _ _

/-- The state of head 2 after chunk 0. -/
theorem n752 (H : Inp 0 x0 x1 x2 x4 x6 X0 X1 X2 l) :
    IsR (n := 128) (m := 128) (runAF.sl.v752 (F := Ideal) c arg3 harg3 arg4 harg4 arg6 harg6 arg8 harg8 arg10 x1 x2 x4 x6) (fun e d => S (hd 256 (FR l X1)) (hd 256 (KR l X1)) (hd 256 X2) (256 * 0 + 64 * (0 + 1)) d e) :=
  isR_st (FR_pos l X1) (vv2 H) (n225 H) 0 0 rfl (n104 H) (n738 H) _ _ _ _ _ _

/-- Chunk 1 of head 2. -/
theorem n781 (H : Inp 0 x0 x1 x2 x4 x6 X0 X1 X2 l) :
    IsR (n := 64) (m := 128) (runAF.sl.v781 (F := Ideal) c arg2 harg2 arg3 harg3 arg4 harg4 arg6 harg6 arg8 harg8 arg10 x0 x1 x2 x4 x6) (fun i e => O (hd 256 (FR l X1)) (hd 256 (KR l X1)) (hd 256 X2) (hd 256 (QR X0)) (256 * 0 + (64 * 1 + i)) e) :=
  isR_o (FR_pos l X1) (n736 H) (n223 H) 1 (by decide) (n752 H) 64 rfl _ _ _

/-- The state of head 2 after chunk 1. -/
theorem n790 (H : Inp 0 x0 x1 x2 x4 x6 X0 X1 X2 l) :
    IsR (n := 128) (m := 128) (runAF.sl.v790 (F := Ideal) c arg3 harg3 arg4 harg4 arg6 harg6 arg8 harg8 arg10 x1 x2 x4 x6) (fun e d => S (hd 256 (FR l X1)) (hd 256 (KR l X1)) (hd 256 X2) (256 * 0 + 64 * (1 + 1)) d e) :=
  isR_st (FR_pos l X1) (vv2 H) (n225 H) 1 64 rfl (n141 H) (n752 H) _ _ _ _ _ _

/-- Chunk 2 of head 2. -/
theorem n819 (H : Inp 0 x0 x1 x2 x4 x6 X0 X1 X2 l) :
    IsR (n := 64) (m := 128) (runAF.sl.v819 (F := Ideal) c arg2 harg2 arg3 harg3 arg4 harg4 arg6 harg6 arg8 harg8 arg10 x0 x1 x2 x4 x6) (fun i e => O (hd 256 (FR l X1)) (hd 256 (KR l X1)) (hd 256 X2) (hd 256 (QR X0)) (256 * 0 + (64 * 2 + i)) e) :=
  isR_o (FR_pos l X1) (n736 H) (n223 H) 2 (by decide) (n790 H) 128 rfl _ _ _

/-- The state of head 2 after chunk 2. -/
theorem n828 (H : Inp 0 x0 x1 x2 x4 x6 X0 X1 X2 l) :
    IsR (n := 128) (m := 128) (runAF.sl.v828 (F := Ideal) c arg3 harg3 arg4 harg4 arg6 harg6 arg8 harg8 arg10 x1 x2 x4 x6) (fun e d => S (hd 256 (FR l X1)) (hd 256 (KR l X1)) (hd 256 X2) (256 * 0 + 64 * (2 + 1)) d e) :=
  isR_st (FR_pos l X1) (vv2 H) (n225 H) 2 128 rfl (n178 H) (n790 H) _ _ _ _ _ _

/-- Chunk 3 of head 2. -/
theorem n857 (H : Inp 0 x0 x1 x2 x4 x6 X0 X1 X2 l) :
    IsR (n := 64) (m := 128) (runAF.sl.v857 (F := Ideal) c arg2 harg2 arg3 harg3 arg4 harg4 arg6 harg6 arg8 harg8 arg10 x0 x1 x2 x4 x6) (fun i e => O (hd 256 (FR l X1)) (hd 256 (KR l X1)) (hd 256 X2) (hd 256 (QR X0)) (256 * 0 + (64 * 3 + i)) e) :=
  isR_o (FR_pos l X1) (n736 H) (n223 H) 3 (by decide) (n828 H) 192 rfl _ _ _

/-- The state of head 2 after chunk 3. -/
theorem n866 (H : Inp 0 x0 x1 x2 x4 x6 X0 X1 X2 l) :
    IsR (n := 128) (m := 128) (runAF.sl.v866 (F := Ideal) c arg3 harg3 arg4 harg4 arg6 harg6 arg8 harg8 arg10 x1 x2 x4 x6) (fun e d => S (hd 256 (FR l X1)) (hd 256 (KR l X1)) (hd 256 X2) (256 * 0 + 64 * (3 + 1)) d e) :=
  isR_st (FR_pos l X1) (vv2 H) (n225 H) 3 192 rfl (n215 H) (n828 H) _ _ _ _ _ _

/-- The values of head 3. -/
theorem vv3 (H : Inp T x0 x1 x2 x4 x6 X0 X1 X2 l) :
    IsR (n := 256) (m := 128) (runAF.sl.r_6 (F := Ideal) c arg4 harg4 x2) (fun r e => X2 (256 * T + r) (384 + e)) :=
  (IsR.readAt harg4 H.h2 0 384 _).congr fun r e hr he => by
    simp only [sh, zero_add]

/-- Head 3 within its chunks. -/
theorem n908 (H : Inp T x0 x1 x2 x4 x6 X0 X1 X2 l) :
    IsR (n := 256) (m := 128) (runAF.sl.v908 (F := Ideal) c arg2 harg2 arg3 harg3 arg4 harg4 arg6 harg6 arg8 harg8 x0 x1 x2 x4 x6) (fun r e => ∑ s ∈ range 256, A64 (FR l X1) (KR l X1) (QR X0) T 384 r s * X2 (256 * T + s) (384 + e)) :=
  isR_intra (n217 H) (n219 H) (n221 H) n278 n377 (vv3 H) _ _

/-- Head 3 of the state is zero before the first point. -/
theorem z909 (x : S1x128x128.Idx) : (runAF.sl.v909 (F := Ideal) c arg3 harg3 arg4 harg4 arg6 harg6 arg8 harg8 arg10 x1 x2 x4 x6) x = 0 := by
  unfold runAF.sl.v909
  unfold runAF.sl.H10_4
  rw [View.readCov_skip _ _ _ _ _ (by decide +kernel)]
  unfold runAF.sl.H10_3
  rw [View.readCov_skip _ _ _ _ _ (by decide +kernel)]
  unfold runAF.sl.H10_2
  rw [View.readCov_skip _ _ _ _ _ (by decide +kernel)]
  unfold runAF.sl.H10_1
  rw [View.readCov_fill]
  · exact Ideal.ofBits_zero_f32
  · intro a; fin_cases a <;> rfl

/-- The state of head 3 before the point. -/
theorem n910 (H : Inp 0 x0 x1 x2 x4 x6 X0 X1 X2 l) :
    IsR (n := 128) (m := 128) (runAF.sl.v910 (F := Ideal) c arg3 harg3 arg4 harg4 arg6 harg6 arg8 harg8 arg10 x1 x2 x4 x6) (fun e d => S (hd 384 (FR l X1)) (hd 384 (KR l X1)) (hd 384 X2) (256 * 0) d e) :=
  IsR3.cast (φ := .f32) (isR3_zero _ _ _ z909) _

/-- Chunk 0 of head 3. -/
theorem n915 (H : Inp 0 x0 x1 x2 x4 x6 X0 X1 X2 l) :
    IsR (n := 64) (m := 128) (runAF.sl.v915 (F := Ideal) c arg2 harg2 arg3 harg3 arg4 harg4 arg6 harg6 arg8 harg8 arg10 x0 x1 x2 x4 x6) (fun i e => O (hd 384 (FR l X1)) (hd 384 (KR l X1)) (hd 384 X2) (hd 384 (QR X0)) (256 * 0 + (64 * 0 + i)) e) :=
  isR_o (FR_pos l X1) (n908 H) (n223 H) 0 (by decide) (n910 H) 0 rfl _ _ _

/-- The state of head 3 after chunk 0. -/
theorem n924 (H : Inp 0 x0 x1 x2 x4 x6 X0 X1 X2 l) :
    IsR (n := 128) (m := 128) (runAF.sl.v924 (F := Ideal) c arg3 harg3 arg4 harg4 arg6 harg6 arg8 harg8 arg10 x1 x2 x4 x6) (fun e d => S (hd 384 (FR l X1)) (hd 384 (KR l X1)) (hd 384 X2) (256 * 0 + 64 * (0 + 1)) d e) :=
  isR_st (FR_pos l X1) (vv3 H) (n225 H) 0 0 rfl (n104 H) (n910 H) _ _ _ _ _ _

/-- Chunk 1 of head 3. -/
theorem n953 (H : Inp 0 x0 x1 x2 x4 x6 X0 X1 X2 l) :
    IsR (n := 64) (m := 128) (runAF.sl.v953 (F := Ideal) c arg2 harg2 arg3 harg3 arg4 harg4 arg6 harg6 arg8 harg8 arg10 x0 x1 x2 x4 x6) (fun i e => O (hd 384 (FR l X1)) (hd 384 (KR l X1)) (hd 384 X2) (hd 384 (QR X0)) (256 * 0 + (64 * 1 + i)) e) :=
  isR_o (FR_pos l X1) (n908 H) (n223 H) 1 (by decide) (n924 H) 64 rfl _ _ _

/-- The state of head 3 after chunk 1. -/
theorem n962 (H : Inp 0 x0 x1 x2 x4 x6 X0 X1 X2 l) :
    IsR (n := 128) (m := 128) (runAF.sl.v962 (F := Ideal) c arg3 harg3 arg4 harg4 arg6 harg6 arg8 harg8 arg10 x1 x2 x4 x6) (fun e d => S (hd 384 (FR l X1)) (hd 384 (KR l X1)) (hd 384 X2) (256 * 0 + 64 * (1 + 1)) d e) :=
  isR_st (FR_pos l X1) (vv3 H) (n225 H) 1 64 rfl (n141 H) (n924 H) _ _ _ _ _ _

/-- Chunk 2 of head 3. -/
theorem n991 (H : Inp 0 x0 x1 x2 x4 x6 X0 X1 X2 l) :
    IsR (n := 64) (m := 128) (runAF.sl.v991 (F := Ideal) c arg2 harg2 arg3 harg3 arg4 harg4 arg6 harg6 arg8 harg8 arg10 x0 x1 x2 x4 x6) (fun i e => O (hd 384 (FR l X1)) (hd 384 (KR l X1)) (hd 384 X2) (hd 384 (QR X0)) (256 * 0 + (64 * 2 + i)) e) :=
  isR_o (FR_pos l X1) (n908 H) (n223 H) 2 (by decide) (n962 H) 128 rfl _ _ _

/-- The state of head 3 after chunk 2. -/
theorem n1000 (H : Inp 0 x0 x1 x2 x4 x6 X0 X1 X2 l) :
    IsR (n := 128) (m := 128) (runAF.sl.v1000 (F := Ideal) c arg3 harg3 arg4 harg4 arg6 harg6 arg8 harg8 arg10 x1 x2 x4 x6) (fun e d => S (hd 384 (FR l X1)) (hd 384 (KR l X1)) (hd 384 X2) (256 * 0 + 64 * (2 + 1)) d e) :=
  isR_st (FR_pos l X1) (vv3 H) (n225 H) 2 128 rfl (n178 H) (n962 H) _ _ _ _ _ _

/-- Chunk 3 of head 3. -/
theorem n1029 (H : Inp 0 x0 x1 x2 x4 x6 X0 X1 X2 l) :
    IsR (n := 64) (m := 128) (runAF.sl.v1029 (F := Ideal) c arg2 harg2 arg3 harg3 arg4 harg4 arg6 harg6 arg8 harg8 arg10 x0 x1 x2 x4 x6) (fun i e => O (hd 384 (FR l X1)) (hd 384 (KR l X1)) (hd 384 X2) (hd 384 (QR X0)) (256 * 0 + (64 * 3 + i)) e) :=
  isR_o (FR_pos l X1) (n908 H) (n223 H) 3 (by decide) (n1000 H) 192 rfl _ _ _

/-- The state of head 3 after chunk 3. -/
theorem n1038 (H : Inp 0 x0 x1 x2 x4 x6 X0 X1 X2 l) :
    IsR (n := 128) (m := 128) (runAF.sl.v1038 (F := Ideal) c arg3 harg3 arg4 harg4 arg6 harg6 arg8 harg8 arg10 x1 x2 x4 x6) (fun e d => S (hd 384 (FR l X1)) (hd 384 (KR l X1)) (hd 384 X2) (256 * 0 + 64 * (3 + 1)) d e) :=
  isR_st (FR_pos l X1) (vv3 H) (n225 H) 3 192 rfl (n215 H) (n1000 H) _ _ _ _ _ _

/-- The piece given out from row 0, column 0 on. -/
theorem p431 (H : Inp 0 x0 x1 x2 x4 x6 X0 X1 X2 l)
    (inb : ∀ a, (![0, 0] : Fin 2 → ℕ) a + S64x128.size a ≤ S256x512.size a) :
    ∀ x, (runAF.sl.v431 (F := Ideal) c arg2 harg2 arg3 harg3 arg4 harg4 arg5 harg5 arg6 harg6 arg7 harg7 arg8 harg8 arg10 x0 x1 x2 x3 x4 x5 x6) x = G9 0 (FR l X1) (KR l X1) X2 (QR X0) x3 x5 ((Rect.unit (s := S256x512) ![0, 0] S64x128.size inb).emb x) :=
  fin_piece 0 0 0 rfl (n399 H) (fun i e _ _ => rfl) harg5 x3 harg7 x5 inb _ _ _ _ _

/-- The piece given out from row 64, column 0 on. -/
theorem p469 (H : Inp 0 x0 x1 x2 x4 x6 X0 X1 X2 l)
    (inb : ∀ a, (![64, 0] : Fin 2 → ℕ) a + S64x128.size a ≤ S256x512.size a) :
    ∀ x, (runAF.sl.v469 (F := Ideal) c arg2 harg2 arg3 harg3 arg4 harg4 arg5 harg5 arg6 harg6 arg7 harg7 arg8 harg8 arg10 x0 x1 x2 x3 x4 x5 x6) x = G9 0 (FR l X1) (KR l X1) X2 (QR X0) x3 x5 ((Rect.unit (s := S256x512) ![64, 0] S64x128.size inb).emb x) :=
  fin_piece 64 0 0 rfl (n437 H) (fun i e _ _ => rfl) harg5 x3 harg7 x5 inb _ _ _ _ _

/-- The piece given out from row 128, column 0 on. -/
theorem p507 (H : Inp 0 x0 x1 x2 x4 x6 X0 X1 X2 l)
    (inb : ∀ a, (![128, 0] : Fin 2 → ℕ) a + S64x128.size a ≤ S256x512.size a) :
    ∀ x, (runAF.sl.v507 (F := Ideal) c arg2 harg2 arg3 harg3 arg4 harg4 arg5 harg5 arg6 harg6 arg7 harg7 arg8 harg8 arg10 x0 x1 x2 x3 x4 x5 x6) x = G9 0 (FR l X1) (KR l X1) X2 (QR X0) x3 x5 ((Rect.unit (s := S256x512) ![128, 0] S64x128.size inb).emb x) :=
  fin_piece 128 0 0 rfl (n475 H) (fun i e _ _ => rfl) harg5 x3 harg7 x5 inb _ _ _ _ _

/-- The piece given out from row 192, column 0 on. -/
theorem p545 (H : Inp 0 x0 x1 x2 x4 x6 X0 X1 X2 l)
    (inb : ∀ a, (![192, 0] : Fin 2 → ℕ) a + S64x128.size a ≤ S256x512.size a) :
    ∀ x, (runAF.sl.v545 (F := Ideal) c arg2 harg2 arg3 harg3 arg4 harg4 arg5 harg5 arg6 harg6 arg7 harg7 arg8 harg8 arg10 x0 x1 x2 x3 x4 x5 x6) x = G9 0 (FR l X1) (KR l X1) X2 (QR X0) x3 x5 ((Rect.unit (s := S256x512) ![192, 0] S64x128.size inb).emb x) :=
  fin_piece 192 0 0 rfl (n513 H) (fun i e _ _ => rfl) harg5 x3 harg7 x5 inb _ _ _ _ _

/-- The piece given out from row 0, column 128 on. -/
theorem p603 (H : Inp 0 x0 x1 x2 x4 x6 X0 X1 X2 l)
    (inb : ∀ a, (![0, 128] : Fin 2 → ℕ) a + S64x128.size a ≤ S256x512.size a) :
    ∀ x, (runAF.sl.v603 (F := Ideal) c arg2 harg2 arg3 harg3 arg4 harg4 arg5 harg5 arg6 harg6 arg7 harg7 arg8 harg8 arg10 x0 x1 x2 x3 x4 x5 x6) x = G9 0 (FR l X1) (KR l X1) X2 (QR X0) x3 x5 ((Rect.unit (s := S256x512) ![0, 128] S64x128.size inb).emb x) :=
  fin_piece 0 128 1 rfl (n571 H) (fun i e _ _ => rfl) harg5 x3 harg7 x5 inb _ _ _ _ _

/-- The piece given out from row 64, column 128 on. -/
theorem p641 (H : Inp 0 x0 x1 x2 x4 x6 X0 X1 X2 l)
    (inb : ∀ a, (![64, 128] : Fin 2 → ℕ) a + S64x128.size a ≤ S256x512.size a) :
    ∀ x, (runAF.sl.v641 (F := Ideal) c arg2 harg2 arg3 harg3 arg4 harg4 arg5 harg5 arg6 harg6 arg7 harg7 arg8 harg8 arg10 x0 x1 x2 x3 x4 x5 x6) x = G9 0 (FR l X1) (KR l X1) X2 (QR X0) x3 x5 ((Rect.unit (s := S256x512) ![64, 128] S64x128.size inb).emb x) :=
  fin_piece 64 128 1 rfl (n609 H) (fun i e _ _ => rfl) harg5 x3 harg7 x5 inb _ _ _ _ _

/-- The piece given out from row 128, column 128 on. -/
theorem p679 (H : Inp 0 x0 x1 x2 x4 x6 X0 X1 X2 l)
    (inb : ∀ a, (![128, 128] : Fin 2 → ℕ) a + S64x128.size a ≤ S256x512.size a) :
    ∀ x, (runAF.sl.v679 (F := Ideal) c arg2 harg2 arg3 harg3 arg4 harg4 arg5 harg5 arg6 harg6 arg7 harg7 arg8 harg8 arg10 x0 x1 x2 x3 x4 x5 x6) x = G9 0 (FR l X1) (KR l X1) X2 (QR X0) x3 x5 ((Rect.unit (s := S256x512) ![128, 128] S64x128.size inb).emb x) :=
  fin_piece 128 128 1 rfl (n647 H) (fun i e _ _ => rfl) harg5 x3 harg7 x5 inb _ _ _ _ _

/-- The piece given out from row 192, column 128 on. -/
theorem p717 (H : Inp 0 x0 x1 x2 x4 x6 X0 X1 X2 l)
    (inb : ∀ a, (![192, 128] : Fin 2 → ℕ) a + S64x128.size a ≤ S256x512.size a) :
    ∀ x, (runAF.sl.v717 (F := Ideal) c arg2 harg2 arg3 harg3 arg4 harg4 arg5 harg5 arg6 harg6 arg7 harg7 arg8 harg8 arg10 x0 x1 x2 x3 x4 x5 x6) x = G9 0 (FR l X1) (KR l X1) X2 (QR X0) x3 x5 ((Rect.unit (s := S256x512) ![192, 128] S64x128.size inb).emb x) :=
  fin_piece 192 128 1 rfl (n685 H) (fun i e _ _ => rfl) harg5 x3 harg7 x5 inb _ _ _ _ _

/-- The piece given out from row 0, column 256 on. -/
theorem p775 (H : Inp 0 x0 x1 x2 x4 x6 X0 X1 X2 l)
    (inb : ∀ a, (![0, 256] : Fin 2 → ℕ) a + S64x128.size a ≤ S256x512.size a) :
    ∀ x, (runAF.sl.v775 (F := Ideal) c arg2 harg2 arg3 harg3 arg4 harg4 arg5 harg5 arg6 harg6 arg7 harg7 arg8 harg8 arg10 x0 x1 x2 x3 x4 x5 x6) x = G9 0 (FR l X1) (KR l X1) X2 (QR X0) x3 x5 ((Rect.unit (s := S256x512) ![0, 256] S64x128.size inb).emb x) :=
  fin_piece 0 256 2 rfl (n743 H) (fun i e _ _ => rfl) harg5 x3 harg7 x5 inb _ _ _ _ _

/-- The piece given out from row 64, column 256 on. -/
theorem p813 (H : Inp 0 x0 x1 x2 x4 x6 X0 X1 X2 l)
    (inb : ∀ a, (![64, 256] : Fin 2 → ℕ) a + S64x128.size a ≤ S256x512.size a) :
    ∀ x, (runAF.sl.v813 (F := Ideal) c arg2 harg2 arg3 harg3 arg4 harg4 arg5 harg5 arg6 harg6 arg7 harg7 arg8 harg8 arg10 x0 x1 x2 x3 x4 x5 x6) x = G9 0 (FR l X1) (KR l X1) X2 (QR X0) x3 x5 ((Rect.unit (s := S256x512) ![64, 256] S64x128.size inb).emb x) :=
  fin_piece 64 256 2 rfl (n781 H) (fun i e _ _ => rfl) harg5 x3 harg7 x5 inb _ _ _ _ _

/-- The piece given out from row 128, column 256 on. -/
theorem p851 (H : Inp 0 x0 x1 x2 x4 x6 X0 X1 X2 l)
    (inb : ∀ a, (![128, 256] : Fin 2 → ℕ) a + S64x128.size a ≤ S256x512.size a) :
    ∀ x, (runAF.sl.v851 (F := Ideal) c arg2 harg2 arg3 harg3 arg4 harg4 arg5 harg5 arg6 harg6 arg7 harg7 arg8 harg8 arg10 x0 x1 x2 x3 x4 x5 x6) x = G9 0 (FR l X1) (KR l X1) X2 (QR X0) x3 x5 ((Rect.unit (s := S256x512) ![128, 256] S64x128.size inb).emb x) :=
  fin_piece 128 256 2 rfl (n819 H) (fun i e _ _ => rfl) harg5 x3 harg7 x5 inb _ _ _ _ _

/-- The piece given out from row 192, column 256 on. -/
theorem p889 (H : Inp 0 x0 x1 x2 x4 x6 X0 X1 X2 l)
    (inb : ∀ a, (![192, 256] : Fin 2 → ℕ) a + S64x128.size a ≤ S256x512.size a) :
    ∀ x, (runAF.sl.v889 (F := Ideal) c arg2 harg2 arg3 harg3 arg4 harg4 arg5 harg5 arg6 harg6 arg7 harg7 arg8 harg8 arg10 x0 x1 x2 x3 x4 x5 x6) x = G9 0 (FR l X1) (KR l X1) X2 (QR X0) x3 x5 ((Rect.unit (s := S256x512) ![192, 256] S64x128.size inb).emb x) :=
  fin_piece 192 256 2 rfl (n857 H) (fun i e _ _ => rfl) harg5 x3 harg7 x5 inb _ _ _ _ _

/-- The piece given out from row 0, column 384 on. -/
theorem p947 (H : Inp 0 x0 x1 x2 x4 x6 X0 X1 X2 l)
    (inb : ∀ a, (![0, 384] : Fin 2 → ℕ) a + S64x128.size a ≤ S256x512.size a) :
    ∀ x, (runAF.sl.v947 (F := Ideal) c arg2 harg2 arg3 harg3 arg4 harg4 arg5 harg5 arg6 harg6 arg7 harg7 arg8 harg8 arg10 x0 x1 x2 x3 x4 x5 x6) x = G9 0 (FR l X1) (KR l X1) X2 (QR X0) x3 x5 ((Rect.unit (s := S256x512) ![0, 384] S64x128.size inb).emb x) :=
  fin_piece 0 384 3 rfl (n915 H) (fun i e _ _ => rfl) harg5 x3 harg7 x5 inb _ _ _ _ _

/-- The piece given out from row 64, column 384 on. -/
theorem p985 (H : Inp 0 x0 x1 x2 x4 x6 X0 X1 X2 l)
    (inb : ∀ a, (![64, 384] : Fin 2 → ℕ) a + S64x128.size a ≤ S256x512.size a) :
    ∀ x, (runAF.sl.v985 (F := Ideal) c arg2 harg2 arg3 harg3 arg4 harg4 arg5 harg5 arg6 harg6 arg7 harg7 arg8 harg8 arg10 x0 x1 x2 x3 x4 x5 x6) x = G9 0 (FR l X1) (KR l X1) X2 (QR X0) x3 x5 ((Rect.unit (s := S256x512) ![64, 384] S64x128.size inb).emb x) :=
  fin_piece 64 384 3 rfl (n953 H) (fun i e _ _ => rfl) harg5 x3 harg7 x5 inb _ _ _ _ _

/-- The piece given out from row 128, column 384 on. -/
theorem p1023 (H : Inp 0 x0 x1 x2 x4 x6 X0 X1 X2 l)
    (inb : ∀ a, (![128, 384] : Fin 2 → ℕ) a + S64x128.size a ≤ S256x512.size a) :
    ∀ x, (runAF.sl.v1023 (F := Ideal) c arg2 harg2 arg3 harg3 arg4 harg4 arg5 harg5 arg6 harg6 arg7 harg7 arg8 harg8 arg10 x0 x1 x2 x3 x4 x5 x6) x = G9 0 (FR l X1) (KR l X1) X2 (QR X0) x3 x5 ((Rect.unit (s := S256x512) ![128, 384] S64x128.size inb).emb x) :=
  fin_piece 128 384 3 rfl (n991 H) (fun i e _ _ => rfl) harg5 x3 harg7 x5 inb _ _ _ _ _

/-- The piece given out from row 192, column 384 on. -/
theorem p1061 (H : Inp 0 x0 x1 x2 x4 x6 X0 X1 X2 l)
    (inb : ∀ a, (![192, 384] : Fin 2 → ℕ) a + S64x128.size a ≤ S256x512.size a) :
    ∀ x, (runAF.sl.v1061 (F := Ideal) c arg2 harg2 arg3 harg3 arg4 harg4 arg5 harg5 arg6 harg6 arg7 harg7 arg8 harg8 arg10 x0 x1 x2 x3 x4 x5 x6) x = G9 0 (FR l X1) (KR l X1) X2 (QR X0) x3 x5 ((Rect.unit (s := S256x512) ![192, 384] S64x128.size inb).emb x) :=
  fin_piece 192 384 3 rfl (n1029 H) (fun i e _ _ => rfl) harg5 x3 harg7 x5 inb _ _ _ _ _

/-- The state left of head 0. -/
theorem s0 (H : Inp 0 x0 x1 x2 x4 x6 X0 X1 X2 l)
    (inb : ∀ a, (![0, 0, 0] : Fin 3 → ℕ) a + S1x128x128.size a ≤ S4x128x128.size a) :
    ∀ x, (runAF.sl.v549 (F := Ideal) c arg3 harg3 arg4 harg4 arg6 harg6 arg8 harg8 arg10 x1 x2 x4 x6) x = G10 0 (FR l X1) (KR l X1) X2 ((Rect.unit (s := S4x128x128) ![0, 0, 0] S1x128x128.size inb).emb x) :=
  G10_piece 0 inb (IsR.cast3 (φ := .f32) (n522 H) _) (fun e d => rfl)

/-- The state left of head 1. -/
theorem s1 (H : Inp 0 x0 x1 x2 x4 x6 X0 X1 X2 l)
    (inb : ∀ a, (![1, 0, 0] : Fin 3 → ℕ) a + S1x128x128.size a ≤ S4x128x128.size a) :
    ∀ x, (runAF.sl.v721 (F := Ideal) c arg3 harg3 arg4 harg4 arg6 harg6 arg8 harg8 arg10 x1 x2 x4 x6) x = G10 0 (FR l X1) (KR l X1) X2 ((Rect.unit (s := S4x128x128) ![1, 0, 0] S1x128x128.size inb).emb x) :=
  G10_piece 1 inb (IsR.cast3 (φ := .f32) (n694 H) _) (fun e d => rfl)

/-- The state left of head 2. -/
theorem s2 (H : Inp 0 x0 x1 x2 x4 x6 X0 X1 X2 l)
    (inb : ∀ a, (![2, 0, 0] : Fin 3 → ℕ) a + S1x128x128.size a ≤ S4x128x128.size a) :
    ∀ x, (runAF.sl.v893 (F := Ideal) c arg3 harg3 arg4 harg4 arg6 harg6 arg8 harg8 arg10 x1 x2 x4 x6) x = G10 0 (FR l X1) (KR l X1) X2 ((Rect.unit (s := S4x128x128) ![2, 0, 0] S1x128x128.size inb).emb x) :=
  G10_piece 2 inb (IsR.cast3 (φ := .f32) (n866 H) _) (fun e d => rfl)

/-- The state left of head 3. -/
theorem s3 (H : Inp 0 x0 x1 x2 x4 x6 X0 X1 X2 l)
    (inb : ∀ a, (![3, 0, 0] : Fin 3 → ℕ) a + S1x128x128.size a ≤ S4x128x128.size a) :
    ∀ x, (k0_pay4 (F := Ideal) (runAF.sl.v1038 (F := Ideal) c arg3 harg3 arg4 harg4 arg6 harg6 arg8 harg8 arg10 x1 x2 x4 x6)) x = G10 0 (FR l X1) (KR l X1) X2 ((Rect.unit (s := S4x128x128) ![3, 0, 0] S1x128x128.size inb).emb x) :=
  G10_piece 3 inb (IsR.cast3 (φ := .f32) (n1038 H) _) (fun e d => rfl)

/-- The block given out. -/
theorem out9 (H : Inp 0 x0 x1 x2 x4 x6 X0 X1 X2 l) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S256x256 .bf16) (harg8 : arg8.IsWhole) (arg9 : Memref sig .tc .vmem S256x512 .bf16) (harg9 : arg9.IsWhole) (arg10 : Memref sig .tc .vmem S4x128x128 .f32) (harg10 : arg10.IsWhole) (arg11 : Memref sig .tc .vmem S256x512 .f32) (harg11 : arg11.IsWhole) (arg12 : Memref sig .tc .vmem S256x512 .f32) (harg12 : arg12.IsWhole) (hc0 : cond0_0 i) (hx : cmpw x4 x1 x6 = 0#1) (y : S256x512.Idx) :
    View.canon (runAF (F := Ideal) c i arg2 harg2 arg3 harg3 arg4 harg4 arg5 harg5 arg6 harg6 arg7 harg7 arg8 harg8 arg9 harg9 arg10 harg10 arg11 harg11 arg12 harg12 hc0 x0 x1 x2 x3 x4 x5 x6 hx).1 y = (G9 0 (FR l X1) (KR l X1) X2 (QR X0) x3 x5) y :=
  View.canon_apply_of_pieces (G9 0 (FR l X1) (KR l X1) X2 (QR X0) x3 x5) _ (View.PiecesOf.mem (show View.PiecesOf (G9 0 (FR l X1) (KR l X1) X2 (QR X0) x3 x5) (runAF (F := Ideal) c i arg2 harg2 arg3 harg3 arg4 harg4 arg5 harg5 arg6 harg6 arg7 harg7 arg8 harg8 arg9 harg9 arg10 harg10 arg11 harg11 arg12 harg12 hc0 x0 x1 x2 x3 x4 x5 x6 hx).1 from ⟨p1061 H (by decide), p1023 H (by decide), p985 H (by decide), p947 H (by decide), p889 H (by decide), p851 H (by decide), p813 H (by decide), p775 H (by decide), p717 H (by decide), p679 H (by decide), p641 H (by decide), p603 H (by decide), p545 H (by decide), p507 H (by decide), p469 H (by decide), p431 H (by decide), trivial⟩)) y (covAF_9 c i arg2 harg2 arg3 harg3 arg4 harg4 arg5 harg5 arg6 harg6 arg7 harg7 arg8 harg8 arg9 harg9 arg10 harg10 arg11 harg11 arg12 harg12 hc0 x0 x1 x2 x3 x4 x5 x6 hx y)

/-- The state left. -/
theorem out10 (H : Inp 0 x0 x1 x2 x4 x6 X0 X1 X2 l) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S256x256 .bf16) (harg8 : arg8.IsWhole) (arg9 : Memref sig .tc .vmem S256x512 .bf16) (harg9 : arg9.IsWhole) (arg10 : Memref sig .tc .vmem S4x128x128 .f32) (harg10 : arg10.IsWhole) (arg11 : Memref sig .tc .vmem S256x512 .f32) (harg11 : arg11.IsWhole) (arg12 : Memref sig .tc .vmem S256x512 .f32) (harg12 : arg12.IsWhole) (hc0 : cond0_0 i) (hx : cmpw x4 x1 x6 = 0#1) (y : S4x128x128.Idx) :
    View.canon (runAF (F := Ideal) c i arg2 harg2 arg3 harg3 arg4 harg4 arg5 harg5 arg6 harg6 arg7 harg7 arg8 harg8 arg9 harg9 arg10 harg10 arg11 harg11 arg12 harg12 hc0 x0 x1 x2 x3 x4 x5 x6 hx).2.1 y = (G10 0 (FR l X1) (KR l X1) X2) y :=
  (congrFun (congrArg View.canon (show (runAF (F := Ideal) c i arg2 harg2 arg3 harg3 arg4 harg4 arg5 harg5 arg6 harg6 arg7 harg7 arg8 harg8 arg9 harg9 arg10 harg10 arg11 harg11 arg12 harg12 hc0 x0 x1 x2 x3 x4 x5 x6 hx).2.1 = ([⟨(Rect.unit (s := S4x128x128) ![3, 0, 0] S1x128x128.size inb_S4x128x128_S1x128x128_3_0_0), k0_pay4 (F := Ideal) (runAF.sl.v1038 (F := Ideal) c arg3 harg3 arg4 harg4 arg6 harg6 arg8 harg8 arg10 x1 x2 x4 x6)⟩, ⟨(Rect.unit (s := S4x128x128) ![2, 0, 0] S1x128x128.size inb_S4x128x128_S1x128x128_2_0_0), (runAF.sl.v893 (F := Ideal) c arg3 harg3 arg4 harg4 arg6 harg6 arg8 harg8 arg10 x1 x2 x4 x6)⟩, ⟨(Rect.unit (s := S4x128x128) ![1, 0, 0] S1x128x128.size inb_S4x128x128_S1x128x128_1_0_0), (runAF.sl.v721 (F := Ideal) c arg3 harg3 arg4 harg4 arg6 harg6 arg8 harg8 arg10 x1 x2 x4 x6)⟩, ⟨(Rect.unit (s := S4x128x128) ![0, 0, 0] S1x128x128.size inb_S4x128x128_S1x128x128_0_0_0), (runAF.sl.v549 (F := Ideal) c arg3 harg3 arg4 harg4 arg6 harg6 arg8 harg8 arg10 x1 x2 x4 x6)⟩] : List (View.Piece (Elt Ideal) S4x128x128 .f32)) ++ runAF.sl.H10_1 from rfl)) y).trans
    (View.canon_append_of_piecesOf (G10 0 (FR l X1) (KR l X1) X2) _ ([⟨(Rect.unit (s := S4x128x128) ![3, 0, 0] S1x128x128.size inb_S4x128x128_S1x128x128_3_0_0), k0_pay4 (F := Ideal) (runAF.sl.v1038 (F := Ideal) c arg3 harg3 arg4 harg4 arg6 harg6 arg8 harg8 arg10 x1 x2 x4 x6)⟩, ⟨(Rect.unit (s := S4x128x128) ![2, 0, 0] S1x128x128.size inb_S4x128x128_S1x128x128_2_0_0), (runAF.sl.v893 (F := Ideal) c arg3 harg3 arg4 harg4 arg6 harg6 arg8 harg8 arg10 x1 x2 x4 x6)⟩, ⟨(Rect.unit (s := S4x128x128) ![1, 0, 0] S1x128x128.size inb_S4x128x128_S1x128x128_1_0_0), (runAF.sl.v721 (F := Ideal) c arg3 harg3 arg4 harg4 arg6 harg6 arg8 harg8 arg10 x1 x2 x4 x6)⟩, ⟨(Rect.unit (s := S4x128x128) ![0, 0, 0] S1x128x128.size inb_S4x128x128_S1x128x128_0_0_0), (runAF.sl.v549 (F := Ideal) c arg3 harg3 arg4 harg4 arg6 harg6 arg8 harg8 arg10 x1 x2 x4 x6)⟩] : List (View.Piece (Elt Ideal) S4x128x128 .f32)) (show View.PiecesOf (G10 0 (FR l X1) (KR l X1) X2) ([⟨(Rect.unit (s := S4x128x128) ![3, 0, 0] S1x128x128.size inb_S4x128x128_S1x128x128_3_0_0), k0_pay4 (F := Ideal) (runAF.sl.v1038 (F := Ideal) c arg3 harg3 arg4 harg4 arg6 harg6 arg8 harg8 arg10 x1 x2 x4 x6)⟩, ⟨(Rect.unit (s := S4x128x128) ![2, 0, 0] S1x128x128.size inb_S4x128x128_S1x128x128_2_0_0), (runAF.sl.v893 (F := Ideal) c arg3 harg3 arg4 harg4 arg6 harg6 arg8 harg8 arg10 x1 x2 x4 x6)⟩, ⟨(Rect.unit (s := S4x128x128) ![1, 0, 0] S1x128x128.size inb_S4x128x128_S1x128x128_1_0_0), (runAF.sl.v721 (F := Ideal) c arg3 harg3 arg4 harg4 arg6 harg6 arg8 harg8 arg10 x1 x2 x4 x6)⟩, ⟨(Rect.unit (s := S4x128x128) ![0, 0, 0] S1x128x128.size inb_S4x128x128_S1x128x128_0_0_0), (runAF.sl.v549 (F := Ideal) c arg3 harg3 arg4 harg4 arg6 harg6 arg8 harg8 arg10 x1 x2 x4 x6)⟩] : List (View.Piece (Elt Ideal) S4x128x128 .f32)) from ⟨s3 H (by decide), s2 H (by decide), s1 H (by decide), s0 H (by decide), trivial⟩) y (View.cover_of_tiledL ([⟨(Rect.unit (s := S4x128x128) ![3, 0, 0] S1x128x128.size inb_S4x128x128_S1x128x128_3_0_0), k0_pay4 (F := Ideal) (runAF.sl.v1038 (F := Ideal) c arg3 harg3 arg4 harg4 arg6 harg6 arg8 harg8 arg10 x1 x2 x4 x6)⟩, ⟨(Rect.unit (s := S4x128x128) ![2, 0, 0] S1x128x128.size inb_S4x128x128_S1x128x128_2_0_0), (runAF.sl.v893 (F := Ideal) c arg3 harg3 arg4 harg4 arg6 harg6 arg8 harg8 arg10 x1 x2 x4 x6)⟩, ⟨(Rect.unit (s := S4x128x128) ![1, 0, 0] S1x128x128.size inb_S4x128x128_S1x128x128_1_0_0), (runAF.sl.v721 (F := Ideal) c arg3 harg3 arg4 harg4 arg6 harg6 arg8 harg8 arg10 x1 x2 x4 x6)⟩, ⟨(Rect.unit (s := S4x128x128) ![0, 0, 0] S1x128x128.size inb_S4x128x128_S1x128x128_0_0_0), (runAF.sl.v549 (F := Ideal) c arg3 harg3 arg4 harg4 arg6 harg6 arg8 harg8 arg10 x1 x2 x4 x6)⟩] : List (View.Piece (Elt Ideal) S4x128x128 .f32)) S1x128x128.size (by sl_kernel_rfl) y))

end Cert.Hgrn.AF

end
-- ==== Proof.HgExact.lean ====
module

public import proofs.«01_k».proof.Proof.HgNode

/-! One chunk of 32 rows of one head, term by term: the products of its queries and keys a column at a time, the rows given out, the state after it. -/

@[expose] public section

set_option maxRecDepth 16384

noncomputable section

namespace Cert.Hgrn

open Idealize.ShloMosaic hiding ix1 ix2 ix3
open Idealize.ShloMosaic.ValueIdx
open Idealize.SL.Sem
open Cert.KernelIdeal Cert.KernelIdeal.Gen
open Finset

/-- The column numbers of a chunk's products. -/
abbrev w65 : IVec S32x32 32 := iota .tc S32x32 32 [1] iota_S32x32_d1_w32
/-- The row numbers of a chunk. -/
abbrev w66 : IVec S32x128 32 := iota .tc S32x128 32 [0] iota_S32x128_d0_w32

/-- The query's gate, as the chunk computes it. -/
def gateW (x : FVec Ideal S32x128 .f32) : FVec Ideal S32x128 .f32 :=
  mulf x (divf (broadcast S32x128 (Scalar.ofBits (F := Ideal) .f32 0x3F800000#32)) (addf (broadcast S32x128 (Scalar.ofBits (F := Ideal) .f32 0x3F800000#32))
    (Idealize.ShloMosaic.exp (subf (broadcast S32x128 (Scalar.ofBits (F := Ideal) .f32 0x00000000#32)) x))))

/-- Column `n` of the products put into the array. -/
def colW (Q B K : FVec Ideal S32x128 .f32) (n : ℕ) (h : S32x128.Slices ![n, 0] S1x128) (A : FVec Ideal S32x32 .f32) : FVec Ideal S32x32 .f32 :=
  select (cmpi .eq w65 (broadcast S32x32 (BitVec.ofNat 32 n)))
    (broadcastTo S32x32 (shapeCast S32x1 (shapeCast S32x1 (multiReduction .add [1] S32
      (mulf (mulf Q (broadcastTo S32x128 (extractStridedSlice S1x128 ![n, 0] K h) broadcasts_S1x128_S32x128))
        (Idealize.ShloMosaic.exp (select (cmpi .sge w66 (broadcast S32x128 (BitVec.ofNat 32 n)))
          (subf B (broadcastTo S32x128 (extractStridedSlice S1x128 ![n, 0] B h) broadcasts_S1x128_S32x128))
          (broadcast S32x128 (Named.named Cert.KernelIdeal.κ "mask" (φ := .f32) 0xF149F2CA#32 : Ideal .f32)))))
      0x00000000#32 reduces_S32x128_S32 (.inl rfl) rfl) shapeCasts_S32_S32x1) shapeCasts_S32x1_S32x1) broadcasts_S32x1_S32x32) A

/-- A row's product with a column. -/
def aE (q k b : ℕ → ℕ → ℝ) (t s : ℕ) : ℝ :=
  ∑ d ∈ range 128, q t d * k s d * (if s ≤ t then Real.exp (b t d - b s d) else 0)

/-- Equality of two small words is that of their numbers. -/
theorem eqW32 (a b : ℕ) (ha : a < 32) (hb : b < 32) : IntOp.cmpi .eq (BitVec.ofNat 32 a) (BitVec.ofNat 32 b) = 1#1 ↔ a = b := by
  word_cmp
/-- So is their order. -/
theorem sgeW32 (a b : ℕ) (ha : a < 32) (hb : b < 32) : IntOp.cmpi .sge (BitVec.ofNat 32 a) (BitVec.ofNat 32 b) = 1#1 ↔ b ≤ a := by
  word_cmp

/-- The mask of one column. -/
theorem isM_w65 (n : ℕ) (hn : n < 32) : IsM (cmpi .eq w65 (broadcast S32x32 (BitVec.ofNat 32 n))) (fun _ s => s = n) := by
  intro r s
  show IntOp.cmpi .eq (BitVec.ofNat 32 (0 * 32 + s.val)) (BitVec.ofNat 32 n) = 1#1 ↔ _
  rw [Nat.zero_mul, Nat.zero_add, eqW32 _ _ s.isLt hn]

/-- The mask of the rows from one on. -/
theorem isM_w66 (n : ℕ) (hn : n < 32) : IsM (cmpi .sge w66 (broadcast S32x128 (BitVec.ofNat 32 n))) (fun t _ => n ≤ t) := by
  intro r s
  show IntOp.cmpi .sge (BitVec.ofNat 32 (0 * 32 + r.val)) (BitVec.ofNat 32 n) = 1#1 ↔ _
  rw [Nat.zero_mul, Nat.zero_add, sgeW32 _ _ r.isLt hn]

/-- The exponential of a difference where the row comes no earlier than the column, of −∞ elsewhere. -/
theorem isR_maskExp {M : IVec S32x128 1} {X : FVec Ideal S32x128 .f32} {x : ℕ → ℕ → ℝ} {n : ℕ} (hM : IsM M (fun t _ => n ≤ t)) (hX : IsR X x) :
    IsR (Idealize.ShloMosaic.exp (select M X (broadcast S32x128 (Named.named Cert.KernelIdeal.κ "mask" (φ := .f32) 0xF149F2CA#32 : Ideal .f32))))
      (fun t d => if n ≤ t then Real.exp (x t d) else 0) := fun r c => by
  show Ideal.exp (select M X _ (ix2 r c)) = _
  rw [select_apply]
  by_cases h : n ≤ r.val
  · simp only [if_pos h]; rw [(hM r c).mpr h]
    exact (congrArg Ideal.exp (hX r c)).trans (Ideal.exp_coe _)
  · simp only [if_neg h]; rw [eq_zero_of_ne_one (fun e => h ((hM r c).mp e))]
    refine (congrArg Ideal.exp (?_ : _ = (⊥ : EReal))).trans ?_
    · exact IdealRules.named_const.ideal_named_scalar Cert.KernelIdeal.κ "mask" _ _ rfl
    · rw [Ideal.exp_bot]; rfl

/-- A row's sum, in every column. -/
theorem isR_rowSum {n m c : ℕ} {X : FVec Ideal ⟨2, ![n, m]⟩ .f32} {x : ℕ → ℕ → ℝ} (hX : IsR X x)
    (hr : (⟨2, ![n, m]⟩ : Shape).Reduces [1] ⟨1, ![n]⟩) (hc : (⟨1, ![n]⟩ : Shape).ShapeCasts ⟨2, ![n, 1]⟩)
    (hc' : (⟨2, ![n, 1]⟩ : Shape).ShapeCasts ⟨2, ![n, 1]⟩) (hb : (⟨2, ![n, 1]⟩ : Shape).Broadcasts ⟨2, ![n, c]⟩) :
    IsR (broadcastTo ⟨2, ![n, c]⟩ (shapeCast ⟨2, ![n, 1]⟩ (shapeCast ⟨2, ![n, 1]⟩ (multiReduction .add [1] ⟨1, ![n]⟩ X 0x00000000#32 hr (.inl rfl) rfl) hc) hc') hb)
      (fun r _ => ∑ d ∈ range m, x r d) := fun i e => by
  have e1 : ∀ k : Fin m, hr.lift (a := 1) (ix1 i) k = ix2 i k := fun k => by
    funext a; match a with
    | ⟨0, _⟩ => rfl
    | ⟨1, _⟩ => rfl
  have e2 : multiReduction .add [1] ⟨1, ![n]⟩ X 0x00000000#32 hr (.inl rfl) rfl (ix1 i) = ((∑ d ∈ range m, x i.val d : ℝ) : EReal) :=
    ((Ideal.multiReduction_add_single X _ hr (.inl rfl) rfl (ix1 i)).trans (Fintype.sum_congr _ _ fun k =>
      (congrArg X (e1 k)).trans (hX i k))).trans (coe_sum_range m (x i.val))
  rw [broadcastTo_apply _ hb _ (ix2 i 0) (by intro a; match a with | ⟨0, _⟩ => (have := i.isLt; show i.val = if n = 1 then 0 else i.val; split <;> omega) | ⟨1, _⟩ => rfl),
    shapeCast_self, shapeCast_apply _ hc _ (ix1 i) (by rw [Shape.rowMajor_val_one, Shape.rowMajor_val_two]; show i.val = i.val * 1 + 0; omega)]
  exact e2

/-- The gate of a real array. -/
theorem isR_gate {X : FVec Ideal S32x128 .f32} {x : ℕ → ℕ → ℝ} (hX : IsR X x) :
    IsR (gateW X) (fun n c => x n c * (1 / (1 + Real.exp (0 - x n c)))) :=
  IsR.mul hX (IsR.div IsR.one (IsR.add IsR.one (IsR.exp (IsR.sub IsR.zero hX))) fun r c => by positivity)

section Col
variable {Q B K V : FVec Ideal S32x128 .f32} {q b k v : ℕ → ℕ → ℝ}

/-- One more column. -/
theorem isR_col (hQ : IsR Q q) (hB : IsR B b) (hK : IsR K k) {A : FVec Ideal S32x32 .f32} (n : ℕ) (hn : n < 32) (h : S32x128.Slices ![n, 0] S1x128)
    (hA : IsR A (fun t s => if s < n then aE q k b t s else 0)) :
    IsR (colW Q B K n h A) (fun t s => if s < n + 1 then aE q k b t s else 0) := by
  refine (IsR.select (isM_w65 n hn) (isR_rowSum (IsR.mul (IsR.mul hQ (IsR.bcast (φ := .f32) (IsR.slice (φ := .f32) hK n 0 h) _))
    (isR_maskExp (isM_w66 n hn) (IsR.sub hB (IsR.bcast (φ := .f32) (IsR.slice (φ := .f32) hB n 0 h) _)))) _ _ _ _) hA).congr fun t s ht hs => ?_
  by_cases e : s = n
  · subst e
    rw [if_pos rfl, if_pos (Nat.lt_succ_self _)]
    unfold aE
    refine sum_congr rfl fun d _ => ?_
    simp only [sh, Nat.add_zero, Nat.zero_add]
  · rw [if_neg e]
    by_cases h' : s < n
    · rw [if_pos h', if_pos (by omega)]
    · rw [if_neg h', if_neg (by omega)]

/-- The products of a chunk, column after column. -/
def AW (Q B K : FVec Ideal S32x128 .f32) : FVec Ideal S32x32 .f32 :=
  colW Q B K 31 slices_S32x128_o31_0_S1x128 <| colW Q B K 30 slices_S32x128_o30_0_S1x128 <| colW Q B K 29 slices_S32x128_o29_0_S1x128 <| colW Q B K 28 slices_S32x128_o28_0_S1x128 <| colW Q B K 27 slices_S32x128_o27_0_S1x128 <| colW Q B K 26 slices_S32x128_o26_0_S1x128 <| colW Q B K 25 slices_S32x128_o25_0_S1x128 <| colW Q B K 24 slices_S32x128_o24_0_S1x128 <| colW Q B K 23 slices_S32x128_o23_0_S1x128 <| colW Q B K 22 slices_S32x128_o22_0_S1x128 <| colW Q B K 21 slices_S32x128_o21_0_S1x128 <| colW Q B K 20 slices_S32x128_o20_0_S1x128 <| colW Q B K 19 slices_S32x128_o19_0_S1x128 <| colW Q B K 18 slices_S32x128_o18_0_S1x128 <| colW Q B K 17 slices_S32x128_o17_0_S1x128 <| colW Q B K 16 slices_S32x128_o16_0_S1x128 <| colW Q B K 15 slices_S32x128_o15_0_S1x128 <| colW Q B K 14 slices_S32x128_o14_0_S1x128 <| colW Q B K 13 slices_S32x128_o13_0_S1x128 <| colW Q B K 12 slices_S32x128_o12_0_S1x128 <| colW Q B K 11 slices_S32x128_o11_0_S1x128 <| colW Q B K 10 slices_S32x128_o10_0_S1x128 <| colW Q B K 9 slices_S32x128_o9_0_S1x128 <| colW Q B K 8 slices_S32x128_o8_0_S1x128 <| colW Q B K 7 slices_S32x128_o7_0_S1x128 <| colW Q B K 6 slices_S32x128_o6_0_S1x128 <| colW Q B K 5 slices_S32x128_o5_0_S1x128 <| colW Q B K 4 slices_S32x128_o4_0_S1x128 <| colW Q B K 3 slices_S32x128_o3_0_S1x128 <| colW Q B K 2 slices_S32x128_o2_0_S1x128 <| colW Q B K 1 slices_S32x128_o1_0_S1x128 <| colW Q B K 0 slices_S32x128_o0_0_S1x128 <| broadcast S32x32 (Scalar.ofBits (F := Ideal) .f32 0x00000000#32)

/-- All 32 columns: the products of a chunk. -/
theorem isR_AW (hQ : IsR Q q) (hB : IsR B b) (hK : IsR K k) : IsR (AW Q B K) (aE q k b) := by
  have h0 : IsR (broadcast S32x32 (Scalar.ofBits (F := Ideal) .f32 0x00000000#32)) (fun t s => if s < 0 then aE q k b t s else 0) :=
    IsR.zero.congr fun t s _ _ => (if_neg (Nat.not_lt_zero s)).symm
  have h1 := isR_col hQ hB hK 0 (by decide) slices_S32x128_o0_0_S1x128 h0
  have h2 := isR_col hQ hB hK 1 (by decide) slices_S32x128_o1_0_S1x128 h1
  have h3 := isR_col hQ hB hK 2 (by decide) slices_S32x128_o2_0_S1x128 h2
  have h4 := isR_col hQ hB hK 3 (by decide) slices_S32x128_o3_0_S1x128 h3
  have h5 := isR_col hQ hB hK 4 (by decide) slices_S32x128_o4_0_S1x128 h4
  have h6 := isR_col hQ hB hK 5 (by decide) slices_S32x128_o5_0_S1x128 h5
  have h7 := isR_col hQ hB hK 6 (by decide) slices_S32x128_o6_0_S1x128 h6
  have h8 := isR_col hQ hB hK 7 (by decide) slices_S32x128_o7_0_S1x128 h7
  have h9 := isR_col hQ hB hK 8 (by decide) slices_S32x128_o8_0_S1x128 h8
  have h10 := isR_col hQ hB hK 9 (by decide) slices_S32x128_o9_0_S1x128 h9
  have h11 := isR_col hQ hB hK 10 (by decide) slices_S32x128_o10_0_S1x128 h10
  have h12 := isR_col hQ hB hK 11 (by decide) slices_S32x128_o11_0_S1x128 h11
  have h13 := isR_col hQ hB hK 12 (by decide) slices_S32x128_o12_0_S1x128 h12
  have h14 := isR_col hQ hB hK 13 (by decide) slices_S32x128_o13_0_S1x128 h13
  have h15 := isR_col hQ hB hK 14 (by decide) slices_S32x128_o14_0_S1x128 h14
  have h16 := isR_col hQ hB hK 15 (by decide) slices_S32x128_o15_0_S1x128 h15
  have h17 := isR_col hQ hB hK 16 (by decide) slices_S32x128_o16_0_S1x128 h16
  have h18 := isR_col hQ hB hK 17 (by decide) slices_S32x128_o17_0_S1x128 h17
  have h19 := isR_col hQ hB hK 18 (by decide) slices_S32x128_o18_0_S1x128 h18
  have h20 := isR_col hQ hB hK 19 (by decide) slices_S32x128_o19_0_S1x128 h19
  have h21 := isR_col hQ hB hK 20 (by decide) slices_S32x128_o20_0_S1x128 h20
  have h22 := isR_col hQ hB hK 21 (by decide) slices_S32x128_o21_0_S1x128 h21
  have h23 := isR_col hQ hB hK 22 (by decide) slices_S32x128_o22_0_S1x128 h22
  have h24 := isR_col hQ hB hK 23 (by decide) slices_S32x128_o23_0_S1x128 h23
  have h25 := isR_col hQ hB hK 24 (by decide) slices_S32x128_o24_0_S1x128 h24
  have h26 := isR_col hQ hB hK 25 (by decide) slices_S32x128_o25_0_S1x128 h25
  have h27 := isR_col hQ hB hK 26 (by decide) slices_S32x128_o26_0_S1x128 h26
  have h28 := isR_col hQ hB hK 27 (by decide) slices_S32x128_o27_0_S1x128 h27
  have h29 := isR_col hQ hB hK 28 (by decide) slices_S32x128_o28_0_S1x128 h28
  have h30 := isR_col hQ hB hK 29 (by decide) slices_S32x128_o29_0_S1x128 h29
  have h31 := isR_col hQ hB hK 30 (by decide) slices_S32x128_o30_0_S1x128 h30
  have h32 := isR_col hQ hB hK 31 (by decide) slices_S32x128_o31_0_S1x128 h31
  exact IsR.congr h32 fun t s _ hs => if_pos hs

/-- The rows of a chunk before they are normalised. -/
def oW (Q B K V : FVec Ideal S32x128 .f32) (st : Vec Ideal S1x128x128 .f32) : FVec Ideal S32x128 .f32 :=
  addf (matmul dot_S32x32_S32x128_S32x128_1_0_0_1_n_n none (truncf .bf16 (AW Q B K) bitsLt_bf16_f32) (truncf .bf16 V bitsLt_bf16_f32) (constant S32x128 .f32 0x00000000#32))
    (matmul dot_S32x128_S128x128_S32x128_1_1_0_0_n_n none (truncf .bf16 (mulf Q (Idealize.ShloMosaic.exp B)) bitsLt_bf16_f32)
      (truncf .bf16 (shapeCast S128x128 st shapeCasts_S1x128x128_S128x128) bitsLt_bf16_f32) (constant S32x128 .f32 0x00000000#32))

/-- The state after a chunk. -/
def stW (B K V : FVec Ideal S32x128 .f32) (st : Vec Ideal S1x128x128 .f32) : FVec Ideal S1x128x128 .f32 :=
  shapeCast S1x128x128 (addf (mulf (shapeCast S128x128 st shapeCasts_S1x128x128_S128x128)
      (broadcastTo S128x128 (Idealize.ShloMosaic.exp (extractStridedSlice S1x128 ![31, 0] B slices_S32x128_o31_0_S1x128)) broadcasts_S1x128_S128x128))
    (matmul dot_S128x32_S32x128_S128x128_1_0_0_1_n_n none (truncf .bf16 (transpose S128x32 [1, 0] V transposes_S32x128_p1_0_S128x32) bitsLt_bf16_f32)
      (truncf .bf16 (mulf K (Idealize.ShloMosaic.exp (subf (broadcastTo S32x128 (extractStridedSlice S1x128 ![31, 0] B slices_S32x128_o31_0_S1x128)
        broadcasts_S1x128_S32x128) B))) bitsLt_bf16_f32) (constant S128x128 .f32 0x00000000#32))) shapeCasts_S128x128_S1x128x128

/-- What is given out of a chunk's rows. -/
def finW (o : FVec Ideal S32x128 .f32) (w : FVec Ideal S1x128 .f32) (g : FVec Ideal S32x128 .f32) : FVec Ideal S32x128 .bf16 :=
  truncf .bf16 (mulf (mulf (mulf o (broadcastTo S32x128 (rsqrt (addf
        (divf (shapeCast S32x1 (multiReduction .add [1] S32 (mulf o o) 0x00000000#32 reduces_S32x128_S32 (.inl rfl) rfl) shapeCasts_S32_S32x1)
          (broadcast S32x1 (Scalar.ofBits (F := Ideal) .f32 0x43000000#32)))
        (broadcast S32x1 (Scalar.ofBits (F := Ideal) .f32 0x358637BD#32)))) broadcasts_S32x1_S32x128))
        (broadcastTo S32x128 (k0_pay3 (F := Ideal) w) broadcasts_S1x128_S32x128))
      (mulf g (divf (broadcast S32x128 (Scalar.ofBits (F := Ideal) .f32 0x3F800000#32))
        (addf (broadcast S32x128 (Scalar.ofBits (F := Ideal) .f32 0x3F800000#32))
          (Idealize.ShloMosaic.exp (subf (broadcast S32x128 (Scalar.ofBits (F := Ideal) .f32 0x00000000#32)) g)))))) bitsLt_bf16_f32

end Col

section Chunk
variable {F k v q : ℕ → ℕ → ℝ} {o : ℕ} {Q B K V : FVec Ideal S32x128 .f32} {st : Vec Ideal S1x128x128 .f32}

/-- The rows of a chunk are the head's rows. -/
theorem isR_oW (hf : ∀ n c, 0 < F n c) (hQ : IsR Q (sh o 0 q)) (hB : IsR B (fun r c => L F o (r + 1) c)) (hK : IsR K (sh o 0 k)) (hV : IsR V (sh o 0 v))
    (hS : IsR3 st (fun e d => S F k v o d e)) : IsR (oW Q B K V st) (fun t e => O F k v q (o + t) e) := by
  refine (IsR.add (IsR.nn (IsR.trunc (isR_AW hQ hB hK) _) (IsR.trunc hV _) none)
    (IsR.nt (IsR.trunc (IsR.mul hQ (IsR.exp hB)) _) (IsR.trunc (IsR3.cast (φ := .f32) hS shapeCasts_S1x128x128_S128x128) _) none)).congr fun t e ht he => ?_
  rw [O_chunk F k v q hf o 32 t e ht]
  simp only [sh, aE, Nat.zero_add]

/-- The state after a chunk. -/
theorem isR3_stW (hf : ∀ n c, 0 < F n c) (hB : IsR B (fun r c => L F o (r + 1) c)) (hK : IsR K (sh o 0 k)) (hV : IsR V (sh o 0 v))
    (hS : IsR3 st (fun e d => S F k v o d e)) : IsR3 (stW B K V st) (fun e d => S F k v (o + 32) d e) := by
  refine IsR.cast3 ((IsR.add (IsR.mul (IsR3.cast (φ := .f32) hS shapeCasts_S1x128x128_S128x128)
      (IsR.bcast (IsR.exp (IsR.slice (φ := .f32) hB 31 0 slices_S32x128_o31_0_S1x128)) _))
    (IsR.nn (IsR.trunc (IsR.transpose (φ := .f32) hV _) _) (IsR.trunc (IsR.mul hK (IsR.exp (IsR.sub (IsR.bcast (φ := .f32) (IsR.slice (φ := .f32) hB 31 0 slices_S32x128_o31_0_S1x128) _) hB))) _)
      none)).congr fun e d he hd => ?_) _
  rw [S_chunk F k v hf o 32 d e]
  simp only [sh, Nat.zero_add, Nat.add_zero]
  congr 1
  · exact mul_comm _ _
  · exact sum_congr rfl fun s _ => mul_comm _ _

end Chunk

end Cert.Hgrn

end
-- ==== Proof.HgTrip.lean ====
module

public import proofs.«01_k».proof.Proof.HgExact

/-! A trip of the loop over a point's chunks of 32 rows: what it stores, head by head. -/

@[expose] public section

set_option maxRecDepth 65536

noncomputable section

namespace Cert.Hgrn

open Idealize.ShloMosaic hiding ix1 ix2 ix3
open Idealize.ShloMosaic.ValueIdx
open Idealize.SL.Sem
open Cert.KernelIdeal Cert.KernelIdeal.Gen
open Finset

/-- A load of a chunk's rows of one head. -/
abbrev rdW (g : Memref sig .tc .vmem S256x512 .f32) (off : Fin 2 → ℕ) (h : ∀ a, off a + S32x128.size a ≤ S256x512.size a)
    (X : BufTy.Contents (Elt Ideal) g.view.ty) : Vec Ideal S32x128 .f32 :=
  View.readAt (Elt Ideal) g.view (Rect.unit (s := S256x512) off S32x128.size h).toLoadRect X

/-- A load of one head's state. -/
abbrev rdS (g : Memref sig .tc .vmem S4x128x128 .f32) (j : ℕ) (h : ∀ a, (![j, 0, 0] : Fin 3 → ℕ) a + S1x128x128.size a ≤ S4x128x128.size a)
    (X : BufTy.Contents (Elt Ideal) g.view.ty) : Vec Ideal S1x128x128 .f32 :=
  View.readAt (Elt Ideal) g.view (Rect.unit (s := S4x128x128) ![j, 0, 0] S1x128x128.size h).toLoadRect X

set_option maxHeartbeats 8000000 in
/-- What a trip stores of the output. -/
theorem trip_9 (𝒱 : Variants) (c : Dev nD) (bd : Option 𝒱.V) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S256x256 .bf16) (harg8 : arg8.IsWhole) (arg9 : Memref sig .tc .vmem S256x512 .bf16) (harg9 : arg9.IsWhole) (arg10 : Memref sig .tc .vmem S4x128x128 .f32) (harg10 : arg10.IsWhole) (arg11 : Memref sig .tc .vmem S256x512 .f32) (harg11 : arg11.IsWhole) (arg12 : Memref sig .tc .vmem S256x512 .f32) (harg12 : arg12.IsWhole) (v52 : Vec Ideal S1x128 .f32) (Y2 : BufTy.Contents (Elt Ideal) arg2.view.ty) (Y4 : BufTy.Contents (Elt Ideal) arg4.view.ty) (Y5 : BufTy.Contents (Elt Ideal) arg5.view.ty) (Y11 : BufTy.Contents (Elt Ideal) arg11.view.ty) (Y12 : BufTy.Contents (Elt Ideal) arg12.view.ty) (k : Fin k0_t1_loop.trips) (f : BufTy.Contents (Elt Ideal) arg9.view.ty) (h : BufTy.Contents (Elt Ideal) arg10.view.ty) :
    (trip_k0_t1 (F := Ideal) 𝒱 c bd i arg2 harg2 arg3 harg3 arg4 harg4 arg5 harg5 arg6 harg6 arg7 harg7 arg8 harg8 arg9 harg9 arg10 harg10 arg11 harg11 arg12 harg12 v52 w65 w66 Y2 Y4 Y5 Y11 Y12 k).1 f h = ([⟨Rect.unit (k0_off4 k) S32x128.size (k0_off4_inb k), finW (oW (gateW (rdW arg2 (k0_off4 k) (k0_off4_inb k) Y2)) (rdW arg11 (k0_off4 k) (k0_off4_inb k) Y11) (rdW arg12 (k0_off4 k) (k0_off4_inb k) Y12) (rdW arg4 (k0_off4 k) (k0_off4_inb k) Y4) (rdS arg10 3 inb_S4x128x128_S1x128x128_3_0_0 h)) v52 (rdW arg5 (k0_off4 k) (k0_off4_inb k) Y5)⟩, ⟨Rect.unit (k0_off3 k) S32x128.size (k0_off3_inb k), finW (oW (gateW (rdW arg2 (k0_off3 k) (k0_off3_inb k) Y2)) (rdW arg11 (k0_off3 k) (k0_off3_inb k) Y11) (rdW arg12 (k0_off3 k) (k0_off3_inb k) Y12) (rdW arg4 (k0_off3 k) (k0_off3_inb k) Y4) (rdS arg10 2 inb_S4x128x128_S1x128x128_2_0_0 h)) v52 (rdW arg5 (k0_off3 k) (k0_off3_inb k) Y5)⟩, ⟨Rect.unit (k0_off2 k) S32x128.size (k0_off2_inb k), finW (oW (gateW (rdW arg2 (k0_off2 k) (k0_off2_inb k) Y2)) (rdW arg11 (k0_off2 k) (k0_off2_inb k) Y11) (rdW arg12 (k0_off2 k) (k0_off2_inb k) Y12) (rdW arg4 (k0_off2 k) (k0_off2_inb k) Y4) (rdS arg10 1 inb_S4x128x128_S1x128x128_1_0_0 h)) v52 (rdW arg5 (k0_off2 k) (k0_off2_inb k) Y5)⟩, ⟨Rect.unit (k0_off1 k) S32x128.size (k0_off1_inb k), finW (oW (gateW (rdW arg2 (k0_off1 k) (k0_off1_inb k) Y2)) (rdW arg11 (k0_off1 k) (k0_off1_inb k) Y11) (rdW arg12 (k0_off1 k) (k0_off1_inb k) Y12) (rdW arg4 (k0_off1 k) (k0_off1_inb k) Y4) (rdS arg10 0 inb_S4x128x128_S1x128x128_0_0_0 h)) v52 (rdW arg5 (k0_off1 k) (k0_off1_inb k) Y5)⟩] : List (View.Piece (Elt Ideal) S256x512 .bf16)) := by
  unfold trip_k0_t1; rfl

set_option maxHeartbeats 8000000 in
/-- What a trip stores of the state. -/
theorem trip_10 (𝒱 : Variants) (c : Dev nD) (bd : Option 𝒱.V) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S256x256 .bf16) (harg8 : arg8.IsWhole) (arg9 : Memref sig .tc .vmem S256x512 .bf16) (harg9 : arg9.IsWhole) (arg10 : Memref sig .tc .vmem S4x128x128 .f32) (harg10 : arg10.IsWhole) (arg11 : Memref sig .tc .vmem S256x512 .f32) (harg11 : arg11.IsWhole) (arg12 : Memref sig .tc .vmem S256x512 .f32) (harg12 : arg12.IsWhole) (v52 : Vec Ideal S1x128 .f32) (Y2 : BufTy.Contents (Elt Ideal) arg2.view.ty) (Y4 : BufTy.Contents (Elt Ideal) arg4.view.ty) (Y5 : BufTy.Contents (Elt Ideal) arg5.view.ty) (Y11 : BufTy.Contents (Elt Ideal) arg11.view.ty) (Y12 : BufTy.Contents (Elt Ideal) arg12.view.ty) (k : Fin k0_t1_loop.trips) (f : BufTy.Contents (Elt Ideal) arg9.view.ty) (h : BufTy.Contents (Elt Ideal) arg10.view.ty) :
    (trip_k0_t1 (F := Ideal) 𝒱 c bd i arg2 harg2 arg3 harg3 arg4 harg4 arg5 harg5 arg6 harg6 arg7 harg7 arg8 harg8 arg9 harg9 arg10 harg10 arg11 harg11 arg12 harg12 v52 w65 w66 Y2 Y4 Y5 Y11 Y12 k).2.1 f h = ([⟨Rect.unit ![3, 0, 0] S1x128x128.size inb_S4x128x128_S1x128x128_3_0_0, stW (rdW arg11 (k0_off4 k) (k0_off4_inb k) Y11) (rdW arg12 (k0_off4 k) (k0_off4_inb k) Y12) (rdW arg4 (k0_off4 k) (k0_off4_inb k) Y4) (rdS arg10 3 inb_S4x128x128_S1x128x128_3_0_0 h)⟩, ⟨Rect.unit ![2, 0, 0] S1x128x128.size inb_S4x128x128_S1x128x128_2_0_0, stW (rdW arg11 (k0_off3 k) (k0_off3_inb k) Y11) (rdW arg12 (k0_off3 k) (k0_off3_inb k) Y12) (rdW arg4 (k0_off3 k) (k0_off3_inb k) Y4) (rdS arg10 2 inb_S4x128x128_S1x128x128_2_0_0 h)⟩, ⟨Rect.unit ![1, 0, 0] S1x128x128.size inb_S4x128x128_S1x128x128_1_0_0, stW (rdW arg11 (k0_off2 k) (k0_off2_inb k) Y11) (rdW arg12 (k0_off2 k) (k0_off2_inb k) Y12) (rdW arg4 (k0_off2 k) (k0_off2_inb k) Y4) (rdS arg10 1 inb_S4x128x128_S1x128x128_1_0_0 h)⟩, ⟨Rect.unit ![0, 0, 0] S1x128x128.size inb_S4x128x128_S1x128x128_0_0_0, stW (rdW arg11 (k0_off1 k) (k0_off1_inb k) Y11) (rdW arg12 (k0_off1 k) (k0_off1_inb k) Y12) (rdW arg4 (k0_off1 k) (k0_off1_inb k) Y4) (rdS arg10 0 inb_S4x128x128_S1x128x128_0_0_0 h)⟩] : List (View.Piece (Elt Ideal) S4x128x128 .f32)) := by
  unfold trip_k0_t1; rfl

end Cert.Hgrn

end
-- ==== Proof.HgLoop.lean ====
module

public import proofs.«01_k».proof.Proof.HgTrip
public import proofs.«01_k».proof.Proof.HgCov

/-! The loop over a point's chunks of 32 rows: by induction on the trips, the rows given out and the state. -/

@[expose] public section

set_option maxRecDepth 65536

noncomputable section

namespace Cert.Hgrn

open Idealize.ShloMosaic hiding ix1 ix2 ix3
open Idealize.ShloMosaic.ValueIdx Idealize.ShloMosaic.Tactic
open Idealize.SL.Sem
open Cert.KernelIdeal Cert.KernelIdeal.Gen
open Finset

/-- A chunk's rows of one head, loaded. -/
theorem isR_rdW {g : Memref sig .tc .vmem S256x512 .f32} {X : BufTy.Contents (Elt Ideal) g.view.ty} {x : ℕ → ℕ → ℝ} (hX : IsR (g.view.read (Elt Ideal) X) x)
    (off : Fin 2 → ℕ) (h : ∀ a, off a + S32x128.size a ≤ S256x512.size a) (o p : ℕ) (e : off = ![o, p]) : IsR (rdW g off h X) (sh o p x) := by
  subst e
  show IsR (View.ld (g.view.read (Elt Ideal) X) (Rect.unit (s := S256x512) ![o, p] S32x128.size h)) _
  rw [View.ld_unit]
  exact IsR.slice (φ := .f32) hX o p _

/-- One head's state, loaded. -/
theorem isR3_rdS {g : Memref sig .tc .vmem S4x128x128 .f32} {X : BufTy.Contents (Elt Ideal) g.view.ty} {x : ℕ → ℕ → ℝ} (j : ℕ)
    (h : ∀ a, (![j, 0, 0] : Fin 3 → ℕ) a + S1x128x128.size a ≤ S4x128x128.size a) (hj : j < 4)
    (hX : ∀ e d : Fin 128, g.view.read (Elt Ideal) X (ix3 (⟨j, hj⟩ : Fin 4) e d) = ((x e.val d.val : ℝ) : EReal)) : IsR3 (rdS g j h X) x := by
  intro e d
  show View.ld (g.view.read (Elt Ideal) X) (Rect.unit (s := S4x128x128) ![j, 0, 0] S1x128x128.size h) _ = _
  rw [View.ld_unit]
  refine (extractStridedSlice_apply (s := S4x128x128) (t := S1x128x128) _ _ _ _ (ix3 (⟨j, hj⟩ : Fin 4) e d) ?_).trans (hX e d)
  intro a; match a with
    | ⟨0, _⟩ => rfl
    | ⟨1, _⟩ => exact (Nat.zero_add _).symm
    | ⟨2, _⟩ => exact (Nat.zero_add _).symm

/-- What the loop reads: the query's rows, the values, the sums of logarithms, the keys. -/
structure LIn (T : ℕ) (arg2 arg4 arg11 arg12 : Memref sig .tc .vmem S256x512 .f32) (Y2 : BufTy.Contents (Elt Ideal) arg2.view.ty)
    (Y4 : BufTy.Contents (Elt Ideal) arg4.view.ty) (Y11 : BufTy.Contents (Elt Ideal) arg11.view.ty) (Y12 : BufTy.Contents (Elt Ideal) arg12.view.ty)
    (F k v x : ℕ → ℕ → ℝ) : Prop where
  hf : ∀ n c, 0 < F n c
  h2 : IsR (arg2.view.read (Elt Ideal) Y2) (sh (256 * T) 0 x)
  h4 : IsR (arg4.view.read (Elt Ideal) Y4) (sh (256 * T) 0 v)
  h11 : IsR (arg11.view.read (Elt Ideal) Y11) (sh (256 * T) 0 (b32 F))
  h12 : IsR (arg12.view.read (Elt Ideal) Y12) (sh (256 * T) 0 k)

section Chunk
variable {T : ℕ} {arg2 arg4 arg11 arg12 : Memref sig .tc .vmem S256x512 .f32} {Y2 : BufTy.Contents (Elt Ideal) arg2.view.ty}
    {Y4 : BufTy.Contents (Elt Ideal) arg4.view.ty} {Y11 : BufTy.Contents (Elt Ideal) arg11.view.ty} {Y12 : BufTy.Contents (Elt Ideal) arg12.view.ty}
    {F k v x : ℕ → ℕ → ℝ} {arg10 : Memref sig .tc .vmem S4x128x128 .f32} {h10 : BufTy.Contents (Elt Ideal) arg10.view.ty}

/-- The state held before chunk `i` of the point. -/
def StIn (T i : ℕ) (F k v : ℕ → ℕ → ℝ) (X : S4x128x128.Idx → EReal) : Prop :=
  ∀ (j : Fin 4) (e d : Fin 128), X (ix3 j e d)
    = ((S (hd (128 * j.val) F) (hd (128 * j.val) k) (hd (128 * j.val) v) (256 * T + 32 * i) d.val e.val : ℝ) : EReal)

/-- A block of rows and columns, read as rows of one head. -/
theorem sh_hd (T i j : ℕ) (y : ℕ → ℕ → ℝ) : sh (32 * i) (128 * j) (sh (256 * T) 0 y) = sh (256 * T + 32 * i) 0 (hd (128 * j) y) := by
  funext r c
  show y (256 * T + (32 * i + r)) (0 + (128 * j + c)) = y (256 * T + 32 * i + r) (128 * j + (0 + c))
  rw [Nat.add_assoc, Nat.zero_add, Nat.zero_add]

variable (H : LIn T arg2 arg4 arg11 arg12 Y2 Y4 Y11 Y12 F k v x) (i j : ℕ) (hj : j < 4)
    (hS : StIn T i F k v (arg10.view.read (Elt Ideal) h10))
    (off : Fin 2 → ℕ) (h : ∀ a, off a + S32x128.size a ≤ S256x512.size a) (e : off = ![32 * i, 128 * j])
    (hs : ∀ a, (![j, 0, 0] : Fin 3 → ℕ) a + S1x128x128.size a ≤ S4x128x128.size a)
include H e

/-- The summed logarithms of a trip's head, -/
theorem isR_b : IsR (rdW arg11 off h Y11) (fun r c => L (hd (128 * j) F) (256 * T + 32 * i) (r + 1) c) :=
  (isR_rdW H.h11 off h _ _ e).congr fun r c hr hc => by
    rw [sh_hd]
    show b32 F (256 * T + 32 * i + r) (128 * j + (0 + c)) = _
    rw [b32_at F _ _ _ (by omega) hr, Nat.zero_add]
    rfl
/-- its keys, -/
theorem isR_k : IsR (rdW arg12 off h Y12) (sh (256 * T + 32 * i) 0 (hd (128 * j) k)) := by
  rw [← sh_hd]; exact isR_rdW H.h12 off h _ _ e
/-- its values, -/
theorem isR_v : IsR (rdW arg4 off h Y4) (sh (256 * T + 32 * i) 0 (hd (128 * j) v)) := by
  rw [← sh_hd]; exact isR_rdW H.h4 off h _ _ e
/-- its gated queries, -/
theorem isR_q : IsR (gateW (rdW arg2 off h Y2)) (sh (256 * T + 32 * i) 0 (hd (128 * j) (QR x))) := by
  have := isR_gate (isR_rdW H.h2 off h _ _ e)
  rw [sh_hd] at this
  exact this

include hj hS
/-- and what it gives out. -/
theorem isR_row : IsR (oW (gateW (rdW arg2 off h Y2)) (rdW arg11 off h Y11) (rdW arg12 off h Y12) (rdW arg4 off h Y4) (rdS arg10 j hs h10))
    (fun t c => O (hd (128 * j) F) (hd (128 * j) k) (hd (128 * j) v) (hd (128 * j) (QR x)) (256 * T + 32 * i + t) c) :=
  isR_oW (fun n c => H.hf n _) (isR_q H i j off h e) (isR_b H i j off h e) (isR_k H i j off h e) (isR_v H i j off h e)
    (isR3_rdS j hs hj fun e d => hS ⟨j, hj⟩ e d)

/-- A head's state after the chunk. -/
theorem isR3_new : IsR3 (stW (rdW arg11 off h Y11) (rdW arg12 off h Y12) (rdW arg4 off h Y4) (rdS arg10 j hs h10))
    (fun e d => S (hd (128 * j) F) (hd (128 * j) k) (hd (128 * j) v) (256 * T + 32 * i + 32) d e) :=
  isR3_stW (fun n c => H.hf n _) (isR_b H i j off h e) (isR_k H i j off h e) (isR_v H i j off h e)
    (isR3_rdS j hs hj fun e d => hS ⟨j, hj⟩ e d)

/-- A head's rows of the chunk are a piece of the block given out. -/
theorem chunk_piece {g5 : Memref sig .tc .vmem S256x512 .f32} (h5 : g5.IsWhole) (x3 : Vec Ideal S256x512 .f32)
    {g7 : Memref sig .tc .vmem S1x128 .f32} (h7 : g7.IsWhole) (x5 : Vec Ideal S1x128 .f32) (y : S32x128.Idx) :
    finW (oW (gateW (rdW arg2 off h Y2)) (rdW arg11 off h Y11) (rdW arg12 off h Y12) (rdW arg4 off h Y4) (rdS arg10 j hs h10))
        (View.readAt (Elt Ideal) g7.view (Rect.unit ![0, 0] S1x128.size inb_S1x128_S1x128_0_0).toLoadRect (h7.unread x5)) (rdW g5 off h (h5.unread x3)) y
      = G9 T F k v (QR x) x3 x5 ((Rect.unit (s := S256x512) off S32x128.size h).emb y) := by
  have ho := isR_row H i j hj hS off h e hs
  subst e
  exact fin_piece (T := T) (32 * i) (128 * j) j rfl ho (fun t c _ _ => by rw [Nat.add_assoc]) h5 x3 h7 x5 h _ _ _ _ _ y

end Chunk

/-- Four heads' matrices, last first. -/
abbrev L4 (w3 w2 w1 w0 : S1x128x128.Idx → EReal) : List (View.Piece (Elt Ideal) S4x128x128 .f32) :=
  [⟨Rect.unit (s := S4x128x128) ![3, 0, 0] S1x128x128.size inb_S4x128x128_S1x128x128_3_0_0, w3⟩, ⟨Rect.unit (s := S4x128x128) ![2, 0, 0] S1x128x128.size inb_S4x128x128_S1x128x128_2_0_0, w2⟩, ⟨Rect.unit (s := S4x128x128) ![1, 0, 0] S1x128x128.size inb_S4x128x128_S1x128x128_1_0_0, w1⟩, ⟨Rect.unit (s := S4x128x128) ![0, 0, 0] S1x128x128.size inb_S4x128x128_S1x128x128_0_0_0, w0⟩]

/-- They cover the state. -/
theorem cov4 (w3 w2 w1 w0 : S1x128x128.Idx → EReal) (y : S4x128x128.Idx) : ∃ p ∈ L4 w3 w2 w1 w0, y ∈ p.1.set :=
  View.cover_of_tiledL (L4 w3 w2 w1 w0) S1x128x128.size (by sl_kernel_rfl) y

set_option maxHeartbeats 4000000 in
/-- The rows a trip gives out. -/
theorem trip_pieces9 (𝒱 : Variants) (c : Dev nD) (bd : Option 𝒱.V) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S256x256 .bf16) (harg8 : arg8.IsWhole) (arg9 : Memref sig .tc .vmem S256x512 .bf16) (harg9 : arg9.IsWhole) (arg10 : Memref sig .tc .vmem S4x128x128 .f32) (harg10 : arg10.IsWhole) (arg11 : Memref sig .tc .vmem S256x512 .f32) (harg11 : arg11.IsWhole) (arg12 : Memref sig .tc .vmem S256x512 .f32) (harg12 : arg12.IsWhole) (x3 : Vec Ideal S256x512 .f32) (x5 : Vec Ideal S1x128 .f32)
    {T : ℕ} {F k v x : ℕ → ℕ → ℝ} (Y2 : BufTy.Contents (Elt Ideal) arg2.view.ty) (Y4 : BufTy.Contents (Elt Ideal) arg4.view.ty) (Y11 : BufTy.Contents (Elt Ideal) arg11.view.ty) (Y12 : BufTy.Contents (Elt Ideal) arg12.view.ty)
    (H : LIn T arg2 arg4 arg11 arg12 Y2 Y4 Y11 Y12 F k v x) (n : Fin k0_t1_loop.trips) (f : BufTy.Contents (Elt Ideal) arg9.view.ty) (h : BufTy.Contents (Elt Ideal) arg10.view.ty)
    (hS : StIn T n.val F k v (arg10.view.read (Elt Ideal) h)) :
    View.PiecesOf (G9 T F k v (QR x) x3 x5) ((trip_k0_t1 (F := Ideal) 𝒱 c bd i arg2 harg2 arg3 harg3 arg4 harg4 arg5 harg5 arg6 harg6 arg7 harg7 arg8 harg8 arg9 harg9 arg10 harg10 arg11 harg11 arg12 harg12 (View.readAt (Elt Ideal) arg7.view (Rect.unit ![0, 0] S1x128.size inb_S1x128_S1x128_0_0).toLoadRect (harg7.unread x5)) w65 w66 Y2 Y4 (harg5.unread x3) Y11 Y12 n).1 f h) := by
  rw [trip_9]
  exact ⟨chunk_piece H n.val 3 (show 3 < 4 by decide) hS (k0_off4 n) (k0_off4_inb n) (k0_off4_eq n) inb_S4x128x128_S1x128x128_3_0_0 harg5 x3 harg7 x5, chunk_piece H n.val 2 (show 2 < 4 by decide) hS (k0_off3 n) (k0_off3_inb n) (k0_off3_eq n) inb_S4x128x128_S1x128x128_2_0_0 harg5 x3 harg7 x5, chunk_piece H n.val 1 (show 1 < 4 by decide) hS (k0_off2 n) (k0_off2_inb n) (k0_off2_eq n) inb_S4x128x128_S1x128x128_1_0_0 harg5 x3 harg7 x5, chunk_piece H n.val 0 (show 0 < 4 by decide) hS (k0_off1 n) (k0_off1_inb n) (k0_off1_eq n) inb_S4x128x128_S1x128x128_0_0_0 harg5 x3 harg7 x5, trivial⟩

/-- A state of real numbers, as an array. -/
def G10i (T i : ℕ) (F k v : ℕ → ℕ → ℝ) : S4x128x128.Idx → EReal := fun y =>
  ((S (hd (128 * (y 0).val) F) (hd (128 * (y 0).val) k) (hd (128 * (y 0).val) v) (256 * T + 32 * i) (y 2).val (y 1).val : ℝ) : EReal)

/-- One head's matrix is a piece of the state. -/
theorem G10i_piece {T i : ℕ} {F k v : ℕ → ℕ → ℝ} (j : ℕ) (inb : ∀ a, (![j, 0, 0] : Fin 3 → ℕ) a + S1x128x128.size a ≤ S4x128x128.size a) {W : S1x128x128.Idx → EReal}
    (hW : IsR3 W (fun e d => S (hd (128 * j) F) (hd (128 * j) k) (hd (128 * j) v) (256 * T + 32 * i + 32) d e)) (y : S1x128x128.Idx) :
    W y = G10i T (i + 1) F k v ((Rect.unit (s := S4x128x128) ![j, 0, 0] S1x128x128.size inb).emb y) := by
  obtain ⟨a, e, d, rfl⟩ : ∃ (a : Fin 1) (e d : Fin 128), y = ix3 a e d := ⟨y 0, y 1, y 2, ValueIdx.eq_ix3 y⟩
  obtain rfl := Subsingleton.elim 0 a
  rw [hW]
  have e0 : ((Rect.unit (s := S4x128x128) ![j, 0, 0] S1x128x128.size inb).emb (ix3 0 e d) 0).val = j := by
    show j + 1 * 0 = _; omega
  have e1 : ((Rect.unit (s := S4x128x128) ![j, 0, 0] S1x128x128.size inb).emb (ix3 0 e d) 1).val = e.val := by
    show 0 + 1 * e.val = _; omega
  have e2 : ((Rect.unit (s := S4x128x128) ![j, 0, 0] S1x128x128.size inb).emb (ix3 0 e d) 2).val = d.val := by
    show 0 + 1 * d.val = _; omega
  unfold G10i
  rw [e0, e1, e2]
  rfl

set_option maxHeartbeats 4000000 in
/-- The state a trip leaves. -/
theorem trip_pieces10 (𝒱 : Variants) (c : Dev nD) (bd : Option 𝒱.V) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S256x256 .bf16) (harg8 : arg8.IsWhole) (arg9 : Memref sig .tc .vmem S256x512 .bf16) (harg9 : arg9.IsWhole) (arg10 : Memref sig .tc .vmem S4x128x128 .f32) (harg10 : arg10.IsWhole) (arg11 : Memref sig .tc .vmem S256x512 .f32) (harg11 : arg11.IsWhole) (arg12 : Memref sig .tc .vmem S256x512 .f32) (harg12 : arg12.IsWhole) (x3 : Vec Ideal S256x512 .f32) (x5 : Vec Ideal S1x128 .f32)
    {T : ℕ} {F k v x : ℕ → ℕ → ℝ} (Y2 : BufTy.Contents (Elt Ideal) arg2.view.ty) (Y4 : BufTy.Contents (Elt Ideal) arg4.view.ty) (Y11 : BufTy.Contents (Elt Ideal) arg11.view.ty) (Y12 : BufTy.Contents (Elt Ideal) arg12.view.ty)
    (H : LIn T arg2 arg4 arg11 arg12 Y2 Y4 Y11 Y12 F k v x) (n : Fin k0_t1_loop.trips) (f : BufTy.Contents (Elt Ideal) arg9.view.ty) (h : BufTy.Contents (Elt Ideal) arg10.view.ty)
    (hS : StIn T n.val F k v (arg10.view.read (Elt Ideal) h)) :
    View.PiecesOf (G10i T (n.val + 1) F k v) ((trip_k0_t1 (F := Ideal) 𝒱 c bd i arg2 harg2 arg3 harg3 arg4 harg4 arg5 harg5 arg6 harg6 arg7 harg7 arg8 harg8 arg9 harg9 arg10 harg10 arg11 harg11 arg12 harg12 (View.readAt (Elt Ideal) arg7.view (Rect.unit ![0, 0] S1x128.size inb_S1x128_S1x128_0_0).toLoadRect (harg7.unread x5)) w65 w66 Y2 Y4 (harg5.unread x3) Y11 Y12 n).2.1 f h) := by
  rw [trip_10]
  exact ⟨G10i_piece 3 inb_S4x128x128_S1x128x128_3_0_0 (isR3_new H n.val 3 (show 3 < 4 by decide) hS (k0_off4 n) (k0_off4_inb n) (k0_off4_eq n) inb_S4x128x128_S1x128x128_3_0_0), G10i_piece 2 inb_S4x128x128_S1x128x128_2_0_0 (isR3_new H n.val 2 (show 2 < 4 by decide) hS (k0_off3 n) (k0_off3_inb n) (k0_off3_eq n) inb_S4x128x128_S1x128x128_2_0_0), G10i_piece 1 inb_S4x128x128_S1x128x128_1_0_0 (isR3_new H n.val 1 (show 1 < 4 by decide) hS (k0_off2 n) (k0_off2_inb n) (k0_off2_eq n) inb_S4x128x128_S1x128x128_1_0_0), G10i_piece 0 inb_S4x128x128_S1x128x128_0_0_0 (isR3_new H n.val 0 (show 0 < 4 by decide) hS (k0_off1 n) (k0_off1_inb n) (k0_off1_eq n) inb_S4x128x128_S1x128x128_0_0_0), trivial⟩

set_option maxHeartbeats 4000000 in
/-- A trip's matrices cover the state. -/
theorem trip_cov10 (𝒱 : Variants) (c : Dev nD) (bd : Option 𝒱.V) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S256x256 .bf16) (harg8 : arg8.IsWhole) (arg9 : Memref sig .tc .vmem S256x512 .bf16) (harg9 : arg9.IsWhole) (arg10 : Memref sig .tc .vmem S4x128x128 .f32) (harg10 : arg10.IsWhole) (arg11 : Memref sig .tc .vmem S256x512 .f32) (harg11 : arg11.IsWhole) (arg12 : Memref sig .tc .vmem S256x512 .f32) (harg12 : arg12.IsWhole) (x3 : Vec Ideal S256x512 .f32) (x5 : Vec Ideal S1x128 .f32)
    {T : ℕ} {F k v x : ℕ → ℕ → ℝ} (Y2 : BufTy.Contents (Elt Ideal) arg2.view.ty) (Y4 : BufTy.Contents (Elt Ideal) arg4.view.ty) (Y11 : BufTy.Contents (Elt Ideal) arg11.view.ty) (Y12 : BufTy.Contents (Elt Ideal) arg12.view.ty)
    (H : LIn T arg2 arg4 arg11 arg12 Y2 Y4 Y11 Y12 F k v x) (n : Fin k0_t1_loop.trips) (f : BufTy.Contents (Elt Ideal) arg9.view.ty) (h : BufTy.Contents (Elt Ideal) arg10.view.ty) (y : S4x128x128.Idx) :
    ∃ p ∈ (trip_k0_t1 (F := Ideal) 𝒱 c bd i arg2 harg2 arg3 harg3 arg4 harg4 arg5 harg5 arg6 harg6 arg7 harg7 arg8 harg8 arg9 harg9 arg10 harg10 arg11 harg11 arg12 harg12 (View.readAt (Elt Ideal) arg7.view (Rect.unit ![0, 0] S1x128.size inb_S1x128_S1x128_0_0).toLoadRect (harg7.unread x5)) w65 w66 Y2 Y4 (harg5.unread x3) Y11 Y12 n).2.1 f h, y ∈ p.1.set := by
  rw [trip_10]
  exact cov4 _ _ _ _ y

/-- Pieces of one function, put together. -/
theorem PiecesOf_append {s : Shape} {e : EltTy} (G : s.Idx → Elt Ideal e) : ∀ (L L' : List (View.Piece (Elt Ideal) s e)), View.PiecesOf G L → View.PiecesOf G L' → View.PiecesOf G (L ++ L')
  | [], _, _, h' => h'
  | _ :: L, L', h, h' => ⟨h.1, PiecesOf_append G L L' h.2 h'⟩

set_option maxHeartbeats 4000000 in
/-- After the first trips: the rows given out, and the state. -/
theorem loop_ind (𝒱 : Variants) (c : Dev nD) (bd : Option 𝒱.V) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S256x256 .bf16) (harg8 : arg8.IsWhole) (arg9 : Memref sig .tc .vmem S256x512 .bf16) (harg9 : arg9.IsWhole) (arg10 : Memref sig .tc .vmem S4x128x128 .f32) (harg10 : arg10.IsWhole) (arg11 : Memref sig .tc .vmem S256x512 .f32) (harg11 : arg11.IsWhole) (arg12 : Memref sig .tc .vmem S256x512 .f32) (harg12 : arg12.IsWhole) (x3 : Vec Ideal S256x512 .f32) (x5 : Vec Ideal S1x128 .f32)
    {T : ℕ} {F k v x : ℕ → ℕ → ℝ} (Y2 : BufTy.Contents (Elt Ideal) arg2.view.ty) (Y4 : BufTy.Contents (Elt Ideal) arg4.view.ty) (Y11 : BufTy.Contents (Elt Ideal) arg11.view.ty) (Y12 : BufTy.Contents (Elt Ideal) arg12.view.ty)
    (H : LIn T arg2 arg4 arg11 arg12 Y2 Y4 Y11 Y12 F k v x) (f : BufTy.Contents (Elt Ideal) arg9.view.ty) (h : BufTy.Contents (Elt Ideal) arg10.view.ty)
    (hS : StIn T 0 F k v (arg10.view.read (Elt Ideal) h)) (n : ℕ) (hn : n ≤ k0_t1_loop.trips) :
    View.PiecesOf (G9 T F k v (QR x) x3 x5) (pb_k0_t1 (F := Ideal) 𝒱 c bd i arg2 harg2 arg3 harg3 arg4 harg4 arg5 harg5 arg6 harg6 arg7 harg7 arg8 harg8 arg9 harg9 arg10 harg10 arg11 harg11 arg12 harg12 (View.readAt (Elt Ideal) arg7.view (Rect.unit ![0, 0] S1x128.size inb_S1x128_S1x128_0_0).toLoadRect (harg7.unread x5)) w65 w66 Y2 Y4 (harg5.unread x3) Y11 Y12 f h n).1
      ∧ StIn T n F k v (arg10.view.read (Elt Ideal) (arg10.view.writes (Elt Ideal) h (pb_k0_t1 (F := Ideal) 𝒱 c bd i arg2 harg2 arg3 harg3 arg4 harg4 arg5 harg5 arg6 harg6 arg7 harg7 arg8 harg8 arg9 harg9 arg10 harg10 arg11 harg11 arg12 harg12 (View.readAt (Elt Ideal) arg7.view (Rect.unit ![0, 0] S1x128.size inb_S1x128_S1x128_0_0).toLoadRect (harg7.unread x5)) w65 w66 Y2 Y4 (harg5.unread x3) Y11 Y12 f h n).2))
      ∧ (0 < n → ∀ (R : List (View.Piece (Elt Ideal) S4x128x128 .f32)) (y : S4x128x128.Idx), View.canon ((pb_k0_t1 (F := Ideal) 𝒱 c bd i arg2 harg2 arg3 harg3 arg4 harg4 arg5 harg5 arg6 harg6 arg7 harg7 arg8 harg8 arg9 harg9 arg10 harg10 arg11 harg11 arg12 harg12 (View.readAt (Elt Ideal) arg7.view (Rect.unit ![0, 0] S1x128.size inb_S1x128_S1x128_0_0).toLoadRect (harg7.unread x5)) w65 w66 Y2 Y4 (harg5.unread x3) Y11 Y12 f h n).2 ++ R) y = G10i T n F k v y) := by
  induction n with
  | zero => exact ⟨trivial, hS, fun h => absurd h (Nat.lt_irrefl 0)⟩
  | succ n ih =>
    obtain ⟨i9, i10, -⟩ := ih (Nat.le_of_succ_le hn)
    have e := pb_k0_t1_succ 𝒱 c bd i arg2 harg2 arg3 harg3 arg4 harg4 arg5 harg5 arg6 harg6 arg7 harg7 arg8 harg8 arg9 harg9 arg10 harg10 arg11 harg11 arg12 harg12 (View.readAt (Elt Ideal) arg7.view (Rect.unit ![0, 0] S1x128.size inb_S1x128_S1x128_0_0).toLoadRect (harg7.unread x5)) w65 w66 Y2 Y4 (harg5.unread x3) Y11 Y12 f h ⟨n, hn⟩
    have p9 := trip_pieces9 𝒱 c bd i arg2 harg2 arg3 harg3 arg4 harg4 arg5 harg5 arg6 harg6 arg7 harg7 arg8 harg8 arg9 harg9 arg10 harg10 arg11 harg11 arg12 harg12 x3 x5 Y2 Y4 Y11 Y12 H ⟨n, hn⟩ (arg9.view.writes (Elt Ideal) f (pb_k0_t1 (F := Ideal) 𝒱 c bd i arg2 harg2 arg3 harg3 arg4 harg4 arg5 harg5 arg6 harg6 arg7 harg7 arg8 harg8 arg9 harg9 arg10 harg10 arg11 harg11 arg12 harg12 (View.readAt (Elt Ideal) arg7.view (Rect.unit ![0, 0] S1x128.size inb_S1x128_S1x128_0_0).toLoadRect (harg7.unread x5)) w65 w66 Y2 Y4 (harg5.unread x3) Y11 Y12 f h n).1) _ i10
    have p10 := trip_pieces10 𝒱 c bd i arg2 harg2 arg3 harg3 arg4 harg4 arg5 harg5 arg6 harg6 arg7 harg7 arg8 harg8 arg9 harg9 arg10 harg10 arg11 harg11 arg12 harg12 x3 x5 Y2 Y4 Y11 Y12 H ⟨n, hn⟩ (arg9.view.writes (Elt Ideal) f (pb_k0_t1 (F := Ideal) 𝒱 c bd i arg2 harg2 arg3 harg3 arg4 harg4 arg5 harg5 arg6 harg6 arg7 harg7 arg8 harg8 arg9 harg9 arg10 harg10 arg11 harg11 arg12 harg12 (View.readAt (Elt Ideal) arg7.view (Rect.unit ![0, 0] S1x128.size inb_S1x128_S1x128_0_0).toLoadRect (harg7.unread x5)) w65 w66 Y2 Y4 (harg5.unread x3) Y11 Y12 f h n).1) _ i10
    have c10 := trip_cov10 𝒱 c bd i arg2 harg2 arg3 harg3 arg4 harg4 arg5 harg5 arg6 harg6 arg7 harg7 arg8 harg8 arg9 harg9 arg10 harg10 arg11 harg11 arg12 harg12 x3 x5 Y2 Y4 Y11 Y12 H ⟨n, hn⟩ (arg9.view.writes (Elt Ideal) f (pb_k0_t1 (F := Ideal) 𝒱 c bd i arg2 harg2 arg3 harg3 arg4 harg4 arg5 harg5 arg6 harg6 arg7 harg7 arg8 harg8 arg9 harg9 arg10 harg10 arg11 harg11 arg12 harg12 (View.readAt (Elt Ideal) arg7.view (Rect.unit ![0, 0] S1x128.size inb_S1x128_S1x128_0_0).toLoadRect (harg7.unread x5)) w65 w66 Y2 Y4 (harg5.unread x3) Y11 Y12 f h n).1) (arg10.view.writes (Elt Ideal) h (pb_k0_t1 (F := Ideal) 𝒱 c bd i arg2 harg2 arg3 harg3 arg4 harg4 arg5 harg5 arg6 harg6 arg7 harg7 arg8 harg8 arg9 harg9 arg10 harg10 arg11 harg11 arg12 harg12 (View.readAt (Elt Ideal) arg7.view (Rect.unit ![0, 0] S1x128.size inb_S1x128_S1x128_0_0).toLoadRect (harg7.unread x5)) w65 w66 Y2 Y4 (harg5.unread x3) Y11 Y12 f h n).2)
    have e1 := congrArg Prod.fst e
    have e2 := congrArg Prod.snd e
    dsimp only at e1 e2
    refine ⟨?_, ?_, fun _ R y => ?_⟩
    · rw [e1]; exact PiecesOf_append _ _ _ p9 i9
    · rw [e2, View.writes_append]
      intro j e d
      rw [View.read_writes_apply_eq_canon arg10.view _ _ _ (c10 _)]
      exact View.canon_apply_of_pieces (G10i T (n + 1) F k v) _ (View.PiecesOf.mem p10) _ (c10 _)
    · rw [e2, List.append_assoc]
      exact View.canon_append_of_piecesOf (G10i T (n + 1) F k v) _ _ p10 y (c10 y)

end Cert.Hgrn

end
-- ==== Proof.HgAE.lean ====
module

public import proofs.«01_k».proof.Proof.HgNode
public import proofs.«01_k».proof.Proof.HgRunAE

/-! The values of the body's run: the first point, exact form. Each lemma reads one array of the run as reals. -/

@[expose] public section

set_option maxRecDepth 16384

noncomputable section

namespace Cert.Hgrn.AE

open Idealize.ShloMosaic hiding ix1 ix2 ix3
open Idealize.ShloMosaic.ValueIdx
open Cert.KernelIdeal Cert.KernelIdeal.Gen Cert.KernelIdeal.Hgrn
open Finset

variable {c : Dev nD} {T : ℕ} {X0 X1 X2 l : ℕ → ℕ → ℝ}
variable {arg2 : Memref sig .tc .vmem S256x512 .f32} {harg2 : arg2.IsWhole} {arg3 : Memref sig .tc .vmem S256x512 .f32} {harg3 : arg3.IsWhole} {arg4 : Memref sig .tc .vmem S256x512 .f32} {harg4 : arg4.IsWhole} {arg5 : Memref sig .tc .vmem S256x512 .f32} {harg5 : arg5.IsWhole} {arg6 : Memref sig .tc .vmem S2x512 .f32} {harg6 : arg6.IsWhole} {arg7 : Memref sig .tc .vmem S1x128 .f32} {harg7 : arg7.IsWhole} {arg8 : Memref sig .tc .vmem S256x256 .bf16} {harg8 : arg8.IsWhole} {arg10 : Memref sig .tc .vmem S4x128x128 .f32} {harg10 : arg10.IsWhole}
variable {x0 x1 x2 x3 : Vec Ideal S256x512 .f32} {x4 : Vec Ideal S2x512 .f32} {x5 : Vec Ideal S1x128 .f32} {x6 : Vec Ideal S256x256 .bf16} {xs : Vec Ideal S4x128x128 .f32}

/-- The lower bound of the gate. -/
theorem n15 (H : Inp T x0 x1 x2 x4 x6 X0 X1 X2 l) :
    IsR (n := 1) (m := 512) (runAE.sl.v15 (F := Ideal) c arg6 harg6 x4) (fun _ c => lbR l c) := by
  have h4 : IsR (n := 1) (m := 512) (runAE.sl.v4 (F := Ideal) c arg6 harg6 x4) (fun _ c => l 0 c) :=
    (IsR.slice (φ := .f32) (IsR.readAll harg6 H.h4 _) 0 0 _).congr fun r c hr hc => by
      obtain rfl : r = 0 := by omega
      simp only [sh, zero_add, add_zero]
  have h5 : IsR (n := 1) (m := 512) (runAE.sl.v5 (F := Ideal) c arg6 harg6 x4) (fun _ c => l 1 c) :=
    (IsR.slice (φ := .f32) (IsR.readAll harg6 H.h4 _) 1 0 _).congr fun r c hr hc => by
      obtain rfl : r = 0 := by omega
      simp only [sh, zero_add, add_zero]
  have h6 := IsR.max h4 h5
  have h8 := IsR.exp (IsR.sub h4 h6)
  have h10 := IsR.exp (IsR.sub h5 h6)
  have h11 := IsR.add h8 h10
  have h12 := IsR.div h8 h11 fun r c => (add_pos (Real.exp_pos _) (Real.exp_pos _)).ne'
  have h13 := IsR.div h10 h11 fun r c => (add_pos (Real.exp_pos _) (Real.exp_pos _)).ne'
  exact IsR.sub (IsR.add h12 h13) h12

/-- The forget gate. -/
theorem n29 (H : Inp T x0 x1 x2 x4 x6 X0 X1 X2 l) :
    IsR (n := 256) (m := 512) (runAE.sl.v29 (F := Ideal) c arg3 harg3 arg6 harg6 x1 x4) (sh (256 * T) 0 (FR l X1)) :=
  (IsR.add (IsR.bcast (n15 H) _) (IsR.mul (IsR.bcast (IsR.sub IsR.one (n15 H)) _)
    (IsR.sigAll harg3 H.h1 _))).congr fun r c hr hc => by
    simp only [sh, FR, zero_add]

/-- What is written for the key. -/
theorem n31 (H : Inp T x0 x1 x2 x4 x6 X0 X1 X2 l) :
    IsR (n := 256) (m := 512) (runAE.sl.v31 (F := Ideal) c arg3 harg3 arg6 harg6 x1 x4) (sh (256 * T) 0 (KR l X1)) :=
  IsR.sub IsR.one (n29 H)

/-- The logarithm of the gate. -/
theorem n32 (H : Inp T x0 x1 x2 x4 x6 X0 X1 X2 l) :
    IsR (n := 256) (m := 512) (runAE.sl.v32 (F := Ideal) c arg3 harg3 arg6 harg6 x1 x4) (fun r c => Real.log (FR l X1 (256 * T + r) (0 + c))) :=
  IsR.log (n29 H) fun r c => FR_pos _ _ _ _

/-- The triangle of ones. -/
theorem n41 (H : Inp T x0 x1 x2 x4 x6 X0 X1 X2 l) :
    IsR (n := 256) (m := 256) (runAE.sl.v41 (F := Ideal) c arg8 harg8 x6) (fun r c => if c ≤ r ∧ r / 32 = c / 32 then 1 else 0) := by
  show IsR (shapeCast S256x256 _ _) _
  rw [shapeCast_self]
  exact IsR.readAllB harg8 H.h6 _

/-- The logarithms summed from the start of each chunk of 32 rows. -/
theorem nB (H : Inp T x0 x1 x2 x4 x6 X0 X1 X2 l) :
    IsR (n := 256) (m := 512) (k0_pay1 (F := Ideal) (runAE.sl.v36 (F := Ideal) c arg3 harg3 arg6 harg6 x1 x4) (runAE.sl.v39 (F := Ideal) c arg3 harg3 arg6 harg6 x1 x4) (runAE.sl.v41 (F := Ideal) c arg8 harg8 x6) (runAE.sl.v42 (F := Ideal) c arg3 harg3 arg6 harg6 arg8 harg8 x1 x4 x6)) (sh (256 * T) 0 (b32 (FR l X1))) := by
  have h32 := n32 (arg3 := arg3) (harg3 := harg3) (arg6 := arg6) (harg6 := harg6) (c := c) H
  have h41 := n41 (arg8 := arg8) (harg8 := harg8) (c := c) H
  have h36 : IsR (n := 256) (m := 512) (runAE.sl.v36 (F := Ideal) c arg3 harg3 arg6 harg6 x1 x4) (fun _ _ => 0) := (IsR.sub h32 h32).congr fun r c _ _ => sub_self _
  have h39 : IsR (n := 256) (m := 512) (runAE.sl.v39 (F := Ideal) c arg3 harg3 arg6 harg6 x1 x4) (fun _ _ => 0) := (IsR.sub h36 h36).congr fun r c _ _ => sub_self _
  refine IsR.congr (IsR.add (IsR.add (IsR.nn (φ := .bf16) (ψ := .bf16) h41 h32 none) (IsR.nn (φ := .bf16) (ψ := .bf16) h41 h36 none))
    (IsR.nn (φ := .bf16) (ψ := .bf16) h41 h39 none)) fun r c hr hc => ?_
  simp only [mul_zero, sum_const_zero, add_zero]
  exact tri_sum _ _ _ _ hr

end Cert.Hgrn.AE

end
-- ==== Proof.HgBE.lean ====
module

public import proofs.«01_k».proof.Proof.HgNode
public import proofs.«01_k».proof.Proof.HgRunBE

/-! The values of the body's run: a later point, exact form. Each lemma reads one array of the run as reals. -/

@[expose] public section

set_option maxRecDepth 16384

noncomputable section

namespace Cert.Hgrn.BE

open Idealize.ShloMosaic hiding ix1 ix2 ix3
open Idealize.ShloMosaic.ValueIdx
open Cert.KernelIdeal Cert.KernelIdeal.Gen Cert.KernelIdeal.Hgrn
open Finset

variable {c : Dev nD} {T : ℕ} {X0 X1 X2 l : ℕ → ℕ → ℝ}
variable {arg2 : Memref sig .tc .vmem S256x512 .f32} {harg2 : arg2.IsWhole} {arg3 : Memref sig .tc .vmem S256x512 .f32} {harg3 : arg3.IsWhole} {arg4 : Memref sig .tc .vmem S256x512 .f32} {harg4 : arg4.IsWhole} {arg5 : Memref sig .tc .vmem S256x512 .f32} {harg5 : arg5.IsWhole} {arg6 : Memref sig .tc .vmem S2x512 .f32} {harg6 : arg6.IsWhole} {arg7 : Memref sig .tc .vmem S1x128 .f32} {harg7 : arg7.IsWhole} {arg8 : Memref sig .tc .vmem S256x256 .bf16} {harg8 : arg8.IsWhole} {arg10 : Memref sig .tc .vmem S4x128x128 .f32} {harg10 : arg10.IsWhole}
variable {x0 x1 x2 x3 : Vec Ideal S256x512 .f32} {x4 : Vec Ideal S2x512 .f32} {x5 : Vec Ideal S1x128 .f32} {x6 : Vec Ideal S256x256 .bf16} {xs : Vec Ideal S4x128x128 .f32}

/-- The lower bound of the gate. -/
theorem n15 (H : Inp T x0 x1 x2 x4 x6 X0 X1 X2 l) :
    IsR (n := 1) (m := 512) (runBE.sl.v15 (F := Ideal) c arg6 harg6 x4) (fun _ c => lbR l c) := by
  have h4 : IsR (n := 1) (m := 512) (runBE.sl.v4 (F := Ideal) c arg6 harg6 x4) (fun _ c => l 0 c) :=
    (IsR.slice (φ := .f32) (IsR.readAll harg6 H.h4 _) 0 0 _).congr fun r c hr hc => by
      obtain rfl : r = 0 := by omega
      simp only [sh, zero_add, add_zero]
  have h5 : IsR (n := 1) (m := 512) (runBE.sl.v5 (F := Ideal) c arg6 harg6 x4) (fun _ c => l 1 c) :=
    (IsR.slice (φ := .f32) (IsR.readAll harg6 H.h4 _) 1 0 _).congr fun r c hr hc => by
      obtain rfl : r = 0 := by omega
      simp only [sh, zero_add, add_zero]
  have h6 := IsR.max h4 h5
  have h8 := IsR.exp (IsR.sub h4 h6)
  have h10 := IsR.exp (IsR.sub h5 h6)
  have h11 := IsR.add h8 h10
  have h12 := IsR.div h8 h11 fun r c => (add_pos (Real.exp_pos _) (Real.exp_pos _)).ne'
  have h13 := IsR.div h10 h11 fun r c => (add_pos (Real.exp_pos _) (Real.exp_pos _)).ne'
  exact IsR.sub (IsR.add h12 h13) h12

/-- The forget gate. -/
theorem n29 (H : Inp T x0 x1 x2 x4 x6 X0 X1 X2 l) :
    IsR (n := 256) (m := 512) (runBE.sl.v29 (F := Ideal) c arg3 harg3 arg6 harg6 x1 x4) (sh (256 * T) 0 (FR l X1)) :=
  (IsR.add (IsR.bcast (n15 H) _) (IsR.mul (IsR.bcast (IsR.sub IsR.one (n15 H)) _)
    (IsR.sigAll harg3 H.h1 _))).congr fun r c hr hc => by
    simp only [sh, FR, zero_add]

/-- What is written for the key. -/
theorem n31 (H : Inp T x0 x1 x2 x4 x6 X0 X1 X2 l) :
    IsR (n := 256) (m := 512) (runBE.sl.v31 (F := Ideal) c arg3 harg3 arg6 harg6 x1 x4) (sh (256 * T) 0 (KR l X1)) :=
  IsR.sub IsR.one (n29 H)

/-- The logarithm of the gate. -/
theorem n32 (H : Inp T x0 x1 x2 x4 x6 X0 X1 X2 l) :
    IsR (n := 256) (m := 512) (runBE.sl.v32 (F := Ideal) c arg3 harg3 arg6 harg6 x1 x4) (fun r c => Real.log (FR l X1 (256 * T + r) (0 + c))) :=
  IsR.log (n29 H) fun r c => FR_pos _ _ _ _

/-- The triangle of ones. -/
theorem n41 (H : Inp T x0 x1 x2 x4 x6 X0 X1 X2 l) :
    IsR (n := 256) (m := 256) (runBE.sl.v41 (F := Ideal) c arg8 harg8 x6) (fun r c => if c ≤ r ∧ r / 32 = c / 32 then 1 else 0) := by
  show IsR (shapeCast S256x256 _ _) _
  rw [shapeCast_self]
  exact IsR.readAllB harg8 H.h6 _

/-- The logarithms summed from the start of each chunk of 32 rows. -/
theorem nB (H : Inp T x0 x1 x2 x4 x6 X0 X1 X2 l) :
    IsR (n := 256) (m := 512) (k0_pay1 (F := Ideal) (runBE.sl.v36 (F := Ideal) c arg3 harg3 arg6 harg6 x1 x4) (runBE.sl.v39 (F := Ideal) c arg3 harg3 arg6 harg6 x1 x4) (runBE.sl.v41 (F := Ideal) c arg8 harg8 x6) (runBE.sl.v42 (F := Ideal) c arg3 harg3 arg6 harg6 arg8 harg8 x1 x4 x6)) (sh (256 * T) 0 (b32 (FR l X1))) := by
  have h32 := n32 (arg3 := arg3) (harg3 := harg3) (arg6 := arg6) (harg6 := harg6) (c := c) H
  have h41 := n41 (arg8 := arg8) (harg8 := harg8) (c := c) H
  have h36 : IsR (n := 256) (m := 512) (runBE.sl.v36 (F := Ideal) c arg3 harg3 arg6 harg6 x1 x4) (fun _ _ => 0) := (IsR.sub h32 h32).congr fun r c _ _ => sub_self _
  have h39 : IsR (n := 256) (m := 512) (runBE.sl.v39 (F := Ideal) c arg3 harg3 arg6 harg6 x1 x4) (fun _ _ => 0) := (IsR.sub h36 h36).congr fun r c _ _ => sub_self _
  refine IsR.congr (IsR.add (IsR.add (IsR.nn (φ := .bf16) (ψ := .bf16) h41 h32 none) (IsR.nn (φ := .bf16) (ψ := .bf16) h41 h36 none))
    (IsR.nn (φ := .bf16) (ψ := .bf16) h41 h39 none)) fun r c hr hc => ?_
  simp only [mul_zero, sum_const_zero, add_zero]
  exact tri_sum _ _ _ _ hr

end Cert.Hgrn.BE

end
-- ==== Proof.HgOutE.lean ====
module

public import proofs.«01_k».proof.Proof.HgLoop
public import proofs.«01_k».proof.Proof.HgAE
public import proofs.«01_k».proof.Proof.HgBE
public import Idealize.ShloMosaic.Lib.VecWindow

/-! The rows and the state a point leaves when it runs term by term: the loop's, with what it reads. -/

@[expose] public section

set_option maxRecDepth 65536

noncomputable section

open Idealize.ShloMosaic hiding ix1 ix2 ix3
open Idealize.ShloMosaic.ValueIdx Idealize.ShloMosaic.Tactic
open Idealize.SL.Sem
open Cert.KernelIdeal Cert.KernelIdeal.Gen Cert.KernelIdeal.Hgrn
open Finset

namespace Cert.Hgrn.AE

variable {c : Dev nD} {T : ℕ} {X0 X1 X2 l : ℕ → ℕ → ℝ}
variable {x0 x1 x2 x3 : Vec Ideal S256x512 .f32} {x4 : Vec Ideal S2x512 .f32} {x5 : Vec Ideal S1x128 .f32} {x6 : Vec Ideal S256x256 .bf16} {xs : Vec Ideal S4x128x128 .f32}

/-- What the loop reads at this point. -/
theorem lin (H : Inp 0 x0 x1 x2 x4 x6 X0 X1 X2 l) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S256x256 .bf16) (harg8 : arg8.IsWhole) (arg9 : Memref sig .tc .vmem S256x512 .bf16) (harg9 : arg9.IsWhole) (arg10 : Memref sig .tc .vmem S4x128x128 .f32) (harg10 : arg10.IsWhole) (arg11 : Memref sig .tc .vmem S256x512 .f32) (harg11 : arg11.IsWhole) (arg12 : Memref sig .tc .vmem S256x512 .f32) (harg12 : arg12.IsWhole) :
    LIn 0 arg2 arg4 arg11 arg12 (harg2.unread x0) (harg4.unread x2) (arg11.view.writes (Elt Ideal) arg11.view.junk (runAE.sl.H11_1 (F := Ideal) c arg3 harg3 arg6 harg6 arg8 harg8 x1 x4 x6)) (arg12.view.writes (Elt Ideal) arg12.view.junk (runAE.sl.H12_1 (F := Ideal) c arg3 harg3 arg6 harg6 x1 x4)) (FR l X1) (KR l X1) X2 X0 where
  hf n c := FR_pos _ _ _ _
  h2 := by rw [harg2.read_unread]; exact H.h0
  h4 := by rw [harg4.read_unread]; exact H.h2
  h11 := by
    unfold runAE.sl.H11_1
    rw [View.read_writes_full (s := S256x512)]
    show IsR (shapeCast S256x512 _ _) _
    rw [shapeCast_self]
    exact nB H
  h12 := by
    unfold runAE.sl.H12_1
    rw [View.read_writes_full (s := S256x512)]
    show IsR (shapeCast S256x512 _ _) _
    rw [shapeCast_self]
    exact n31 H

/-- The state before the first chunk. -/
theorem st0 (H : Inp 0 x0 x1 x2 x4 x6 X0 X1 X2 l) (arg10 : Memref sig .tc .vmem S4x128x128 .f32) (harg10 : arg10.IsWhole) :
    StIn 0 0 (FR l X1) (KR l X1) X2 (arg10.view.read (Elt Ideal) (arg10.view.writes (Elt Ideal) arg10.view.junk (runAE.sl.H10_1 (F := Ideal)))) := by
  intro j e d
  unfold runAE.sl.H10_1
  refine (congrFun (View.read_writes_full (s := S4x128x128) arg10.view _ _ _ _) _).trans ?_
  exact Ideal.ofBits_zero_f32

set_option maxHeartbeats 4000000 in
/-- The rows given out. -/
theorem out9 (H : Inp 0 x0 x1 x2 x4 x6 X0 X1 X2 l) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S256x256 .bf16) (harg8 : arg8.IsWhole) (arg9 : Memref sig .tc .vmem S256x512 .bf16) (harg9 : arg9.IsWhole) (arg10 : Memref sig .tc .vmem S4x128x128 .f32) (harg10 : arg10.IsWhole) (arg11 : Memref sig .tc .vmem S256x512 .f32) (harg11 : arg11.IsWhole) (arg12 : Memref sig .tc .vmem S256x512 .f32) (harg12 : arg12.IsWhole) (hc0 : cond0_0 i) (hx : cmpw x4 x1 x6 = 1#1) (f9 : BufTy.Contents (Elt Ideal) arg9.view.ty) (y : S256x512.Idx) :
    View.canon ((runAE (F := Ideal) c i arg2 harg2 arg3 harg3 arg4 harg4 arg5 harg5 arg6 harg6 arg7 harg7 arg8 harg8 arg9 harg9 arg10 harg10 arg11 harg11 arg12 harg12 hc0 x0 x1 x2 x3 x4 x5 x6 hx).1 f9) y = G9 0 (FR l X1) (KR l X1) X2 (QR X0) x3 x5 y := by
  have hL := (loop_ind Variants.none c none i arg2 harg2 arg3 harg3 arg4 harg4 arg5 harg5 arg6 harg6 arg7 harg7 arg8 harg8 arg9 harg9 arg10 harg10 arg11 harg11 arg12 harg12 x3 x5 (harg2.unread x0) (harg4.unread x2) (arg11.view.writes (Elt Ideal) arg11.view.junk (runAE.sl.H11_1 (F := Ideal) c arg3 harg3 arg6 harg6 arg8 harg8 x1 x4 x6)) (arg12.view.writes (Elt Ideal) arg12.view.junk (runAE.sl.H12_1 (F := Ideal) c arg3 harg3 arg6 harg6 x1 x4)) (lin H arg2 harg2 arg3 harg3 arg4 harg4 arg5 harg5 arg6 harg6 arg7 harg7 arg8 harg8 arg9 harg9 arg10 harg10 arg11 harg11 arg12 harg12) f9 (arg10.view.writes (Elt Ideal) arg10.view.junk (runAE.sl.H10_1 (F := Ideal))) (st0 H arg10 harg10) (Scf.trips k0_t1_loop.lb k0_t1_loop.ub k0_t1_loop.st) (Nat.le_refl _)).1
  refine View.canon_apply_of_pieces (G9 0 (FR l X1) (KR l X1) X2 (QR X0) x3 x5) _ (View.PiecesOf.mem ?_) y (covAE_9 c i arg2 harg2 arg3 harg3 arg4 harg4 arg5 harg5 arg6 harg6 arg7 harg7 arg8 harg8 arg9 harg9 arg10 harg10 arg11 harg11 arg12 harg12 hc0 x0 x1 x2 x3 x4 x5 x6 hx f9 y)
  unfold runAE; dsimp only
  exact hL

set_option maxHeartbeats 4000000 in
/-- The state left. -/
theorem out10 (H : Inp 0 x0 x1 x2 x4 x6 X0 X1 X2 l) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S256x256 .bf16) (harg8 : arg8.IsWhole) (arg9 : Memref sig .tc .vmem S256x512 .bf16) (harg9 : arg9.IsWhole) (arg10 : Memref sig .tc .vmem S4x128x128 .f32) (harg10 : arg10.IsWhole) (arg11 : Memref sig .tc .vmem S256x512 .f32) (harg11 : arg11.IsWhole) (arg12 : Memref sig .tc .vmem S256x512 .f32) (harg12 : arg12.IsWhole) (hc0 : cond0_0 i) (hx : cmpw x4 x1 x6 = 1#1) (f9 : BufTy.Contents (Elt Ideal) arg9.view.ty) (y : S4x128x128.Idx) :
    View.canon ((runAE (F := Ideal) c i arg2 harg2 arg3 harg3 arg4 harg4 arg5 harg5 arg6 harg6 arg7 harg7 arg8 harg8 arg9 harg9 arg10 harg10 arg11 harg11 arg12 harg12 hc0 x0 x1 x2 x3 x4 x5 x6 hx).2.1 f9) y = G10 0 (FR l X1) (KR l X1) X2 y := by
  have hL := (loop_ind Variants.none c none i arg2 harg2 arg3 harg3 arg4 harg4 arg5 harg5 arg6 harg6 arg7 harg7 arg8 harg8 arg9 harg9 arg10 harg10 arg11 harg11 arg12 harg12 x3 x5 (harg2.unread x0) (harg4.unread x2) (arg11.view.writes (Elt Ideal) arg11.view.junk (runAE.sl.H11_1 (F := Ideal) c arg3 harg3 arg6 harg6 arg8 harg8 x1 x4 x6)) (arg12.view.writes (Elt Ideal) arg12.view.junk (runAE.sl.H12_1 (F := Ideal) c arg3 harg3 arg6 harg6 x1 x4)) (lin H arg2 harg2 arg3 harg3 arg4 harg4 arg5 harg5 arg6 harg6 arg7 harg7 arg8 harg8 arg9 harg9 arg10 harg10 arg11 harg11 arg12 harg12) f9 (arg10.view.writes (Elt Ideal) arg10.view.junk (runAE.sl.H10_1 (F := Ideal))) (st0 H arg10 harg10) (Scf.trips k0_t1_loop.lb k0_t1_loop.ub k0_t1_loop.st) (Nat.le_refl _)).2.2 (by decide) (runAE.sl.H10_1 (F := Ideal)) y

  unfold runAE; dsimp only
  refine hL.trans ?_
  show ((S _ _ _ (256 * 0 + 32 * 8) _ _ : ℝ) : EReal) = ((S _ _ _ (256 * (0 + 1)) _ _ : ℝ) : EReal)
  rw [Nat.mul_add]

end Cert.Hgrn.AE

namespace Cert.Hgrn.BE

variable {c : Dev nD} {T : ℕ} {X0 X1 X2 l : ℕ → ℕ → ℝ}
variable {x0 x1 x2 x3 : Vec Ideal S256x512 .f32} {x4 : Vec Ideal S2x512 .f32} {x5 : Vec Ideal S1x128 .f32} {x6 : Vec Ideal S256x256 .bf16} {xs : Vec Ideal S4x128x128 .f32}

/-- What the loop reads at this point. -/
theorem lin (H : Inp T x0 x1 x2 x4 x6 X0 X1 X2 l) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S256x256 .bf16) (harg8 : arg8.IsWhole) (arg9 : Memref sig .tc .vmem S256x512 .bf16) (harg9 : arg9.IsWhole) (arg10 : Memref sig .tc .vmem S4x128x128 .f32) (harg10 : arg10.IsWhole) (arg11 : Memref sig .tc .vmem S256x512 .f32) (harg11 : arg11.IsWhole) (arg12 : Memref sig .tc .vmem S256x512 .f32) (harg12 : arg12.IsWhole) :
    LIn T arg2 arg4 arg11 arg12 (harg2.unread x0) (harg4.unread x2) (arg11.view.writes (Elt Ideal) arg11.view.junk (runBE.sl.H11_1 (F := Ideal) c arg3 harg3 arg6 harg6 arg8 harg8 x1 x4 x6)) (arg12.view.writes (Elt Ideal) arg12.view.junk (runBE.sl.H12_1 (F := Ideal) c arg3 harg3 arg6 harg6 x1 x4)) (FR l X1) (KR l X1) X2 X0 where
  hf n c := FR_pos _ _ _ _
  h2 := by rw [harg2.read_unread]; exact H.h0
  h4 := by rw [harg4.read_unread]; exact H.h2
  h11 := by
    unfold runBE.sl.H11_1
    rw [View.read_writes_full (s := S256x512)]
    show IsR (shapeCast S256x512 _ _) _
    rw [shapeCast_self]
    exact nB H
  h12 := by
    unfold runBE.sl.H12_1
    rw [View.read_writes_full (s := S256x512)]
    show IsR (shapeCast S256x512 _ _) _
    rw [shapeCast_self]
    exact n31 H

/-- The state before the first chunk. -/
theorem st0 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal)) (arg10 : Memref sig .tc .vmem S4x128x128 .f32) (harg10 : arg10.IsWhole) :
    StIn T 0 (FR l X1) (KR l X1) X2 (arg10.view.read (Elt Ideal) (harg10.unread xs)) := by
  rw [harg10.read_unread]
  intro j e d
  rw [hS, Nat.mul_zero, Nat.add_zero]

set_option maxHeartbeats 4000000 in
/-- The rows given out. -/
theorem out9 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal)) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S256x256 .bf16) (harg8 : arg8.IsWhole) (arg9 : Memref sig .tc .vmem S256x512 .bf16) (harg9 : arg9.IsWhole) (arg10 : Memref sig .tc .vmem S4x128x128 .f32) (harg10 : arg10.IsWhole) (arg11 : Memref sig .tc .vmem S256x512 .f32) (harg11 : arg11.IsWhole) (arg12 : Memref sig .tc .vmem S256x512 .f32) (harg12 : arg12.IsWhole) (hc0 : ¬cond0_0 i) (hx : cmpw x4 x1 x6 = 1#1) (f9 : BufTy.Contents (Elt Ideal) arg9.view.ty) (y : S256x512.Idx) :
    View.canon ((runBE (F := Ideal) c i arg2 harg2 arg3 harg3 arg4 harg4 arg5 harg5 arg6 harg6 arg7 harg7 arg8 harg8 arg9 harg9 arg10 harg10 arg11 harg11 arg12 harg12 hc0 x0 x1 x2 x3 x4 x5 x6 xs hx).1 f9) y = G9 T (FR l X1) (KR l X1) X2 (QR X0) x3 x5 y := by
  have hL := (loop_ind Variants.none c none i arg2 harg2 arg3 harg3 arg4 harg4 arg5 harg5 arg6 harg6 arg7 harg7 arg8 harg8 arg9 harg9 arg10 harg10 arg11 harg11 arg12 harg12 x3 x5 (harg2.unread x0) (harg4.unread x2) (arg11.view.writes (Elt Ideal) arg11.view.junk (runBE.sl.H11_1 (F := Ideal) c arg3 harg3 arg6 harg6 arg8 harg8 x1 x4 x6)) (arg12.view.writes (Elt Ideal) arg12.view.junk (runBE.sl.H12_1 (F := Ideal) c arg3 harg3 arg6 harg6 x1 x4)) (lin H arg2 harg2 arg3 harg3 arg4 harg4 arg5 harg5 arg6 harg6 arg7 harg7 arg8 harg8 arg9 harg9 arg10 harg10 arg11 harg11 arg12 harg12) f9 (harg10.unread xs) (st0 H hS arg10 harg10) (Scf.trips k0_t1_loop.lb k0_t1_loop.ub k0_t1_loop.st) (Nat.le_refl _)).1
  refine View.canon_apply_of_pieces (G9 T (FR l X1) (KR l X1) X2 (QR X0) x3 x5) _ (View.PiecesOf.mem ?_) y (covBE_9 c i arg2 harg2 arg3 harg3 arg4 harg4 arg5 harg5 arg6 harg6 arg7 harg7 arg8 harg8 arg9 harg9 arg10 harg10 arg11 harg11 arg12 harg12 hc0 x0 x1 x2 x3 x4 x5 x6 xs hx f9 y)
  unfold runBE; dsimp only
  exact hL

set_option maxHeartbeats 4000000 in
/-- The state left. -/
theorem out10 (H : Inp T x0 x1 x2 x4 x6 X0 X1 X2 l)
    (hS : ∀ (h : Fin 4) (e d : Fin 128), xs (ix3 h e d) = ((S (hd (128 * h.val) (FR l X1)) (hd (128 * h.val) (KR l X1)) (hd (128 * h.val) X2) (256 * T) d.val e.val : ℝ) : EReal)) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S256x256 .bf16) (harg8 : arg8.IsWhole) (arg9 : Memref sig .tc .vmem S256x512 .bf16) (harg9 : arg9.IsWhole) (arg10 : Memref sig .tc .vmem S4x128x128 .f32) (harg10 : arg10.IsWhole) (arg11 : Memref sig .tc .vmem S256x512 .f32) (harg11 : arg11.IsWhole) (arg12 : Memref sig .tc .vmem S256x512 .f32) (harg12 : arg12.IsWhole) (hc0 : ¬cond0_0 i) (hx : cmpw x4 x1 x6 = 1#1) (f9 : BufTy.Contents (Elt Ideal) arg9.view.ty) (y : S4x128x128.Idx) :
    View.canon ((runBE (F := Ideal) c i arg2 harg2 arg3 harg3 arg4 harg4 arg5 harg5 arg6 harg6 arg7 harg7 arg8 harg8 arg9 harg9 arg10 harg10 arg11 harg11 arg12 harg12 hc0 x0 x1 x2 x3 x4 x5 x6 xs hx).2.1 f9) y = G10 T (FR l X1) (KR l X1) X2 y := by
  have hL := (loop_ind Variants.none c none i arg2 harg2 arg3 harg3 arg4 harg4 arg5 harg5 arg6 harg6 arg7 harg7 arg8 harg8 arg9 harg9 arg10 harg10 arg11 harg11 arg12 harg12 x3 x5 (harg2.unread x0) (harg4.unread x2) (arg11.view.writes (Elt Ideal) arg11.view.junk (runBE.sl.H11_1 (F := Ideal) c arg3 harg3 arg6 harg6 arg8 harg8 x1 x4 x6)) (arg12.view.writes (Elt Ideal) arg12.view.junk (runBE.sl.H12_1 (F := Ideal) c arg3 harg3 arg6 harg6 x1 x4)) (lin H arg2 harg2 arg3 harg3 arg4 harg4 arg5 harg5 arg6 harg6 arg7 harg7 arg8 harg8 arg9 harg9 arg10 harg10 arg11 harg11 arg12 harg12) f9 (harg10.unread xs) (st0 H hS arg10 harg10) (Scf.trips k0_t1_loop.lb k0_t1_loop.ub k0_t1_loop.st) (Nat.le_refl _)).2.2 (by decide) [] y
  rw [List.append_nil] at hL
  unfold runBE; dsimp only
  refine hL.trans ?_
  show ((S _ _ _ (256 * T + 32 * 8) _ _ : ℝ) : EReal) = ((S _ _ _ (256 * (T + 1)) _ _ : ℝ) : EReal)
  rw [Nat.mul_add]

end Cert.Hgrn.BE

end
-- ==== Proof.HgVal.lean ====
module

public import proofs.«01_k».proof.Proof.HgInp
public import proofs.«01_k».proof.Proof.HgFrame
public import proofs.«01_k».proof.Proof.HgBF
public import proofs.«01_k».proof.Proof.HgAF
public import proofs.«01_k».proof.Proof.HgOutE

@[expose] public section

set_option maxRecDepth 16384

/-! What the recurrence's launch leaves in its output. -/

noncomputable section

open Idealize.ShloMosaic hiding ix1 ix2 ix3
open Idealize.ShloMosaic.ValueIdx
open Idealize.ShloMosaic.TcCoe Idealize.ShloMosaic.Tactic Idealize.SL.Sem
open Cert.KernelIdeal Cert.KernelIdeal.Gen Cert.KernelIdeal.Hgrn

namespace Cert.Hgrn.Val

open Cert.Hgrn.In
open Cert.ReferenceIdeal.Hgrn (Args xb seqF seqK seqV seqQ outE)

section
variable {F : FTy → Type} [FloatOps F] [Named F]

/-- Which form a point runs. -/
theorem step_AE (m : (ℓ : Loc nD τ sig) → Buf (Elt F) ℓ) (c : Dev nD) (t : Fin cfg0.N) (xs : Vec F S4x128x128 .f32) (h0 : t.val % 8 = 0)
    (hx : cmpw (iblk m c 4 t) (iblk m c 1 t) (iblk m c 6 t) = 1#1) : step m c t xs = stepAE m c t h0 hx := by
  unfold step; rw [dif_pos h0, dif_pos hx]

/-- Which form a point runs. -/
theorem step_AF (m : (ℓ : Loc nD τ sig) → Buf (Elt F) ℓ) (c : Dev nD) (t : Fin cfg0.N) (xs : Vec F S4x128x128 .f32) (h0 : t.val % 8 = 0)
    (hx : ¬cmpw (iblk m c 4 t) (iblk m c 1 t) (iblk m c 6 t) = 1#1) : step m c t xs = stepAF m c t h0 (bit0 hx) := by
  unfold step; rw [dif_pos h0, dif_neg hx]

/-- Which form a point runs. -/
theorem step_BE (m : (ℓ : Loc nD τ sig) → Buf (Elt F) ℓ) (c : Dev nD) (t : Fin cfg0.N) (xs : Vec F S4x128x128 .f32) (h0 : ¬t.val % 8 = 0)
    (hx : cmpw (iblk m c 4 t) (iblk m c 1 t) (iblk m c 6 t) = 1#1) : step m c t xs = stepBE m c t h0 hx xs := by
  unfold step; rw [dif_neg h0, dif_pos hx]

/-- Which form a point runs. -/
theorem step_BF (m : (ℓ : Loc nD τ sig) → Buf (Elt F) ℓ) (c : Dev nD) (t : Fin cfg0.N) (xs : Vec F S4x128x128 .f32) (h0 : ¬t.val % 8 = 0)
    (hx : ¬cmpw (iblk m c 4 t) (iblk m c 1 t) (iblk m c 6 t) = 1#1) : step m c t xs = stepBF m c t h0 (bit0 hx) xs := by
  unfold step; rw [dif_neg h0, dif_neg hx]

end

variable (m : (ℓ : Loc nD τ sig) → Buf (Elt Ideal) ℓ)

/-- A point that is the first of its sequence, in the product form: the rows given out. -/
theorem stepAF_1 (c : Dev nD) (t : Fin cfg0.N) {X0 X1 X2 l : ℕ → ℕ → ℝ} (hI : Inp 0 (iblk m c 0 t) (iblk m c 1 t) (iblk m c 2 t) (iblk m c 4 t) (iblk m c 6 t) X0 X1 X2 l)
    (h0 : t.val % 8 = 0) (hx : cmpw (iblk m c 4 t) (iblk m c 1 t) (iblk m c 6 t) = 0#1) (y : S256x512.Idx) : (stepAF m c t h0 hx).1 y = G9 0 (FR l X1) (KR l X1) X2 (QR X0) (iblk m c 3 t) (iblk m c 5 t) y := by
  unfold stepAF; dsimp only
  refine (View.read_writes_junk_apply_eq_canon VO y _).trans ?_
  exact AF.out9 hI _ _ _ _ _ _ _ _ _ _ _ _ _ _ _ _ _ _ _ _ _ _ _ ((hcond t).mpr h0) hx y

/-- A point that is the first of its sequence, in the product form: the state left. -/
theorem stepAF_2 (c : Dev nD) (t : Fin cfg0.N) {X0 X1 X2 l : ℕ → ℕ → ℝ} (hI : Inp 0 (iblk m c 0 t) (iblk m c 1 t) (iblk m c 2 t) (iblk m c 4 t) (iblk m c 6 t) X0 X1 X2 l)
    (h0 : t.val % 8 = 0) (hx : cmpw (iblk m c 4 t) (iblk m c 1 t) (iblk m c 6 t) = 0#1) (y : S4x128x128.Idx) : (stepAF m c t h0 hx).2 y = G10 0 (FR l X1) (KR l X1) X2 y := by
  unfold stepAF; dsimp only
  refine (View.read_writes_junk_apply_eq_canon VS y _).trans ?_
  exact AF.out10 hI _ _ _ _ _ _ _ _ _ _ _ _ _ _ _ _ _ _ _ _ _ _ _ ((hcond t).mpr h0) hx y

/-- A point that is the first of its sequence, in the term by term form: the rows given out. -/
theorem stepAE_1 (c : Dev nD) (t : Fin cfg0.N) {X0 X1 X2 l : ℕ → ℕ → ℝ} (hI : Inp 0 (iblk m c 0 t) (iblk m c 1 t) (iblk m c 2 t) (iblk m c 4 t) (iblk m c 6 t) X0 X1 X2 l)
    (h0 : t.val % 8 = 0) (hx : cmpw (iblk m c 4 t) (iblk m c 1 t) (iblk m c 6 t) = 1#1) (y : S256x512.Idx) : (stepAE m c t h0 hx).1 y = G9 0 (FR l X1) (KR l X1) X2 (QR X0) (iblk m c 3 t) (iblk m c 5 t) y := by
  unfold stepAE; dsimp only
  refine (View.read_writes_junk_apply_eq_canon VO y _).trans ?_
  exact AE.out9 hI _ _ _ _ _ _ _ _ _ _ _ _ _ _ _ _ _ _ _ _ _ _ _ ((hcond t).mpr h0) hx _ y

/-- A point that is the first of its sequence, in the term by term form: the state left. -/
theorem stepAE_2 (c : Dev nD) (t : Fin cfg0.N) {X0 X1 X2 l : ℕ → ℕ → ℝ} (hI : Inp 0 (iblk m c 0 t) (iblk m c 1 t) (iblk m c 2 t) (iblk m c 4 t) (iblk m c 6 t) X0 X1 X2 l)
    (h0 : t.val % 8 = 0) (hx : cmpw (iblk m c 4 t) (iblk m c 1 t) (iblk m c 6 t) = 1#1) (y : S4x128x128.Idx) : (stepAE m c t h0 hx).2 y = G10 0 (FR l X1) (KR l X1) X2 y := by
  unfold stepAE; dsimp only
  refine (View.read_writes_junk_apply_eq_canon VS y _).trans ?_
  exact AE.out10 hI _ _ _ _ _ _ _ _ _ _ _ _ _ _ _ _ _ _ _ _ _ _ _ ((hcond t).mpr h0) hx _ y

/-- A point that is not the first of its sequence, in the product form: the rows given out. -/
theorem stepBF_1 (c : Dev nD) (t : Fin cfg0.N) {X0 X1 X2 l : ℕ → ℕ → ℝ} {T : ℕ} (hI : Inp T (iblk m c 0 t) (iblk m c 1 t) (iblk m c 2 t) (iblk m c 4 t) (iblk m c 6 t) X0 X1 X2 l) (xs : Vec Ideal S4x128x128 .f32)
    (hS : ∀ (h : Fin 4) (e d : Fin 128), xs (ix3 h e d) = ((S (hd (128 * h.val) (FR l X1)) (hd (128 * h.val) (KR l X1))
      (hd (128 * h.val) X2) (256 * T) d.val e.val : ℝ) : EReal))
    (h0 : ¬t.val % 8 = 0) (hx : cmpw (iblk m c 4 t) (iblk m c 1 t) (iblk m c 6 t) = 0#1) (y : S256x512.Idx) : (stepBF m c t h0 hx xs).1 y = G9 T (FR l X1) (KR l X1) X2 (QR X0) (iblk m c 3 t) (iblk m c 5 t) y := by
  unfold stepBF; dsimp only
  refine (View.read_writes_junk_apply_eq_canon VO y _).trans ?_
  exact BF.out9 hI hS _ _ _ _ _ _ _ _ _ _ _ _ _ _ _ _ _ _ _ _ _ _ _ (fun h => h0 ((hcond t).mp h)) hx y

/-- A point that is not the first of its sequence, in the product form: the state left. -/
theorem stepBF_2 (c : Dev nD) (t : Fin cfg0.N) {X0 X1 X2 l : ℕ → ℕ → ℝ} {T : ℕ} (hI : Inp T (iblk m c 0 t) (iblk m c 1 t) (iblk m c 2 t) (iblk m c 4 t) (iblk m c 6 t) X0 X1 X2 l) (xs : Vec Ideal S4x128x128 .f32)
    (hS : ∀ (h : Fin 4) (e d : Fin 128), xs (ix3 h e d) = ((S (hd (128 * h.val) (FR l X1)) (hd (128 * h.val) (KR l X1))
      (hd (128 * h.val) X2) (256 * T) d.val e.val : ℝ) : EReal))
    (h0 : ¬t.val % 8 = 0) (hx : cmpw (iblk m c 4 t) (iblk m c 1 t) (iblk m c 6 t) = 0#1) (y : S4x128x128.Idx) : (stepBF m c t h0 hx xs).2 y = G10 T (FR l X1) (KR l X1) X2 y := by
  unfold stepBF; dsimp only
  refine (View.read_writes_junk_apply_eq_canon VS y _).trans ?_
  exact BF.out10 hI hS _ _ _ _ _ _ _ _ _ _ _ _ _ _ _ _ _ _ _ _ _ _ _ (fun h => h0 ((hcond t).mp h)) hx y

/-- A point that is not the first of its sequence, in the term by term form: the rows given out. -/
theorem stepBE_1 (c : Dev nD) (t : Fin cfg0.N) {X0 X1 X2 l : ℕ → ℕ → ℝ} {T : ℕ} (hI : Inp T (iblk m c 0 t) (iblk m c 1 t) (iblk m c 2 t) (iblk m c 4 t) (iblk m c 6 t) X0 X1 X2 l) (xs : Vec Ideal S4x128x128 .f32)
    (hS : ∀ (h : Fin 4) (e d : Fin 128), xs (ix3 h e d) = ((S (hd (128 * h.val) (FR l X1)) (hd (128 * h.val) (KR l X1))
      (hd (128 * h.val) X2) (256 * T) d.val e.val : ℝ) : EReal))
    (h0 : ¬t.val % 8 = 0) (hx : cmpw (iblk m c 4 t) (iblk m c 1 t) (iblk m c 6 t) = 1#1) (y : S256x512.Idx) : (stepBE m c t h0 hx xs).1 y = G9 T (FR l X1) (KR l X1) X2 (QR X0) (iblk m c 3 t) (iblk m c 5 t) y := by
  unfold stepBE; dsimp only
  refine (View.read_writes_junk_apply_eq_canon VO y _).trans ?_
  exact BE.out9 hI hS _ _ _ _ _ _ _ _ _ _ _ _ _ _ _ _ _ _ _ _ _ _ _ (fun h => h0 ((hcond t).mp h)) hx _ y

/-- A point that is not the first of its sequence, in the term by term form: the state left. -/
theorem stepBE_2 (c : Dev nD) (t : Fin cfg0.N) {X0 X1 X2 l : ℕ → ℕ → ℝ} {T : ℕ} (hI : Inp T (iblk m c 0 t) (iblk m c 1 t) (iblk m c 2 t) (iblk m c 4 t) (iblk m c 6 t) X0 X1 X2 l) (xs : Vec Ideal S4x128x128 .f32)
    (hS : ∀ (h : Fin 4) (e d : Fin 128), xs (ix3 h e d) = ((S (hd (128 * h.val) (FR l X1)) (hd (128 * h.val) (KR l X1))
      (hd (128 * h.val) X2) (256 * T) d.val e.val : ℝ) : EReal))
    (h0 : ¬t.val % 8 = 0) (hx : cmpw (iblk m c 4 t) (iblk m c 1 t) (iblk m c 6 t) = 1#1) (y : S4x128x128.Idx) : (stepBE m c t h0 hx xs).2 y = G10 T (FR l X1) (KR l X1) X2 y := by
  unfold stepBE; dsimp only
  refine (View.read_writes_junk_apply_eq_canon VS y _).trans ?_
  exact BE.out10 hI hS _ _ _ _ _ _ _ _ _ _ _ _ _ _ _ _ _ _ _ _ _ _ _ (fun h => h0 ((hcond t).mp h)) hx _ y

/-- One point: the rows given out, and the state left, from the state found. -/
theorem step_val (c : Dev nD) (t : Fin cfg0.N) {X0 X1 X2 l : ℕ → ℕ → ℝ} {T : ℕ} (hT : t.val % 8 = T)
    (hI : Inp T (iblk m c 0 t) (iblk m c 1 t) (iblk m c 2 t) (iblk m c 4 t) (iblk m c 6 t) X0 X1 X2 l) (xs : Vec Ideal S4x128x128 .f32)
    (hS : ¬t.val % 8 = 0 → ∀ (h : Fin 4) (e d : Fin 128), xs (ix3 h e d) = ((S (hd (128 * h.val) (FR l X1)) (hd (128 * h.val) (KR l X1))
      (hd (128 * h.val) X2) (256 * T) d.val e.val : ℝ) : EReal)) :
    (∀ y, (step m c t xs).1 y = G9 T (FR l X1) (KR l X1) X2 (QR X0) (iblk m c 3 t) (iblk m c 5 t) y)
      ∧ (∀ y, (step m c t xs).2 y = G10 T (FR l X1) (KR l X1) X2 y) := by
  by_cases h0 : t.val % 8 = 0
  · obtain rfl : T = 0 := hT.symm.trans h0
    by_cases hx : cmpw (iblk m c 4 t) (iblk m c 1 t) (iblk m c 6 t) = 1#1
    · rw [step_AE m c t xs h0 hx]
      exact ⟨stepAE_1 m c t hI h0 hx, stepAE_2 m c t hI h0 hx⟩
    · rw [step_AF m c t xs h0 hx]
      exact ⟨stepAF_1 m c t hI h0 (bit0 hx), stepAF_2 m c t hI h0 (bit0 hx)⟩
  · by_cases hx : cmpw (iblk m c 4 t) (iblk m c 1 t) (iblk m c 6 t) = 1#1
    · rw [step_BE m c t xs h0 hx]
      exact ⟨stepBE_1 m c t hI xs (hS h0) h0 hx, stepBE_2 m c t hI xs (hS h0) h0 hx⟩
    · rw [step_BF m c t xs h0 hx]
      exact ⟨stepBF_1 m c t hI xs (hS h0) h0 (bit0 hx), stepBF_2 m c t hI xs (hS h0) h0 (bit0 hx)⟩

/-- All points: the rows given out, and the state left. -/
theorem outs_val (c : Dev nD) {w l : ℕ → ℕ → ℝ} (H : Args (m (c.tc.loc main_arg0)) (m (c.tc.loc main_arg1)) w l) : ∀ (n : ℕ) (hn : n < cfg0.N),
    (∀ y, (outs m c n hn).1 y = G9 (n % 8) (FR l (xb w 512 (n / 8))) (KR l (xb w 512 (n / 8))) (xb w 1024 (n / 8)) (QR (xb w 0 (n / 8))) (iblk m c 3 ⟨n, hn⟩) (iblk m c 5 ⟨n, hn⟩) y)
      ∧ (∀ y, (outs m c n hn).2 y = G10 (n % 8) (FR l (xb w 512 (n / 8))) (KR l (xb w 512 (n / 8))) (xb w 1024 (n / 8)) y) := by
  intro n
  induction n with
  | zero =>
    intro hn
    have e : outs m c 0 hn = step m c ⟨0, hn⟩ (VS.read (Elt Ideal) VS.junk) := outs_A m c ⟨0, hn⟩ (show 0 % 8 = 0 from rfl) _
    rw [e]
    exact step_val m c ⟨0, hn⟩ rfl (inp m c H ⟨0, hn⟩) _ (fun h => absurd (show 0 % 8 = 0 from rfl) h)
  | succ n ih =>
    intro hn
    refine step_val m c ⟨n + 1, hn⟩ rfl (inp m c H ⟨n + 1, hn⟩) _ (fun h0 h e d => ?_)
    have h0' : ¬(n + 1) % 8 = 0 := h0
    refine ((ih (Nat.lt_of_succ_lt hn)).2 (ix3 h e d)).trans ?_
    show ((S (hd (128 * h.val) (FR l (xb w 512 (n / 8)))) (hd (128 * h.val) (KR l (xb w 512 (n / 8)))) (hd (128 * h.val) (xb w 1024 (n / 8))) (256 * (n % 8 + 1)) d.val e.val : ℝ) : EReal)
      = ((S (hd (128 * h.val) (FR l (xb w 512 ((n + 1) / 8)))) (hd (128 * h.val) (KR l (xb w 512 ((n + 1) / 8)))) (hd (128 * h.val) (xb w 1024 ((n + 1) / 8))) (256 * ((n + 1) % 8)) d.val e.val : ℝ) : EReal)
    rw [show (n + 1) / 8 = n / 8 by omega, show (n + 1) % 8 = n % 8 + 1 by omega]

/-- The array the launch leaves. -/
def arr (c : Dev nD) (w l : ℕ → ℕ → ℝ) : S65536x512.Idx → EReal := fun i =>
  outE w l (m (c.tc.loc main_arg0)) (m (c.tc.loc main_arg2)) (i 0).val (i 1).val (i 0).isLt (i 1).isLt

/-- The rows of a point are the array's. -/
theorem G9_arr (c : Dev nD) (w l : ℕ → ℕ → ℝ) (t : Fin cfg0.N) (p : Fin 256) (q : Fin 512) :
    G9 (t.val % 8) (FR l (xb w 512 (t.val / 8))) (KR l (xb w 512 (t.val / 8))) (xb w 1024 (t.val / 8)) (QR (xb w 0 (t.val / 8))) (iblk m c 3 t) (iblk m c 5 t) (ix2 p q)
      = arr m c w l (ix2 ⟨256 * t.val + p.val, by have := lt256 t; omega⟩ q) := by
  have hp := p.isLt
  show finE (fun d => O (hd (128 * (q.val / 128)) (FR l (xb w 512 (t.val / 8)))) (hd (128 * (q.val / 128)) (KR l (xb w 512 (t.val / 8)))) (hd (128 * (q.val / 128)) (xb w 1024 (t.val / 8)))
      (hd (128 * (q.val / 128)) (QR (xb w 0 (t.val / 8)))) (256 * (t.val % 8) + p.val) d) (q.val % 128)
      ((iblk m c 5 t : Vec Ideal S1x128 .f32) (ix2 0 ⟨q.val % 128, Nat.mod_lt _ (by decide)⟩)) ((iblk m c 3 t : Vec Ideal S256x512 .f32) (ix2 p q))
    = outE w l (m (c.tc.loc main_arg0)) (m (c.tc.loc main_arg2)) (256 * t.val + p.val) q.val _ _
  rw [blk3, gn_at]
  unfold outE seqF seqK seqV seqQ
  rw [show (256 * t.val + p.val) / 2048 = t.val / 8 by omega, show (256 * t.val + p.val) % 2048 = 256 * (t.val % 8) + p.val by omega]

/-- What a point writes back is its part of the array. -/
theorem flushed (c : Dev nD) {w l : ℕ → ℕ → ℝ} (H : Args (m (c.tc.loc main_arg0)) (m (c.tc.loc main_arg1)) w l) (t : Fin cfg0.N) :
    (dats m 0 c).flushed 7 t = ((cfg0.win 7).blk t).view.read (Elt Ideal) (arr m c w l) := by
  show (cfg0.win 7).cut (grid0.coords t) ((dats m 0 c).after 7 t) = _
  rw [after7]
  obtain ⟨h0, h1, h2, h3, h4, h5, h6, h7⟩ := idxs t
  funext y
  have hy : (cfg0.win 7).xinj (grid0.coords t) y = (ix2 (⟨(y 0).val, (y 0).isLt⟩ : Fin 256) (⟨(y 1).val, (y 1).isLt⟩ : Fin 512) : S256x512.Idx) := by
    funext a
    match a with
    | ⟨0, _⟩ => rfl
    | ⟨1, _⟩ => rfl
  show (outs m c t.val t.isLt).1 ((cfg0.win 7).xinj (grid0.coords t) y) = arr m c w l (((cfg0.win 7).blk t).view.emb y)
  rw [hy]
  refine ((outs_val m c H t.val t.isLt).1 _).trans ((G9_arr m c w l t _ _).trans (congrArg (arr m c w l) ?_))
  funext a
  apply Fin.ext
  match a with
  | ⟨0, _⟩ => show 256 * t.val + (y 0).val = win0_7.index t 0 * 256 + 1 * (y 0).val; rw [h7.1]; omega
  | ⟨1, _⟩ => show (y 1).val = win0_7.index t 1 * 512 + 1 * (y 1).val; rw [h7.2]; omega

/-- The entries of a point's block. -/
theorem mem_blk (t : Fin cfg0.N) (i : S65536x512.Idx) :
    i ∈ ((cfg0.win 7).blk t).view.set ↔ ∀ a : Fin 2, win0_7.index t a * S256x512.size a ≤ (i a).val ∧ (i a).val < win0_7.index t a * S256x512.size a + S256x512.size a := by
  show i ∈ ((View.whole main_v12).slice (win0_7.rect t)).set ↔ _
  rw [View.set_slice_whole, Rect.mem_set_unit]
  exact Iff.rfl

/-- The points' blocks hold every entry. -/
theorem covered (i : S65536x512.Idx) : ∃ t : Fin cfg0.N, (cfg0.win 7).flush t = true ∧ i ∈ ((cfg0.win 7).blk t).view.set := by
  have hi0 : (i 0).val < 65536 := (i 0).isLt
  have hi1 : (i 1).val < 512 := (i 1).isLt
  refine ⟨⟨(i 0).val / 256, lt_of_lt_of_eq (by omega) N_0.symm⟩, flush0_7 _, ?_⟩
  obtain ⟨h0, h1, h2, h3, h4, h5, h6, h7⟩ := idxs ⟨(i 0).val / 256, lt_of_lt_of_eq (by omega) N_0.symm⟩
  rw [mem_blk]
  intro a
  match a with
  | ⟨0, _⟩ =>
    show win0_7.index _ 0 * 256 ≤ (i 0).val ∧ (i 0).val < win0_7.index _ 0 * 256 + 256
    rw [h7.1]; show (i 0).val / 256 * 256 ≤ (i 0).val ∧ (i 0).val < (i 0).val / 256 * 256 + 256; omega
  | ⟨1, _⟩ =>
    show win0_7.index _ 1 * 512 ≤ (i 1).val ∧ (i 1).val < win0_7.index _ 1 * 512 + 512
    rw [h7.2]; omega

/-- The array after the run. -/
theorem final (c : Dev nD) {w l : ℕ → ℕ → ℝ} (H : Args (m (c.tc.loc main_arg0)) (m (c.tc.loc main_arg1)) w l) :
    (dats m 0 c).arrAt 7 cfg0.N = arr m c w l :=
  (dats m 0 c).arrAt_eq_of_cover 7 _ (fun t _ => flushed m c H t) covered

end Cert.Hgrn.Val

end
-- ==== Proof.HgAlg.lean ====
module

public import proofs.«01_k».proof.Proof.HgVal
public import proofs.«01_k».proof.Proof.HgRef
public import proofs.«01_k».proof.Defs
public import Idealize.ShloMosaic.Lib.KernelVsHost

@[expose] public section

set_option maxRecDepth 16384

/-! The recurrence's call over the extended reals: where the columns and the logits it reads are real numbers, both programs end at the same array. -/

noncomputable section

open Idealize.ShloMosaic hiding ix1 ix2 ix3
open Idealize.ShloMosaic.ValueIdx
open Idealize.ShloMosaic.TcCoe Idealize.SL.Sem

namespace Cert.Pre_finite_inputs

/-- The shapes the precondition relates. -/
theorem facts : Facts where
  slices_S65536x2048_S65536x512_0_0 := by decide
  bcast_S_S65536x512 := by decide
  slices_S65536x2048_S65536x512_0_1024 := by decide
  bcast_S_S2x512 := by decide

end Cert.Pre_finite_inputs

namespace Cert.Hgrn

/-- A value of finite size is a real number. -/
theorem real_of_finite (x : Ideal .f32) (h : FloatOps.cmpf .olt (FloatOps.hostAbsf x) (FloatOps.ofBits (F := Ideal) .f32 0x7F800000#32) = 1#1) :
    (x : EReal) = ((EReal.toReal x : ℝ) : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  refine (EReal.coe_toReal ?_ ?_).symm
  · rintro rfl
    simp at h'
  · rintro rfl
    simp at h'

/-- The logistic of any entry is a real number that is not negative. -/
theorem sig_real (a : EReal) : Ideal.div 1 (1 + Ideal.exp (0 - a)) = ((EReal.toReal (Ideal.div 1 (1 + Ideal.exp (0 - a))) ⊔ 0 : ℝ) : EReal) := by
  have key : ∀ x : ℝ, 0 ≤ x → Ideal.div 1 (1 + Ideal.exp (0 - a)) = ((x : ℝ) : EReal) →
      Ideal.div 1 (1 + Ideal.exp (0 - a)) = ((EReal.toReal (Ideal.div 1 (1 + Ideal.exp (0 - a))) ⊔ 0 : ℝ) : EReal) := fun x hx h => by
    rw [h, EReal.toReal_coe, max_eq_left hx]
  induction a using EReal.rec with
  | bot =>
    have e : (1 : EReal) + ⊤ = ⊤ := EReal.coe_add_top 1
    exact key 0 le_rfl (by simp [Ideal.div, e])
  | top => exact key 1 zero_le_one (by simp [Ideal.div])
  | coe x =>
    refine key (1 / (1 + Real.exp (0 - x))) (by positivity) ?_
    rw [← EReal.coe_zero, ← EReal.coe_sub, Ideal.exp_coe, ← EReal.coe_one, ← EReal.coe_add, Ideal.div_coe (add_pos one_pos (Real.exp_pos _)).ne', ← EReal.coe_mul, one_mul]

section
variable (A0 : (⟨2, ![65536, 2048]⟩ : Shape).Idx → EReal) (A1 : (⟨2, ![2, 512]⟩ : Shape).Idx → EReal)

/-- The first argument's entries, as real numbers; in the columns of the forget gate the logistic of the entry. -/
def wOf (r k : ℕ) : ℝ := if h : r < 65536 ∧ k < 2048 then
    (if 512 ≤ k ∧ k < 1024 then EReal.toReal (Ideal.div 1 (1 + Ideal.exp (0 - A0 (ix2 ⟨r, h.1⟩ ⟨k, h.2⟩)))) else EReal.toReal (A0 (ix2 ⟨r, h.1⟩ ⟨k, h.2⟩))) else 0
/-- The logits, as real numbers. -/
def lOf (r k : ℕ) : ℝ := if h : r < 2 ∧ k < 512 then EReal.toReal (A1 (ix2 ⟨r, h.1⟩ ⟨k, h.2⟩)) else 0

/-- The precondition says that the entries the recurrence reads are real numbers. -/
theorem args_of [Cert.Pre_finite_inputs.Facts] (A2 : (⟨2, ![2, 128]⟩ : Shape).Idx → EReal)
    (h : (Cert.Pre_finite_inputs.fn (F := Ideal) A0 A1 A2).1 = (fun _ => 1#1) ∧ (Cert.Pre_finite_inputs.fn (F := Ideal) A0 A1 A2).2.1 = (fun _ => 1#1)
      ∧ (Cert.Pre_finite_inputs.fn (F := Ideal) A0 A1 A2).2.2 = (fun _ => 1#1)) :
    Cert.ReferenceIdeal.Hgrn.Args A0 A1 (wOf A0) (lOf A1) where
  a0 := fun r k hk => by
    refine Eq.trans ?_ (congrArg (fun x : ℝ => (x : EReal)) (show EReal.toReal (A0 (ix2 r k)) = wOf A0 r.val k.val by
      unfold wOf
      rw [dif_pos ⟨r.isLt, k.isLt⟩, if_neg (by omega)]))
    rcases hk with hk | ⟨hk, hk'⟩
    · have e' : FloatOps.cmpf .olt (FloatOps.hostAbsf (extractStridedSlice Cert.Pre_finite_inputs.S65536x512 ![0, 0] (A0 : FVec Ideal Cert.Pre_finite_inputs.S65536x2048 .f32)
          Cert.Pre_finite_inputs.Facts.slices_S65536x2048_S65536x512_0_0 (ix2 r (⟨k.val, hk⟩ : Fin 512)))) (FloatOps.ofBits (F := Ideal) .f32 0x7F800000#32) = 1#1 :=
        congrFun h.1 (ix2 r (⟨k.val, hk⟩ : Fin 512))
      rw [extractStridedSlice_apply _ _ _ _ (ix2 r k) (fun a => match a with
        | ⟨0, _⟩ => by show r.val = 0 + r.val; omega
        | ⟨1, _⟩ => by show k.val = 0 + k.val; omega)] at e'
      exact real_of_finite _ e'
    · have e' : FloatOps.cmpf .olt (FloatOps.hostAbsf (extractStridedSlice Cert.Pre_finite_inputs.S65536x512 ![0, 1024] (A0 : FVec Ideal Cert.Pre_finite_inputs.S65536x2048 .f32)
          Cert.Pre_finite_inputs.Facts.slices_S65536x2048_S65536x512_0_1024 (ix2 r (⟨k.val - 1024, by omega⟩ : Fin 512)))) (FloatOps.ofBits (F := Ideal) .f32 0x7F800000#32) = 1#1 :=
        congrFun h.2.1 (ix2 r (⟨k.val - 1024, by omega⟩ : Fin 512))
      rw [extractStridedSlice_apply _ _ _ _ (ix2 r k) (fun a => match a with
        | ⟨0, _⟩ => by show r.val = 0 + r.val; omega
        | ⟨1, _⟩ => by show k.val = 1024 + (k.val - 1024); omega)] at e'
      exact real_of_finite _ e'
  a0f := fun r k hk hk' => by
    refine (sig_real _).trans (congrArg (fun x : ℝ => ((x ⊔ 0 : ℝ) : EReal)) ?_)
    unfold wOf
    rw [dif_pos ⟨r.isLt, k.isLt⟩, if_pos ⟨hk, hk'⟩]
  a1 := fun r k => by
    have e : FloatOps.cmpf .olt (FloatOps.hostAbsf (A1 (ix2 r k) : Ideal .f32)) (FloatOps.ofBits (F := Ideal) .f32 0x7F800000#32) = 1#1 := congrFun h.2.2 (ix2 r k)
    refine (real_of_finite _ e).trans ?_
    unfold lOf
    rw [dif_pos ⟨r.isLt, k.isLt⟩]
end

open Idealize.ShloMosaic.StableHlo Cert.ReferenceIdeal.Hgrn Cert.ReferenceIdeal.Gen Cert.ReferenceIdeal.Value in
/-- The reference's result is the array the launch leaves. -/
theorem ref_arr (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) {w l : ℕ → ℕ → ℝ}
    (H : Args (m (c.tc.loc Cert.KernelIdeal.main_arg0)) (m (c.tc.loc Cert.KernelIdeal.main_arg1)) w l)
    (h0 : A0 m' c = (m (c.tc.loc Cert.KernelIdeal.main_arg0) : FVec Ideal Cert.ReferenceIdeal.S65536x2048 .f32))
    (h1 : A1 m' c = (m (c.tc.loc Cert.KernelIdeal.main_arg1) : FVec Ideal Cert.ReferenceIdeal.S2x512 .f32))
    (h2 : A2 m' c = (m (c.tc.loc Cert.KernelIdeal.main_arg2) : FVec Ideal Cert.ReferenceIdeal.S2x128 .f32)) :
    (finalContents condOps preI bodyI postI 32 m' c (Proc.devRef .tc Cert.ReferenceIdeal.main_v75) : Cert.ReferenceIdeal.S65536x512.Idx → EReal) = Val.arr m c w l := by
  have H' : Args (A0 m' c) (A1 m' c) w l := by rw [h0, h1]; exact H
  funext y
  obtain ⟨r, k, rfl⟩ : ∃ (r : Fin 65536) (k : Fin 512), y = ix2 r k := ⟨y 0, y 1, funext fun a => match a with | ⟨0, _⟩ => rfl | ⟨1, _⟩ => rfl⟩
  refine (ref_value H' r k).trans ?_
  rw [h0, h2]
  rfl

/-- The recurrence's call and its reference end with equal results, where the arguments read are finite. -/
theorem algebraic [Cert.Pre_finite_inputs.Facts] : Cert.algebraic_KernelIdeal_ReferenceIdeal_pre_finite_inputs := by
  intro m ρ m' ρ' hpre hagree
  have H := fun c => args_of _ _ _ (hpre c)
  refine ⟨fun c => Val.arr m c (wOf (m (c.tc.loc Cert.KernelIdeal.main_arg0))) (lOf (m (c.tc.loc Cert.KernelIdeal.main_arg1))), ?_, ?_⟩
  · refine (θ_run Cert.KernelIdeal.defs _ _).mono (fun r h c => ⟨?_, h.2.1 c⟩)
      (θ_run_and (Cert.KernelIdeal.Hgrn.run_main m ρ) (Cert.KernelIdeal.Hgrn.frame_claim m ρ))
    exact ((h.1.1 c).1 7).trans (Val.final m c (H c))
  · refine (θ_run Cert.ReferenceIdeal.defs _ _).mono (fun r h c => ⟨?_, h.2.1 c⟩)
      (θ_run_and (Cert.ReferenceIdeal.Value.run_fold m' ρ') (Cert.ReferenceIdeal.Hgrn.frame_args m' ρ'))
    exact (h.1 c Cert.ReferenceIdeal.main_v75 rfl).trans (ref_arr m m' c (H c) (hagree c).1 (hagree c).2.1 (hagree c).2.2)

end Cert.Hgrn

end
-- ==== Proof.lean ====
module

public import proofs.«01_k».proof.Proof.FfnAlg
public import proofs.«01_k».proof.Proof.ProjAlg
public import proofs.«01_k».proof.Proof.HgAlg
public import proofs.«01_k».proof.Proof.HgFrame
public import proofs.«01_k».proof.Proof.HgKFrame
public import proofs.«01_k».proof.Proof.HgRef
public import proofs.«01_k».proof.Proof.Gen.Reference2Ideal.Run
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import Idealize.ShloMosaic.Adequacy
public import Idealize.ShloMosaic.Init

@[expose] public section

noncomputable section

namespace Cert.Proof

open Idealize.ShloMosaic Idealize.SL.Sem

/-- The recurrence's reference keeps its arguments. -/
theorem frame_reference : Cert.quiescent_ReferenceIdeal := fun m ρ _ =>
  Cert.ReferenceIdeal.Hgrn.frame_args (F := Ideal) m ρ

/-- The mask's constant is read as minus infinity. -/
theorem preserves : Cert.preserves_Kernel_KernelIdeal :=
  IdealRules.named_const.statement Cert.KernelIdeal.κ "mask" .f32 0xF149F2CA#32 ⊥ rfl

/-- The feed-forward reference keeps its arguments. -/
theorem frame_reference2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The projection's reference keeps its arguments. -/
theorem frame_reference3 : Cert.quiescent_Reference3Ideal := fun m ρ _ =>
  (θ_run Cert.Reference3Ideal.defs _ _).mono (fun r h => ⟨fun c => (h c).2.2.2,
      Idealize.ShloMosaic.sem_eq_zero_of_no_sems (by decide) r.2⟩)
    (Cert.Reference3Ideal.Value.run (F := Ideal) m ρ)

/-- The claims of the recurrence's call, of the feed-forward call and of the projection's call. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, Cert.Pre_finite_inputs.facts,
    fun m ρ _ => Cert.Kernel.Hgrn.frame_claim m ρ, fun m ρ _ => Cert.KernelIdeal.Hgrn.frame_claim m ρ,
    fun m ρ _ => Cert.KernelIdeal.Hgrn.frame_claim m ρ, frame_reference,
    fun m ρ _ => Cert.ReferenceIdeal.Hgrn.frame_args (F := Ideal) m ρ,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    preserves, @Cert.Hgrn.algebraic Cert.Pre_finite_inputs.facts, trivial, Cert.Ffn.algebraic, trivial, Cert.Proj.algebraic⟩

end Cert.Proof

end
